-- ==== Defs.lean ====
def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdIdeal_ffn_finite [hPre_ffn_finite : Cert.Pre_ffn_finite.Facts] (m : (ℓ : Loc Cert.FfnBwdIdeal.nD Cert.FfnBwdIdeal.τ Cert.FfnBwdIdeal.sig) → Buf (Elt Ideal) ℓ) : Prop :=
  ∀ c : Dev Cert.FfnBwdIdeal.nD,
    (Cert.Pre_ffn_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))) = (fun _ => 1#1)

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_GateGrad (m : (ℓ : Loc Cert.GateGrad.nD Cert.GateGrad.τ Cert.GateGrad.sig) → Buf (Elt Bits) ℓ) : Prop :=
  True

def Pre_GateGradIdeal (m : (ℓ : Loc Cert.GateGradIdeal.nD Cert.GateGradIdeal.τ Cert.GateGradIdeal.sig) → Buf (Elt Ideal) ℓ) : Prop :=
  True

def Pre_GateGradRefIdeal (m : (ℓ : Loc Cert.GateGradRefIdeal.nD Cert.GateGradRefIdeal.τ Cert.GateGradRefIdeal.sig) → Buf (Elt Ideal) ℓ) : Prop :=
  True

def Pre_DownGrad (m : (ℓ : Loc Cert.DownGrad.nD Cert.DownGrad.τ Cert.DownGrad.sig) → Buf (Elt Bits) ℓ) : Prop :=
  True

def Pre_DownGradIdeal (m : (ℓ : Loc Cert.DownGradIdeal.nD Cert.DownGradIdeal.τ Cert.DownGradIdeal.sig) → Buf (Elt Ideal) ℓ) : Prop :=
  True

def Pre_DownGradRefIdeal (m : (ℓ : Loc Cert.DownGradRefIdeal.nD Cert.DownGradRefIdeal.τ Cert.DownGradRefIdeal.sig) → Buf (Elt Ideal) ℓ) : Prop :=
  True

def Pre_OutGrad (m : (ℓ : Loc Cert.OutGrad.nD Cert.OutGrad.τ Cert.OutGrad.sig) → Buf (Elt Bits) ℓ) : Prop :=
  True

def Pre_OutGradIdeal (m : (ℓ : Loc Cert.OutGradIdeal.nD Cert.OutGradIdeal.τ Cert.OutGradIdeal.sig) → Buf (Elt Ideal) ℓ) : Prop :=
  True

def Pre_OutGradRefIdeal (m : (ℓ : Loc Cert.OutGradRefIdeal.nD Cert.OutGradRefIdeal.τ Cert.OutGradRefIdeal.sig) → Buf (Elt Ideal) ℓ) : Prop :=
  True

def Pre_PaGrad (m : (ℓ : Loc Cert.PaGrad.nD Cert.PaGrad.τ Cert.PaGrad.sig) → Buf (Elt Bits) ℓ) : Prop :=
  True

def Pre_PaGradIdeal (m : (ℓ : Loc Cert.PaGradIdeal.nD Cert.PaGradIdeal.τ Cert.PaGradIdeal.sig) → Buf (Elt Ideal) ℓ) : Prop :=
  True

def Pre_PaGradRefIdeal (m : (ℓ : Loc Cert.PaGradRefIdeal.nD Cert.PaGradRefIdeal.τ Cert.PaGradRefIdeal.sig) → Buf (Elt Ideal) ℓ) : Prop :=
  True

def Pre_PbGrad (m : (ℓ : Loc Cert.PbGrad.nD Cert.PbGrad.τ Cert.PbGrad.sig) → Buf (Elt Bits) ℓ) : Prop :=
  True

def Pre_PbGradIdeal (m : (ℓ : Loc Cert.PbGradIdeal.nD Cert.PbGradIdeal.τ Cert.PbGradIdeal.sig) → Buf (Elt Ideal) ℓ) : Prop :=
  True

def Pre_PbGradRefIdeal (m : (ℓ : Loc Cert.PbGradRefIdeal.nD Cert.PbGradRefIdeal.τ Cert.PbGradRefIdeal.sig) → Buf (Elt Ideal) ℓ) : Prop :=
  True

def Pre_UqGrad (m : (ℓ : Loc Cert.UqGrad.nD Cert.UqGrad.τ Cert.UqGrad.sig) → Buf (Elt Bits) ℓ) : Prop :=
  True

def Pre_UqGradIdeal (m : (ℓ : Loc Cert.UqGradIdeal.nD Cert.UqGradIdeal.τ Cert.UqGradIdeal.sig) → Buf (Elt Ideal) ℓ) : Prop :=
  True

def Pre_UqGradRefIdeal (m : (ℓ : Loc Cert.UqGradRefIdeal.nD Cert.UqGradRefIdeal.τ Cert.UqGradRefIdeal.sig) → Buf (Elt Ideal) ℓ) : Prop :=
  True

def Pre_KvGrad (m : (ℓ : Loc Cert.KvGrad.nD Cert.KvGrad.τ Cert.KvGrad.sig) → Buf (Elt Bits) ℓ) : Prop :=
  True

def Pre_KvGradIdeal (m : (ℓ : Loc Cert.KvGradIdeal.nD Cert.KvGradIdeal.τ Cert.KvGradIdeal.sig) → Buf (Elt Ideal) ℓ) : Prop :=
  True

def Pre_KvGradRefIdeal (m : (ℓ : Loc Cert.KvGradRefIdeal.nD Cert.KvGradRefIdeal.τ Cert.KvGradRefIdeal.sig) → Buf (Elt Ideal) ℓ) : Prop :=
  True

def Pre_InGrad (m : (ℓ : Loc Cert.InGrad.nD Cert.InGrad.τ Cert.InGrad.sig) → Buf (Elt Bits) ℓ) : Prop :=
  True

def Pre_InGradIdeal (m : (ℓ : Loc Cert.InGradIdeal.nD Cert.InGradIdeal.τ Cert.InGradIdeal.sig) → Buf (Elt Ideal) ℓ) : Prop :=
  True

def Pre_InGradRefIdeal (m : (ℓ : Loc Cert.InGradRefIdeal.nD Cert.InGradRefIdeal.τ Cert.InGradRefIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdRefIdeal (m : (ℓ : Loc Cert.InFwdRefIdeal.nD Cert.InFwdRefIdeal.τ Cert.InFwdRefIdeal.sig) → Buf (Elt Ideal) ℓ) : Prop :=
  True

def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_InBwdIdeal_in_finite [hPre_in_finite : Cert.Pre_in_finite.Facts] (m : (ℓ : Loc Cert.InBwdIdeal.nD Cert.InBwdIdeal.τ Cert.InBwdIdeal.sig) → Buf (Elt Ideal) ℓ) : Prop :=
  ∀ c : Dev Cert.InBwdIdeal.nD,
    (Cert.Pre_in_finite.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4)) (m ((c.tc : Thread Cert.InBwdIdeal.nD Cert.InBwdIdeal.τ).loc Cert.InBwdIdeal.main_arg5)) (m ((c.tc : Thread Cert.InBwdIdeal.nD Cert.InBwdIdeal.τ).loc Cert.InBwdIdeal.main_arg6)) (m ((c.tc : Thread Cert.InBwdIdeal.nD Cert.InBwdIdeal.τ).loc Cert.InBwdIdeal.main_arg7)) (m ((c.tc : Thread Cert.InBwdIdeal.nD Cert.InBwdIdeal.τ).loc Cert.InBwdIdeal.main_arg8)) (m ((c.tc : Thread Cert.InBwdIdeal.nD Cert.InBwdIdeal.τ).loc Cert.InBwdIdeal.main_arg9))) = (fun _ => 1#1)

def Pre_InBwdRefIdeal (m : (ℓ : Loc Cert.InBwdRefIdeal.nD Cert.InBwdRefIdeal.τ Cert.InBwdRefIdeal.sig) → Buf (Elt Ideal) ℓ) : Prop :=
  True

def Pre_InBwdRefIdeal_in_finite [hPre_in_finite : Cert.Pre_in_finite.Facts] (m : (ℓ : Loc Cert.InBwdRefIdeal.nD Cert.InBwdRefIdeal.τ Cert.InBwdRefIdeal.sig) → Buf (Elt Ideal) ℓ) : Prop :=
  ∀ c : Dev Cert.InBwdRefIdeal.nD,
    (Cert.Pre_in_finite.fn (F := Ideal) (m ((c.tc : Thread Cert.InBwdRefIdeal.nD Cert.InBwdRefIdeal.τ).loc Cert.InBwdRefIdeal.main_arg0)) (m ((c.tc : Thread Cert.InBwdRefIdeal.nD Cert.InBwdRefIdeal.τ).loc Cert.InBwdRefIdeal.main_arg1)) (m ((c.tc : Thread Cert.InBwdRefIdeal.nD Cert.InBwdRefIdeal.τ).loc Cert.InBwdRefIdeal.main_arg2)) (m ((c.tc : Thread Cert.InBwdRefIdeal.nD Cert.InBwdRefIdeal.τ).loc Cert.InBwdRefIdeal.main_arg3)) (m ((c.tc : Thread Cert.InBwdRefIdeal.nD Cert.InBwdRefIdeal.τ).loc Cert.InBwdRefIdeal.main_arg4)) (m ((c.tc : Thread Cert.InBwdRefIdeal.nD Cert.InBwdRefIdeal.τ).loc Cert.InBwdRefIdeal.main_arg5)) (m ((c.tc : Thread Cert.InBwdRefIdeal.nD Cert.InBwdRefIdeal.τ).loc Cert.InBwdRefIdeal.main_arg6)) (m ((c.tc : Thread Cert.InBwdRefIdeal.nD Cert.InBwdRefIdeal.τ).loc Cert.InBwdRefIdeal.main_arg7)) (m ((c.tc : Thread Cert.InBwdRefIdeal.nD Cert.InBwdRefIdeal.τ).loc Cert.InBwdRefIdeal.main_arg8)) (m ((c.tc : Thread Cert.InBwdRefIdeal.nD Cert.InBwdRefIdeal.τ).loc Cert.InBwdRefIdeal.main_arg9))) = (fun _ => 1#1)

def Pre_QkvFwd (m : (ℓ : Loc Cert.QkvFwd.nD Cert.QkvFwd.τ Cert.QkvFwd.sig) → Buf (Elt Bits) ℓ) : Prop :=
  True

def Pre_QkvFwdIdeal (m : (ℓ : Loc Cert.QkvFwdIdeal.nD Cert.QkvFwdIdeal.τ Cert.QkvFwdIdeal.sig) → Buf (Elt Ideal) ℓ) : Prop :=
  True

def Pre_QkvFwdRefIdeal (m : (ℓ : Loc Cert.QkvFwdRefIdeal.nD Cert.QkvFwdRefIdeal.τ Cert.QkvFwdRefIdeal.sig) → Buf (Elt Ideal) ℓ) : Prop :=
  True

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3)
      ∧ r.2.mem ((c.tc : Thread Cert.FfnBwd.nD Cert.FfnBwd.τ).loc Cert.FfnBwd.main_arg4) = m ((c.tc : Thread Cert.FfnBwd.nD Cert.FfnBwd.τ).loc Cert.FfnBwd.main_arg4)
      ∧ r.2.mem ((c.tc : Thread Cert.FfnBwd.nD Cert.FfnBwd.τ).loc Cert.FfnBwd.main_arg5) = m ((c.tc : Thread Cert.FfnBwd.nD Cert.FfnBwd.τ).loc Cert.FfnBwd.main_arg5))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ r.2.sem = fun _ => 0)

def quiescent_FfnBwdIdeal_pre_ffn_finite [hFfnBwdIdeal : Cert.FfnBwdIdeal.Facts] [hPre_ffn_finite : Cert.Pre_ffn_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal_ffn_finite m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3)
      ∧ r.2.mem ((c.tc : Thread Cert.FfnFwd.nD Cert.FfnFwd.τ).loc Cert.FfnFwd.main_arg4) = m ((c.tc : Thread Cert.FfnFwd.nD Cert.FfnFwd.τ).loc Cert.FfnFwd.main_arg4))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3)
      ∧ r.2.mem ((c.tc : Thread Cert.FfnFwdRefIdeal.nD Cert.FfnFwdRefIdeal.τ).loc Cert.FfnFwdRefIdeal.main_arg4) = m ((c.tc : Thread Cert.FfnFwdRefIdeal.nD Cert.FfnFwdRefIdeal.τ).loc Cert.FfnFwdRefIdeal.main_arg4))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3)
      ∧ r.2.mem ((c.tc : Thread Cert.MergeBwd.nD Cert.MergeBwd.τ).loc Cert.MergeBwd.main_arg4) = m ((c.tc : Thread Cert.MergeBwd.nD Cert.MergeBwd.τ).loc Cert.MergeBwd.main_arg4)
      ∧ r.2.mem ((c.tc : Thread Cert.MergeBwd.nD Cert.MergeBwd.τ).loc Cert.MergeBwd.main_arg5) = m ((c.tc : Thread Cert.MergeBwd.nD Cert.MergeBwd.τ).loc Cert.MergeBwd.main_arg5)
      ∧ r.2.mem ((c.tc : Thread Cert.MergeBwd.nD Cert.MergeBwd.τ).loc Cert.MergeBwd.main_arg6) = m ((c.tc : Thread Cert.MergeBwd.nD Cert.MergeBwd.τ).loc Cert.MergeBwd.main_arg6))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
      ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
      ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5)
      ∧ r.2.mem ((c.tc : Thread Cert.MergeBwdIdeal.nD Cert.MergeBwdIdeal.τ).loc Cert.MergeBwdIdeal.main_arg6) = m ((c.tc : Thread Cert.MergeBwdIdeal.nD Cert.MergeBwdIdeal.τ).loc Cert.MergeBwdIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3)
      ∧ r.2.mem ((c.tc : Thread Cert.MergeFwd.nD Cert.MergeFwd.τ).loc Cert.MergeFwd.main_arg4) = m ((c.tc : Thread Cert.MergeFwd.nD Cert.MergeFwd.τ).loc Cert.MergeFwd.main_arg4)
      ∧ r.2.mem ((c.tc : Thread Cert.MergeFwd.nD Cert.MergeFwd.τ).loc Cert.MergeFwd.main_arg5) = m ((c.tc : Thread Cert.MergeFwd.nD Cert.MergeFwd.τ).loc Cert.MergeFwd.main_arg5)
      ∧ r.2.mem ((c.tc : Thread Cert.MergeFwd.nD Cert.MergeFwd.τ).loc Cert.MergeFwd.main_arg6) = m ((c.tc : Thread Cert.MergeFwd.nD Cert.MergeFwd.τ).loc Cert.MergeFwd.main_arg6))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
      ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
      ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
      ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2)
      ∧ r.2.mem ((c.tc : Thread Cert.MergeFwdRefIdeal.nD Cert.MergeFwdRefIdeal.τ).loc Cert.MergeFwdRefIdeal.main_arg3) = m ((c.tc : Thread Cert.MergeFwdRefIdeal.nD Cert.MergeFwdRefIdeal.τ).loc Cert.MergeFwdRefIdeal.main_arg3)
      ∧ r.2.mem ((c.tc : Thread Cert.MergeFwdRefIdeal.nD Cert.MergeFwdRefIdeal.τ).loc Cert.MergeFwdRefIdeal.main_arg4) = m ((c.tc : Thread Cert.MergeFwdRefIdeal.nD Cert.MergeFwdRefIdeal.τ).loc Cert.MergeFwdRefIdeal.main_arg4)
      ∧ r.2.mem ((c.tc : Thread Cert.MergeFwdRefIdeal.nD Cert.MergeFwdRefIdeal.τ).loc Cert.MergeFwdRefIdeal.main_arg5) = m ((c.tc : Thread Cert.MergeFwdRefIdeal.nD Cert.MergeFwdRefIdeal.τ).loc Cert.MergeFwdRefIdeal.main_arg5)
      ∧ r.2.mem ((c.tc : Thread Cert.MergeFwdRefIdeal.nD Cert.MergeFwdRefIdeal.τ).loc Cert.MergeFwdRefIdeal.main_arg6) = m ((c.tc : Thread Cert.MergeFwdRefIdeal.nD Cert.MergeFwdRefIdeal.τ).loc Cert.MergeFwdRefIdeal.main_arg6))
      ∧ r.2.sem = fun _ => 0)

def quiescent_GateGrad [hGateGrad : Cert.GateGrad.Facts] : Prop :=
  ∀ (m : (ℓ : Loc Cert.GateGrad.nD Cert.GateGrad.τ Cert.GateGrad.sig) → Buf (Elt Bits) ℓ) (g : Dev Cert.GateGrad.nD → PrngReg), Pre_GateGrad m →
    θ_run (Cert.GateGrad.defs (F := Bits)) (onTc (τ := Cert.GateGrad.τ) (Cert.GateGrad.main (F := Bits))) ⟨m, fun _ => 0, g⟩ (fun r => (∀ c : Dev Cert.GateGrad.nD,
      r.2.mem ((c.tc : Thread Cert.GateGrad.nD Cert.GateGrad.τ).loc Cert.GateGrad.main_arg0) = m ((c.tc : Thread Cert.GateGrad.nD Cert.GateGrad.τ).loc Cert.GateGrad.main_arg0)
      ∧ r.2.mem ((c.tc : Thread Cert.GateGrad.nD Cert.GateGrad.τ).loc Cert.GateGrad.main_arg1) = m ((c.tc : Thread Cert.GateGrad.nD Cert.GateGrad.τ).loc Cert.GateGrad.main_arg1))
      ∧ r.2.sem = fun _ => 0)

def quiescent_GateGradIdeal [hGateGradIdeal : Cert.GateGradIdeal.Facts] : Prop :=
  ∀ (m : (ℓ : Loc Cert.GateGradIdeal.nD Cert.GateGradIdeal.τ Cert.GateGradIdeal.sig) → Buf (Elt Ideal) ℓ) (g : Dev Cert.GateGradIdeal.nD → PrngReg), Pre_GateGradIdeal m →
    θ_run (Cert.GateGradIdeal.defs (F := Ideal)) (onTc (τ := Cert.GateGradIdeal.τ) (Cert.GateGradIdeal.main (F := Ideal))) ⟨m, fun _ => 0, g⟩ (fun r => (∀ c : Dev Cert.GateGradIdeal.nD,
      r.2.mem ((c.tc : Thread Cert.GateGradIdeal.nD Cert.GateGradIdeal.τ).loc Cert.GateGradIdeal.main_arg0) = m ((c.tc : Thread Cert.GateGradIdeal.nD Cert.GateGradIdeal.τ).loc Cert.GateGradIdeal.main_arg0)
      ∧ r.2.mem ((c.tc : Thread Cert.GateGradIdeal.nD Cert.GateGradIdeal.τ).loc Cert.GateGradIdeal.main_arg1) = m ((c.tc : Thread Cert.GateGradIdeal.nD Cert.GateGradIdeal.τ).loc Cert.GateGradIdeal.main_arg1))
      ∧ r.2.sem = fun _ => 0)

def quiescent_GateGradRefIdeal [hGateGradRefIdeal : Cert.GateGradRefIdeal.Facts] : Prop :=
  ∀ (m : (ℓ : Loc Cert.GateGradRefIdeal.nD Cert.GateGradRefIdeal.τ Cert.GateGradRefIdeal.sig) → Buf (Elt Ideal) ℓ) (g : Dev Cert.GateGradRefIdeal.nD → PrngReg), Pre_GateGradRefIdeal m →
    θ_run (Cert.GateGradRefIdeal.defs (F := Ideal)) (onTc (τ := Cert.GateGradRefIdeal.τ) (Cert.GateGradRefIdeal.main (F := Ideal))) ⟨m, fun _ => 0, g⟩ (fun r => (∀ c : Dev Cert.GateGradRefIdeal.nD,
      r.2.mem ((c.tc : Thread Cert.GateGradRefIdeal.nD Cert.GateGradRefIdeal.τ).loc Cert.GateGradRefIdeal.main_arg0) = m ((c.tc : Thread Cert.GateGradRefIdeal.nD Cert.GateGradRefIdeal.τ).loc Cert.GateGradRefIdeal.main_arg0)
      ∧ r.2.mem ((c.tc : Thread Cert.GateGradRefIdeal.nD Cert.GateGradRefIdeal.τ).loc Cert.GateGradRefIdeal.main_arg1) = m ((c.tc : Thread Cert.GateGradRefIdeal.nD Cert.GateGradRefIdeal.τ).loc Cert.GateGradRefIdeal.main_arg1))
      ∧ r.2.sem = fun _ => 0)

def quiescent_DownGrad [hDownGrad : Cert.DownGrad.Facts] : Prop :=
  ∀ (m : (ℓ : Loc Cert.DownGrad.nD Cert.DownGrad.τ Cert.DownGrad.sig) → Buf (Elt Bits) ℓ) (g : Dev Cert.DownGrad.nD → PrngReg), Pre_DownGrad m →
    θ_run (Cert.DownGrad.defs (F := Bits)) (onTc (τ := Cert.DownGrad.τ) (Cert.DownGrad.main (F := Bits))) ⟨m, fun _ => 0, g⟩ (fun r => (∀ c : Dev Cert.DownGrad.nD,
      r.2.mem ((c.tc : Thread Cert.DownGrad.nD Cert.DownGrad.τ).loc Cert.DownGrad.main_arg0) = m ((c.tc : Thread Cert.DownGrad.nD Cert.DownGrad.τ).loc Cert.DownGrad.main_arg0)
      ∧ r.2.mem ((c.tc : Thread Cert.DownGrad.nD Cert.DownGrad.τ).loc Cert.DownGrad.main_arg1) = m ((c.tc : Thread Cert.DownGrad.nD Cert.DownGrad.τ).loc Cert.DownGrad.main_arg1))
      ∧ r.2.sem = fun _ => 0)

def quiescent_DownGradIdeal [hDownGradIdeal : Cert.DownGradIdeal.Facts] : Prop :=
  ∀ (m : (ℓ : Loc Cert.DownGradIdeal.nD Cert.DownGradIdeal.τ Cert.DownGradIdeal.sig) → Buf (Elt Ideal) ℓ) (g : Dev Cert.DownGradIdeal.nD → PrngReg), Pre_DownGradIdeal m →
    θ_run (Cert.DownGradIdeal.defs (F := Ideal)) (onTc (τ := Cert.DownGradIdeal.τ) (Cert.DownGradIdeal.main (F := Ideal))) ⟨m, fun _ => 0, g⟩ (fun r => (∀ c : Dev Cert.DownGradIdeal.nD,
      r.2.mem ((c.tc : Thread Cert.DownGradIdeal.nD Cert.DownGradIdeal.τ).loc Cert.DownGradIdeal.main_arg0) = m ((c.tc : Thread Cert.DownGradIdeal.nD Cert.DownGradIdeal.τ).loc Cert.DownGradIdeal.main_arg0)
      ∧ r.2.mem ((c.tc : Thread Cert.DownGradIdeal.nD Cert.DownGradIdeal.τ).loc Cert.DownGradIdeal.main_arg1) = m ((c.tc : Thread Cert.DownGradIdeal.nD Cert.DownGradIdeal.τ).loc Cert.DownGradIdeal.main_arg1))
      ∧ r.2.sem = fun _ => 0)

def quiescent_DownGradRefIdeal [hDownGradRefIdeal : Cert.DownGradRefIdeal.Facts] : Prop :=
  ∀ (m : (ℓ : Loc Cert.DownGradRefIdeal.nD Cert.DownGradRefIdeal.τ Cert.DownGradRefIdeal.sig) → Buf (Elt Ideal) ℓ) (g : Dev Cert.DownGradRefIdeal.nD → PrngReg), Pre_DownGradRefIdeal m →
    θ_run (Cert.DownGradRefIdeal.defs (F := Ideal)) (onTc (τ := Cert.DownGradRefIdeal.τ) (Cert.DownGradRefIdeal.main (F := Ideal))) ⟨m, fun _ => 0, g⟩ (fun r => (∀ c : Dev Cert.DownGradRefIdeal.nD,
      r.2.mem ((c.tc : Thread Cert.DownGradRefIdeal.nD Cert.DownGradRefIdeal.τ).loc Cert.DownGradRefIdeal.main_arg0) = m ((c.tc : Thread Cert.DownGradRefIdeal.nD Cert.DownGradRefIdeal.τ).loc Cert.DownGradRefIdeal.main_arg0)
      ∧ r.2.mem ((c.tc : Thread Cert.DownGradRefIdeal.nD Cert.DownGradRefIdeal.τ).loc Cert.DownGradRefIdeal.main_arg1) = m ((c.tc : Thread Cert.DownGradRefIdeal.nD Cert.DownGradRefIdeal.τ).loc Cert.DownGradRefIdeal.main_arg1))
      ∧ r.2.sem = fun _ => 0)

def quiescent_OutGrad [hOutGrad : Cert.OutGrad.Facts] : Prop :=
  ∀ (m : (ℓ : Loc Cert.OutGrad.nD Cert.OutGrad.τ Cert.OutGrad.sig) → Buf (Elt Bits) ℓ) (g : Dev Cert.OutGrad.nD → PrngReg), Pre_OutGrad m →
    θ_run (Cert.OutGrad.defs (F := Bits)) (onTc (τ := Cert.OutGrad.τ) (Cert.OutGrad.main (F := Bits))) ⟨m, fun _ => 0, g⟩ (fun r => (∀ c : Dev Cert.OutGrad.nD,
      r.2.mem ((c.tc : Thread Cert.OutGrad.nD Cert.OutGrad.τ).loc Cert.OutGrad.main_arg0) = m ((c.tc : Thread Cert.OutGrad.nD Cert.OutGrad.τ).loc Cert.OutGrad.main_arg0)
      ∧ r.2.mem ((c.tc : Thread Cert.OutGrad.nD Cert.OutGrad.τ).loc Cert.OutGrad.main_arg1) = m ((c.tc : Thread Cert.OutGrad.nD Cert.OutGrad.τ).loc Cert.OutGrad.main_arg1))
      ∧ r.2.sem = fun _ => 0)

def quiescent_OutGradIdeal [hOutGradIdeal : Cert.OutGradIdeal.Facts] : Prop :=
  ∀ (m : (ℓ : Loc Cert.OutGradIdeal.nD Cert.OutGradIdeal.τ Cert.OutGradIdeal.sig) → Buf (Elt Ideal) ℓ) (g : Dev Cert.OutGradIdeal.nD → PrngReg), Pre_OutGradIdeal m →
    θ_run (Cert.OutGradIdeal.defs (F := Ideal)) (onTc (τ := Cert.OutGradIdeal.τ) (Cert.OutGradIdeal.main (F := Ideal))) ⟨m, fun _ => 0, g⟩ (fun r => (∀ c : Dev Cert.OutGradIdeal.nD,
      r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
      ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1))
      ∧ r.2.sem = fun _ => 0)

def quiescent_OutGradRefIdeal [hOutGradRefIdeal : Cert.OutGradRefIdeal.Facts] : Prop :=
  ∀ (m : (ℓ : Loc Cert.OutGradRefIdeal.nD Cert.OutGradRefIdeal.τ Cert.OutGradRefIdeal.sig) → Buf (Elt Ideal) ℓ) (g : Dev Cert.OutGradRefIdeal.nD → PrngReg), Pre_OutGradRefIdeal m →
    θ_run (Cert.OutGradRefIdeal.defs (F := Ideal)) (onTc (τ := Cert.OutGradRefIdeal.τ) (Cert.OutGradRefIdeal.main (F := Ideal))) ⟨m, fun _ => 0, g⟩ (fun r => (∀ c : Dev Cert.OutGradRefIdeal.nD,
      r.2.mem ((c.tc : Thread Cert.OutGradRefIdeal.nD Cert.OutGradRefIdeal.τ).loc Cert.OutGradRefIdeal.main_arg0) = m ((c.tc : Thread Cert.OutGradRefIdeal.nD Cert.OutGradRefIdeal.τ).loc Cert.OutGradRefIdeal.main_arg0)
      ∧ r.2.mem ((c.tc : Thread Cert.OutGradRefIdeal.nD Cert.OutGradRefIdeal.τ).loc Cert.OutGradRefIdeal.main_arg1) = m ((c.tc : Thread Cert.OutGradRefIdeal.nD Cert.OutGradRefIdeal.τ).loc Cert.OutGradRefIdeal.main_arg1))
      ∧ r.2.sem = fun _ => 0)

def quiescent_PaGrad [hPaGrad : Cert.PaGrad.Facts] : Prop :=
  ∀ (m : (ℓ : Loc Cert.PaGrad.nD Cert.PaGrad.τ Cert.PaGrad.sig) → Buf (Elt Bits) ℓ) (g : Dev Cert.PaGrad.nD → PrngReg), Pre_PaGrad m →
    θ_run (Cert.PaGrad.defs (F := Bits)) (onTc (τ := Cert.PaGrad.τ) (Cert.PaGrad.main (F := Bits))) ⟨m, fun _ => 0, g⟩ (fun r => (∀ c : Dev Cert.PaGrad.nD,
      r.2.mem ((c.tc : Thread Cert.PaGrad.nD Cert.PaGrad.τ).loc Cert.PaGrad.main_arg0) = m ((c.tc : Thread Cert.PaGrad.nD Cert.PaGrad.τ).loc Cert.PaGrad.main_arg0)
      ∧ r.2.mem ((c.tc : Thread Cert.PaGrad.nD Cert.PaGrad.τ).loc Cert.PaGrad.main_arg1) = m ((c.tc : Thread Cert.PaGrad.nD Cert.PaGrad.τ).loc Cert.PaGrad.main_arg1))
      ∧ r.2.sem = fun _ => 0)

def quiescent_PaGradIdeal [hPaGradIdeal : Cert.PaGradIdeal.Facts] : Prop :=
  ∀ (m : (ℓ : Loc Cert.PaGradIdeal.nD Cert.PaGradIdeal.τ Cert.PaGradIdeal.sig) → Buf (Elt Ideal) ℓ) (g : Dev Cert.PaGradIdeal.nD → PrngReg), Pre_PaGradIdeal m →
    θ_run (Cert.PaGradIdeal.defs (F := Ideal)) (onTc (τ := Cert.PaGradIdeal.τ) (Cert.PaGradIdeal.main (F := Ideal))) ⟨m, fun _ => 0, g⟩ (fun r => (∀ c : Dev Cert.PaGradIdeal.nD,
      r.2.mem ((c.tc : Thread Cert.PaGradIdeal.nD Cert.PaGradIdeal.τ).loc Cert.PaGradIdeal.main_arg0) = m ((c.tc : Thread Cert.PaGradIdeal.nD Cert.PaGradIdeal.τ).loc Cert.PaGradIdeal.main_arg0)
      ∧ r.2.mem ((c.tc : Thread Cert.PaGradIdeal.nD Cert.PaGradIdeal.τ).loc Cert.PaGradIdeal.main_arg1) = m ((c.tc : Thread Cert.PaGradIdeal.nD Cert.PaGradIdeal.τ).loc Cert.PaGradIdeal.main_arg1))
      ∧ r.2.sem = fun _ => 0)

def quiescent_PaGradRefIdeal [hPaGradRefIdeal : Cert.PaGradRefIdeal.Facts] : Prop :=
  ∀ (m : (ℓ : Loc Cert.PaGradRefIdeal.nD Cert.PaGradRefIdeal.τ Cert.PaGradRefIdeal.sig) → Buf (Elt Ideal) ℓ) (g : Dev Cert.PaGradRefIdeal.nD → PrngReg), Pre_PaGradRefIdeal m →
    θ_run (Cert.PaGradRefIdeal.defs (F := Ideal)) (onTc (τ := Cert.PaGradRefIdeal.τ) (Cert.PaGradRefIdeal.main (F := Ideal))) ⟨m, fun _ => 0, g⟩ (fun r => (∀ c : Dev Cert.PaGradRefIdeal.nD,
      r.2.mem ((c.tc : Thread Cert.PaGradRefIdeal.nD Cert.PaGradRefIdeal.τ).loc Cert.PaGradRefIdeal.main_arg0) = m ((c.tc : Thread Cert.PaGradRefIdeal.nD Cert.PaGradRefIdeal.τ).loc Cert.PaGradRefIdeal.main_arg0)
      ∧ r.2.mem ((c.tc : Thread Cert.PaGradRefIdeal.nD Cert.PaGradRefIdeal.τ).loc Cert.PaGradRefIdeal.main_arg1) = m ((c.tc : Thread Cert.PaGradRefIdeal.nD Cert.PaGradRefIdeal.τ).loc Cert.PaGradRefIdeal.main_arg1))
      ∧ r.2.sem = fun _ => 0)

def quiescent_PbGrad [hPbGrad : Cert.PbGrad.Facts] : Prop :=
  ∀ (m : (ℓ : Loc Cert.PbGrad.nD Cert.PbGrad.τ Cert.PbGrad.sig) → Buf (Elt Bits) ℓ) (g : Dev Cert.PbGrad.nD → PrngReg), Pre_PbGrad m →
    θ_run (Cert.PbGrad.defs (F := Bits)) (onTc (τ := Cert.PbGrad.τ) (Cert.PbGrad.main (F := Bits))) ⟨m, fun _ => 0, g⟩ (fun r => (∀ c : Dev Cert.PbGrad.nD,
      r.2.mem ((c.tc : Thread Cert.PbGrad.nD Cert.PbGrad.τ).loc Cert.PbGrad.main_arg0) = m ((c.tc : Thread Cert.PbGrad.nD Cert.PbGrad.τ).loc Cert.PbGrad.main_arg0)
      ∧ r.2.mem ((c.tc : Thread Cert.PbGrad.nD Cert.PbGrad.τ).loc Cert.PbGrad.main_arg1) = m ((c.tc : Thread Cert.PbGrad.nD Cert.PbGrad.τ).loc Cert.PbGrad.main_arg1))
      ∧ r.2.sem = fun _ => 0)

def quiescent_PbGradIdeal [hPbGradIdeal : Cert.PbGradIdeal.Facts] : Prop :=
  ∀ (m : (ℓ : Loc Cert.PbGradIdeal.nD Cert.PbGradIdeal.τ Cert.PbGradIdeal.sig) → Buf (Elt Ideal) ℓ) (g : Dev Cert.PbGradIdeal.nD → PrngReg), Pre_PbGradIdeal m →
    θ_run (Cert.PbGradIdeal.defs (F := Ideal)) (onTc (τ := Cert.PbGradIdeal.τ) (Cert.PbGradIdeal.main (F := Ideal))) ⟨m, fun _ => 0, g⟩ (fun r => (∀ c : Dev Cert.PbGradIdeal.nD,
      r.2.mem ((c.tc : Thread Cert.PbGradIdeal.nD Cert.PbGradIdeal.τ).loc Cert.PbGradIdeal.main_arg0) = m ((c.tc : Thread Cert.PbGradIdeal.nD Cert.PbGradIdeal.τ).loc Cert.PbGradIdeal.main_arg0)
      ∧ r.2.mem ((c.tc : Thread Cert.PbGradIdeal.nD Cert.PbGradIdeal.τ).loc Cert.PbGradIdeal.main_arg1) = m ((c.tc : Thread Cert.PbGradIdeal.nD Cert.PbGradIdeal.τ).loc Cert.PbGradIdeal.main_arg1))
      ∧ r.2.sem = fun _ => 0)

def quiescent_PbGradRefIdeal [hPbGradRefIdeal : Cert.PbGradRefIdeal.Facts] : Prop :=
  ∀ (m : (ℓ : Loc Cert.PbGradRefIdeal.nD Cert.PbGradRefIdeal.τ Cert.PbGradRefIdeal.sig) → Buf (Elt Ideal) ℓ) (g : Dev Cert.PbGradRefIdeal.nD → PrngReg), Pre_PbGradRefIdeal m →
    θ_run (Cert.PbGradRefIdeal.defs (F := Ideal)) (onTc (τ := Cert.PbGradRefIdeal.τ) (Cert.PbGradRefIdeal.main (F := Ideal))) ⟨m, fun _ => 0, g⟩ (fun r => (∀ c : Dev Cert.PbGradRefIdeal.nD,
      r.2.mem ((c.tc : Thread Cert.PbGradRefIdeal.nD Cert.PbGradRefIdeal.τ).loc Cert.PbGradRefIdeal.main_arg0) = m ((c.tc : Thread Cert.PbGradRefIdeal.nD Cert.PbGradRefIdeal.τ).loc Cert.PbGradRefIdeal.main_arg0)
      ∧ r.2.mem ((c.tc : Thread Cert.PbGradRefIdeal.nD Cert.PbGradRefIdeal.τ).loc Cert.PbGradRefIdeal.main_arg1) = m ((c.tc : Thread Cert.PbGradRefIdeal.nD Cert.PbGradRefIdeal.τ).loc Cert.PbGradRefIdeal.main_arg1))
      ∧ r.2.sem = fun _ => 0)

def quiescent_UqGrad [hUqGrad : Cert.UqGrad.Facts] : Prop :=
  ∀ (m : (ℓ : Loc Cert.UqGrad.nD Cert.UqGrad.τ Cert.UqGrad.sig) → Buf (Elt Bits) ℓ) (g : Dev Cert.UqGrad.nD → PrngReg), Pre_UqGrad m →
    θ_run (Cert.UqGrad.defs (F := Bits)) (onTc (τ := Cert.UqGrad.τ) (Cert.UqGrad.main (F := Bits))) ⟨m, fun _ => 0, g⟩ (fun r => (∀ c : Dev Cert.UqGrad.nD,
      r.2.mem ((c.tc : Thread Cert.UqGrad.nD Cert.UqGrad.τ).loc Cert.UqGrad.main_arg0) = m ((c.tc : Thread Cert.UqGrad.nD Cert.UqGrad.τ).loc Cert.UqGrad.main_arg0)
      ∧ r.2.mem ((c.tc : Thread Cert.UqGrad.nD Cert.UqGrad.τ).loc Cert.UqGrad.main_arg1) = m ((c.tc : Thread Cert.UqGrad.nD Cert.UqGrad.τ).loc Cert.UqGrad.main_arg1))
      ∧ r.2.sem = fun _ => 0)

def quiescent_UqGradIdeal [hUqGradIdeal : Cert.UqGradIdeal.Facts] : Prop :=
  ∀ (m : (ℓ : Loc Cert.UqGradIdeal.nD Cert.UqGradIdeal.τ Cert.UqGradIdeal.sig) → Buf (Elt Ideal) ℓ) (g : Dev Cert.UqGradIdeal.nD → PrngReg), Pre_UqGradIdeal m →
    θ_run (Cert.UqGradIdeal.defs (F := Ideal)) (onTc (τ := Cert.UqGradIdeal.τ) (Cert.UqGradIdeal.main (F := Ideal))) ⟨m, fun _ => 0, g⟩ (fun r => (∀ c : Dev Cert.UqGradIdeal.nD,
      r.2.mem ((c.tc : Thread Cert.UqGradIdeal.nD Cert.UqGradIdeal.τ).loc Cert.UqGradIdeal.main_arg0) = m ((c.tc : Thread Cert.UqGradIdeal.nD Cert.UqGradIdeal.τ).loc Cert.UqGradIdeal.main_arg0)
      ∧ r.2.mem ((c.tc : Thread Cert.UqGradIdeal.nD Cert.UqGradIdeal.τ).loc Cert.UqGradIdeal.main_arg1) = m ((c.tc : Thread Cert.UqGradIdeal.nD Cert.UqGradIdeal.τ).loc Cert.UqGradIdeal.main_arg1))
      ∧ r.2.sem = fun _ => 0)

def quiescent_UqGradRefIdeal [hUqGradRefIdeal : Cert.UqGradRefIdeal.Facts] : Prop :=
  ∀ (m : (ℓ : Loc Cert.UqGradRefIdeal.nD Cert.UqGradRefIdeal.τ Cert.UqGradRefIdeal.sig) → Buf (Elt Ideal) ℓ) (g : Dev Cert.UqGradRefIdeal.nD → PrngReg), Pre_UqGradRefIdeal m →
    θ_run (Cert.UqGradRefIdeal.defs (F := Ideal)) (onTc (τ := Cert.UqGradRefIdeal.τ) (Cert.UqGradRefIdeal.main (F := Ideal))) ⟨m, fun _ => 0, g⟩ (fun r => (∀ c : Dev Cert.UqGradRefIdeal.nD,
      r.2.mem ((c.tc : Thread Cert.UqGradRefIdeal.nD Cert.UqGradRefIdeal.τ).loc Cert.UqGradRefIdeal.main_arg0) = m ((c.tc : Thread Cert.UqGradRefIdeal.nD Cert.UqGradRefIdeal.τ).loc Cert.UqGradRefIdeal.main_arg0)
      ∧ r.2.mem ((c.tc : Thread Cert.UqGradRefIdeal.nD Cert.UqGradRefIdeal.τ).loc Cert.UqGradRefIdeal.main_arg1) = m ((c.tc : Thread Cert.UqGradRefIdeal.nD Cert.UqGradRefIdeal.τ).loc Cert.UqGradRefIdeal.main_arg1))
      ∧ r.2.sem = fun _ => 0)

def quiescent_KvGrad [hKvGrad : Cert.KvGrad.Facts] : Prop :=
  ∀ (m : (ℓ : Loc Cert.KvGrad.nD Cert.KvGrad.τ Cert.KvGrad.sig) → Buf (Elt Bits) ℓ) (g : Dev Cert.KvGrad.nD → PrngReg), Pre_KvGrad m →
    θ_run (Cert.KvGrad.defs (F := Bits)) (onTc (τ := Cert.KvGrad.τ) (Cert.KvGrad.main (F := Bits))) ⟨m, fun _ => 0, g⟩ (fun r => (∀ c : Dev Cert.KvGrad.nD,
      r.2.mem ((c.tc : Thread Cert.KvGrad.nD Cert.KvGrad.τ).loc Cert.KvGrad.main_arg0) = m ((c.tc : Thread Cert.KvGrad.nD Cert.KvGrad.τ).loc Cert.KvGrad.main_arg0)
      ∧ r.2.mem ((c.tc : Thread Cert.KvGrad.nD Cert.KvGrad.τ).loc Cert.KvGrad.main_arg1) = m ((c.tc : Thread Cert.KvGrad.nD Cert.KvGrad.τ).loc Cert.KvGrad.main_arg1))
      ∧ r.2.sem = fun _ => 0)

def quiescent_KvGradIdeal [hKvGradIdeal : Cert.KvGradIdeal.Facts] : Prop :=
  ∀ (m : (ℓ : Loc Cert.KvGradIdeal.nD Cert.KvGradIdeal.τ Cert.KvGradIdeal.sig) → Buf (Elt Ideal) ℓ) (g : Dev Cert.KvGradIdeal.nD → PrngReg), Pre_KvGradIdeal m →
    θ_run (Cert.KvGradIdeal.defs (F := Ideal)) (onTc (τ := Cert.KvGradIdeal.τ) (Cert.KvGradIdeal.main (F := Ideal))) ⟨m, fun _ => 0, g⟩ (fun r => (∀ c : Dev Cert.KvGradIdeal.nD,
      r.2.mem ((c.tc : Thread Cert.KvGradIdeal.nD Cert.KvGradIdeal.τ).loc Cert.KvGradIdeal.main_arg0) = m ((c.tc : Thread Cert.KvGradIdeal.nD Cert.KvGradIdeal.τ).loc Cert.KvGradIdeal.main_arg0)
      ∧ r.2.mem ((c.tc : Thread Cert.KvGradIdeal.nD Cert.KvGradIdeal.τ).loc Cert.KvGradIdeal.main_arg1) = m ((c.tc : Thread Cert.KvGradIdeal.nD Cert.KvGradIdeal.τ).loc Cert.KvGradIdeal.main_arg1))
      ∧ r.2.sem = fun _ => 0)

def quiescent_KvGradRefIdeal [hKvGradRefIdeal : Cert.KvGradRefIdeal.Facts] : Prop :=
  ∀ (m : (ℓ : Loc Cert.KvGradRefIdeal.nD Cert.KvGradRefIdeal.τ Cert.KvGradRefIdeal.sig) → Buf (Elt Ideal) ℓ) (g : Dev Cert.KvGradRefIdeal.nD → PrngReg), Pre_KvGradRefIdeal m →
    θ_run (Cert.KvGradRefIdeal.defs (F := Ideal)) (onTc (τ := Cert.KvGradRefIdeal.τ) (Cert.KvGradRefIdeal.main (F := Ideal))) ⟨m, fun _ => 0, g⟩ (fun r => (∀ c : Dev Cert.KvGradRefIdeal.nD,
      r.2.mem ((c.tc : Thread Cert.KvGradRefIdeal.nD Cert.KvGradRefIdeal.τ).loc Cert.KvGradRefIdeal.main_arg0) = m ((c.tc : Thread Cert.KvGradRefIdeal.nD Cert.KvGradRefIdeal.τ).loc Cert.KvGradRefIdeal.main_arg0)
      ∧ r.2.mem ((c.tc : Thread Cert.KvGradRefIdeal.nD Cert.KvGradRefIdeal.τ).loc Cert.KvGradRefIdeal.main_arg1) = m ((c.tc : Thread Cert.KvGradRefIdeal.nD Cert.KvGradRefIdeal.τ).loc Cert.KvGradRefIdeal.main_arg1))
      ∧ r.2.sem = fun _ => 0)

def quiescent_InGrad [hInGrad : Cert.InGrad.Facts] : Prop :=
  ∀ (m : (ℓ : Loc Cert.InGrad.nD Cert.InGrad.τ Cert.InGrad.sig) → Buf (Elt Bits) ℓ) (g : Dev Cert.InGrad.nD → PrngReg), Pre_InGrad m →
    θ_run (Cert.InGrad.defs (F := Bits)) (onTc (τ := Cert.InGrad.τ) (Cert.InGrad.main (F := Bits))) ⟨m, fun _ => 0, g⟩ (fun r => (∀ c : Dev Cert.InGrad.nD,
      r.2.mem ((c.tc : Thread Cert.InGrad.nD Cert.InGrad.τ).loc Cert.InGrad.main_arg0) = m ((c.tc : Thread Cert.InGrad.nD Cert.InGrad.τ).loc Cert.InGrad.main_arg0)
      ∧ r.2.mem ((c.tc : Thread Cert.InGrad.nD Cert.InGrad.τ).loc Cert.InGrad.main_arg1) = m ((c.tc : Thread Cert.InGrad.nD Cert.InGrad.τ).loc Cert.InGrad.main_arg1))
      ∧ r.2.sem = fun _ => 0)

def quiescent_InGradIdeal [hInGradIdeal : Cert.InGradIdeal.Facts] : Prop :=
  ∀ (m : (ℓ : Loc Cert.InGradIdeal.nD Cert.InGradIdeal.τ Cert.InGradIdeal.sig) → Buf (Elt Ideal) ℓ) (g : Dev Cert.InGradIdeal.nD → PrngReg), Pre_InGradIdeal m →
    θ_run (Cert.InGradIdeal.defs (F := Ideal)) (onTc (τ := Cert.InGradIdeal.τ) (Cert.InGradIdeal.main (F := Ideal))) ⟨m, fun _ => 0, g⟩ (fun r => (∀ c : Dev Cert.InGradIdeal.nD,
      r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
      ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1))
      ∧ r.2.sem = fun _ => 0)

def quiescent_InGradRefIdeal [hInGradRefIdeal : Cert.InGradRefIdeal.Facts] : Prop :=
  ∀ (m : (ℓ : Loc Cert.InGradRefIdeal.nD Cert.InGradRefIdeal.τ Cert.InGradRefIdeal.sig) → Buf (Elt Ideal) ℓ) (g : Dev Cert.InGradRefIdeal.nD → PrngReg), Pre_InGradRefIdeal m →
    θ_run (Cert.InGradRefIdeal.defs (F := Ideal)) (onTc (τ := Cert.InGradRefIdeal.τ) (Cert.InGradRefIdeal.main (F := Ideal))) ⟨m, fun _ => 0, g⟩ (fun r => (∀ c : Dev Cert.InGradRefIdeal.nD,
      r.2.mem ((c.tc : Thread Cert.InGradRefIdeal.nD Cert.InGradRefIdeal.τ).loc Cert.InGradRefIdeal.main_arg0) = m ((c.tc : Thread Cert.InGradRefIdeal.nD Cert.InGradRefIdeal.τ).loc Cert.InGradRefIdeal.main_arg0)
      ∧ r.2.mem ((c.tc : Thread Cert.InGradRefIdeal.nD Cert.InGradRefIdeal.τ).loc Cert.InGradRefIdeal.main_arg1) = m ((c.tc : Thread Cert.InGradRefIdeal.nD Cert.InGradRefIdeal.τ).loc Cert.InGradRefIdeal.main_arg1))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1)
      ∧ r.2.mem ((c.tc : Thread Cert.InFwd.nD Cert.InFwd.τ).loc Cert.InFwd.main_arg2) = m ((c.tc : Thread Cert.InFwd.nD Cert.InFwd.τ).loc Cert.InFwd.main_arg2))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
      ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2))
      ∧ r.2.sem = fun _ => 0)

def quiescent_InFwdRefIdeal [hInFwdRefIdeal : Cert.InFwdRefIdeal.Facts] : Prop :=
  ∀ (m : (ℓ : Loc Cert.InFwdRefIdeal.nD Cert.InFwdRefIdeal.τ Cert.InFwdRefIdeal.sig) → Buf (Elt Ideal) ℓ) (g : Dev Cert.InFwdRefIdeal.nD → PrngReg), Pre_InFwdRefIdeal m →
    θ_run (Cert.InFwdRefIdeal.defs (F := Ideal)) (onTc (τ := Cert.InFwdRefIdeal.τ) (Cert.InFwdRefIdeal.main (F := Ideal))) ⟨m, fun _ => 0, g⟩ (fun r => (∀ c : Dev Cert.InFwdRefIdeal.nD,
      r.2.mem ((c.tc : Thread Cert.InFwdRefIdeal.nD Cert.InFwdRefIdeal.τ).loc Cert.InFwdRefIdeal.main_arg0) = m ((c.tc : Thread Cert.InFwdRefIdeal.nD Cert.InFwdRefIdeal.τ).loc Cert.InFwdRefIdeal.main_arg0)
      ∧ r.2.mem ((c.tc : Thread Cert.InFwdRefIdeal.nD Cert.InFwdRefIdeal.τ).loc Cert.InFwdRefIdeal.main_arg1) = m ((c.tc : Thread Cert.InFwdRefIdeal.nD Cert.InFwdRefIdeal.τ).loc Cert.InFwdRefIdeal.main_arg1)
      ∧ r.2.mem ((c.tc : Thread Cert.InFwdRefIdeal.nD Cert.InFwdRefIdeal.τ).loc Cert.InFwdRefIdeal.main_arg2) = m ((c.tc : Thread Cert.InFwdRefIdeal.nD Cert.InFwdRefIdeal.τ).loc Cert.InFwdRefIdeal.main_arg2))
      ∧ r.2.sem = fun _ => 0)

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1)
      ∧ r.2.mem ((c.tc : Thread Cert.InBwd.nD Cert.InBwd.τ).loc Cert.InBwd.main_arg2) = m ((c.tc : Thread Cert.InBwd.nD Cert.InBwd.τ).loc Cert.InBwd.main_arg2)
      ∧ r.2.mem ((c.tc : Thread Cert.InBwd.nD Cert.InBwd.τ).loc Cert.InBwd.main_arg3) = m ((c.tc : Thread Cert.InBwd.nD Cert.InBwd.τ).loc Cert.InBwd.main_arg3)
      ∧ r.2.mem ((c.tc : Thread Cert.InBwd.nD Cert.InBwd.τ).loc Cert.InBwd.main_arg4) = m ((c.tc : Thread Cert.InBwd.nD Cert.InBwd.τ).loc Cert.InBwd.main_arg4)
      ∧ r.2.mem ((c.tc : Thread Cert.InBwd.nD Cert.InBwd.τ).loc Cert.InBwd.main_arg5) = m ((c.tc : Thread Cert.InBwd.nD Cert.InBwd.τ).loc Cert.InBwd.main_arg5)
      ∧ r.2.mem ((c.tc : Thread Cert.InBwd.nD Cert.InBwd.τ).loc Cert.InBwd.main_arg6) = m ((c.tc : Thread Cert.InBwd.nD Cert.InBwd.τ).loc Cert.InBwd.main_arg6)
      ∧ r.2.mem ((c.tc : Thread Cert.InBwd.nD Cert.InBwd.τ).loc Cert.InBwd.main_arg7) = m ((c.tc : Thread Cert.InBwd.nD Cert.InBwd.τ).loc Cert.InBwd.main_arg7)
      ∧ r.2.mem ((c.tc : Thread Cert.InBwd.nD Cert.InBwd.τ).loc Cert.InBwd.main_arg8) = m ((c.tc : Thread Cert.InBwd.nD Cert.InBwd.τ).loc Cert.InBwd.main_arg8)
      ∧ r.2.mem ((c.tc : Thread Cert.InBwd.nD Cert.InBwd.τ).loc Cert.InBwd.main_arg9) = m ((c.tc : Thread Cert.InBwd.nD Cert.InBwd.τ).loc Cert.InBwd.main_arg9))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
      ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
      ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6)
      ∧ r.2.mem ((c.tc : Thread Cert.InBwdIdeal.nD Cert.InBwdIdeal.τ).loc Cert.InBwdIdeal.main_arg7) = m ((c.tc : Thread Cert.InBwdIdeal.nD Cert.InBwdIdeal.τ).loc Cert.InBwdIdeal.main_arg7)
      ∧ r.2.mem ((c.tc : Thread Cert.InBwdIdeal.nD Cert.InBwdIdeal.τ).loc Cert.InBwdIdeal.main_arg8) = m ((c.tc : Thread Cert.InBwdIdeal.nD Cert.InBwdIdeal.τ).loc Cert.InBwdIdeal.main_arg8)
      ∧ r.2.mem ((c.tc : Thread Cert.InBwdIdeal.nD Cert.InBwdIdeal.τ).loc Cert.InBwdIdeal.main_arg9) = m ((c.tc : Thread Cert.InBwdIdeal.nD Cert.InBwdIdeal.τ).loc Cert.InBwdIdeal.main_arg9))
      ∧ r.2.sem = fun _ => 0)

def quiescent_InBwdIdeal_pre_in_finite [hInBwdIdeal : Cert.InBwdIdeal.Facts] [hPre_in_finite : Cert.Pre_in_finite.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal_in_finite m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
      ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
      ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6)
      ∧ r.2.mem ((c.tc : Thread Cert.InBwdIdeal.nD Cert.InBwdIdeal.τ).loc Cert.InBwdIdeal.main_arg7) = m ((c.tc : Thread Cert.InBwdIdeal.nD Cert.InBwdIdeal.τ).loc Cert.InBwdIdeal.main_arg7)
      ∧ r.2.mem ((c.tc : Thread Cert.InBwdIdeal.nD Cert.InBwdIdeal.τ).loc Cert.InBwdIdeal.main_arg8) = m ((c.tc : Thread Cert.InBwdIdeal.nD Cert.InBwdIdeal.τ).loc Cert.InBwdIdeal.main_arg8)
      ∧ r.2.mem ((c.tc : Thread Cert.InBwdIdeal.nD Cert.InBwdIdeal.τ).loc Cert.InBwdIdeal.main_arg9) = m ((c.tc : Thread Cert.InBwdIdeal.nD Cert.InBwdIdeal.τ).loc Cert.InBwdIdeal.main_arg9))
      ∧ r.2.sem = fun _ => 0)

def quiescent_InBwdRefIdeal [hInBwdRefIdeal : Cert.InBwdRefIdeal.Facts] : Prop :=
  ∀ (m : (ℓ : Loc Cert.InBwdRefIdeal.nD Cert.InBwdRefIdeal.τ Cert.InBwdRefIdeal.sig) → Buf (Elt Ideal) ℓ) (g : Dev Cert.InBwdRefIdeal.nD → PrngReg), Pre_InBwdRefIdeal m →
    θ_run (Cert.InBwdRefIdeal.defs (F := Ideal)) (onTc (τ := Cert.InBwdRefIdeal.τ) (Cert.InBwdRefIdeal.main (F := Ideal))) ⟨m, fun _ => 0, g⟩ (fun r => (∀ c : Dev Cert.InBwdRefIdeal.nD,
      r.2.mem ((c.tc : Thread Cert.InBwdRefIdeal.nD Cert.InBwdRefIdeal.τ).loc Cert.InBwdRefIdeal.main_arg0) = m ((c.tc : Thread Cert.InBwdRefIdeal.nD Cert.InBwdRefIdeal.τ).loc Cert.InBwdRefIdeal.main_arg0)
      ∧ r.2.mem ((c.tc : Thread Cert.InBwdRefIdeal.nD Cert.InBwdRefIdeal.τ).loc Cert.InBwdRefIdeal.main_arg1) = m ((c.tc : Thread Cert.InBwdRefIdeal.nD Cert.InBwdRefIdeal.τ).loc Cert.InBwdRefIdeal.main_arg1)
      ∧ r.2.mem ((c.tc : Thread Cert.InBwdRefIdeal.nD Cert.InBwdRefIdeal.τ).loc Cert.InBwdRefIdeal.main_arg2) = m ((c.tc : Thread Cert.InBwdRefIdeal.nD Cert.InBwdRefIdeal.τ).loc Cert.InBwdRefIdeal.main_arg2)
      ∧ r.2.mem ((c.tc : Thread Cert.InBwdRefIdeal.nD Cert.InBwdRefIdeal.τ).loc Cert.InBwdRefIdeal.main_arg3) = m ((c.tc : Thread Cert.InBwdRefIdeal.nD Cert.InBwdRefIdeal.τ).loc Cert.InBwdRefIdeal.main_arg3)
      ∧ r.2.mem ((c.tc : Thread Cert.InBwdRefIdeal.nD Cert.InBwdRefIdeal.τ).loc Cert.InBwdRefIdeal.main_arg4) = m ((c.tc : Thread Cert.InBwdRefIdeal.nD Cert.InBwdRefIdeal.τ).loc Cert.InBwdRefIdeal.main_arg4)
      ∧ r.2.mem ((c.tc : Thread Cert.InBwdRefIdeal.nD Cert.InBwdRefIdeal.τ).loc Cert.InBwdRefIdeal.main_arg5) = m ((c.tc : Thread Cert.InBwdRefIdeal.nD Cert.InBwdRefIdeal.τ).loc Cert.InBwdRefIdeal.main_arg5)
      ∧ r.2.mem ((c.tc : Thread Cert.InBwdRefIdeal.nD Cert.InBwdRefIdeal.τ).loc Cert.InBwdRefIdeal.main_arg6) = m ((c.tc : Thread Cert.InBwdRefIdeal.nD Cert.InBwdRefIdeal.τ).loc Cert.InBwdRefIdeal.main_arg6)
      ∧ r.2.mem ((c.tc : Thread Cert.InBwdRefIdeal.nD Cert.InBwdRefIdeal.τ).loc Cert.InBwdRefIdeal.main_arg7) = m ((c.tc : Thread Cert.InBwdRefIdeal.nD Cert.InBwdRefIdeal.τ).loc Cert.InBwdRefIdeal.main_arg7)
      ∧ r.2.mem ((c.tc : Thread Cert.InBwdRefIdeal.nD Cert.InBwdRefIdeal.τ).loc Cert.InBwdRefIdeal.main_arg8) = m ((c.tc : Thread Cert.InBwdRefIdeal.nD Cert.InBwdRefIdeal.τ).loc Cert.InBwdRefIdeal.main_arg8)
      ∧ r.2.mem ((c.tc : Thread Cert.InBwdRefIdeal.nD Cert.InBwdRefIdeal.τ).loc Cert.InBwdRefIdeal.main_arg9) = m ((c.tc : Thread Cert.InBwdRefIdeal.nD Cert.InBwdRefIdeal.τ).loc Cert.InBwdRefIdeal.main_arg9))
      ∧ r.2.sem = fun _ => 0)

def quiescent_InBwdRefIdeal_pre_in_finite [hInBwdRefIdeal : Cert.InBwdRefIdeal.Facts] [hPre_in_finite : Cert.Pre_in_finite.Facts] : Prop :=
  ∀ (m : (ℓ : Loc Cert.InBwdRefIdeal.nD Cert.InBwdRefIdeal.τ Cert.InBwdRefIdeal.sig) → Buf (Elt Ideal) ℓ) (g : Dev Cert.InBwdRefIdeal.nD → PrngReg), Pre_InBwdRefIdeal_in_finite m →
    θ_run (Cert.InBwdRefIdeal.defs (F := Ideal)) (onTc (τ := Cert.InBwdRefIdeal.τ) (Cert.InBwdRefIdeal.main (F := Ideal))) ⟨m, fun _ => 0, g⟩ (fun r => (∀ c : Dev Cert.InBwdRefIdeal.nD,
      r.2.mem ((c.tc : Thread Cert.InBwdRefIdeal.nD Cert.InBwdRefIdeal.τ).loc Cert.InBwdRefIdeal.main_arg0) = m ((c.tc : Thread Cert.InBwdRefIdeal.nD Cert.InBwdRefIdeal.τ).loc Cert.InBwdRefIdeal.main_arg0)
      ∧ r.2.mem ((c.tc : Thread Cert.InBwdRefIdeal.nD Cert.InBwdRefIdeal.τ).loc Cert.InBwdRefIdeal.main_arg1) = m ((c.tc : Thread Cert.InBwdRefIdeal.nD Cert.InBwdRefIdeal.τ).loc Cert.InBwdRefIdeal.main_arg1)
      ∧ r.2.mem ((c.tc : Thread Cert.InBwdRefIdeal.nD Cert.InBwdRefIdeal.τ).loc Cert.InBwdRefIdeal.main_arg2) = m ((c.tc : Thread Cert.InBwdRefIdeal.nD Cert.InBwdRefIdeal.τ).loc Cert.InBwdRefIdeal.main_arg2)
      ∧ r.2.mem ((c.tc : Thread Cert.InBwdRefIdeal.nD Cert.InBwdRefIdeal.τ).loc Cert.InBwdRefIdeal.main_arg3) = m ((c.tc : Thread Cert.InBwdRefIdeal.nD Cert.InBwdRefIdeal.τ).loc Cert.InBwdRefIdeal.main_arg3)
      ∧ r.2.mem ((c.tc : Thread Cert.InBwdRefIdeal.nD Cert.InBwdRefIdeal.τ).loc Cert.InBwdRefIdeal.main_arg4) = m ((c.tc : Thread Cert.InBwdRefIdeal.nD Cert.InBwdRefIdeal.τ).loc Cert.InBwdRefIdeal.main_arg4)
      ∧ r.2.mem ((c.tc : Thread Cert.InBwdRefIdeal.nD Cert.InBwdRefIdeal.τ).loc Cert.InBwdRefIdeal.main_arg5) = m ((c.tc : Thread Cert.InBwdRefIdeal.nD Cert.InBwdRefIdeal.τ).loc Cert.InBwdRefIdeal.main_arg5)
      ∧ r.2.mem ((c.tc : Thread Cert.InBwdRefIdeal.nD Cert.InBwdRefIdeal.τ).loc Cert.InBwdRefIdeal.main_arg6) = m ((c.tc : Thread Cert.InBwdRefIdeal.nD Cert.InBwdRefIdeal.τ).loc Cert.InBwdRefIdeal.main_arg6)
      ∧ r.2.mem ((c.tc : Thread Cert.InBwdRefIdeal.nD Cert.InBwdRefIdeal.τ).loc Cert.InBwdRefIdeal.main_arg7) = m ((c.tc : Thread Cert.InBwdRefIdeal.nD Cert.InBwdRefIdeal.τ).loc Cert.InBwdRefIdeal.main_arg7)
      ∧ r.2.mem ((c.tc : Thread Cert.InBwdRefIdeal.nD Cert.InBwdRefIdeal.τ).loc Cert.InBwdRefIdeal.main_arg8) = m ((c.tc : Thread Cert.InBwdRefIdeal.nD Cert.InBwdRefIdeal.τ).loc Cert.InBwdRefIdeal.main_arg8)
      ∧ r.2.mem ((c.tc : Thread Cert.InBwdRefIdeal.nD Cert.InBwdRefIdeal.τ).loc Cert.InBwdRefIdeal.main_arg9) = m ((c.tc : Thread Cert.InBwdRefIdeal.nD Cert.InBwdRefIdeal.τ).loc Cert.InBwdRefIdeal.main_arg9))
      ∧ r.2.sem = fun _ => 0)

def quiescent_QkvFwd [hQkvFwd : Cert.QkvFwd.Facts] : Prop :=
  ∀ (m : (ℓ : Loc Cert.QkvFwd.nD Cert.QkvFwd.τ Cert.QkvFwd.sig) → Buf (Elt Bits) ℓ) (g : Dev Cert.QkvFwd.nD → PrngReg), Pre_QkvFwd m →
    θ_run (Cert.QkvFwd.defs (F := Bits)) (onTc (τ := Cert.QkvFwd.τ) (Cert.QkvFwd.main (F := Bits))) ⟨m, fun _ => 0, g⟩ (fun r => (∀ c : Dev Cert.QkvFwd.nD,
      r.2.mem ((c.tc : Thread Cert.QkvFwd.nD Cert.QkvFwd.τ).loc Cert.QkvFwd.main_arg0) = m ((c.tc : Thread Cert.QkvFwd.nD Cert.QkvFwd.τ).loc Cert.QkvFwd.main_arg0)
      ∧ r.2.mem ((c.tc : Thread Cert.QkvFwd.nD Cert.QkvFwd.τ).loc Cert.QkvFwd.main_arg1) = m ((c.tc : Thread Cert.QkvFwd.nD Cert.QkvFwd.τ).loc Cert.QkvFwd.main_arg1)
      ∧ r.2.mem ((c.tc : Thread Cert.QkvFwd.nD Cert.QkvFwd.τ).loc Cert.QkvFwd.main_arg2) = m ((c.tc : Thread Cert.QkvFwd.nD Cert.QkvFwd.τ).loc Cert.QkvFwd.main_arg2)
      ∧ r.2.mem ((c.tc : Thread Cert.QkvFwd.nD Cert.QkvFwd.τ).loc Cert.QkvFwd.main_arg3) = m ((c.tc : Thread Cert.QkvFwd.nD Cert.QkvFwd.τ).loc Cert.QkvFwd.main_arg3)
      ∧ r.2.mem ((c.tc : Thread Cert.QkvFwd.nD Cert.QkvFwd.τ).loc Cert.QkvFwd.main_arg4) = m ((c.tc : Thread Cert.QkvFwd.nD Cert.QkvFwd.τ).loc Cert.QkvFwd.main_arg4)
      ∧ r.2.mem ((c.tc : Thread Cert.QkvFwd.nD Cert.QkvFwd.τ).loc Cert.QkvFwd.main_arg5) = m ((c.tc : Thread Cert.QkvFwd.nD Cert.QkvFwd.τ).loc Cert.QkvFwd.main_arg5)
      ∧ r.2.mem ((c.tc : Thread Cert.QkvFwd.nD Cert.QkvFwd.τ).loc Cert.QkvFwd.main_arg6) = m ((c.tc : Thread Cert.QkvFwd.nD Cert.QkvFwd.τ).loc Cert.QkvFwd.main_arg6))
      ∧ r.2.sem = fun _ => 0)

def quiescent_QkvFwdIdeal [hQkvFwdIdeal : Cert.QkvFwdIdeal.Facts] : Prop :=
  ∀ (m : (ℓ : Loc Cert.QkvFwdIdeal.nD Cert.QkvFwdIdeal.τ Cert.QkvFwdIdeal.sig) → Buf (Elt Ideal) ℓ) (g : Dev Cert.QkvFwdIdeal.nD → PrngReg), Pre_QkvFwdIdeal m →
    θ_run (Cert.QkvFwdIdeal.defs (F := Ideal)) (onTc (τ := Cert.QkvFwdIdeal.τ) (Cert.QkvFwdIdeal.main (F := Ideal))) ⟨m, fun _ => 0, g⟩ (fun r => (∀ c : Dev Cert.QkvFwdIdeal.nD,
      r.2.mem ((c.tc : Thread Cert.QkvFwdIdeal.nD Cert.QkvFwdIdeal.τ).loc Cert.QkvFwdIdeal.main_arg0) = m ((c.tc : Thread Cert.QkvFwdIdeal.nD Cert.QkvFwdIdeal.τ).loc Cert.QkvFwdIdeal.main_arg0)
      ∧ r.2.mem ((c.tc : Thread Cert.QkvFwdIdeal.nD Cert.QkvFwdIdeal.τ).loc Cert.QkvFwdIdeal.main_arg1) = m ((c.tc : Thread Cert.QkvFwdIdeal.nD Cert.QkvFwdIdeal.τ).loc Cert.QkvFwdIdeal.main_arg1)
      ∧ r.2.mem ((c.tc : Thread Cert.QkvFwdIdeal.nD Cert.QkvFwdIdeal.τ).loc Cert.QkvFwdIdeal.main_arg2) = m ((c.tc : Thread Cert.QkvFwdIdeal.nD Cert.QkvFwdIdeal.τ).loc Cert.QkvFwdIdeal.main_arg2)
      ∧ r.2.mem ((c.tc : Thread Cert.QkvFwdIdeal.nD Cert.QkvFwdIdeal.τ).loc Cert.QkvFwdIdeal.main_arg3) = m ((c.tc : Thread Cert.QkvFwdIdeal.nD Cert.QkvFwdIdeal.τ).loc Cert.QkvFwdIdeal.main_arg3)
      ∧ r.2.mem ((c.tc : Thread Cert.QkvFwdIdeal.nD Cert.QkvFwdIdeal.τ).loc Cert.QkvFwdIdeal.main_arg4) = m ((c.tc : Thread Cert.QkvFwdIdeal.nD Cert.QkvFwdIdeal.τ).loc Cert.QkvFwdIdeal.main_arg4)
      ∧ r.2.mem ((c.tc : Thread Cert.QkvFwdIdeal.nD Cert.QkvFwdIdeal.τ).loc Cert.QkvFwdIdeal.main_arg5) = m ((c.tc : Thread Cert.QkvFwdIdeal.nD Cert.QkvFwdIdeal.τ).loc Cert.QkvFwdIdeal.main_arg5)
      ∧ r.2.mem ((c.tc : Thread Cert.QkvFwdIdeal.nD Cert.QkvFwdIdeal.τ).loc Cert.QkvFwdIdeal.main_arg6) = m ((c.tc : Thread Cert.QkvFwdIdeal.nD Cert.QkvFwdIdeal.τ).loc Cert.QkvFwdIdeal.main_arg6))
      ∧ r.2.sem = fun _ => 0)

def quiescent_QkvFwdRefIdeal [hQkvFwdRefIdeal : Cert.QkvFwdRefIdeal.Facts] : Prop :=
  ∀ (m : (ℓ : Loc Cert.QkvFwdRefIdeal.nD Cert.QkvFwdRefIdeal.τ Cert.QkvFwdRefIdeal.sig) → Buf (Elt Ideal) ℓ) (g : Dev Cert.QkvFwdRefIdeal.nD → PrngReg), Pre_QkvFwdRefIdeal m →
    θ_run (Cert.QkvFwdRefIdeal.defs (F := Ideal)) (onTc (τ := Cert.QkvFwdRefIdeal.τ) (Cert.QkvFwdRefIdeal.main (F := Ideal))) ⟨m, fun _ => 0, g⟩ (fun r => (∀ c : Dev Cert.QkvFwdRefIdeal.nD,
      r.2.mem ((c.tc : Thread Cert.QkvFwdRefIdeal.nD Cert.QkvFwdRefIdeal.τ).loc Cert.QkvFwdRefIdeal.main_arg0) = m ((c.tc : Thread Cert.QkvFwdRefIdeal.nD Cert.QkvFwdRefIdeal.τ).loc Cert.QkvFwdRefIdeal.main_arg0)
      ∧ r.2.mem ((c.tc : Thread Cert.QkvFwdRefIdeal.nD Cert.QkvFwdRefIdeal.τ).loc Cert.QkvFwdRefIdeal.main_arg1) = m ((c.tc : Thread Cert.QkvFwdRefIdeal.nD Cert.QkvFwdRefIdeal.τ).loc Cert.QkvFwdRefIdeal.main_arg1)
      ∧ r.2.mem ((c.tc : Thread Cert.QkvFwdRefIdeal.nD Cert.QkvFwdRefIdeal.τ).loc Cert.QkvFwdRefIdeal.main_arg2) = m ((c.tc : Thread Cert.QkvFwdRefIdeal.nD Cert.QkvFwdRefIdeal.τ).loc Cert.QkvFwdRefIdeal.main_arg2)
      ∧ r.2.mem ((c.tc : Thread Cert.QkvFwdRefIdeal.nD Cert.QkvFwdRefIdeal.τ).loc Cert.QkvFwdRefIdeal.main_arg3) = m ((c.tc : Thread Cert.QkvFwdRefIdeal.nD Cert.QkvFwdRefIdeal.τ).loc Cert.QkvFwdRefIdeal.main_arg3)
      ∧ r.2.mem ((c.tc : Thread Cert.QkvFwdRefIdeal.nD Cert.QkvFwdRefIdeal.τ).loc Cert.QkvFwdRefIdeal.main_arg4) = m ((c.tc : Thread Cert.QkvFwdRefIdeal.nD Cert.QkvFwdRefIdeal.τ).loc Cert.QkvFwdRefIdeal.main_arg4)
      ∧ r.2.mem ((c.tc : Thread Cert.QkvFwdRefIdeal.nD Cert.QkvFwdRefIdeal.τ).loc Cert.QkvFwdRefIdeal.main_arg5) = m ((c.tc : Thread Cert.QkvFwdRefIdeal.nD Cert.QkvFwdRefIdeal.τ).loc Cert.QkvFwdRefIdeal.main_arg5)
      ∧ r.2.mem ((c.tc : Thread Cert.QkvFwdRefIdeal.nD Cert.QkvFwdRefIdeal.τ).loc Cert.QkvFwdRefIdeal.main_arg6) = m ((c.tc : Thread Cert.QkvFwdRefIdeal.nD Cert.QkvFwdRefIdeal.τ).loc Cert.QkvFwdRefIdeal.main_arg6))
      ∧ r.2.sem = fun _ => 0)

def preserves_FfnBwd_FfnBwdIdeal : Prop :=
  True

def algebraic_FfnBwdIdeal_FfnRefIdeal_pre_ffn_finite [hFfnBwdIdeal : Cert.FfnBwdIdeal.Facts] [hFfnRefIdeal : Cert.FfnRefIdeal.Facts] [hPre_ffn_finite : Cert.Pre_ffn_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnBwdIdeal_ffn_finite m →
    (∀ c : Dev Cert.FfnBwdIdeal.nD,
      m' ((c.tc : Thread Cert.FfnRefIdeal.nD Cert.FfnRefIdeal.τ).loc Cert.FfnRefIdeal.main_arg0) = m ((c.tc : Thread Cert.FfnBwdIdeal.nD Cert.FfnBwdIdeal.τ).loc Cert.FfnBwdIdeal.main_arg0)
      ∧ m' ((c.tc : Thread Cert.FfnRefIdeal.nD Cert.FfnRefIdeal.τ).loc Cert.FfnRefIdeal.main_arg1) = m ((c.tc : Thread Cert.FfnBwdIdeal.nD Cert.FfnBwdIdeal.τ).loc Cert.FfnBwdIdeal.main_arg1)
      ∧ m' ((c.tc : Thread Cert.FfnRefIdeal.nD Cert.FfnRefIdeal.τ).loc Cert.FfnRefIdeal.main_arg2) = m ((c.tc : Thread Cert.FfnBwdIdeal.nD Cert.FfnBwdIdeal.τ).loc Cert.FfnBwdIdeal.main_arg2)
      ∧ m' ((c.tc : Thread Cert.FfnRefIdeal.nD Cert.FfnRefIdeal.τ).loc Cert.FfnRefIdeal.main_arg3) = m ((c.tc : Thread Cert.FfnBwdIdeal.nD Cert.FfnBwdIdeal.τ).loc Cert.FfnBwdIdeal.main_arg3)
      ∧ m' ((c.tc : Thread Cert.FfnRefIdeal.nD Cert.FfnRefIdeal.τ).loc Cert.FfnRefIdeal.main_arg4) = m ((c.tc : Thread Cert.FfnBwdIdeal.nD Cert.FfnBwdIdeal.τ).loc Cert.FfnBwdIdeal.main_arg4)
      ∧ m' ((c.tc : Thread Cert.FfnRefIdeal.nD Cert.FfnRefIdeal.τ).loc Cert.FfnRefIdeal.main_arg5) = m ((c.tc : Thread Cert.FfnBwdIdeal.nD Cert.FfnBwdIdeal.τ).loc Cert.FfnBwdIdeal.main_arg5)) →
    ∃ (v0 : (c : Dev Cert.FfnBwdIdeal.nD) → Buf (Elt Ideal) ((c.tc : Thread Cert.FfnBwdIdeal.nD Cert.FfnBwdIdeal.τ).loc Cert.FfnBwdIdeal.main_v23_0)) (v1 : (c : Dev Cert.FfnBwdIdeal.nD) → Buf (Elt Ideal) ((c.tc : Thread Cert.FfnBwdIdeal.nD Cert.FfnBwdIdeal.τ).loc Cert.FfnBwdIdeal.main_v23_1)) (v2 : (c : Dev Cert.FfnBwdIdeal.nD) → Buf (Elt Ideal) ((c.tc : Thread Cert.FfnBwdIdeal.nD Cert.FfnBwdIdeal.τ).loc Cert.FfnBwdIdeal.main_v23_2)) (v3 : (c : Dev Cert.FfnBwdIdeal.nD) → Buf (Elt Ideal) ((c.tc : Thread Cert.FfnBwdIdeal.nD Cert.FfnBwdIdeal.τ).loc Cert.FfnBwdIdeal.main_v23_3)) (v4 : (c : Dev Cert.FfnBwdIdeal.nD) → Buf (Elt Ideal) ((c.tc : Thread Cert.FfnBwdIdeal.nD Cert.FfnBwdIdeal.τ).loc Cert.FfnBwdIdeal.main_v23_4)) (v5 : (c : Dev Cert.FfnBwdIdeal.nD) → Buf (Elt Ideal) ((c.tc : Thread Cert.FfnBwdIdeal.nD Cert.FfnBwdIdeal.τ).loc Cert.FfnBwdIdeal.main_v23_5)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v23_0) = v0 c
          ∧ r.2.mem ((c.tc : Thread Cert.FfnBwdIdeal.nD Cert.FfnBwdIdeal.τ).loc Cert.FfnBwdIdeal.main_v23_1) = v1 c
          ∧ r.2.mem ((c.tc : Thread Cert.FfnBwdIdeal.nD Cert.FfnBwdIdeal.τ).loc Cert.FfnBwdIdeal.main_v23_2) = v2 c
          ∧ r.2.mem ((c.tc : Thread Cert.FfnBwdIdeal.nD Cert.FfnBwdIdeal.τ).loc Cert.FfnBwdIdeal.main_v23_3) = v3 c
          ∧ r.2.mem ((c.tc : Thread Cert.FfnBwdIdeal.nD Cert.FfnBwdIdeal.τ).loc Cert.FfnBwdIdeal.main_v23_4) = v4 c
          ∧ r.2.mem ((c.tc : Thread Cert.FfnBwdIdeal.nD Cert.FfnBwdIdeal.τ).loc Cert.FfnBwdIdeal.main_v23_5) = v5 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
          ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
          ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v50) = v0 c
          ∧ r.2.mem ((c.tc : Thread Cert.FfnRefIdeal.nD Cert.FfnRefIdeal.τ).loc Cert.FfnRefIdeal.main_v73) = v1 c
          ∧ r.2.mem ((c.tc : Thread Cert.FfnRefIdeal.nD Cert.FfnRefIdeal.τ).loc Cert.FfnRefIdeal.main_v74) = v2 c
          ∧ r.2.mem ((c.tc : Thread Cert.FfnRefIdeal.nD Cert.FfnRefIdeal.τ).loc Cert.FfnRefIdeal.main_v75) = v3 c
          ∧ r.2.mem ((c.tc : Thread Cert.FfnRefIdeal.nD Cert.FfnRefIdeal.τ).loc Cert.FfnRefIdeal.main_v76) = v4 c
          ∧ r.2.mem ((c.tc : Thread Cert.FfnRefIdeal.nD Cert.FfnRefIdeal.τ).loc Cert.FfnRefIdeal.main_v77) = v5 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)
      ∧ m' ((c.tc : Thread Cert.FfnFwdRefIdeal.nD Cert.FfnFwdRefIdeal.τ).loc Cert.FfnFwdRefIdeal.main_arg4) = m ((c.tc : Thread Cert.FfnFwdIdeal.nD Cert.FfnFwdIdeal.τ).loc Cert.FfnFwdIdeal.main_arg4)) →
    ∃ (v0 : (c : Dev Cert.FfnFwdIdeal.nD) → Buf (Elt Ideal) ((c.tc : Thread Cert.FfnFwdIdeal.nD Cert.FfnFwdIdeal.τ).loc Cert.FfnFwdIdeal.main_v6_0)) (v1 : (c : Dev Cert.FfnFwdIdeal.nD) → Buf (Elt Ideal) ((c.tc : Thread Cert.FfnFwdIdeal.nD Cert.FfnFwdIdeal.τ).loc Cert.FfnFwdIdeal.main_v6_1)) (v2 : (c : Dev Cert.FfnFwdIdeal.nD) → Buf (Elt Ideal) ((c.tc : Thread Cert.FfnFwdIdeal.nD Cert.FfnFwdIdeal.τ).loc Cert.FfnFwdIdeal.main_v6_2)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v6_0) = v0 c
          ∧ r.2.mem ((c.tc : Thread Cert.FfnFwdIdeal.nD Cert.FfnFwdIdeal.τ).loc Cert.FfnFwdIdeal.main_v6_1) = v1 c
          ∧ r.2.mem ((c.tc : Thread Cert.FfnFwdIdeal.nD Cert.FfnFwdIdeal.τ).loc Cert.FfnFwdIdeal.main_v6_2) = v2 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
          ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v31) = v0 c
          ∧ r.2.mem ((c.tc : Thread Cert.FfnFwdRefIdeal.nD Cert.FfnFwdRefIdeal.τ).loc Cert.FfnFwdRefIdeal.main_v33) = v1 c
          ∧ r.2.mem ((c.tc : Thread Cert.FfnFwdRefIdeal.nD Cert.FfnFwdRefIdeal.τ).loc Cert.FfnFwdRefIdeal.main_v35) = v2 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3)
          ∧ r.2.mem ((c.tc : Thread Cert.FfnFwdRefIdeal.nD Cert.FfnFwdRefIdeal.τ).loc Cert.FfnFwdRefIdeal.main_arg4) = m' ((c.tc : Thread Cert.FfnFwdRefIdeal.nD Cert.FfnFwdRefIdeal.τ).loc Cert.FfnFwdRefIdeal.main_arg4))

def preserves_MergeBwd_MergeBwdIdeal : Prop :=
  True

def algebraic_MergeBwdIdeal_MergeRefIdeal [hMergeBwdIdeal : Cert.MergeBwdIdeal.Facts] [hMergeRefIdeal : Cert.MergeRefIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeBwdIdeal m →
    (∀ c : Dev Cert.MergeBwdIdeal.nD,
      m' ((c.tc : Thread Cert.MergeRefIdeal.nD Cert.MergeRefIdeal.τ).loc Cert.MergeRefIdeal.main_arg0) = m ((c.tc : Thread Cert.MergeBwdIdeal.nD Cert.MergeBwdIdeal.τ).loc Cert.MergeBwdIdeal.main_arg0)
      ∧ m' ((c.tc : Thread Cert.MergeRefIdeal.nD Cert.MergeRefIdeal.τ).loc Cert.MergeRefIdeal.main_arg1) = m ((c.tc : Thread Cert.MergeBwdIdeal.nD Cert.MergeBwdIdeal.τ).loc Cert.MergeBwdIdeal.main_arg1)
      ∧ m' ((c.tc : Thread Cert.MergeRefIdeal.nD Cert.MergeRefIdeal.τ).loc Cert.MergeRefIdeal.main_arg2) = m ((c.tc : Thread Cert.MergeBwdIdeal.nD Cert.MergeBwdIdeal.τ).loc Cert.MergeBwdIdeal.main_arg2)
      ∧ m' ((c.tc : Thread Cert.MergeRefIdeal.nD Cert.MergeRefIdeal.τ).loc Cert.MergeRefIdeal.main_arg3) = m ((c.tc : Thread Cert.MergeBwdIdeal.nD Cert.MergeBwdIdeal.τ).loc Cert.MergeBwdIdeal.main_arg3)
      ∧ m' ((c.tc : Thread Cert.MergeRefIdeal.nD Cert.MergeRefIdeal.τ).loc Cert.MergeRefIdeal.main_arg4) = m ((c.tc : Thread Cert.MergeBwdIdeal.nD Cert.MergeBwdIdeal.τ).loc Cert.MergeBwdIdeal.main_arg4)
      ∧ m' ((c.tc : Thread Cert.MergeRefIdeal.nD Cert.MergeRefIdeal.τ).loc Cert.MergeRefIdeal.main_arg5) = m ((c.tc : Thread Cert.MergeBwdIdeal.nD Cert.MergeBwdIdeal.τ).loc Cert.MergeBwdIdeal.main_arg5)
      ∧ m' ((c.tc : Thread Cert.MergeRefIdeal.nD Cert.MergeRefIdeal.τ).loc Cert.MergeRefIdeal.main_arg6) = m ((c.tc : Thread Cert.MergeBwdIdeal.nD Cert.MergeBwdIdeal.τ).loc Cert.MergeBwdIdeal.main_arg6)) →
    ∃ (v0 : (c : Dev Cert.MergeBwdIdeal.nD) → Buf (Elt Ideal) ((c.tc : Thread Cert.MergeBwdIdeal.nD Cert.MergeBwdIdeal.τ).loc Cert.MergeBwdIdeal.main_v12_0)) (v1 : (c : Dev Cert.MergeBwdIdeal.nD) → Buf (Elt Ideal) ((c.tc : Thread Cert.MergeBwdIdeal.nD Cert.MergeBwdIdeal.τ).loc Cert.MergeBwdIdeal.main_v12_1)) (v2 : (c : Dev Cert.MergeBwdIdeal.nD) → Buf (Elt Ideal) ((c.tc : Thread Cert.MergeBwdIdeal.nD Cert.MergeBwdIdeal.τ).loc Cert.MergeBwdIdeal.main_v12_2)) (v3 : (c : Dev Cert.MergeBwdIdeal.nD) → Buf (Elt Ideal) ((c.tc : Thread Cert.MergeBwdIdeal.nD Cert.MergeBwdIdeal.τ).loc Cert.MergeBwdIdeal.main_v12_3)) (v4 : (c : Dev Cert.MergeBwdIdeal.nD) → Buf (Elt Ideal) ((c.tc : Thread Cert.MergeBwdIdeal.nD Cert.MergeBwdIdeal.τ).loc Cert.MergeBwdIdeal.main_v12_4)) (v5 : (c : Dev Cert.MergeBwdIdeal.nD) → Buf (Elt Ideal) ((c.tc : Thread Cert.MergeBwdIdeal.nD Cert.MergeBwdIdeal.τ).loc Cert.MergeBwdIdeal.main_v12_5)) (v6 : (c : Dev Cert.MergeBwdIdeal.nD) → Buf (Elt Ideal) ((c.tc : Thread Cert.MergeBwdIdeal.nD Cert.MergeBwdIdeal.τ).loc Cert.MergeBwdIdeal.main_v12_6)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v12_0) = v0 c
          ∧ r.2.mem ((c.tc : Thread Cert.MergeBwdIdeal.nD Cert.MergeBwdIdeal.τ).loc Cert.MergeBwdIdeal.main_v12_1) = v1 c
          ∧ r.2.mem ((c.tc : Thread Cert.MergeBwdIdeal.nD Cert.MergeBwdIdeal.τ).loc Cert.MergeBwdIdeal.main_v12_2) = v2 c
          ∧ r.2.mem ((c.tc : Thread Cert.MergeBwdIdeal.nD Cert.MergeBwdIdeal.τ).loc Cert.MergeBwdIdeal.main_v12_3) = v3 c
          ∧ r.2.mem ((c.tc : Thread Cert.MergeBwdIdeal.nD Cert.MergeBwdIdeal.τ).loc Cert.MergeBwdIdeal.main_v12_4) = v4 c
          ∧ r.2.mem ((c.tc : Thread Cert.MergeBwdIdeal.nD Cert.MergeBwdIdeal.τ).loc Cert.MergeBwdIdeal.main_v12_5) = v5 c
          ∧ r.2.mem ((c.tc : Thread Cert.MergeBwdIdeal.nD Cert.MergeBwdIdeal.τ).loc Cert.MergeBwdIdeal.main_v12_6) = v6 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
          ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
          ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5)
          ∧ r.2.mem ((c.tc : Thread Cert.MergeBwdIdeal.nD Cert.MergeBwdIdeal.τ).loc Cert.MergeBwdIdeal.main_arg6) = m ((c.tc : Thread Cert.MergeBwdIdeal.nD Cert.MergeBwdIdeal.τ).loc Cert.MergeBwdIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v44) = v0 c
          ∧ r.2.mem ((c.tc : Thread Cert.MergeRefIdeal.nD Cert.MergeRefIdeal.τ).loc Cert.MergeRefIdeal.main_v45) = v1 c
          ∧ r.2.mem ((c.tc : Thread Cert.MergeRefIdeal.nD Cert.MergeRefIdeal.τ).loc Cert.MergeRefIdeal.main_v46) = v2 c
          ∧ r.2.mem ((c.tc : Thread Cert.MergeRefIdeal.nD Cert.MergeRefIdeal.τ).loc Cert.MergeRefIdeal.main_v47) = v3 c
          ∧ r.2.mem ((c.tc : Thread Cert.MergeRefIdeal.nD Cert.MergeRefIdeal.τ).loc Cert.MergeRefIdeal.main_v48) = v4 c
          ∧ r.2.mem ((c.tc : Thread Cert.MergeRefIdeal.nD Cert.MergeRefIdeal.τ).loc Cert.MergeRefIdeal.main_v49) = v5 c
          ∧ r.2.mem ((c.tc : Thread Cert.MergeRefIdeal.nD Cert.MergeRefIdeal.τ).loc Cert.MergeRefIdeal.main_v50) = v6 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)
      ∧ m' ((c.tc : Thread Cert.MergeFwdRefIdeal.nD Cert.MergeFwdRefIdeal.τ).loc Cert.MergeFwdRefIdeal.main_arg3) = m ((c.tc : Thread Cert.MergeFwdIdeal.nD Cert.MergeFwdIdeal.τ).loc Cert.MergeFwdIdeal.main_arg3)
      ∧ m' ((c.tc : Thread Cert.MergeFwdRefIdeal.nD Cert.MergeFwdRefIdeal.τ).loc Cert.MergeFwdRefIdeal.main_arg4) = m ((c.tc : Thread Cert.MergeFwdIdeal.nD Cert.MergeFwdIdeal.τ).loc Cert.MergeFwdIdeal.main_arg4)
      ∧ m' ((c.tc : Thread Cert.MergeFwdRefIdeal.nD Cert.MergeFwdRefIdeal.τ).loc Cert.MergeFwdRefIdeal.main_arg5) = m ((c.tc : Thread Cert.MergeFwdIdeal.nD Cert.MergeFwdIdeal.τ).loc Cert.MergeFwdIdeal.main_arg5)
      ∧ m' ((c.tc : Thread Cert.MergeFwdRefIdeal.nD Cert.MergeFwdRefIdeal.τ).loc Cert.MergeFwdRefIdeal.main_arg6) = m ((c.tc : Thread Cert.MergeFwdIdeal.nD Cert.MergeFwdIdeal.τ).loc Cert.MergeFwdIdeal.main_arg6)) →
    ∃ (v0 : (c : Dev Cert.MergeFwdIdeal.nD) → Buf (Elt Ideal) ((c.tc : Thread Cert.MergeFwdIdeal.nD Cert.MergeFwdIdeal.τ).loc Cert.MergeFwdIdeal.main_v6_0)) (v1 : (c : Dev Cert.MergeFwdIdeal.nD) → Buf (Elt Ideal) ((c.tc : Thread Cert.MergeFwdIdeal.nD Cert.MergeFwdIdeal.τ).loc Cert.MergeFwdIdeal.main_v6_1)) (v2 : (c : Dev Cert.MergeFwdIdeal.nD) → Buf (Elt Ideal) ((c.tc : Thread Cert.MergeFwdIdeal.nD Cert.MergeFwdIdeal.τ).loc Cert.MergeFwdIdeal.main_v6_2)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v6_0) = v0 c
          ∧ r.2.mem ((c.tc : Thread Cert.MergeFwdIdeal.nD Cert.MergeFwdIdeal.τ).loc Cert.MergeFwdIdeal.main_v6_1) = v1 c
          ∧ r.2.mem ((c.tc : Thread Cert.MergeFwdIdeal.nD Cert.MergeFwdIdeal.τ).loc Cert.MergeFwdIdeal.main_v6_2) = v2 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
          ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
          ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
          ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v27) = v0 c
          ∧ r.2.mem ((c.tc : Thread Cert.MergeFwdRefIdeal.nD Cert.MergeFwdRefIdeal.τ).loc Cert.MergeFwdRefIdeal.main_v28) = v1 c
          ∧ r.2.mem ((c.tc : Thread Cert.MergeFwdRefIdeal.nD Cert.MergeFwdRefIdeal.τ).loc Cert.MergeFwdRefIdeal.main_v29) = v2 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2)
          ∧ r.2.mem ((c.tc : Thread Cert.MergeFwdRefIdeal.nD Cert.MergeFwdRefIdeal.τ).loc Cert.MergeFwdRefIdeal.main_arg3) = m' ((c.tc : Thread Cert.MergeFwdRefIdeal.nD Cert.MergeFwdRefIdeal.τ).loc Cert.MergeFwdRefIdeal.main_arg3)
          ∧ r.2.mem ((c.tc : Thread Cert.MergeFwdRefIdeal.nD Cert.MergeFwdRefIdeal.τ).loc Cert.MergeFwdRefIdeal.main_arg4) = m' ((c.tc : Thread Cert.MergeFwdRefIdeal.nD Cert.MergeFwdRefIdeal.τ).loc Cert.MergeFwdRefIdeal.main_arg4)
          ∧ r.2.mem ((c.tc : Thread Cert.MergeFwdRefIdeal.nD Cert.MergeFwdRefIdeal.τ).loc Cert.MergeFwdRefIdeal.main_arg5) = m' ((c.tc : Thread Cert.MergeFwdRefIdeal.nD Cert.MergeFwdRefIdeal.τ).loc Cert.MergeFwdRefIdeal.main_arg5)
          ∧ r.2.mem ((c.tc : Thread Cert.MergeFwdRefIdeal.nD Cert.MergeFwdRefIdeal.τ).loc Cert.MergeFwdRefIdeal.main_arg6) = m' ((c.tc : Thread Cert.MergeFwdRefIdeal.nD Cert.MergeFwdRefIdeal.τ).loc Cert.MergeFwdRefIdeal.main_arg6))

def preserves_GateGrad_GateGradIdeal : Prop :=
  True

def algebraic_GateGradIdeal_GateGradRefIdeal [hGateGradIdeal : Cert.GateGradIdeal.Facts] [hGateGradRefIdeal : Cert.GateGradRefIdeal.Facts] : Prop :=
  ∀ (m : (ℓ : Loc Cert.GateGradIdeal.nD Cert.GateGradIdeal.τ Cert.GateGradIdeal.sig) → Buf (Elt Ideal) ℓ) (g : Dev Cert.GateGradIdeal.nD → PrngReg)
    (m' : (ℓ : Loc Cert.GateGradRefIdeal.nD Cert.GateGradRefIdeal.τ Cert.GateGradRefIdeal.sig) → Buf (Elt Ideal) ℓ) (g' : Dev Cert.GateGradRefIdeal.nD → PrngReg), Pre_GateGradIdeal m →
    (∀ c : Dev Cert.GateGradIdeal.nD,
      m' ((c.tc : Thread Cert.GateGradRefIdeal.nD Cert.GateGradRefIdeal.τ).loc Cert.GateGradRefIdeal.main_arg0) = m ((c.tc : Thread Cert.GateGradIdeal.nD Cert.GateGradIdeal.τ).loc Cert.GateGradIdeal.main_arg0)
      ∧ m' ((c.tc : Thread Cert.GateGradRefIdeal.nD Cert.GateGradRefIdeal.τ).loc Cert.GateGradRefIdeal.main_arg1) = m ((c.tc : Thread Cert.GateGradIdeal.nD Cert.GateGradIdeal.τ).loc Cert.GateGradIdeal.main_arg1)) →
    ∃ (v0 : (c : Dev Cert.GateGradIdeal.nD) → Buf (Elt Ideal) ((c.tc : Thread Cert.GateGradIdeal.nD Cert.GateGradIdeal.τ).loc Cert.GateGradIdeal.main_v0)),
      θ_run (Cert.GateGradIdeal.defs (F := Ideal)) (onTc (τ := Cert.GateGradIdeal.τ) (Cert.GateGradIdeal.main (F := Ideal))) ⟨m, fun _ => 0, g⟩ (fun r => ∀ c : Dev Cert.GateGradIdeal.nD,
          r.2.mem ((c.tc : Thread Cert.GateGradIdeal.nD Cert.GateGradIdeal.τ).loc Cert.GateGradIdeal.main_v0) = v0 c
          ∧ r.2.mem ((c.tc : Thread Cert.GateGradIdeal.nD Cert.GateGradIdeal.τ).loc Cert.GateGradIdeal.main_arg0) = m ((c.tc : Thread Cert.GateGradIdeal.nD Cert.GateGradIdeal.τ).loc Cert.GateGradIdeal.main_arg0)
          ∧ r.2.mem ((c.tc : Thread Cert.GateGradIdeal.nD Cert.GateGradIdeal.τ).loc Cert.GateGradIdeal.main_arg1) = m ((c.tc : Thread Cert.GateGradIdeal.nD Cert.GateGradIdeal.τ).loc Cert.GateGradIdeal.main_arg1))
      ∧ θ_run (Cert.GateGradRefIdeal.defs (F := Ideal)) (onTc (τ := Cert.GateGradRefIdeal.τ) (Cert.GateGradRefIdeal.main (F := Ideal))) ⟨m', fun _ => 0, g'⟩ (fun r => ∀ c : Dev Cert.GateGradRefIdeal.nD,
          r.2.mem ((c.tc : Thread Cert.GateGradRefIdeal.nD Cert.GateGradRefIdeal.τ).loc Cert.GateGradRefIdeal.main_v7) = v0 c
          ∧ r.2.mem ((c.tc : Thread Cert.GateGradRefIdeal.nD Cert.GateGradRefIdeal.τ).loc Cert.GateGradRefIdeal.main_arg0) = m' ((c.tc : Thread Cert.GateGradRefIdeal.nD Cert.GateGradRefIdeal.τ).loc Cert.GateGradRefIdeal.main_arg0)
          ∧ r.2.mem ((c.tc : Thread Cert.GateGradRefIdeal.nD Cert.GateGradRefIdeal.τ).loc Cert.GateGradRefIdeal.main_arg1) = m' ((c.tc : Thread Cert.GateGradRefIdeal.nD Cert.GateGradRefIdeal.τ).loc Cert.GateGradRefIdeal.main_arg1))

def preserves_DownGrad_DownGradIdeal : Prop :=
  True

def algebraic_DownGradIdeal_DownGradRefIdeal [hDownGradIdeal : Cert.DownGradIdeal.Facts] [hDownGradRefIdeal : Cert.DownGradRefIdeal.Facts] : Prop :=
  ∀ (m : (ℓ : Loc Cert.DownGradIdeal.nD Cert.DownGradIdeal.τ Cert.DownGradIdeal.sig) → Buf (Elt Ideal) ℓ) (g : Dev Cert.DownGradIdeal.nD → PrngReg)
    (m' : (ℓ : Loc Cert.DownGradRefIdeal.nD Cert.DownGradRefIdeal.τ Cert.DownGradRefIdeal.sig) → Buf (Elt Ideal) ℓ) (g' : Dev Cert.DownGradRefIdeal.nD → PrngReg), Pre_DownGradIdeal m →
    (∀ c : Dev Cert.DownGradIdeal.nD,
      m' ((c.tc : Thread Cert.DownGradRefIdeal.nD Cert.DownGradRefIdeal.τ).loc Cert.DownGradRefIdeal.main_arg0) = m ((c.tc : Thread Cert.DownGradIdeal.nD Cert.DownGradIdeal.τ).loc Cert.DownGradIdeal.main_arg0)
      ∧ m' ((c.tc : Thread Cert.DownGradRefIdeal.nD Cert.DownGradRefIdeal.τ).loc Cert.DownGradRefIdeal.main_arg1) = m ((c.tc : Thread Cert.DownGradIdeal.nD Cert.DownGradIdeal.τ).loc Cert.DownGradIdeal.main_arg1)) →
    ∃ (v0 : (c : Dev Cert.DownGradIdeal.nD) → Buf (Elt Ideal) ((c.tc : Thread Cert.DownGradIdeal.nD Cert.DownGradIdeal.τ).loc Cert.DownGradIdeal.main_v0)),
      θ_run (Cert.DownGradIdeal.defs (F := Ideal)) (onTc (τ := Cert.DownGradIdeal.τ) (Cert.DownGradIdeal.main (F := Ideal))) ⟨m, fun _ => 0, g⟩ (fun r => ∀ c : Dev Cert.DownGradIdeal.nD,
          r.2.mem ((c.tc : Thread Cert.DownGradIdeal.nD Cert.DownGradIdeal.τ).loc Cert.DownGradIdeal.main_v0) = v0 c
          ∧ r.2.mem ((c.tc : Thread Cert.DownGradIdeal.nD Cert.DownGradIdeal.τ).loc Cert.DownGradIdeal.main_arg0) = m ((c.tc : Thread Cert.DownGradIdeal.nD Cert.DownGradIdeal.τ).loc Cert.DownGradIdeal.main_arg0)
          ∧ r.2.mem ((c.tc : Thread Cert.DownGradIdeal.nD Cert.DownGradIdeal.τ).loc Cert.DownGradIdeal.main_arg1) = m ((c.tc : Thread Cert.DownGradIdeal.nD Cert.DownGradIdeal.τ).loc Cert.DownGradIdeal.main_arg1))
      ∧ θ_run (Cert.DownGradRefIdeal.defs (F := Ideal)) (onTc (τ := Cert.DownGradRefIdeal.τ) (Cert.DownGradRefIdeal.main (F := Ideal))) ⟨m', fun _ => 0, g'⟩ (fun r => ∀ c : Dev Cert.DownGradRefIdeal.nD,
          r.2.mem ((c.tc : Thread Cert.DownGradRefIdeal.nD Cert.DownGradRefIdeal.τ).loc Cert.DownGradRefIdeal.main_v5) = v0 c
          ∧ r.2.mem ((c.tc : Thread Cert.DownGradRefIdeal.nD Cert.DownGradRefIdeal.τ).loc Cert.DownGradRefIdeal.main_arg0) = m' ((c.tc : Thread Cert.DownGradRefIdeal.nD Cert.DownGradRefIdeal.τ).loc Cert.DownGradRefIdeal.main_arg0)
          ∧ r.2.mem ((c.tc : Thread Cert.DownGradRefIdeal.nD Cert.DownGradRefIdeal.τ).loc Cert.DownGradRefIdeal.main_arg1) = m' ((c.tc : Thread Cert.DownGradRefIdeal.nD Cert.DownGradRefIdeal.τ).loc Cert.DownGradRefIdeal.main_arg1))

def preserves_OutGrad_OutGradIdeal : Prop :=
  True

def algebraic_OutGradIdeal_OutGradRefIdeal [hOutGradIdeal : Cert.OutGradIdeal.Facts] [hOutGradRefIdeal : Cert.OutGradRefIdeal.Facts] : Prop :=
  ∀ (m : (ℓ : Loc Cert.OutGradIdeal.nD Cert.OutGradIdeal.τ Cert.OutGradIdeal.sig) → Buf (Elt Ideal) ℓ) (g : Dev Cert.OutGradIdeal.nD → PrngReg)
    (m' : (ℓ : Loc Cert.OutGradRefIdeal.nD Cert.OutGradRefIdeal.τ Cert.OutGradRefIdeal.sig) → Buf (Elt Ideal) ℓ) (g' : Dev Cert.OutGradRefIdeal.nD → PrngReg), Pre_OutGradIdeal m →
    (∀ c : Dev Cert.OutGradIdeal.nD,
      m' ((c.tc : Thread Cert.OutGradRefIdeal.nD Cert.OutGradRefIdeal.τ).loc Cert.OutGradRefIdeal.main_arg0) = m ((c.tc : Thread Cert.OutGradIdeal.nD Cert.OutGradIdeal.τ).loc Cert.OutGradIdeal.main_arg0)
      ∧ m' ((c.tc : Thread Cert.OutGradRefIdeal.nD Cert.OutGradRefIdeal.τ).loc Cert.OutGradRefIdeal.main_arg1) = m ((c.tc : Thread Cert.OutGradIdeal.nD Cert.OutGradIdeal.τ).loc Cert.OutGradIdeal.main_arg1)) →
    ∃ (v0 : (c : Dev Cert.OutGradIdeal.nD) → Buf (Elt Ideal) ((c.tc : Thread Cert.OutGradIdeal.nD Cert.OutGradIdeal.τ).loc Cert.OutGradIdeal.main_v0)),
      θ_run (Cert.OutGradIdeal.defs (F := Ideal)) (onTc (τ := Cert.OutGradIdeal.τ) (Cert.OutGradIdeal.main (F := Ideal))) ⟨m, fun _ => 0, g⟩ (fun r => ∀ c : Dev Cert.OutGradIdeal.nD,
          r.2.mem ((c.tc : Thread Cert.OutGradIdeal.nD Cert.OutGradIdeal.τ).loc Cert.OutGradIdeal.main_v0) = v0 c
          ∧ r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
          ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1))
      ∧ θ_run (Cert.OutGradRefIdeal.defs (F := Ideal)) (onTc (τ := Cert.OutGradRefIdeal.τ) (Cert.OutGradRefIdeal.main (F := Ideal))) ⟨m', fun _ => 0, g'⟩ (fun r => ∀ c : Dev Cert.OutGradRefIdeal.nD,
          r.2.mem ((c.tc : Thread Cert.OutGradRefIdeal.nD Cert.OutGradRefIdeal.τ).loc Cert.OutGradRefIdeal.main_v5) = v0 c
          ∧ r.2.mem ((c.tc : Thread Cert.OutGradRefIdeal.nD Cert.OutGradRefIdeal.τ).loc Cert.OutGradRefIdeal.main_arg0) = m' ((c.tc : Thread Cert.OutGradRefIdeal.nD Cert.OutGradRefIdeal.τ).loc Cert.OutGradRefIdeal.main_arg0)
          ∧ r.2.mem ((c.tc : Thread Cert.OutGradRefIdeal.nD Cert.OutGradRefIdeal.τ).loc Cert.OutGradRefIdeal.main_arg1) = m' ((c.tc : Thread Cert.OutGradRefIdeal.nD Cert.OutGradRefIdeal.τ).loc Cert.OutGradRefIdeal.main_arg1))

def preserves_PaGrad_PaGradIdeal : Prop :=
  True

def algebraic_PaGradIdeal_PaGradRefIdeal [hPaGradIdeal : Cert.PaGradIdeal.Facts] [hPaGradRefIdeal : Cert.PaGradRefIdeal.Facts] : Prop :=
  ∀ (m : (ℓ : Loc Cert.PaGradIdeal.nD Cert.PaGradIdeal.τ Cert.PaGradIdeal.sig) → Buf (Elt Ideal) ℓ) (g : Dev Cert.PaGradIdeal.nD → PrngReg)
    (m' : (ℓ : Loc Cert.PaGradRefIdeal.nD Cert.PaGradRefIdeal.τ Cert.PaGradRefIdeal.sig) → Buf (Elt Ideal) ℓ) (g' : Dev Cert.PaGradRefIdeal.nD → PrngReg), Pre_PaGradIdeal m →
    (∀ c : Dev Cert.PaGradIdeal.nD,
      m' ((c.tc : Thread Cert.PaGradRefIdeal.nD Cert.PaGradRefIdeal.τ).loc Cert.PaGradRefIdeal.main_arg0) = m ((c.tc : Thread Cert.PaGradIdeal.nD Cert.PaGradIdeal.τ).loc Cert.PaGradIdeal.main_arg0)
      ∧ m' ((c.tc : Thread Cert.PaGradRefIdeal.nD Cert.PaGradRefIdeal.τ).loc Cert.PaGradRefIdeal.main_arg1) = m ((c.tc : Thread Cert.PaGradIdeal.nD Cert.PaGradIdeal.τ).loc Cert.PaGradIdeal.main_arg1)) →
    ∃ (v0 : (c : Dev Cert.PaGradIdeal.nD) → Buf (Elt Ideal) ((c.tc : Thread Cert.PaGradIdeal.nD Cert.PaGradIdeal.τ).loc Cert.PaGradIdeal.main_v0)),
      θ_run (Cert.PaGradIdeal.defs (F := Ideal)) (onTc (τ := Cert.PaGradIdeal.τ) (Cert.PaGradIdeal.main (F := Ideal))) ⟨m, fun _ => 0, g⟩ (fun r => ∀ c : Dev Cert.PaGradIdeal.nD,
          r.2.mem ((c.tc : Thread Cert.PaGradIdeal.nD Cert.PaGradIdeal.τ).loc Cert.PaGradIdeal.main_v0) = v0 c
          ∧ r.2.mem ((c.tc : Thread Cert.PaGradIdeal.nD Cert.PaGradIdeal.τ).loc Cert.PaGradIdeal.main_arg0) = m ((c.tc : Thread Cert.PaGradIdeal.nD Cert.PaGradIdeal.τ).loc Cert.PaGradIdeal.main_arg0)
          ∧ r.2.mem ((c.tc : Thread Cert.PaGradIdeal.nD Cert.PaGradIdeal.τ).loc Cert.PaGradIdeal.main_arg1) = m ((c.tc : Thread Cert.PaGradIdeal.nD Cert.PaGradIdeal.τ).loc Cert.PaGradIdeal.main_arg1))
      ∧ θ_run (Cert.PaGradRefIdeal.defs (F := Ideal)) (onTc (τ := Cert.PaGradRefIdeal.τ) (Cert.PaGradRefIdeal.main (F := Ideal))) ⟨m', fun _ => 0, g'⟩ (fun r => ∀ c : Dev Cert.PaGradRefIdeal.nD,
          r.2.mem ((c.tc : Thread Cert.PaGradRefIdeal.nD Cert.PaGradRefIdeal.τ).loc Cert.PaGradRefIdeal.main_v6) = v0 c
          ∧ r.2.mem ((c.tc : Thread Cert.PaGradRefIdeal.nD Cert.PaGradRefIdeal.τ).loc Cert.PaGradRefIdeal.main_arg0) = m' ((c.tc : Thread Cert.PaGradRefIdeal.nD Cert.PaGradRefIdeal.τ).loc Cert.PaGradRefIdeal.main_arg0)
          ∧ r.2.mem ((c.tc : Thread Cert.PaGradRefIdeal.nD Cert.PaGradRefIdeal.τ).loc Cert.PaGradRefIdeal.main_arg1) = m' ((c.tc : Thread Cert.PaGradRefIdeal.nD Cert.PaGradRefIdeal.τ).loc Cert.PaGradRefIdeal.main_arg1))

def preserves_PbGrad_PbGradIdeal : Prop :=
  True

def algebraic_PbGradIdeal_PbGradRefIdeal [hPbGradIdeal : Cert.PbGradIdeal.Facts] [hPbGradRefIdeal : Cert.PbGradRefIdeal.Facts] : Prop :=
  ∀ (m : (ℓ : Loc Cert.PbGradIdeal.nD Cert.PbGradIdeal.τ Cert.PbGradIdeal.sig) → Buf (Elt Ideal) ℓ) (g : Dev Cert.PbGradIdeal.nD → PrngReg)
    (m' : (ℓ : Loc Cert.PbGradRefIdeal.nD Cert.PbGradRefIdeal.τ Cert.PbGradRefIdeal.sig) → Buf (Elt Ideal) ℓ) (g' : Dev Cert.PbGradRefIdeal.nD → PrngReg), Pre_PbGradIdeal m →
    (∀ c : Dev Cert.PbGradIdeal.nD,
      m' ((c.tc : Thread Cert.PbGradRefIdeal.nD Cert.PbGradRefIdeal.τ).loc Cert.PbGradRefIdeal.main_arg0) = m ((c.tc : Thread Cert.PbGradIdeal.nD Cert.PbGradIdeal.τ).loc Cert.PbGradIdeal.main_arg0)
      ∧ m' ((c.tc : Thread Cert.PbGradRefIdeal.nD Cert.PbGradRefIdeal.τ).loc Cert.PbGradRefIdeal.main_arg1) = m ((c.tc : Thread Cert.PbGradIdeal.nD Cert.PbGradIdeal.τ).loc Cert.PbGradIdeal.main_arg1)) →
    ∃ (v0 : (c : Dev Cert.PbGradIdeal.nD) → Buf (Elt Ideal) ((c.tc : Thread Cert.PbGradIdeal.nD Cert.PbGradIdeal.τ).loc Cert.PbGradIdeal.main_v0)),
      θ_run (Cert.PbGradIdeal.defs (F := Ideal)) (onTc (τ := Cert.PbGradIdeal.τ) (Cert.PbGradIdeal.main (F := Ideal))) ⟨m, fun _ => 0, g⟩ (fun r => ∀ c : Dev Cert.PbGradIdeal.nD,
          r.2.mem ((c.tc : Thread Cert.PbGradIdeal.nD Cert.PbGradIdeal.τ).loc Cert.PbGradIdeal.main_v0) = v0 c
          ∧ r.2.mem ((c.tc : Thread Cert.PbGradIdeal.nD Cert.PbGradIdeal.τ).loc Cert.PbGradIdeal.main_arg0) = m ((c.tc : Thread Cert.PbGradIdeal.nD Cert.PbGradIdeal.τ).loc Cert.PbGradIdeal.main_arg0)
          ∧ r.2.mem ((c.tc : Thread Cert.PbGradIdeal.nD Cert.PbGradIdeal.τ).loc Cert.PbGradIdeal.main_arg1) = m ((c.tc : Thread Cert.PbGradIdeal.nD Cert.PbGradIdeal.τ).loc Cert.PbGradIdeal.main_arg1))
      ∧ θ_run (Cert.PbGradRefIdeal.defs (F := Ideal)) (onTc (τ := Cert.PbGradRefIdeal.τ) (Cert.PbGradRefIdeal.main (F := Ideal))) ⟨m', fun _ => 0, g'⟩ (fun r => ∀ c : Dev Cert.PbGradRefIdeal.nD,
          r.2.mem ((c.tc : Thread Cert.PbGradRefIdeal.nD Cert.PbGradRefIdeal.τ).loc Cert.PbGradRefIdeal.main_v6) = v0 c
          ∧ r.2.mem ((c.tc : Thread Cert.PbGradRefIdeal.nD Cert.PbGradRefIdeal.τ).loc Cert.PbGradRefIdeal.main_arg0) = m' ((c.tc : Thread Cert.PbGradRefIdeal.nD Cert.PbGradRefIdeal.τ).loc Cert.PbGradRefIdeal.main_arg0)
          ∧ r.2.mem ((c.tc : Thread Cert.PbGradRefIdeal.nD Cert.PbGradRefIdeal.τ).loc Cert.PbGradRefIdeal.main_arg1) = m' ((c.tc : Thread Cert.PbGradRefIdeal.nD Cert.PbGradRefIdeal.τ).loc Cert.PbGradRefIdeal.main_arg1))

def preserves_UqGrad_UqGradIdeal : Prop :=
  True

def algebraic_UqGradIdeal_UqGradRefIdeal [hUqGradIdeal : Cert.UqGradIdeal.Facts] [hUqGradRefIdeal : Cert.UqGradRefIdeal.Facts] : Prop :=
  ∀ (m : (ℓ : Loc Cert.UqGradIdeal.nD Cert.UqGradIdeal.τ Cert.UqGradIdeal.sig) → Buf (Elt Ideal) ℓ) (g : Dev Cert.UqGradIdeal.nD → PrngReg)
    (m' : (ℓ : Loc Cert.UqGradRefIdeal.nD Cert.UqGradRefIdeal.τ Cert.UqGradRefIdeal.sig) → Buf (Elt Ideal) ℓ) (g' : Dev Cert.UqGradRefIdeal.nD → PrngReg), Pre_UqGradIdeal m →
    (∀ c : Dev Cert.UqGradIdeal.nD,
      m' ((c.tc : Thread Cert.UqGradRefIdeal.nD Cert.UqGradRefIdeal.τ).loc Cert.UqGradRefIdeal.main_arg0) = m ((c.tc : Thread Cert.UqGradIdeal.nD Cert.UqGradIdeal.τ).loc Cert.UqGradIdeal.main_arg0)
      ∧ m' ((c.tc : Thread Cert.UqGradRefIdeal.nD Cert.UqGradRefIdeal.τ).loc Cert.UqGradRefIdeal.main_arg1) = m ((c.tc : Thread Cert.UqGradIdeal.nD Cert.UqGradIdeal.τ).loc Cert.UqGradIdeal.main_arg1)) →
    ∃ (v0 : (c : Dev Cert.UqGradIdeal.nD) → Buf (Elt Ideal) ((c.tc : Thread Cert.UqGradIdeal.nD Cert.UqGradIdeal.τ).loc Cert.UqGradIdeal.main_v0)),
      θ_run (Cert.UqGradIdeal.defs (F := Ideal)) (onTc (τ := Cert.UqGradIdeal.τ) (Cert.UqGradIdeal.main (F := Ideal))) ⟨m, fun _ => 0, g⟩ (fun r => ∀ c : Dev Cert.UqGradIdeal.nD,
          r.2.mem ((c.tc : Thread Cert.UqGradIdeal.nD Cert.UqGradIdeal.τ).loc Cert.UqGradIdeal.main_v0) = v0 c
          ∧ r.2.mem ((c.tc : Thread Cert.UqGradIdeal.nD Cert.UqGradIdeal.τ).loc Cert.UqGradIdeal.main_arg0) = m ((c.tc : Thread Cert.UqGradIdeal.nD Cert.UqGradIdeal.τ).loc Cert.UqGradIdeal.main_arg0)
          ∧ r.2.mem ((c.tc : Thread Cert.UqGradIdeal.nD Cert.UqGradIdeal.τ).loc Cert.UqGradIdeal.main_arg1) = m ((c.tc : Thread Cert.UqGradIdeal.nD Cert.UqGradIdeal.τ).loc Cert.UqGradIdeal.main_arg1))
      ∧ θ_run (Cert.UqGradRefIdeal.defs (F := Ideal)) (onTc (τ := Cert.UqGradRefIdeal.τ) (Cert.UqGradRefIdeal.main (F := Ideal))) ⟨m', fun _ => 0, g'⟩ (fun r => ∀ c : Dev Cert.UqGradRefIdeal.nD,
          r.2.mem ((c.tc : Thread Cert.UqGradRefIdeal.nD Cert.UqGradRefIdeal.τ).loc Cert.UqGradRefIdeal.main_v6) = v0 c
          ∧ r.2.mem ((c.tc : Thread Cert.UqGradRefIdeal.nD Cert.UqGradRefIdeal.τ).loc Cert.UqGradRefIdeal.main_arg0) = m' ((c.tc : Thread Cert.UqGradRefIdeal.nD Cert.UqGradRefIdeal.τ).loc Cert.UqGradRefIdeal.main_arg0)
          ∧ r.2.mem ((c.tc : Thread Cert.UqGradRefIdeal.nD Cert.UqGradRefIdeal.τ).loc Cert.UqGradRefIdeal.main_arg1) = m' ((c.tc : Thread Cert.UqGradRefIdeal.nD Cert.UqGradRefIdeal.τ).loc Cert.UqGradRefIdeal.main_arg1))

def preserves_KvGrad_KvGradIdeal : Prop :=
  True

def algebraic_KvGradIdeal_KvGradRefIdeal [hKvGradIdeal : Cert.KvGradIdeal.Facts] [hKvGradRefIdeal : Cert.KvGradRefIdeal.Facts] : Prop :=
  ∀ (m : (ℓ : Loc Cert.KvGradIdeal.nD Cert.KvGradIdeal.τ Cert.KvGradIdeal.sig) → Buf (Elt Ideal) ℓ) (g : Dev Cert.KvGradIdeal.nD → PrngReg)
    (m' : (ℓ : Loc Cert.KvGradRefIdeal.nD Cert.KvGradRefIdeal.τ Cert.KvGradRefIdeal.sig) → Buf (Elt Ideal) ℓ) (g' : Dev Cert.KvGradRefIdeal.nD → PrngReg), Pre_KvGradIdeal m →
    (∀ c : Dev Cert.KvGradIdeal.nD,
      m' ((c.tc : Thread Cert.KvGradRefIdeal.nD Cert.KvGradRefIdeal.τ).loc Cert.KvGradRefIdeal.main_arg0) = m ((c.tc : Thread Cert.KvGradIdeal.nD Cert.KvGradIdeal.τ).loc Cert.KvGradIdeal.main_arg0)
      ∧ m' ((c.tc : Thread Cert.KvGradRefIdeal.nD Cert.KvGradRefIdeal.τ).loc Cert.KvGradRefIdeal.main_arg1) = m ((c.tc : Thread Cert.KvGradIdeal.nD Cert.KvGradIdeal.τ).loc Cert.KvGradIdeal.main_arg1)) →
    ∃ (v0 : (c : Dev Cert.KvGradIdeal.nD) → Buf (Elt Ideal) ((c.tc : Thread Cert.KvGradIdeal.nD Cert.KvGradIdeal.τ).loc Cert.KvGradIdeal.main_v0)),
      θ_run (Cert.KvGradIdeal.defs (F := Ideal)) (onTc (τ := Cert.KvGradIdeal.τ) (Cert.KvGradIdeal.main (F := Ideal))) ⟨m, fun _ => 0, g⟩ (fun r => ∀ c : Dev Cert.KvGradIdeal.nD,
          r.2.mem ((c.tc : Thread Cert.KvGradIdeal.nD Cert.KvGradIdeal.τ).loc Cert.KvGradIdeal.main_v0) = v0 c
          ∧ r.2.mem ((c.tc : Thread Cert.KvGradIdeal.nD Cert.KvGradIdeal.τ).loc Cert.KvGradIdeal.main_arg0) = m ((c.tc : Thread Cert.KvGradIdeal.nD Cert.KvGradIdeal.τ).loc Cert.KvGradIdeal.main_arg0)
          ∧ r.2.mem ((c.tc : Thread Cert.KvGradIdeal.nD Cert.KvGradIdeal.τ).loc Cert.KvGradIdeal.main_arg1) = m ((c.tc : Thread Cert.KvGradIdeal.nD Cert.KvGradIdeal.τ).loc Cert.KvGradIdeal.main_arg1))
      ∧ θ_run (Cert.KvGradRefIdeal.defs (F := Ideal)) (onTc (τ := Cert.KvGradRefIdeal.τ) (Cert.KvGradRefIdeal.main (F := Ideal))) ⟨m', fun _ => 0, g'⟩ (fun r => ∀ c : Dev Cert.KvGradRefIdeal.nD,
          r.2.mem ((c.tc : Thread Cert.KvGradRefIdeal.nD Cert.KvGradRefIdeal.τ).loc Cert.KvGradRefIdeal.main_v6) = v0 c
          ∧ r.2.mem ((c.tc : Thread Cert.KvGradRefIdeal.nD Cert.KvGradRefIdeal.τ).loc Cert.KvGradRefIdeal.main_arg0) = m' ((c.tc : Thread Cert.KvGradRefIdeal.nD Cert.KvGradRefIdeal.τ).loc Cert.KvGradRefIdeal.main_arg0)
          ∧ r.2.mem ((c.tc : Thread Cert.KvGradRefIdeal.nD Cert.KvGradRefIdeal.τ).loc Cert.KvGradRefIdeal.main_arg1) = m' ((c.tc : Thread Cert.KvGradRefIdeal.nD Cert.KvGradRefIdeal.τ).loc Cert.KvGradRefIdeal.main_arg1))

def preserves_InGrad_InGradIdeal : Prop :=
  True

def algebraic_InGradIdeal_InGradRefIdeal [hInGradIdeal : Cert.InGradIdeal.Facts] [hInGradRefIdeal : Cert.InGradRefIdeal.Facts] : Prop :=
  ∀ (m : (ℓ : Loc Cert.InGradIdeal.nD Cert.InGradIdeal.τ Cert.InGradIdeal.sig) → Buf (Elt Ideal) ℓ) (g : Dev Cert.InGradIdeal.nD → PrngReg)
    (m' : (ℓ : Loc Cert.InGradRefIdeal.nD Cert.InGradRefIdeal.τ Cert.InGradRefIdeal.sig) → Buf (Elt Ideal) ℓ) (g' : Dev Cert.InGradRefIdeal.nD → PrngReg), Pre_InGradIdeal m →
    (∀ c : Dev Cert.InGradIdeal.nD,
      m' ((c.tc : Thread Cert.InGradRefIdeal.nD Cert.InGradRefIdeal.τ).loc Cert.InGradRefIdeal.main_arg0) = m ((c.tc : Thread Cert.InGradIdeal.nD Cert.InGradIdeal.τ).loc Cert.InGradIdeal.main_arg0)
      ∧ m' ((c.tc : Thread Cert.InGradRefIdeal.nD Cert.InGradRefIdeal.τ).loc Cert.InGradRefIdeal.main_arg1) = m ((c.tc : Thread Cert.InGradIdeal.nD Cert.InGradIdeal.τ).loc Cert.InGradIdeal.main_arg1)) →
    ∃ (v0 : (c : Dev Cert.InGradIdeal.nD) → Buf (Elt Ideal) ((c.tc : Thread Cert.InGradIdeal.nD Cert.InGradIdeal.τ).loc Cert.InGradIdeal.main_v0)),
      θ_run (Cert.InGradIdeal.defs (F := Ideal)) (onTc (τ := Cert.InGradIdeal.τ) (Cert.InGradIdeal.main (F := Ideal))) ⟨m, fun _ => 0, g⟩ (fun r => ∀ c : Dev Cert.InGradIdeal.nD,
          r.2.mem ((c.tc : Thread Cert.InGradIdeal.nD Cert.InGradIdeal.τ).loc Cert.InGradIdeal.main_v0) = v0 c
          ∧ r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
          ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1))
      ∧ θ_run (Cert.InGradRefIdeal.defs (F := Ideal)) (onTc (τ := Cert.InGradRefIdeal.τ) (Cert.InGradRefIdeal.main (F := Ideal))) ⟨m', fun _ => 0, g'⟩ (fun r => ∀ c : Dev Cert.InGradRefIdeal.nD,
          r.2.mem ((c.tc : Thread Cert.InGradRefIdeal.nD Cert.InGradRefIdeal.τ).loc Cert.InGradRefIdeal.main_v7) = v0 c
          ∧ r.2.mem ((c.tc : Thread Cert.InGradRefIdeal.nD Cert.InGradRefIdeal.τ).loc Cert.InGradRefIdeal.main_arg0) = m' ((c.tc : Thread Cert.InGradRefIdeal.nD Cert.InGradRefIdeal.τ).loc Cert.InGradRefIdeal.main_arg0)
          ∧ r.2.mem ((c.tc : Thread Cert.InGradRefIdeal.nD Cert.InGradRefIdeal.τ).loc Cert.InGradRefIdeal.main_arg1) = m' ((c.tc : Thread Cert.InGradRefIdeal.nD Cert.InGradRefIdeal.τ).loc Cert.InGradRefIdeal.main_arg1))

def preserves_InFwd_InFwdIdeal : Prop :=
  True

def algebraic_InFwdIdeal_InFwdRefIdeal [hInFwdIdeal : Cert.InFwdIdeal.Facts] [hInFwdRefIdeal : Cert.InFwdRefIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdRefIdeal.nD Cert.InFwdRefIdeal.τ Cert.InFwdRefIdeal.sig) → Buf (Elt Ideal) ℓ) (g' : Dev Cert.InFwdRefIdeal.nD → PrngReg), Pre_InFwdIdeal m →
    (∀ c : Dev Cert.InFwdIdeal.nD,
      m' ((c.tc : Thread Cert.InFwdRefIdeal.nD Cert.InFwdRefIdeal.τ).loc Cert.InFwdRefIdeal.main_arg0) = m ((c.tc : Thread Cert.InFwdIdeal.nD Cert.InFwdIdeal.τ).loc Cert.InFwdIdeal.main_arg0)
      ∧ m' ((c.tc : Thread Cert.InFwdRefIdeal.nD Cert.InFwdRefIdeal.τ).loc Cert.InFwdRefIdeal.main_arg1) = m ((c.tc : Thread Cert.InFwdIdeal.nD Cert.InFwdIdeal.τ).loc Cert.InFwdIdeal.main_arg1)
      ∧ m' ((c.tc : Thread Cert.InFwdRefIdeal.nD Cert.InFwdRefIdeal.τ).loc Cert.InFwdRefIdeal.main_arg2) = m ((c.tc : Thread Cert.InFwdIdeal.nD Cert.InFwdIdeal.τ).loc Cert.InFwdIdeal.main_arg2)) →
    ∃ (v0 : (c : Dev Cert.InFwdIdeal.nD) → Buf (Elt Ideal) ((c.tc : Thread Cert.InFwdIdeal.nD Cert.InFwdIdeal.τ).loc Cert.InFwdIdeal.main_v8)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v8) = v0 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
          ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2))
      ∧ θ_run (Cert.InFwdRefIdeal.defs (F := Ideal)) (onTc (τ := Cert.InFwdRefIdeal.τ) (Cert.InFwdRefIdeal.main (F := Ideal))) ⟨m', fun _ => 0, g'⟩ (fun r => ∀ c : Dev Cert.InFwdRefIdeal.nD,
          r.2.mem ((c.tc : Thread Cert.InFwdRefIdeal.nD Cert.InFwdRefIdeal.τ).loc Cert.InFwdRefIdeal.main_v19) = v0 c
          ∧ r.2.mem ((c.tc : Thread Cert.InFwdRefIdeal.nD Cert.InFwdRefIdeal.τ).loc Cert.InFwdRefIdeal.main_arg0) = m' ((c.tc : Thread Cert.InFwdRefIdeal.nD Cert.InFwdRefIdeal.τ).loc Cert.InFwdRefIdeal.main_arg0)
          ∧ r.2.mem ((c.tc : Thread Cert.InFwdRefIdeal.nD Cert.InFwdRefIdeal.τ).loc Cert.InFwdRefIdeal.main_arg1) = m' ((c.tc : Thread Cert.InFwdRefIdeal.nD Cert.InFwdRefIdeal.τ).loc Cert.InFwdRefIdeal.main_arg1)
          ∧ r.2.mem ((c.tc : Thread Cert.InFwdRefIdeal.nD Cert.InFwdRefIdeal.τ).loc Cert.InFwdRefIdeal.main_arg2) = m' ((c.tc : Thread Cert.InFwdRefIdeal.nD Cert.InFwdRefIdeal.τ).loc Cert.InFwdRefIdeal.main_arg2))

def preserves_InBwd_InBwdIdeal : Prop :=
  True

def algebraic_InBwdIdeal_InBwdRefIdeal_pre_in_finite [hInBwdIdeal : Cert.InBwdIdeal.Facts] [hInBwdRefIdeal : Cert.InBwdRefIdeal.Facts] [hPre_in_finite : Cert.Pre_in_finite.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.InBwdRefIdeal.nD Cert.InBwdRefIdeal.τ Cert.InBwdRefIdeal.sig) → Buf (Elt Ideal) ℓ) (g' : Dev Cert.InBwdRefIdeal.nD → PrngReg), Pre_InBwdIdeal_in_finite m →
    (∀ c : Dev Cert.InBwdIdeal.nD,
      m' ((c.tc : Thread Cert.InBwdRefIdeal.nD Cert.InBwdRefIdeal.τ).loc Cert.InBwdRefIdeal.main_arg0) = m ((c.tc : Thread Cert.InBwdIdeal.nD Cert.InBwdIdeal.τ).loc Cert.InBwdIdeal.main_arg0)
      ∧ m' ((c.tc : Thread Cert.InBwdRefIdeal.nD Cert.InBwdRefIdeal.τ).loc Cert.InBwdRefIdeal.main_arg1) = m ((c.tc : Thread Cert.InBwdIdeal.nD Cert.InBwdIdeal.τ).loc Cert.InBwdIdeal.main_arg1)
      ∧ m' ((c.tc : Thread Cert.InBwdRefIdeal.nD Cert.InBwdRefIdeal.τ).loc Cert.InBwdRefIdeal.main_arg2) = m ((c.tc : Thread Cert.InBwdIdeal.nD Cert.InBwdIdeal.τ).loc Cert.InBwdIdeal.main_arg2)
      ∧ m' ((c.tc : Thread Cert.InBwdRefIdeal.nD Cert.InBwdRefIdeal.τ).loc Cert.InBwdRefIdeal.main_arg3) = m ((c.tc : Thread Cert.InBwdIdeal.nD Cert.InBwdIdeal.τ).loc Cert.InBwdIdeal.main_arg3)
      ∧ m' ((c.tc : Thread Cert.InBwdRefIdeal.nD Cert.InBwdRefIdeal.τ).loc Cert.InBwdRefIdeal.main_arg4) = m ((c.tc : Thread Cert.InBwdIdeal.nD Cert.InBwdIdeal.τ).loc Cert.InBwdIdeal.main_arg4)
      ∧ m' ((c.tc : Thread Cert.InBwdRefIdeal.nD Cert.InBwdRefIdeal.τ).loc Cert.InBwdRefIdeal.main_arg5) = m ((c.tc : Thread Cert.InBwdIdeal.nD Cert.InBwdIdeal.τ).loc Cert.InBwdIdeal.main_arg5)
      ∧ m' ((c.tc : Thread Cert.InBwdRefIdeal.nD Cert.InBwdRefIdeal.τ).loc Cert.InBwdRefIdeal.main_arg6) = m ((c.tc : Thread Cert.InBwdIdeal.nD Cert.InBwdIdeal.τ).loc Cert.InBwdIdeal.main_arg6)
      ∧ m' ((c.tc : Thread Cert.InBwdRefIdeal.nD Cert.InBwdRefIdeal.τ).loc Cert.InBwdRefIdeal.main_arg7) = m ((c.tc : Thread Cert.InBwdIdeal.nD Cert.InBwdIdeal.τ).loc Cert.InBwdIdeal.main_arg7)
      ∧ m' ((c.tc : Thread Cert.InBwdRefIdeal.nD Cert.InBwdRefIdeal.τ).loc Cert.InBwdRefIdeal.main_arg8) = m ((c.tc : Thread Cert.InBwdIdeal.nD Cert.InBwdIdeal.τ).loc Cert.InBwdIdeal.main_arg8)
      ∧ m' ((c.tc : Thread Cert.InBwdRefIdeal.nD Cert.InBwdRefIdeal.τ).loc Cert.InBwdRefIdeal.main_arg9) = m ((c.tc : Thread Cert.InBwdIdeal.nD Cert.InBwdIdeal.τ).loc Cert.InBwdIdeal.main_arg9)) →
    ∃ (v0 : (c : Dev Cert.InBwdIdeal.nD) → Buf (Elt Ideal) ((c.tc : Thread Cert.InBwdIdeal.nD Cert.InBwdIdeal.τ).loc Cert.InBwdIdeal.main_v9_0)) (v1 : (c : Dev Cert.InBwdIdeal.nD) → Buf (Elt Ideal) ((c.tc : Thread Cert.InBwdIdeal.nD Cert.InBwdIdeal.τ).loc Cert.InBwdIdeal.main_v9_1)) (v2 : (c : Dev Cert.InBwdIdeal.nD) → Buf (Elt Ideal) ((c.tc : Thread Cert.InBwdIdeal.nD Cert.InBwdIdeal.τ).loc Cert.InBwdIdeal.main_v9_2)) (v3 : (c : Dev Cert.InBwdIdeal.nD) → Buf (Elt Ideal) ((c.tc : Thread Cert.InBwdIdeal.nD Cert.InBwdIdeal.τ).loc Cert.InBwdIdeal.main_v9_3)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v9_0) = v0 c
          ∧ r.2.mem ((c.tc : Thread Cert.InBwdIdeal.nD Cert.InBwdIdeal.τ).loc Cert.InBwdIdeal.main_v9_1) = v1 c
          ∧ r.2.mem ((c.tc : Thread Cert.InBwdIdeal.nD Cert.InBwdIdeal.τ).loc Cert.InBwdIdeal.main_v9_2) = v2 c
          ∧ r.2.mem ((c.tc : Thread Cert.InBwdIdeal.nD Cert.InBwdIdeal.τ).loc Cert.InBwdIdeal.main_v9_3) = v3 c
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
          ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
          ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
          ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
          ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
          ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6)
          ∧ r.2.mem ((c.tc : Thread Cert.InBwdIdeal.nD Cert.InBwdIdeal.τ).loc Cert.InBwdIdeal.main_arg7) = m ((c.tc : Thread Cert.InBwdIdeal.nD Cert.InBwdIdeal.τ).loc Cert.InBwdIdeal.main_arg7)
          ∧ r.2.mem ((c.tc : Thread Cert.InBwdIdeal.nD Cert.InBwdIdeal.τ).loc Cert.InBwdIdeal.main_arg8) = m ((c.tc : Thread Cert.InBwdIdeal.nD Cert.InBwdIdeal.τ).loc Cert.InBwdIdeal.main_arg8)
          ∧ r.2.mem ((c.tc : Thread Cert.InBwdIdeal.nD Cert.InBwdIdeal.τ).loc Cert.InBwdIdeal.main_arg9) = m ((c.tc : Thread Cert.InBwdIdeal.nD Cert.InBwdIdeal.τ).loc Cert.InBwdIdeal.main_arg9))
      ∧ θ_run (Cert.InBwdRefIdeal.defs (F := Ideal)) (onTc (τ := Cert.InBwdRefIdeal.τ) (Cert.InBwdRefIdeal.main (F := Ideal))) ⟨m', fun _ => 0, g'⟩ (fun r => ∀ c : Dev Cert.InBwdRefIdeal.nD,
          r.2.mem ((c.tc : Thread Cert.InBwdRefIdeal.nD Cert.InBwdRefIdeal.τ).loc Cert.InBwdRefIdeal.main_v40) = v0 c
          ∧ r.2.mem ((c.tc : Thread Cert.InBwdRefIdeal.nD Cert.InBwdRefIdeal.τ).loc Cert.InBwdRefIdeal.main_v54) = v1 c
          ∧ r.2.mem ((c.tc : Thread Cert.InBwdRefIdeal.nD Cert.InBwdRefIdeal.τ).loc Cert.InBwdRefIdeal.main_v60) = v2 c
          ∧ r.2.mem ((c.tc : Thread Cert.InBwdRefIdeal.nD Cert.InBwdRefIdeal.τ).loc Cert.InBwdRefIdeal.main_v61) = v3 c
          ∧ r.2.mem ((c.tc : Thread Cert.InBwdRefIdeal.nD Cert.InBwdRefIdeal.τ).loc Cert.InBwdRefIdeal.main_arg0) = m' ((c.tc : Thread Cert.InBwdRefIdeal.nD Cert.InBwdRefIdeal.τ).loc Cert.InBwdRefIdeal.main_arg0)
          ∧ r.2.mem ((c.tc : Thread Cert.InBwdRefIdeal.nD Cert.InBwdRefIdeal.τ).loc Cert.InBwdRefIdeal.main_arg1) = m' ((c.tc : Thread Cert.InBwdRefIdeal.nD Cert.InBwdRefIdeal.τ).loc Cert.InBwdRefIdeal.main_arg1)
          ∧ r.2.mem ((c.tc : Thread Cert.InBwdRefIdeal.nD Cert.InBwdRefIdeal.τ).loc Cert.InBwdRefIdeal.main_arg2) = m' ((c.tc : Thread Cert.InBwdRefIdeal.nD Cert.InBwdRefIdeal.τ).loc Cert.InBwdRefIdeal.main_arg2)
          ∧ r.2.mem ((c.tc : Thread Cert.InBwdRefIdeal.nD Cert.InBwdRefIdeal.τ).loc Cert.InBwdRefIdeal.main_arg3) = m' ((c.tc : Thread Cert.InBwdRefIdeal.nD Cert.InBwdRefIdeal.τ).loc Cert.InBwdRefIdeal.main_arg3)
          ∧ r.2.mem ((c.tc : Thread Cert.InBwdRefIdeal.nD Cert.InBwdRefIdeal.τ).loc Cert.InBwdRefIdeal.main_arg4) = m' ((c.tc : Thread Cert.InBwdRefIdeal.nD Cert.InBwdRefIdeal.τ).loc Cert.InBwdRefIdeal.main_arg4)
          ∧ r.2.mem ((c.tc : Thread Cert.InBwdRefIdeal.nD Cert.InBwdRefIdeal.τ).loc Cert.InBwdRefIdeal.main_arg5) = m' ((c.tc : Thread Cert.InBwdRefIdeal.nD Cert.InBwdRefIdeal.τ).loc Cert.InBwdRefIdeal.main_arg5)
          ∧ r.2.mem ((c.tc : Thread Cert.InBwdRefIdeal.nD Cert.InBwdRefIdeal.τ).loc Cert.InBwdRefIdeal.main_arg6) = m' ((c.tc : Thread Cert.InBwdRefIdeal.nD Cert.InBwdRefIdeal.τ).loc Cert.InBwdRefIdeal.main_arg6)
          ∧ r.2.mem ((c.tc : Thread Cert.InBwdRefIdeal.nD Cert.InBwdRefIdeal.τ).loc Cert.InBwdRefIdeal.main_arg7) = m' ((c.tc : Thread Cert.InBwdRefIdeal.nD Cert.InBwdRefIdeal.τ).loc Cert.InBwdRefIdeal.main_arg7)
          ∧ r.2.mem ((c.tc : Thread Cert.InBwdRefIdeal.nD Cert.InBwdRefIdeal.τ).loc Cert.InBwdRefIdeal.main_arg8) = m' ((c.tc : Thread Cert.InBwdRefIdeal.nD Cert.InBwdRefIdeal.τ).loc Cert.InBwdRefIdeal.main_arg8)
          ∧ r.2.mem ((c.tc : Thread Cert.InBwdRefIdeal.nD Cert.InBwdRefIdeal.τ).loc Cert.InBwdRefIdeal.main_arg9) = m' ((c.tc : Thread Cert.InBwdRefIdeal.nD Cert.InBwdRefIdeal.τ).loc Cert.InBwdRefIdeal.main_arg9))

def preserves_QkvFwd_QkvFwdIdeal : Prop :=
  True

def algebraic_QkvFwdIdeal_QkvFwdRefIdeal [hQkvFwdIdeal : Cert.QkvFwdIdeal.Facts] [hQkvFwdRefIdeal : Cert.QkvFwdRefIdeal.Facts] : Prop :=
  ∀ (m : (ℓ : Loc Cert.QkvFwdIdeal.nD Cert.QkvFwdIdeal.τ Cert.QkvFwdIdeal.sig) → Buf (Elt Ideal) ℓ) (g : Dev Cert.QkvFwdIdeal.nD → PrngReg)
    (m' : (ℓ : Loc Cert.QkvFwdRefIdeal.nD Cert.QkvFwdRefIdeal.τ Cert.QkvFwdRefIdeal.sig) → Buf (Elt Ideal) ℓ) (g' : Dev Cert.QkvFwdRefIdeal.nD → PrngReg), Pre_QkvFwdIdeal m →
    (∀ c : Dev Cert.QkvFwdIdeal.nD,
      m' ((c.tc : Thread Cert.QkvFwdRefIdeal.nD Cert.QkvFwdRefIdeal.τ).loc Cert.QkvFwdRefIdeal.main_arg0) = m ((c.tc : Thread Cert.QkvFwdIdeal.nD Cert.QkvFwdIdeal.τ).loc Cert.QkvFwdIdeal.main_arg0)
      ∧ m' ((c.tc : Thread Cert.QkvFwdRefIdeal.nD Cert.QkvFwdRefIdeal.τ).loc Cert.QkvFwdRefIdeal.main_arg1) = m ((c.tc : Thread Cert.QkvFwdIdeal.nD Cert.QkvFwdIdeal.τ).loc Cert.QkvFwdIdeal.main_arg1)
      ∧ m' ((c.tc : Thread Cert.QkvFwdRefIdeal.nD Cert.QkvFwdRefIdeal.τ).loc Cert.QkvFwdRefIdeal.main_arg2) = m ((c.tc : Thread Cert.QkvFwdIdeal.nD Cert.QkvFwdIdeal.τ).loc Cert.QkvFwdIdeal.main_arg2)
      ∧ m' ((c.tc : Thread Cert.QkvFwdRefIdeal.nD Cert.QkvFwdRefIdeal.τ).loc Cert.QkvFwdRefIdeal.main_arg3) = m ((c.tc : Thread Cert.QkvFwdIdeal.nD Cert.QkvFwdIdeal.τ).loc Cert.QkvFwdIdeal.main_arg3)
      ∧ m' ((c.tc : Thread Cert.QkvFwdRefIdeal.nD Cert.QkvFwdRefIdeal.τ).loc Cert.QkvFwdRefIdeal.main_arg4) = m ((c.tc : Thread Cert.QkvFwdIdeal.nD Cert.QkvFwdIdeal.τ).loc Cert.QkvFwdIdeal.main_arg4)
      ∧ m' ((c.tc : Thread Cert.QkvFwdRefIdeal.nD Cert.QkvFwdRefIdeal.τ).loc Cert.QkvFwdRefIdeal.main_arg5) = m ((c.tc : Thread Cert.QkvFwdIdeal.nD Cert.QkvFwdIdeal.τ).loc Cert.QkvFwdIdeal.main_arg5)
      ∧ m' ((c.tc : Thread Cert.QkvFwdRefIdeal.nD Cert.QkvFwdRefIdeal.τ).loc Cert.QkvFwdRefIdeal.main_arg6) = m ((c.tc : Thread Cert.QkvFwdIdeal.nD Cert.QkvFwdIdeal.τ).loc Cert.QkvFwdIdeal.main_arg6)) →
    ∃ (v0 : (c : Dev Cert.QkvFwdIdeal.nD) → Buf (Elt Ideal) ((c.tc : Thread Cert.QkvFwdIdeal.nD Cert.QkvFwdIdeal.τ).loc Cert.QkvFwdIdeal.main_v37_0)) (v1 : (c : Dev Cert.QkvFwdIdeal.nD) → Buf (Elt Ideal) ((c.tc : Thread Cert.QkvFwdIdeal.nD Cert.QkvFwdIdeal.τ).loc Cert.QkvFwdIdeal.main_v37_1)) (v2 : (c : Dev Cert.QkvFwdIdeal.nD) → Buf (Elt Ideal) ((c.tc : Thread Cert.QkvFwdIdeal.nD Cert.QkvFwdIdeal.τ).loc Cert.QkvFwdIdeal.main_v37_2)),
      θ_run (Cert.QkvFwdIdeal.defs (F := Ideal)) (onTc (τ := Cert.QkvFwdIdeal.τ) (Cert.QkvFwdIdeal.main (F := Ideal))) ⟨m, fun _ => 0, g⟩ (fun r => ∀ c : Dev Cert.QkvFwdIdeal.nD,
          r.2.mem ((c.tc : Thread Cert.QkvFwdIdeal.nD Cert.QkvFwdIdeal.τ).loc Cert.QkvFwdIdeal.main_v37_0) = v0 c
          ∧ r.2.mem ((c.tc : Thread Cert.QkvFwdIdeal.nD Cert.QkvFwdIdeal.τ).loc Cert.QkvFwdIdeal.main_v37_1) = v1 c
          ∧ r.2.mem ((c.tc : Thread Cert.QkvFwdIdeal.nD Cert.QkvFwdIdeal.τ).loc Cert.QkvFwdIdeal.main_v37_2) = v2 c
          ∧ r.2.mem ((c.tc : Thread Cert.QkvFwdIdeal.nD Cert.QkvFwdIdeal.τ).loc Cert.QkvFwdIdeal.main_arg0) = m ((c.tc : Thread Cert.QkvFwdIdeal.nD Cert.QkvFwdIdeal.τ).loc Cert.QkvFwdIdeal.main_arg0)
          ∧ r.2.mem ((c.tc : Thread Cert.QkvFwdIdeal.nD Cert.QkvFwdIdeal.τ).loc Cert.QkvFwdIdeal.main_arg1) = m ((c.tc : Thread Cert.QkvFwdIdeal.nD Cert.QkvFwdIdeal.τ).loc Cert.QkvFwdIdeal.main_arg1)
          ∧ r.2.mem ((c.tc : Thread Cert.QkvFwdIdeal.nD Cert.QkvFwdIdeal.τ).loc Cert.QkvFwdIdeal.main_arg2) = m ((c.tc : Thread Cert.QkvFwdIdeal.nD Cert.QkvFwdIdeal.τ).loc Cert.QkvFwdIdeal.main_arg2)
          ∧ r.2.mem ((c.tc : Thread Cert.QkvFwdIdeal.nD Cert.QkvFwdIdeal.τ).loc Cert.QkvFwdIdeal.main_arg3) = m ((c.tc : Thread Cert.QkvFwdIdeal.nD Cert.QkvFwdIdeal.τ).loc Cert.QkvFwdIdeal.main_arg3)
          ∧ r.2.mem ((c.tc : Thread Cert.QkvFwdIdeal.nD Cert.QkvFwdIdeal.τ).loc Cert.QkvFwdIdeal.main_arg4) = m ((c.tc : Thread Cert.QkvFwdIdeal.nD Cert.QkvFwdIdeal.τ).loc Cert.QkvFwdIdeal.main_arg4)
          ∧ r.2.mem ((c.tc : Thread Cert.QkvFwdIdeal.nD Cert.QkvFwdIdeal.τ).loc Cert.QkvFwdIdeal.main_arg5) = m ((c.tc : Thread Cert.QkvFwdIdeal.nD Cert.QkvFwdIdeal.τ).loc Cert.QkvFwdIdeal.main_arg5)
          ∧ r.2.mem ((c.tc : Thread Cert.QkvFwdIdeal.nD Cert.QkvFwdIdeal.τ).loc Cert.QkvFwdIdeal.main_arg6) = m ((c.tc : Thread Cert.QkvFwdIdeal.nD Cert.QkvFwdIdeal.τ).loc Cert.QkvFwdIdeal.main_arg6))
      ∧ θ_run (Cert.QkvFwdRefIdeal.defs (F := Ideal)) (onTc (τ := Cert.QkvFwdRefIdeal.τ) (Cert.QkvFwdRefIdeal.main (F := Ideal))) ⟨m', fun _ => 0, g'⟩ (fun r => ∀ c : Dev Cert.QkvFwdRefIdeal.nD,
          r.2.mem ((c.tc : Thread Cert.QkvFwdRefIdeal.nD Cert.QkvFwdRefIdeal.τ).loc Cert.QkvFwdRefIdeal.main_v88) = v0 c
          ∧ r.2.mem ((c.tc : Thread Cert.QkvFwdRefIdeal.nD Cert.QkvFwdRefIdeal.τ).loc Cert.QkvFwdRefIdeal.main_v90) = v1 c
          ∧ r.2.mem ((c.tc : Thread Cert.QkvFwdRefIdeal.nD Cert.QkvFwdRefIdeal.τ).loc Cert.QkvFwdRefIdeal.main_v92) = v2 c
          ∧ r.2.mem ((c.tc : Thread Cert.QkvFwdRefIdeal.nD Cert.QkvFwdRefIdeal.τ).loc Cert.QkvFwdRefIdeal.main_arg0) = m' ((c.tc : Thread Cert.QkvFwdRefIdeal.nD Cert.QkvFwdRefIdeal.τ).loc Cert.QkvFwdRefIdeal.main_arg0)
          ∧ r.2.mem ((c.tc : Thread Cert.QkvFwdRefIdeal.nD Cert.QkvFwdRefIdeal.τ).loc Cert.QkvFwdRefIdeal.main_arg1) = m' ((c.tc : Thread Cert.QkvFwdRefIdeal.nD Cert.QkvFwdRefIdeal.τ).loc Cert.QkvFwdRefIdeal.main_arg1)
          ∧ r.2.mem ((c.tc : Thread Cert.QkvFwdRefIdeal.nD Cert.QkvFwdRefIdeal.τ).loc Cert.QkvFwdRefIdeal.main_arg2) = m' ((c.tc : Thread Cert.QkvFwdRefIdeal.nD Cert.QkvFwdRefIdeal.τ).loc Cert.QkvFwdRefIdeal.main_arg2)
          ∧ r.2.mem ((c.tc : Thread Cert.QkvFwdRefIdeal.nD Cert.QkvFwdRefIdeal.τ).loc Cert.QkvFwdRefIdeal.main_arg3) = m' ((c.tc : Thread Cert.QkvFwdRefIdeal.nD Cert.QkvFwdRefIdeal.τ).loc Cert.QkvFwdRefIdeal.main_arg3)
          ∧ r.2.mem ((c.tc : Thread Cert.QkvFwdRefIdeal.nD Cert.QkvFwdRefIdeal.τ).loc Cert.QkvFwdRefIdeal.main_arg4) = m' ((c.tc : Thread Cert.QkvFwdRefIdeal.nD Cert.QkvFwdRefIdeal.τ).loc Cert.QkvFwdRefIdeal.main_arg4)
          ∧ r.2.mem ((c.tc : Thread Cert.QkvFwdRefIdeal.nD Cert.QkvFwdRefIdeal.τ).loc Cert.QkvFwdRefIdeal.main_arg5) = m' ((c.tc : Thread Cert.QkvFwdRefIdeal.nD Cert.QkvFwdRefIdeal.τ).loc Cert.QkvFwdRefIdeal.main_arg5)
          ∧ r.2.mem ((c.tc : Thread Cert.QkvFwdRefIdeal.nD Cert.QkvFwdRefIdeal.τ).loc Cert.QkvFwdRefIdeal.main_arg6) = m' ((c.tc : Thread Cert.QkvFwdRefIdeal.nD Cert.QkvFwdRefIdeal.τ).loc Cert.QkvFwdRefIdeal.main_arg6))

def Claim : Prop :=
  ∃ (hFfnBwd : Cert.FfnBwd.Facts) (hFfnBwdIdeal : Cert.FfnBwdIdeal.Facts) (hFfnRefIdeal : Cert.FfnRefIdeal.Facts) (hFfnFwd : Cert.FfnFwd.Facts) (hFfnFwdIdeal : Cert.FfnFwdIdeal.Facts) (hFfnFwdRefIdeal : Cert.FfnFwdRefIdeal.Facts) (hMergeBwd : Cert.MergeBwd.Facts) (hMergeBwdIdeal : Cert.MergeBwdIdeal.Facts) (hMergeRefIdeal : Cert.MergeRefIdeal.Facts) (hMergeFwd : Cert.MergeFwd.Facts) (hMergeFwdIdeal : Cert.MergeFwdIdeal.Facts) (hMergeFwdRefIdeal : Cert.MergeFwdRefIdeal.Facts) (hGateGrad : Cert.GateGrad.Facts) (hGateGradIdeal : Cert.GateGradIdeal.Facts) (hGateGradRefIdeal : Cert.GateGradRefIdeal.Facts) (hDownGrad : Cert.DownGrad.Facts) (hDownGradIdeal : Cert.DownGradIdeal.Facts) (hDownGradRefIdeal : Cert.DownGradRefIdeal.Facts) (hOutGrad : Cert.OutGrad.Facts) (hOutGradIdeal : Cert.OutGradIdeal.Facts) (hOutGradRefIdeal : Cert.OutGradRefIdeal.Facts) (hPaGrad : Cert.PaGrad.Facts) (hPaGradIdeal : Cert.PaGradIdeal.Facts) (hPaGradRefIdeal : Cert.PaGradRefIdeal.Facts) (hPbGrad : Cert.PbGrad.Facts) (hPbGradIdeal : Cert.PbGradIdeal.Facts) (hPbGradRefIdeal : Cert.PbGradRefIdeal.Facts) (hUqGrad : Cert.UqGrad.Facts) (hUqGradIdeal : Cert.UqGradIdeal.Facts) (hUqGradRefIdeal : Cert.UqGradRefIdeal.Facts) (hKvGrad : Cert.KvGrad.Facts) (hKvGradIdeal : Cert.KvGradIdeal.Facts) (hKvGradRefIdeal : Cert.KvGradRefIdeal.Facts) (hInGrad : Cert.InGrad.Facts) (hInGradIdeal : Cert.InGradIdeal.Facts) (hInGradRefIdeal : Cert.InGradRefIdeal.Facts) (hInFwd : Cert.InFwd.Facts) (hInFwdIdeal : Cert.InFwdIdeal.Facts) (hInFwdRefIdeal : Cert.InFwdRefIdeal.Facts) (hInBwd : Cert.InBwd.Facts) (hInBwdIdeal : Cert.InBwdIdeal.Facts) (hInBwdRefIdeal : Cert.InBwdRefIdeal.Facts) (hQkvFwd : Cert.QkvFwd.Facts) (hQkvFwdIdeal : Cert.QkvFwdIdeal.Facts) (hQkvFwdRefIdeal : Cert.QkvFwdRefIdeal.Facts) (hPre_ffn_finite : Cert.Pre_ffn_finite.Facts) (hPre_in_finite : Cert.Pre_in_finite.Facts),
    quiescent_FfnBwd (hFfnBwd := hFfnBwd)
    ∧ quiescent_FfnBwdIdeal (hFfnBwdIdeal := hFfnBwdIdeal)
    ∧ quiescent_FfnBwdIdeal_pre_ffn_finite (hFfnBwdIdeal := hFfnBwdIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_MergeBwd (hMergeBwd := hMergeBwd)
    ∧ quiescent_MergeBwdIdeal (hMergeBwdIdeal := hMergeBwdIdeal)
    ∧ quiescent_MergeRefIdeal (hMergeRefIdeal := hMergeRefIdeal)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_GateGrad (hGateGrad := hGateGrad)
    ∧ quiescent_GateGradIdeal (hGateGradIdeal := hGateGradIdeal)
    ∧ quiescent_GateGradRefIdeal (hGateGradRefIdeal := hGateGradRefIdeal)
    ∧ quiescent_DownGrad (hDownGrad := hDownGrad)
    ∧ quiescent_DownGradIdeal (hDownGradIdeal := hDownGradIdeal)
    ∧ quiescent_DownGradRefIdeal (hDownGradRefIdeal := hDownGradRefIdeal)
    ∧ quiescent_OutGrad (hOutGrad := hOutGrad)
    ∧ quiescent_OutGradIdeal (hOutGradIdeal := hOutGradIdeal)
    ∧ quiescent_OutGradRefIdeal (hOutGradRefIdeal := hOutGradRefIdeal)
    ∧ quiescent_PaGrad (hPaGrad := hPaGrad)
    ∧ quiescent_PaGradIdeal (hPaGradIdeal := hPaGradIdeal)
    ∧ quiescent_PaGradRefIdeal (hPaGradRefIdeal := hPaGradRefIdeal)
    ∧ quiescent_PbGrad (hPbGrad := hPbGrad)
    ∧ quiescent_PbGradIdeal (hPbGradIdeal := hPbGradIdeal)
    ∧ quiescent_PbGradRefIdeal (hPbGradRefIdeal := hPbGradRefIdeal)
    ∧ quiescent_UqGrad (hUqGrad := hUqGrad)
    ∧ quiescent_UqGradIdeal (hUqGradIdeal := hUqGradIdeal)
    ∧ quiescent_UqGradRefIdeal (hUqGradRefIdeal := hUqGradRefIdeal)
    ∧ quiescent_KvGrad (hKvGrad := hKvGrad)
    ∧ quiescent_KvGradIdeal (hKvGradIdeal := hKvGradIdeal)
    ∧ quiescent_KvGradRefIdeal (hKvGradRefIdeal := hKvGradRefIdeal)
    ∧ quiescent_InGrad (hInGrad := hInGrad)
    ∧ quiescent_InGradIdeal (hInGradIdeal := hInGradIdeal)
    ∧ quiescent_InGradRefIdeal (hInGradRefIdeal := hInGradRefIdeal)
    ∧ quiescent_InFwd (hInFwd := hInFwd)
    ∧ quiescent_InFwdIdeal (hInFwdIdeal := hInFwdIdeal)
    ∧ quiescent_InFwdRefIdeal (hInFwdRefIdeal := hInFwdRefIdeal)
    ∧ quiescent_InBwd (hInBwd := hInBwd)
    ∧ quiescent_InBwdIdeal (hInBwdIdeal := hInBwdIdeal)
    ∧ quiescent_InBwdIdeal_pre_in_finite (hInBwdIdeal := hInBwdIdeal) (hPre_in_finite := hPre_in_finite)
    ∧ quiescent_InBwdRefIdeal (hInBwdRefIdeal := hInBwdRefIdeal)
    ∧ quiescent_InBwdRefIdeal_pre_in_finite (hInBwdRefIdeal := hInBwdRefIdeal) (hPre_in_finite := hPre_in_finite)
    ∧ quiescent_QkvFwd (hQkvFwd := hQkvFwd)
    ∧ quiescent_QkvFwdIdeal (hQkvFwdIdeal := hQkvFwdIdeal)
    ∧ quiescent_QkvFwdRefIdeal (hQkvFwdRefIdeal := hQkvFwdRefIdeal)
    ∧ preserves_FfnBwd_FfnBwdIdeal
    ∧ algebraic_FfnBwdIdeal_FfnRefIdeal_pre_ffn_finite (hFfnBwdIdeal := hFfnBwdIdeal) (hFfnRefIdeal := hFfnRefIdeal) (hPre_ffn_finite := hPre_ffn_finite)
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_MergeBwd_MergeBwdIdeal
    ∧ algebraic_MergeBwdIdeal_MergeRefIdeal (hMergeBwdIdeal := hMergeBwdIdeal) (hMergeRefIdeal := hMergeRefIdeal)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_GateGrad_GateGradIdeal
    ∧ algebraic_GateGradIdeal_GateGradRefIdeal (hGateGradIdeal := hGateGradIdeal) (hGateGradRefIdeal := hGateGradRefIdeal)
    ∧ preserves_DownGrad_DownGradIdeal
    ∧ algebraic_DownGradIdeal_DownGradRefIdeal (hDownGradIdeal := hDownGradIdeal) (hDownGradRefIdeal := hDownGradRefIdeal)
    ∧ preserves_OutGrad_OutGradIdeal
    ∧ algebraic_OutGradIdeal_OutGradRefIdeal (hOutGradIdeal := hOutGradIdeal) (hOutGradRefIdeal := hOutGradRefIdeal)
    ∧ preserves_PaGrad_PaGradIdeal
    ∧ algebraic_PaGradIdeal_PaGradRefIdeal (hPaGradIdeal := hPaGradIdeal) (hPaGradRefIdeal := hPaGradRefIdeal)
    ∧ preserves_PbGrad_PbGradIdeal
    ∧ algebraic_PbGradIdeal_PbGradRefIdeal (hPbGradIdeal := hPbGradIdeal) (hPbGradRefIdeal := hPbGradRefIdeal)
    ∧ preserves_UqGrad_UqGradIdeal
    ∧ algebraic_UqGradIdeal_UqGradRefIdeal (hUqGradIdeal := hUqGradIdeal) (hUqGradRefIdeal := hUqGradRefIdeal)
    ∧ preserves_KvGrad_KvGradIdeal
    ∧ algebraic_KvGradIdeal_KvGradRefIdeal (hKvGradIdeal := hKvGradIdeal) (hKvGradRefIdeal := hKvGradRefIdeal)
    ∧ preserves_InGrad_InGradIdeal
    ∧ algebraic_InGradIdeal_InGradRefIdeal (hInGradIdeal := hInGradIdeal) (hInGradRefIdeal := hInGradRefIdeal)
    ∧ preserves_InFwd_InFwdIdeal
    ∧ algebraic_InFwdIdeal_InFwdRefIdeal (hInFwdIdeal := hInFwdIdeal) (hInFwdRefIdeal := hInFwdRefIdeal)
    ∧ preserves_InBwd_InBwdIdeal
    ∧ algebraic_InBwdIdeal_InBwdRefIdeal_pre_in_finite (hInBwdIdeal := hInBwdIdeal) (hInBwdRefIdeal := hInBwdRefIdeal) (hPre_in_finite := hPre_in_finite)
    ∧ preserves_QkvFwd_QkvFwdIdeal
    ∧ algebraic_QkvFwdIdeal_QkvFwdRefIdeal (hQkvFwdIdeal := hQkvFwdIdeal) (hQkvFwdRefIdeal := hQkvFwdRefIdeal)
-- ==== Pre_ffn_finite.lean ====
abbrev S4352x1024 : Shape := ⟨2, ![4352, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S4352x1024 : S_.BroadcastsInDim S4352x1024 (![] : Fin 0 → Fin S4352x1024.rank)
  reducesTo_S4352x1024_S_d0_1 : S4352x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .f32) (main_arg5 : FVec F S4352x1024 .f32) (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  let main_v19 : FVec F S2816x1024 .f32 := Host.absf main_arg4
  let main_cst_6 : FVec F S_ .f32 := constant S_ .f32 0x7F800000#32
  let main_v20 : FVec F S2816x1024 .f32 := broadcastInDim S2816x1024 ![] bcast_S_S2816x1024 main_cst_6
  let main_v21 : IVec S2816x1024 1 := cmpf .olt main_v19 main_v20
  let main_c_7 : IVec S_ 1 := constantI S_ 1 1#1
  let main_v22 : IVec S_ 1 := (fun x v => Host.reduce IntOp.andi x v reducesTo_S2816x1024_S_d0_1 h_S_) main_v21 main_c_7
  let main_v23 : IVec S_ 1 := andi main_v18 main_v22
  let main_v24 : FVec F S4352x1024 .f32 := Host.absf main_arg5
  let main_cst_8 : FVec F S_ .f32 := constant S_ .f32 0x7F800000#32
  let main_v25 : FVec F S4352x1024 .f32 := broadcastInDim S4352x1024 ![] bcast_S_S4352x1024 main_cst_8
  let main_v26 : IVec S4352x1024 1 := cmpf .olt main_v24 main_v25
  let main_c_9 : IVec S_ 1 := constantI S_ 1 1#1
  let main_v27 : IVec S_ 1 := (fun x v => Host.reduce IntOp.andi x v reducesTo_S4352x1024_S_d0_1 h_S_) main_v26 main_c_9
  let main_v28 : IVec S_ 1 := andi main_v23 main_v27
  main_v28

def fn {F : FTy → Type} [FloatOps F] (main_arg0 : FVec F S4352x1024 .f32) (main_arg1 : FVec F S1024 .f32) (main_arg2 : FVec F S1024x2816 .f32) (main_arg3 : FVec F S1024x2816 .f32) (main_arg4 : FVec F S2816x1024 .f32) (main_arg5 : FVec F S4352x1024 .f32) : IVec S_ 1 :=
  let main_v0 : FVec F S4352x1024 .f32 := Host.absf main_arg0
  let main_cst : FVec F S_ .f32 := constant S_ .f32 0x7F800000#32
  let main_v1 : FVec F S4352x1024 .f32 := broadcastInDim S4352x1024 ![] bcast_S_S4352x1024 main_cst
  let main_v2 : IVec S4352x1024 1 := cmpf .olt main_v0 main_v1
  let main_c : IVec S_ 1 := constantI S_ 1 1#1
  let main_v3 : IVec S_ 1 := (fun x v => Host.reduce IntOp.andi x v reducesTo_S4352x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x2816 .f32 := Host.absf main_arg2
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S1024x2816 .f32 := Host.absf main_arg3
  let main_cst_4 : FVec F S_ .f32 := constant S_ .f32 0x7F800000#32
  let main_v15 : FVec F S1024x2816 .f32 := broadcastInDim S1024x2816 ![] bcast_S_S1024x2816 main_cst_4
  let main_v16 : IVec S1024x2816 1 := cmpf .olt main_v14 main_v15
  fn_part1 (F := F) main_arg4 main_arg5 main_v13 main_v16
-- ==== Pre_in_finite.lean ====
abbrev S4352x1024 : Shape := ⟨2, ![4352, 1024]⟩
abbrev S4352x512 : Shape := ⟨2, ![4352, 512]⟩
abbrev S4352x256 : Shape := ⟨2, ![4352, 256]⟩
abbrev S4352x128 : Shape := ⟨2, ![4352, 128]⟩
abbrev S4352x32 : Shape := ⟨2, ![4352, 32]⟩
abbrev S1024 : Shape := ⟨1, ![1024]⟩
abbrev S1024x2976 : Shape := ⟨2, ![1024, 2976]⟩
abbrev S_ : Shape := ⟨0, ![]⟩

class Facts : Prop where
  bcast_S_S4352x1024 : S_.BroadcastsInDim S4352x1024 (![] : Fin 0 → Fin S4352x1024.rank)
  reducesTo_S4352x1024_S_d0_1 : S4352x1024.ReducesTo [0, 1] S_
  h_S_ : 0 < S_.numel
  bitsLt_bf16_f32 : FTy.bits .bf16 < FTy.bits .f32
  bcast_S_S4352x512 : S_.BroadcastsInDim S4352x512 (![] : Fin 0 → Fin S4352x512.rank)
  reducesTo_S4352x512_S_d0_1 : S4352x512.ReducesTo [0, 1] S_
  bcast_S_S4352x256 : S_.BroadcastsInDim S4352x256 (![] : Fin 0 → Fin S4352x256.rank)
  reducesTo_S4352x256_S_d0_1 : S4352x256.ReducesTo [0, 1] S_
  bcast_S_S4352x128 : S_.BroadcastsInDim S4352x128 (![] : Fin 0 → Fin S4352x128.rank)
  reducesTo_S4352x128_S_d0_1 : S4352x128.ReducesTo [0, 1] S_
  bcast_S_S4352x32 : S_.BroadcastsInDim S4352x32 (![] : Fin 0 → Fin S4352x32.rank)
  reducesTo_S4352x32_S_d0_1 : S4352x32.ReducesTo [0, 1] S_
  bcast_S_S1024 : S_.BroadcastsInDim S1024 (![] : Fin 0 → Fin S1024.rank)
  reducesTo_S1024_S_d0 : S1024.ReducesTo [0] S_
  bcast_S_S1024x2976 : S_.BroadcastsInDim S1024x2976 (![] : Fin 0 → Fin S1024x2976.rank)
  reducesTo_S1024x2976_S_d0_1 : S1024x2976.ReducesTo [0, 1] S_

variable [Facts]

def fn_part3 {F : FTy → Type} [FloatOps F] (main_v49 : IVec S_ 1) (main_v52 : IVec S1024x2976 1) : IVec S_ 1 :=
  let main_c_17 : IVec S_ 1 := constantI S_ 1 1#1
  let main_v53 : IVec S_ 1 := (fun x v => Host.reduce IntOp.andi x v reducesTo_S1024x2976_S_d0_1 h_S_) main_v52 main_c_17
  let main_v54 : IVec S_ 1 := andi main_v49 main_v53
  main_v54

def fn_part2 {F : FTy → Type} [FloatOps F] (main_arg7 : FVec F S4352x1024 .bf16) (main_arg8 : FVec F S1024 .f32) (main_arg9 : FVec F S1024x2976 .f32) (main_v32 : IVec S_ 1) (main_v34 : FVec F S4352x1024 .f32) (main_cst_10 : FVec F S_ .f32) : IVec S_ 1 :=
  let main_v35 : FVec F S4352x1024 .f32 := broadcastInDim S4352x1024 ![] bcast_S_S4352x1024 main_cst_10
  let main_v36 : IVec S4352x1024 1 := cmpf .olt main_v34 main_v35
  let main_c_11 : IVec S_ 1 := constantI S_ 1 1#1
  let main_v37 : IVec S_ 1 := (fun x v => Host.reduce IntOp.andi x v reducesTo_S4352x1024_S_d0_1 h_S_) main_v36 main_c_11
  let main_v38 : IVec S_ 1 := andi main_v32 main_v37
  let main_v39 : FVec F S4352x1024 .f32 := (extf .f32 · bitsLt_bf16_f32) main_arg7
  let main_v40 : FVec F S4352x1024 .f32 := Host.absf main_v39
  let main_cst_12 : FVec F S_ .f32 := constant S_ .f32 0x7F800000#32
  let main_v41 : FVec F S4352x1024 .f32 := broadcastInDim S4352x1024 ![] bcast_S_S4352x1024 main_cst_12
  let main_v42 : IVec S4352x1024 1 := cmpf .olt main_v40 main_v41
  let main_c_13 : IVec S_ 1 := constantI S_ 1 1#1
  let main_v43 : IVec S_ 1 := (fun x v => Host.reduce IntOp.andi x v reducesTo_S4352x1024_S_d0_1 h_S_) main_v42 main_c_13
  let main_v44 : IVec S_ 1 := andi main_v38 main_v43
  let main_v45 : FVec F S1024 .f32 := Host.absf main_arg8
  let main_cst_14 : FVec F S_ .f32 := constant S_ .f32 0x7F800000#32
  let main_v46 : FVec F S1024 .f32 := broadcastInDim S1024 ![] bcast_S_S1024 main_cst_14
  let main_v47 : IVec S1024 1 := cmpf .olt main_v45 main_v46
  let main_c_15 : IVec S_ 1 := constantI S_ 1 1#1
  let main_v48 : IVec S_ 1 := (fun x v => Host.reduce IntOp.andi x v reducesTo_S1024_S_d0 h_S_) main_v47 main_c_15
  let main_v49 : IVec S_ 1 := andi main_v44 main_v48
  let main_v50 : FVec F S1024x2976 .f32 := Host.absf main_arg9
  let main_cst_16 : FVec F S_ .f32 := constant S_ .f32 0x7F800000#32
  let main_v51 : FVec F S1024x2976 .f32 := broadcastInDim S1024x2976 ![] bcast_S_S1024x2976 main_cst_16
  let main_v52 : IVec S1024x2976 1 := cmpf .olt main_v50 main_v51
  fn_part3 (F := F) main_v49 main_v52

def fn_part1 {F : FTy → Type} [FloatOps F] (main_arg4 : FVec F S4352x128 .bf16) (main_arg5 : FVec F S4352x32 .bf16) (main_arg6 : FVec F S4352x1024 .bf16) (main_arg7 : FVec F S4352x1024 .bf16) (main_arg8 : FVec F S1024 .f32) (main_arg9 : FVec F S1024x2976 .f32) (main_v14 : IVec S_ 1) (main_v16 : FVec F S4352x256 .f32) (main_cst_4 : FVec F S_ .f32) : IVec S_ 1 :=
  let main_v17 : FVec F S4352x256 .f32 := broadcastInDim S4352x256 ![] bcast_S_S4352x256 main_cst_4
  let main_v18 : IVec S4352x256 1 := cmpf .olt main_v16 main_v17
  let main_c_5 : IVec S_ 1 := constantI S_ 1 1#1
  let main_v19 : IVec S_ 1 := (fun x v => Host.reduce IntOp.andi x v reducesTo_S4352x256_S_d0_1 h_S_) main_v18 main_c_5
  let main_v20 : IVec S_ 1 := andi main_v14 main_v19
  let main_v21 : FVec F S4352x128 .f32 := (extf .f32 · bitsLt_bf16_f32) main_arg4
  let main_v22 : FVec F S4352x128 .f32 := Host.absf main_v21
  let main_cst_6 : FVec F S_ .f32 := constant S_ .f32 0x7F800000#32
  let main_v23 : FVec F S4352x128 .f32 := broadcastInDim S4352x128 ![] bcast_S_S4352x128 main_cst_6
  let main_v24 : IVec S4352x128 1 := cmpf .olt main_v22 main_v23
  let main_c_7 : IVec S_ 1 := constantI S_ 1 1#1
  let main_v25 : IVec S_ 1 := (fun x v => Host.reduce IntOp.andi x v reducesTo_S4352x128_S_d0_1 h_S_) main_v24 main_c_7
  let main_v26 : IVec S_ 1 := andi main_v20 main_v25
  let main_v27 : FVec F S4352x32 .f32 := (extf .f32 · bitsLt_bf16_f32) main_arg5
  let main_v28 : FVec F S4352x32 .f32 := Host.absf main_v27
  let main_cst_8 : FVec F S_ .f32 := constant S_ .f32 0x7F800000#32
  let main_v29 : FVec F S4352x32 .f32 := broadcastInDim S4352x32 ![] bcast_S_S4352x32 main_cst_8
  let main_v30 : IVec S4352x32 1 := cmpf .olt main_v28 main_v29
  let main_c_9 : IVec S_ 1 := constantI S_ 1 1#1
  let main_v31 : IVec S_ 1 := (fun x v => Host.reduce IntOp.andi x v reducesTo_S4352x32_S_d0_1 h_S_) main_v30 main_c_9
  let main_v32 : IVec S_ 1 := andi main_v26 main_v31
  let main_v33 : FVec F S4352x1024 .f32 := (extf .f32 · bitsLt_bf16_f32) main_arg6
  let main_v34 : FVec F S4352x1024 .f32 := Host.absf main_v33
  let main_cst_10 : FVec F S_ .f32 := constant S_ .f32 0x7F800000#32
  fn_part2 (F := F) main_arg7 main_arg8 main_arg9 main_v32 main_v34 main_cst_10

def fn {F : FTy → Type} [FloatOps F] (main_arg0 : FVec F S4352x1024 .f32) (main_arg1 : FVec F S4352x1024 .f32) (main_arg2 : FVec F S4352x512 .bf16) (main_arg3 : FVec F S4352x256 .bf16) (main_arg4 : FVec F S4352x128 .bf16) (main_arg5 : FVec F S4352x32 .bf16) (main_arg6 : FVec F S4352x1024 .bf16) (main_arg7 : FVec F S4352x1024 .bf16) (main_arg8 : FVec F S1024 .f32) (main_arg9 : FVec F S1024x2976 .f32) : IVec S_ 1 :=
  let main_v0 : FVec F S4352x1024 .f32 := Host.absf main_arg0
  let main_cst : FVec F S_ .f32 := constant S_ .f32 0x7F800000#32
  let main_v1 : FVec F S4352x1024 .f32 := broadcastInDim S4352x1024 ![] bcast_S_S4352x1024 main_cst
  let main_v2 : IVec S4352x1024 1 := cmpf .olt main_v0 main_v1
  let main_c : IVec S_ 1 := constantI S_ 1 1#1
  let main_v3 : IVec S_ 1 := (fun x v => Host.reduce IntOp.andi x v reducesTo_S4352x1024_S_d0_1 h_S_) main_v2 main_c
  let main_v4 : FVec F S4352x1024 .f32 := Host.absf main_arg1
  let main_cst_0 : FVec F S_ .f32 := constant S_ .f32 0x7F800000#32
  let main_v5 : FVec F S4352x1024 .f32 := broadcastInDim S4352x1024 ![] bcast_S_S4352x1024 main_cst_0
  let main_v6 : IVec S4352x1024 1 := cmpf .olt main_v4 main_v5
  let main_c_1 : IVec S_ 1 := constantI S_ 1 1#1
  let main_v7 : IVec S_ 1 := (fun x v => Host.reduce IntOp.andi x v reducesTo_S4352x1024_S_d0_1 h_S_) main_v6 main_c_1
  let main_v8 : IVec S_ 1 := andi main_v3 main_v7
  let main_v9 : FVec F S4352x512 .f32 := (extf .f32 · bitsLt_bf16_f32) main_arg2
  let main_v10 : FVec F S4352x512 .f32 := Host.absf main_v9
  let main_cst_2 : FVec F S_ .f32 := constant S_ .f32 0x7F800000#32
  let main_v11 : FVec F S4352x512 .f32 := broadcastInDim S4352x512 ![] bcast_S_S4352x512 main_cst_2
  let main_v12 : IVec S4352x512 1 := cmpf .olt main_v10 main_v11
  let main_c_3 : IVec S_ 1 := constantI S_ 1 1#1
  let main_v13 : IVec S_ 1 := (fun x v => Host.reduce IntOp.andi x v reducesTo_S4352x512_S_d0_1 h_S_) main_v12 main_c_3
  let main_v14 : IVec S_ 1 := andi main_v8 main_v13
  let main_v15 : FVec F S4352x256 .f32 := (extf .f32 · bitsLt_bf16_f32) main_arg3
  let main_v16 : FVec F S4352x256 .f32 := Host.absf main_v15
  let main_cst_4 : FVec F S_ .f32 := constant S_ .f32 0x7F800000#32
  fn_part1 (F := F) main_arg4 main_arg5 main_arg6 main_arg7 main_arg8 main_arg9 main_v14 main_v16 main_cst_4
-- ==== FfnBwd.lean ====
abbrev S4352x1024 : Shape := ⟨2, ![4352, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4352 : Shape := ⟨1, ![4352]⟩
abbrev S4352x1 : Shape := ⟨2, ![4352, 1]⟩
abbrev S1x1024 : Shape := ⟨2, ![1, 1024]⟩
abbrev S4352x2816 : Shape := ⟨2, ![4352, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩

abbrev nBuf : Space → Nat
  | .hbm => 38
  | .vmem => 23
  | .smem => 0
  | _ => 0

abbrev bufTy : (tb : Table) → Fin (tcTables nBuf tb) → BufTy
  | .hbm, ⟨0, _⟩ => ⟨S4352x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4352x1024, .f32⟩
  | .hbm, ⟨6, _⟩ => ⟨S4352x1024, .f32⟩
  | .hbm, ⟨7, _⟩ => ⟨S_, .f32⟩
  | .hbm, ⟨8, _⟩ => ⟨S4352, .f32⟩
  | .hbm, ⟨9, _⟩ => ⟨S4352x1, .f32⟩
  | .hbm, ⟨10, _⟩ => ⟨S_, .f32⟩
  | .hbm, ⟨11, _⟩ => ⟨S4352x1, .f32⟩
  | .hbm, ⟨12, _⟩ => ⟨S4352x1, .f32⟩
  | .hbm, ⟨13, _⟩ => ⟨S_, .f32⟩
  | .hbm, ⟨14, _⟩ => ⟨S4352x1, .f32⟩
  | .hbm, ⟨15, _⟩ => ⟨S4352x1, .f32⟩
  | .hbm, ⟨16, _⟩ => ⟨S4352x1, .f32⟩
  | .hbm, ⟨17, _⟩ => ⟨S4352x1024, .f32⟩
  | .hbm, ⟨18, _⟩ => ⟨S4352x1024, .f32⟩
  | .hbm, ⟨19, _⟩ => ⟨S1x1024, .f32⟩
  | .hbm, ⟨20, _⟩ => ⟨S4352x1024, .f32⟩
  | .hbm, ⟨21, _⟩ => ⟨S4352x1024, .f32⟩
  | .hbm, ⟨22, _⟩ => ⟨S4352x2816, .f32⟩
  | .hbm, ⟨23, _⟩ => ⟨S4352x2816, .bf16⟩
  | .hbm, ⟨24, _⟩ => ⟨S4352x2816, .f32⟩
  | .hbm, ⟨25, _⟩ => ⟨S4352x2816, .bf16⟩
  | .hbm, ⟨26, _⟩ => ⟨S1x1024, .f32⟩
  | .hbm, ⟨27, _⟩ => ⟨S2816x1024, .f32⟩
  | .hbm, ⟨28, _⟩ => ⟨S2816x1024, .bf16⟩
  | .hbm, ⟨29, _⟩ => ⟨S2816x1024, .f32⟩
  | .hbm, ⟨30, _⟩ => ⟨S2816x1024, .bf16⟩
  | .hbm, ⟨31, _⟩ => ⟨S2816x1024, .bf16⟩
  | .hbm, ⟨32, _⟩ => ⟨S4352x1024, .f32⟩
  | .hbm, ⟨33, _⟩ => ⟨S4352x1024, .bf16⟩
  | .hbm, ⟨34, _⟩ => ⟨S4352x2816, .bf16⟩
  | .hbm, ⟨35, _⟩ => ⟨S4352x2816, .bf16⟩
  | .hbm, ⟨36, _⟩ => ⟨S4352x2816, .bf16⟩
  | .hbm, ⟨37, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S1x1024, .f32⟩
  | .local _ .vmem, ⟨9, _⟩ => ⟨S2816x1024, .bf16⟩
  | .local _ .vmem, ⟨10, _⟩ => ⟨S2816x1024, .bf16⟩
  | .local _ .vmem, ⟨11, _⟩ => ⟨S2816x1024, .bf16⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | .local _ .vmem, ⟨16, _⟩ => ⟨S256x2816, .bf16⟩
  | .local _ .vmem, ⟨17, _⟩ => ⟨S256x2816, .bf16⟩
  | .local _ .vmem, ⟨18, _⟩ => ⟨S256x2816, .bf16⟩
  | .local _ .vmem, ⟨19, _⟩ => ⟨S256x2816, .bf16⟩
  | .local _ .vmem, ⟨20, _⟩ => ⟨S256x2816, .bf16⟩
  | .local _ .vmem, ⟨21, _⟩ => ⟨S256x2816, .bf16⟩
  | .local _ .vmem, ⟨22, _⟩ => ⟨S1x1024, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23_0 : Ref sig .tc := ⟨.hbm, 32, rfl⟩
abbrev main_v23_1 : Ref sig .tc := ⟨.hbm, 33, rfl⟩
abbrev main_v23_2 : Ref sig .tc := ⟨.hbm, 34, rfl⟩
abbrev main_v23_3 : Ref sig .tc := ⟨.hbm, 35, rfl⟩
abbrev main_v23_4 : Ref sig .tc := ⟨.hbm, 36, rfl⟩
abbrev main_v23_5 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== FfnRefIdeal.lean ====
abbrev S4352x1024 : Shape := ⟨2, ![4352, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4352 : Shape := ⟨1, ![4352]⟩
abbrev S4352x1 : Shape := ⟨2, ![4352, 1]⟩
abbrev S1x1024 : Shape := ⟨2, ![1, 1024]⟩
abbrev S4352x2816 : Shape := ⟨2, ![4352, 2816]⟩

abbrev nBuf : Space → Nat
  | .hbm => 126
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4352x1024, .f32⟩
  | .hbm, ⟨6, _⟩ => ⟨S4352x1024, .f32⟩
  | .hbm, ⟨7, _⟩ => ⟨S_, .f32⟩
  | .hbm, ⟨8, _⟩ => ⟨S4352, .f32⟩
  | .hbm, ⟨9, _⟩ => ⟨S4352x1, .f32⟩
  | .hbm, ⟨10, _⟩ => ⟨S_, .f32⟩
  | .hbm, ⟨11, _⟩ => ⟨S4352x1, .f32⟩
  | .hbm, ⟨12, _⟩ => ⟨S4352x1, .f32⟩
  | .hbm, ⟨13, _⟩ => ⟨S_, .f32⟩
  | .hbm, ⟨14, _⟩ => ⟨S4352x1, .f32⟩
  | .hbm, ⟨15, _⟩ => ⟨S4352x1, .f32⟩
  | .hbm, ⟨16, _⟩ => ⟨S4352x1, .f32⟩
  | .hbm, ⟨17, _⟩ => ⟨S4352x1, .f32⟩
  | .hbm, ⟨18, _⟩ => ⟨S_, .f32⟩
  | .hbm, ⟨19, _⟩ => ⟨S4352x1, .f32⟩
  | .hbm, ⟨20, _⟩ => ⟨S4352x1, .f32⟩
  | .hbm, ⟨21, _⟩ => ⟨S4352x1024, .f32⟩
  | .hbm, ⟨22, _⟩ => ⟨S4352x1024, .f32⟩
  | .hbm, ⟨23, _⟩ => ⟨S1x1024, .f32⟩
  | .hbm, ⟨24, _⟩ => ⟨S4352x1024, .f32⟩
  | .hbm, ⟨25, _⟩ => ⟨S4352x1024, .f32⟩
  | .hbm, ⟨26, _⟩ => ⟨S4352x2816, .f32⟩
  | .hbm, ⟨27, _⟩ => ⟨S4352x2816, .f32⟩
  | .hbm, ⟨28, _⟩ => ⟨S4352x2816, .f32⟩
  | .hbm, ⟨29, _⟩ => ⟨S_, .f32⟩
  | .hbm, ⟨30, _⟩ => ⟨S4352x2816, .f32⟩
  | .hbm, ⟨31, _⟩ => ⟨S4352x2816, .f32⟩
  | .hbm, ⟨32, _⟩ => ⟨S_, .f32⟩
  | .hbm, ⟨33, _⟩ => ⟨S4352x2816, .f32⟩
  | .hbm, ⟨34, _⟩ => ⟨S4352x2816, .f32⟩
  | .hbm, ⟨35, _⟩ => ⟨S_, .f32⟩
  | .hbm, ⟨36, _⟩ => ⟨S4352x2816, .f32⟩
  | .hbm, ⟨37, _⟩ => ⟨S4352x2816, .f32⟩
  | .hbm, ⟨38, _⟩ => ⟨S4352x2816, .f32⟩
  | .hbm, ⟨39, _⟩ => ⟨S4352x2816, .f32⟩
  | .hbm, ⟨40, _⟩ => ⟨S4352x2816, .f32⟩
  | .hbm, ⟨41, _⟩ => ⟨S4352x2816, .f32⟩
  | .hbm, ⟨42, _⟩ => ⟨S4352x1024, .f32⟩
  | .hbm, ⟨43, _⟩ => ⟨S4352x1024, .f32⟩
  | .hbm, ⟨44, _⟩ => ⟨S4352x1024, .f32⟩
  | .hbm, ⟨45, _⟩ => ⟨S4352x2816, .f32⟩
  | .hbm, ⟨46, _⟩ => ⟨S4352x2816, .f32⟩
  | .hbm, ⟨47, _⟩ => ⟨S4352x2816, .f32⟩
  | .hbm, ⟨48, _⟩ => ⟨S4352x1024, .f32⟩
  | .hbm, ⟨49, _⟩ => ⟨S4352x2816, .f32⟩
  | .hbm, ⟨50, _⟩ => ⟨S4352x2816, .f32⟩
  | .hbm, ⟨51, _⟩ => ⟨S4352x2816, .f32⟩
  | .hbm, ⟨52, _⟩ => ⟨S4352x2816, .f32⟩
  | .hbm, ⟨53, _⟩ => ⟨S4352x1024, .f32⟩
  | .hbm, ⟨54, _⟩ => ⟨S4352x1024, .f32⟩
  | .hbm, ⟨55, _⟩ => ⟨S4352x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S4352x1024, .f32⟩
  | .hbm, ⟨60, _⟩ => ⟨S4352x1024, .f32⟩
  | .hbm, ⟨61, _⟩ => ⟨S_, .f32⟩
  | .hbm, ⟨62, _⟩ => ⟨S1024, .f32⟩
  | .hbm, ⟨63, _⟩ => ⟨S4352x1024, .f32⟩
  | .hbm, ⟨64, _⟩ => ⟨S_, .f32⟩
  | .hbm, ⟨65, _⟩ => ⟨S4352, .f32⟩
  | .hbm, ⟨66, _⟩ => ⟨S4352x1, .f32⟩
  | .hbm, ⟨67, _⟩ => ⟨S4352x1024, .f32⟩
  | .hbm, ⟨68, _⟩ => ⟨S4352x1024, .f32⟩
  | .hbm, ⟨69, _⟩ => ⟨S4352x1024, .f32⟩
  | .hbm, ⟨70, _⟩ => ⟨S4352x1, .f32⟩
  | .hbm, ⟨71, _⟩ => ⟨S_, .f32⟩
  | .hbm, ⟨72, _⟩ => ⟨S4352x1, .f32⟩
  | .hbm, ⟨73, _⟩ => ⟨S4352x1, .f32⟩
  | .hbm, ⟨74, _⟩ => ⟨S_, .f32⟩
  | .hbm, ⟨75, _⟩ => ⟨S4352, .f32⟩
  | .hbm, ⟨76, _⟩ => ⟨S4352x1024, .f32⟩
  | .hbm, ⟨77, _⟩ => ⟨S4352x1024, .f32⟩
  | .hbm, ⟨78, _⟩ => ⟨S4352x1024, .f32⟩
  | .hbm, ⟨79, _⟩ => ⟨S4352x1024, .f32⟩
  | .hbm, ⟨80, _⟩ => ⟨S4352x1024, .f32⟩
  | .hbm, ⟨81, _⟩ => ⟨S4352x1024, .f32⟩
  | .hbm, ⟨82, _⟩ => ⟨S_, .f32⟩
  | .hbm, ⟨83, _⟩ => ⟨S4352, .f32⟩
  | .hbm, ⟨84, _⟩ => ⟨S4352x1, .f32⟩
  | .hbm, ⟨85, _⟩ => ⟨S_, .f32⟩
  | .hbm, ⟨86, _⟩ => ⟨S4352x1, .f32⟩
  | .hbm, ⟨87, _⟩ => ⟨S4352x1, .f32⟩
  | .hbm, ⟨88, _⟩ => ⟨S_, .f32⟩
  | .hbm, ⟨89, _⟩ => ⟨S4352x1, .f32⟩
  | .hbm, ⟨90, _⟩ => ⟨S4352x1, .f32⟩
  | .hbm, ⟨91, _⟩ => ⟨S4352x1, .f32⟩
  | .hbm, ⟨92, _⟩ => ⟨S4352x1024, .f32⟩
  | .hbm, ⟨93, _⟩ => ⟨S4352x1024, .f32⟩
  | .hbm, ⟨94, _⟩ => ⟨S1x1024, .f32⟩
  | .hbm, ⟨95, _⟩ => ⟨S4352x1024, .f32⟩
  | .hbm, ⟨96, _⟩ => ⟨S4352x1024, .f32⟩
  | .hbm, ⟨97, _⟩ => ⟨S4352x2816, .f32⟩
  | .hbm, ⟨98, _⟩ => ⟨S4352x2816, .f32⟩
  | .hbm, ⟨99, _⟩ => ⟨S4352x2816, .f32⟩
  | .hbm, ⟨100, _⟩ => ⟨S4352x2816, .f32⟩
  | .hbm, ⟨101, _⟩ => ⟨S_, .f32⟩
  | .hbm, ⟨102, _⟩ => ⟨S4352x2816, .f32⟩
  | .hbm, ⟨103, _⟩ => ⟨S4352x2816, .f32⟩
  | .hbm, ⟨104, _⟩ => ⟨S_, .f32⟩
  | .hbm, ⟨105, _⟩ => ⟨S4352x2816, .f32⟩
  | .hbm, ⟨106, _⟩ => ⟨S4352x2816, .f32⟩
  | .hbm, ⟨107, _⟩ => ⟨S_, .f32⟩
  | .hbm, ⟨108, _⟩ => ⟨S4352x2816, .f32⟩
  | .hbm, ⟨109, _⟩ => ⟨S4352x2816, .f32⟩
  | .hbm, ⟨110, _⟩ => ⟨S4352x2816, .f32⟩
  | .hbm, ⟨111, _⟩ => ⟨S4352x2816, .f32⟩
  | .hbm, ⟨112, _⟩ => ⟨S4352x2816, .f32⟩
  | .hbm, ⟨113, _⟩ => ⟨S1024x2816, .f32⟩
  | .hbm, ⟨114, _⟩ => ⟨S4352x2816, .f32⟩
  | .hbm, ⟨115, _⟩ => ⟨S4352x2816, .f32⟩
  | .hbm, ⟨116, _⟩ => ⟨S4352x2816, .f32⟩
  | .hbm, ⟨117, _⟩ => ⟨S4352x2816, .f32⟩
  | .hbm, ⟨118, _⟩ => ⟨S4352x2816, .f32⟩
  | .hbm, ⟨119, _⟩ => ⟨S4352x2816, .f32⟩
  | .hbm, ⟨120, _⟩ => ⟨S4352x2816, .f32⟩
  | .hbm, ⟨121, _⟩ => ⟨S4352x1024, .bf16⟩
  | .hbm, ⟨122, _⟩ => ⟨S4352x2816, .bf16⟩
  | .hbm, ⟨123, _⟩ => ⟨S4352x2816, .bf16⟩
  | .hbm, ⟨124, _⟩ => ⟨S4352x2816, .bf16⟩
  | .hbm, ⟨125, _⟩ => ⟨S1x1024, .f32⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v17_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v17_1 : Ref sig .tc := ⟨.hbm, 38, rfl⟩
abbrev main_v17_0 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_3 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_4 : Ref sig .tc := ⟨.hbm, 61, rfl⟩
abbrev main_v35 : Ref sig .tc := ⟨.hbm, 62, rfl⟩
abbrev main_v36 : Ref sig .tc := ⟨.hbm, 63, rfl⟩
abbrev main_cst_5 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_6 : Ref sig .tc := ⟨.hbm, 71, rfl⟩
abbrev main_v43 : Ref sig .tc := ⟨.hbm, 72, rfl⟩
abbrev main_v44 : Ref sig .tc := ⟨.hbm, 73, rfl⟩
abbrev main_cst_7 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_8 : Ref sig .tc := ⟨.hbm, 82, rfl⟩
abbrev main_v52 : Ref sig .tc := ⟨.hbm, 83, rfl⟩
abbrev main_v53 : Ref sig .tc := ⟨.hbm, 84, rfl⟩
abbrev main_cst_9 : Ref sig .tc := ⟨.hbm, 85, rfl⟩
abbrev main_v54 : Ref sig .tc := ⟨.hbm, 86, rfl⟩
abbrev main_v55 : Ref sig .tc := ⟨.hbm, 87, rfl⟩
abbrev main_cst_10 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_call2_v0 : Ref sig .tc := ⟨.hbm, 99, rfl⟩
abbrev main_call2_v1 : Ref sig .tc := ⟨.hbm, 100, rfl⟩
abbrev main_call2_cst : Ref sig .tc := ⟨.hbm, 101, rfl⟩
abbrev main_call2_v2 : Ref sig .tc := ⟨.hbm, 102, rfl⟩
abbrev main_call2_v3 : Ref sig .tc := ⟨.hbm, 103, rfl⟩
abbrev main_call2_cst_0 : Ref sig .tc := ⟨.hbm, 104, rfl⟩
abbrev main_call2_v4 : Ref sig .tc := ⟨.hbm, 105, rfl⟩
abbrev main_v66_2 : Ref sig .tc := ⟨.hbm, 106, rfl⟩
abbrev main_call2_cst_1 : Ref sig .tc := ⟨.hbm, 107, rfl⟩
abbrev main_call2_v6 : Ref sig .tc := ⟨.hbm, 108, rfl⟩
abbrev main_call2_v7 : Ref sig .tc := ⟨.hbm, 109, rfl⟩
abbrev main_v66_1 : Ref sig .tc := ⟨.hbm, 110, rfl⟩
abbrev main_v66_0 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_call3_v0 : Ref sig .tc := ⟨.hbm, 117, rfl⟩
abbrev main_call3_v1 : Ref sig .tc := ⟨.hbm, 118, rfl⟩
abbrev main_call3_v2 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩

abbrev nD : Nat := 1
abbrev τ : Topo := Topo.v7x

variable {F : FTy → Type} [FloatOps F]
-- ==== FfnFwd.lean ====
abbrev S4352x1024 : Shape := ⟨2, ![4352, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S4352x2816 : Shape := ⟨2, ![4352, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩

abbrev nBuf : Space → Nat
  | .hbm => 14
  | .vmem => 12
  | .smem => 0
  | _ => 0

abbrev bufTy : (tb : Table) → Fin (tcTables nBuf tb) → BufTy
  | .hbm, ⟨0, _⟩ => ⟨S4352x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S2816x1024, .f32⟩
  | .hbm, ⟨7, _⟩ => ⟨S2816x1024, .bf16⟩
  | .hbm, ⟨8, _⟩ => ⟨S2816x1024, .f32⟩
  | .hbm, ⟨9, _⟩ => ⟨S2816x1024, .bf16⟩
  | .hbm, ⟨10, _⟩ => ⟨S2816x1024, .bf16⟩
  | .hbm, ⟨11, _⟩ => ⟨S4352x1024, .f32⟩
  | .hbm, ⟨12, _⟩ => ⟨S4352x2816, .bf16⟩
  | .hbm, ⟨13, _⟩ => ⟨S4352x2816, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S2816x1024, .bf16⟩
  | .local _ .vmem, ⟨6, _⟩ => ⟨S256x1024, .f32⟩
  | .local _ .vmem, ⟨7, _⟩ => ⟨S256x1024, .f32⟩
  | .local _ .vmem, ⟨8, _⟩ => ⟨S256x2816, .bf16⟩
  | .local _ .vmem, ⟨9, _⟩ => ⟨S256x2816, .bf16⟩
  | .local _ .vmem, ⟨10, _⟩ => ⟨S256x2816, .bf16⟩
  | .local _ .vmem, ⟨11, _⟩ => ⟨S256x2816, .bf16⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnFwdRefIdeal.lean ====
abbrev S4352x1024 : Shape := ⟨2, ![4352, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4352 : Shape := ⟨1, ![4352]⟩
abbrev S4352x1 : Shape := ⟨2, ![4352, 1]⟩
abbrev S1x1024 : Shape := ⟨2, ![1, 1024]⟩
abbrev S4352x2816 : Shape := ⟨2, ![4352, 2816]⟩

abbrev nBuf : Space → Nat
  | .hbm => 55
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4352x1024, .f32⟩
  | .hbm, ⟨6, _⟩ => ⟨S_, .f32⟩
  | .hbm, ⟨7, _⟩ => ⟨S4352, .f32⟩
  | .hbm, ⟨8, _⟩ => ⟨S4352x1, .f32⟩
  | .hbm, ⟨9, _⟩ => ⟨S_, .f32⟩
  | .hbm, ⟨10, _⟩ => ⟨S4352x1, .f32⟩
  | .hbm, ⟨11, _⟩ => ⟨S4352x1, .f32⟩
  | .hbm, ⟨12, _⟩ => ⟨S_, .f32⟩
  | .hbm, ⟨13, _⟩ => ⟨S4352x1, .f32⟩
  | .hbm, ⟨14, _⟩ => ⟨S4352x1, .f32⟩
  | .hbm, ⟨15, _⟩ => ⟨S4352x1, .f32⟩
  | .hbm, ⟨16, _⟩ => ⟨S4352x1024, .f32⟩
  | .hbm, ⟨17, _⟩ => ⟨S4352x1024, .f32⟩
  | .hbm, ⟨18, _⟩ => ⟨S1x1024, .f32⟩
  | .hbm, ⟨19, _⟩ => ⟨S4352x1024, .f32⟩
  | .hbm, ⟨20, _⟩ => ⟨S4352x1024, .f32⟩
  | .hbm, ⟨21, _⟩ => ⟨S4352x1024, .f32⟩
  | .hbm, ⟨22, _⟩ => ⟨S_, .f32⟩
  | .hbm, ⟨23, _⟩ => ⟨S4352, .f32⟩
  | .hbm, ⟨24, _⟩ => ⟨S4352x1, .f32⟩
  | .hbm, ⟨25, _⟩ => ⟨S_, .f32⟩
  | .hbm, ⟨26, _⟩ => ⟨S4352x1, .f32⟩
  | .hbm, ⟨27, _⟩ => ⟨S4352x1, .f32⟩
  | .hbm, ⟨28, _⟩ => ⟨S_, .f32⟩
  | .hbm, ⟨29, _⟩ => ⟨S4352x1, .f32⟩
  | .hbm, ⟨30, _⟩ => ⟨S4352x1, .f32⟩
  | .hbm, ⟨31, _⟩ => ⟨S4352x1, .f32⟩
  | .hbm, ⟨32, _⟩ => ⟨S4352x1024, .f32⟩
  | .hbm, ⟨33, _⟩ => ⟨S4352x1024, .f32⟩
  | .hbm, ⟨34, _⟩ => ⟨S1x1024, .f32⟩
  | .hbm, ⟨35, _⟩ => ⟨S4352x1024, .f32⟩
  | .hbm, ⟨36, _⟩ => ⟨S4352x1024, .f32⟩
  | .hbm, ⟨37, _⟩ => ⟨S4352x2816, .f32⟩
  | .hbm, ⟨38, _⟩ => ⟨S4352x2816, .f32⟩
  | .hbm, ⟨39, _⟩ => ⟨S4352x2816, .f32⟩
  | .hbm, ⟨40, _⟩ => ⟨S_, .f32⟩
  | .hbm, ⟨41, _⟩ => ⟨S4352x2816, .f32⟩
  | .hbm, ⟨42, _⟩ => ⟨S4352x2816, .f32⟩
  | .hbm, ⟨43, _⟩ => ⟨S_, .f32⟩
  | .hbm, ⟨44, _⟩ => ⟨S4352x2816, .f32⟩
  | .hbm, ⟨45, _⟩ => ⟨S4352x2816, .f32⟩
  | .hbm, ⟨46, _⟩ => ⟨S4352x2816, .f32⟩
  | .hbm, ⟨47, _⟩ => ⟨S4352x2816, .f32⟩
  | .hbm, ⟨48, _⟩ => ⟨S4352x2816, .f32⟩
  | .hbm, ⟨49, _⟩ => ⟨S4352x1024, .f32⟩
  | .hbm, ⟨50, _⟩ => ⟨S4352x1024, .f32⟩
  | .hbm, ⟨51, _⟩ => ⟨S4352x2816, .f32⟩
  | .hbm, ⟨52, _⟩ => ⟨S4352x2816, .bf16⟩
  | .hbm, ⟨53, _⟩ => ⟨S4352x2816, .f32⟩
  | .hbm, ⟨54, _⟩ => ⟨S4352x2816, .bf16⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩

abbrev nD : Nat := 1
abbrev τ : Topo := Topo.v7x

variable {F : FTy → Type} [FloatOps F]
-- ==== MergeBwd.lean ====
abbrev S4352x3072 : Shape := ⟨2, ![4352, 3072]⟩
abbrev S4352x512 : Shape := ⟨2, ![4352, 512]⟩
abbrev S4352x1024 : Shape := ⟨2, ![4352, 1024]⟩
abbrev S512x1024 : Shape := ⟨2, ![512, 1024]⟩
abbrev S1024x1024 : Shape := ⟨2, ![1024, 1024]⟩
abbrev S16x64x1024 : Shape := ⟨3, ![16, 64, 1024]⟩
abbrev S_ : Shape := ⟨0, ![]⟩
abbrev S16x128x1024 : Shape := ⟨3, ![16, 128, 1024]⟩
abbrev S2048x1024 : Shape := ⟨2, ![2048, 1024]⟩
abbrev S4352x2048 : Shape := ⟨2, ![4352, 2048]⟩
abbrev S544x1024 : Shape := ⟨2, ![544, 1024]⟩
abbrev S544x512 : Shape := ⟨2, ![544, 512]⟩
abbrev S544x2048 : Shape := ⟨2, ![544, 2048]⟩

abbrev nBuf : Space → Nat
  | .hbm => 28
  | .vmem => 27
  | .smem => 0
  | _ => 0

abbrev bufTy : (tb : Table) → Fin (tcTables nBuf tb) → BufTy
  | .hbm, ⟨0, _⟩ => ⟨S4352x3072, .bf16⟩
  | .hbm, ⟨1, _⟩ => ⟨S4352x512, .bf16⟩
  | .hbm, ⟨2, _⟩ => ⟨S4352x1024, .bf16⟩
  | .hbm, ⟨3, _⟩ => ⟨S512x1024, .f32⟩
  | .hbm, ⟨4, _⟩ => ⟨S1024x1024, .f32⟩
  | .hbm, ⟨5, _⟩ => ⟨S1024x1024, .f32⟩
  | .hbm, ⟨6, _⟩ => ⟨S4352x1024, .f32⟩
  | .hbm, ⟨7, _⟩ => ⟨S4352x512, .f32⟩
  | .hbm, ⟨8, _⟩ => ⟨S4352x1024, .f32⟩
  | .hbm, ⟨9, _⟩ => ⟨S4352x1024, .bf16⟩
  | .hbm, ⟨10, _⟩ => ⟨S4352x1024, .f32⟩
  | .hbm, ⟨11, _⟩ => ⟨S4352x1024, .f32⟩
  | .hbm, ⟨12, _⟩ => ⟨S4352x1024, .bf16⟩
  | .hbm, ⟨13, _⟩ => ⟨S16x64x1024, .f32⟩
  | .hbm, ⟨14, _⟩ => ⟨S_, .i32⟩
  | .hbm, ⟨15, _⟩ => ⟨S_, .f32⟩
  | .hbm, ⟨16, _⟩ => ⟨S16x128x1024, .f32⟩
  | .hbm, ⟨17, _⟩ => ⟨S2048x1024, .f32⟩
  | .hbm, ⟨18, _⟩ => ⟨S1024x1024, .bf16⟩
  | .hbm, ⟨19, _⟩ => ⟨S512x1024, .bf16⟩
  | .hbm, ⟨20, _⟩ => ⟨S2048x1024, .bf16⟩
  | .hbm, ⟨21, _⟩ => ⟨S4352x1024, .bf16⟩
  | .hbm, ⟨22, _⟩ => ⟨S4352x1024, .bf16⟩
  | .hbm, ⟨23, _⟩ => ⟨S4352x1024, .bf16⟩
  | .hbm, ⟨24, _⟩ => ⟨S4352x1024, .bf16⟩
  | .hbm, ⟨25, _⟩ => ⟨S4352x1024, .bf16⟩
  | .hbm, ⟨26, _⟩ => ⟨S4352x512, .bf16⟩
  | .hbm, ⟨27, _⟩ => ⟨S4352x2048, .bf16⟩
  | .local _ .vmem, ⟨0, _⟩ => ⟨S544x1024, .f32⟩
  | .local _ .vmem, ⟨1, _⟩ => ⟨S544x1024, .f32⟩
  | .local _ .vmem, ⟨2, _⟩ => ⟨S544x1024, .bf16⟩
  | .local _ .vmem, ⟨3, _⟩ => ⟨S544x1024, .bf16⟩
  | .local _ .vmem, ⟨4, _⟩ => ⟨S544x1024, .bf16⟩
  | .local _ .vmem, ⟨5, _⟩ => ⟨S544x1024, .bf16⟩
  | .local _ .vmem, ⟨6, _⟩ => ⟨S544x1024, .bf16⟩
  | .local _ .vmem, ⟨7, _⟩ => ⟨S544x1024, .bf16⟩
  | .local _ .vmem, ⟨8, _⟩ => ⟨S544x1024, .bf16⟩
  | .local _ .vmem, ⟨9, _⟩ => ⟨S544x1024, .bf16⟩
  | .local _ .vmem, ⟨10, _⟩ => ⟨S1024x1024, .bf16⟩
  | .local _ .vmem, ⟨11, _⟩ => ⟨S512x1024, .bf16⟩
  | .local _ .vmem, ⟨12, _⟩ => ⟨S2048x1024, .bf16⟩
  | .local _ .vmem, ⟨13, _⟩ => ⟨S544x1024, .bf16⟩
  | .local _ .vmem, ⟨14, _⟩ => ⟨S544x1024, .bf16⟩
  | .local _ .vmem, ⟨15, _⟩ => ⟨S544x1024, .bf16⟩
  | .local _ .vmem, ⟨16, _⟩ => ⟨S544x1024, .bf16⟩
  | .local _ .vmem, ⟨17, _⟩ => ⟨S544x1024, .bf16⟩
  | .local _ .vmem, ⟨18, _⟩ => ⟨S544x1024, .bf16⟩
  | .local _ .vmem, ⟨19, _⟩ => ⟨S544x1024, .bf16⟩
  | .local _ .vmem, ⟨20, _⟩ => ⟨S544x1024, .bf16⟩
  | .local _ .vmem, ⟨21, _⟩ => ⟨S544x1024, .bf16⟩
  | .local _ .vmem, ⟨22, _⟩ => ⟨S544x1024, .bf16⟩
  | .local _ .vmem, ⟨23, _⟩ => ⟨S544x512, .bf16⟩
  | .local _ .vmem, ⟨24, _⟩ => ⟨S544x512, .bf16⟩
  | .local _ .vmem, ⟨25, _⟩ => ⟨S544x2048, .bf16⟩
  | .local _ .vmem, ⟨26, _⟩ => ⟨S544x2048, .bf16⟩
  | _, _ => ⟨S4352x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_call0_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v12_2 : Ref sig .tc := ⟨.hbm, 23, rfl⟩
abbrev main_v12_3 : Ref sig .tc := ⟨.hbm, 24, rfl⟩
abbrev main_v12_4 : Ref sig .tc := ⟨.hbm, 25, rfl⟩
abbrev main_v12_5 : Ref sig .tc := ⟨.hbm, 26, rfl⟩
abbrev main_v12_6 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S544x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S544x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S544x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S544x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S544x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S544x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S544x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S544x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S544x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S544x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S544x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MergeRefIdeal.lean ====
abbrev S4352x3072 : Shape := ⟨2, ![4352, 3072]⟩
abbrev S4352x512 : Shape := ⟨2, ![4352, 512]⟩
abbrev S4352x1024 : Shape := ⟨2, ![4352, 1024]⟩
abbrev S512x1024 : Shape := ⟨2, ![512, 1024]⟩
abbrev S1024x1024 : Shape := ⟨2, ![1024, 1024]⟩
abbrev S_ : Shape := ⟨0, ![]⟩
abbrev S4352x16x64 : Shape := ⟨3, ![4352, 16, 64]⟩
abbrev S4352x16x128 : Shape := ⟨3, ![4352, 16, 128]⟩
abbrev S4352x2048 : Shape := ⟨2, ![4352, 2048]⟩

abbrev nBuf : Space → Nat
  | .hbm => 66
  | .vmem => 0
  | .smem => 0
  | _ => 0

abbrev bufTy : (tb : Table) → Fin (tcTables nBuf tb) → BufTy
  | .hbm, ⟨0, _⟩ => ⟨S4352x3072, .bf16⟩
  | .hbm, ⟨1, _⟩ => ⟨S4352x512, .bf16⟩
  | .hbm, ⟨2, _⟩ => ⟨S4352x1024, .bf16⟩
  | .hbm, ⟨3, _⟩ => ⟨S512x1024, .f32⟩
  | .hbm, ⟨4, _⟩ => ⟨S1024x1024, .f32⟩
  | .hbm, ⟨5, _⟩ => ⟨S1024x1024, .f32⟩
  | .hbm, ⟨6, _⟩ => ⟨S4352x1024, .f32⟩
  | .hbm, ⟨7, _⟩ => ⟨S4352x512, .f32⟩
  | .hbm, ⟨8, _⟩ => ⟨S4352x1024, .f32⟩
  | .hbm, ⟨9, _⟩ => ⟨S4352x1024, .bf16⟩
  | .hbm, ⟨10, _⟩ => ⟨S4352x1024, .f32⟩
  | .hbm, ⟨11, _⟩ => ⟨S4352x1024, .bf16⟩
  | .hbm, ⟨12, _⟩ => ⟨S4352x1024, .f32⟩
  | .hbm, ⟨13, _⟩ => ⟨S4352x1024, .f32⟩
  | .hbm, ⟨14, _⟩ => ⟨S4352x1024, .f32⟩
  | .hbm, ⟨15, _⟩ => ⟨S4352x1024, .f32⟩
  | .hbm, ⟨16, _⟩ => ⟨S4352x1024, .f32⟩
  | .hbm, ⟨17, _⟩ => ⟨S_, .f32⟩
  | .hbm, ⟨18, _⟩ => ⟨S4352x1024, .f32⟩
  | .hbm, ⟨19, _⟩ => ⟨S4352x1024, .f32⟩
  | .hbm, ⟨20, _⟩ => ⟨S_, .f32⟩
  | .hbm, ⟨21, _⟩ => ⟨S4352x1024, .f32⟩
  | .hbm, ⟨22, _⟩ => ⟨S4352x1024, .f32⟩
  | .hbm, ⟨23, _⟩ => ⟨S_, .f32⟩
  | .hbm, ⟨24, _⟩ => ⟨S4352x1024, .f32⟩
  | .hbm, ⟨25, _⟩ => ⟨S4352x1024, .f32⟩
  | .hbm, ⟨26, _⟩ => ⟨S4352x1024, .f32⟩
  | .hbm, ⟨27, _⟩ => ⟨S4352x1024, .f32⟩
  | .hbm, ⟨28, _⟩ => ⟨S4352x1024, .f32⟩
  | .hbm, ⟨29, _⟩ => ⟨S4352x1024, .f32⟩
  | .hbm, ⟨30, _⟩ => ⟨S_, .f32⟩
  | .hbm, ⟨31, _⟩ => ⟨S4352x1024, .f32⟩
  | .hbm, ⟨32, _⟩ => ⟨S4352x1024, .f32⟩
  | .hbm, ⟨33, _⟩ => ⟨S_, .f32⟩
  | .hbm, ⟨34, _⟩ => ⟨S4352x1024, .f32⟩
  | .hbm, ⟨35, _⟩ => ⟨S4352x1024, .f32⟩
  | .hbm, ⟨36, _⟩ => ⟨S_, .f32⟩
  | .hbm, ⟨37, _⟩ => ⟨S4352x1024, .f32⟩
  | .hbm, ⟨38, _⟩ => ⟨S4352x1024, .f32⟩
  | .hbm, ⟨39, _⟩ => ⟨S4352x1024, .f32⟩
  | .hbm, ⟨40, _⟩ => ⟨S4352x1024, .f32⟩
  | .hbm, ⟨41, _⟩ => ⟨S4352x1024, .f32⟩
  | .hbm, ⟨42, _⟩ => ⟨S4352x1024, .f32⟩
  | .hbm, ⟨43, _⟩ => ⟨S4352x1024, .f32⟩
  | .hbm, ⟨44, _⟩ => ⟨S4352x1024, .f32⟩
  | .hbm, ⟨45, _⟩ => ⟨S4352x1024, .f32⟩
  | .hbm, ⟨46, _⟩ => ⟨S4352x1024, .f32⟩
  | .hbm, ⟨47, _⟩ => ⟨S4352x1024, .f32⟩
  | .hbm, ⟨48, _⟩ => ⟨S4352x1024, .f32⟩
  | .hbm, ⟨49, _⟩ => ⟨S4352x1024, .f32⟩
  | .hbm, ⟨50, _⟩ => ⟨S4352x1024, .f32⟩
  | .hbm, ⟨51, _⟩ => ⟨S4352x512, .f32⟩
  | .hbm, ⟨52, _⟩ => ⟨S4352x1024, .f32⟩
  | .hbm, ⟨53, _⟩ => ⟨S4352x1024, .f32⟩
  | .hbm, ⟨54, _⟩ => ⟨S4352x16x64, .f32⟩
  | .hbm, ⟨55, _⟩ => ⟨S_, .i32⟩
  | .hbm, ⟨56, _⟩ => ⟨S_, .f32⟩
  | .hbm, ⟨57, _⟩ => ⟨S4352x16x128, .f32⟩
  | .hbm, ⟨58, _⟩ => ⟨S4352x2048, .f32⟩
  | .hbm, ⟨59, _⟩ => ⟨S4352x1024, .bf16⟩
  | .hbm, ⟨60, _⟩ => ⟨S4352x1024, .bf16⟩
  | .hbm, ⟨61, _⟩ => ⟨S4352x1024, .bf16⟩
  | .hbm, ⟨62, _⟩ => ⟨S4352x1024, .bf16⟩
  | .hbm, ⟨63, _⟩ => ⟨S4352x1024, .bf16⟩
  | .hbm, ⟨64, _⟩ => ⟨S4352x512, .bf16⟩
  | .hbm, ⟨65, _⟩ => ⟨S4352x2048, .bf16⟩
  | _, _ => ⟨S4352x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_c : Ref sig .tc := ⟨.hbm, 55, rfl⟩
abbrev main_call0_v0 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩

abbrev nD : Nat := 1
abbrev τ : Topo := Topo.v7x

variable {F : FTy → Type} [FloatOps F]
-- ==== MergeFwd.lean ====
abbrev S4352x1024 : Shape := ⟨2, ![4352, 1024]⟩
abbrev S4352x3072 : Shape := ⟨2, ![4352, 3072]⟩
abbrev S4352x512 : Shape := ⟨2, ![4352, 512]⟩
abbrev S4352x2048 : Shape := ⟨2, ![4352, 2048]⟩
abbrev S512x1024 : Shape := ⟨2, ![512, 1024]⟩
abbrev S1024x1024 : Shape := ⟨2, ![1024, 1024]⟩
abbrev S16x64x1024 : Shape := ⟨3, ![16, 64, 1024]⟩
abbrev S_ : Shape := ⟨0, ![]⟩
abbrev S16x128x1024 : Shape := ⟨3, ![16, 128, 1024]⟩
abbrev S2048x1024 : Shape := ⟨2, ![2048, 1024]⟩
abbrev S544x1024 : Shape := ⟨2, ![544, 1024]⟩
abbrev S544x512 : Shape := ⟨2, ![544, 512]⟩
abbrev S544x2048 : Shape := ⟨2, ![544, 2048]⟩

abbrev nBuf : Space → Nat
  | .hbm => 18
  | .vmem => 19
  | .smem => 0
  | _ => 0

abbrev bufTy : (tb : Table) → Fin (tcTables nBuf tb) → BufTy
  | .hbm, ⟨0, _⟩ => ⟨S4352x1024, .f32⟩
  | .hbm, ⟨1, _⟩ => ⟨S4352x3072, .bf16⟩
  | .hbm, ⟨2, _⟩ => ⟨S4352x512, .bf16⟩
  | .hbm, ⟨3, _⟩ => ⟨S4352x2048, .bf16⟩
  | .hbm, ⟨4, _⟩ => ⟨S512x1024, .f32⟩
  | .hbm, ⟨5, _⟩ => ⟨S1024x1024, .f32⟩
  | .hbm, ⟨6, _⟩ => ⟨S1024x1024, .f32⟩
  | .hbm, ⟨7, _⟩ => ⟨S16x64x1024, .f32⟩
  | .hbm, ⟨8, _⟩ => ⟨S_, .i32⟩
  | .hbm, ⟨9, _⟩ => ⟨S_, .f32⟩
  | .hbm, ⟨10, _⟩ => ⟨S16x128x1024, .f32⟩
  | .hbm, ⟨11, _⟩ => ⟨S2048x1024, .f32⟩
  | .hbm, ⟨12, _⟩ => ⟨S512x1024, .bf16⟩
  | .hbm, ⟨13, _⟩ => ⟨S2048x1024, .bf16⟩
  | .hbm, ⟨14, _⟩ => ⟨S1024x1024, .bf16⟩
  | .hbm, ⟨15, _⟩ => ⟨S4352x1024, .f32⟩
  | .hbm, ⟨16, _⟩ => ⟨S4352x1024, .bf16⟩
  | .hbm, ⟨17, _⟩ => ⟨S4352x1024, .bf16⟩
  | .local _ .vmem, ⟨0, _⟩ => ⟨S544x1024, .f32⟩
  | .local _ .vmem, ⟨1, _⟩ => ⟨S544x1024, .f32⟩
  | .local _ .vmem, ⟨2, _⟩ => ⟨S544x1024, .bf16⟩
  | .local _ .vmem, ⟨3, _⟩ => ⟨S544x1024, .bf16⟩
  | .local _ .vmem, ⟨4, _⟩ => ⟨S544x1024, .bf16⟩
  | .local _ .vmem, ⟨5, _⟩ => ⟨S544x1024, .bf16⟩
  | .local _ .vmem, ⟨6, _⟩ => ⟨S544x512, .bf16⟩
  | .local _ .vmem, ⟨7, _⟩ => ⟨S544x512, .bf16⟩
  | .local _ .vmem, ⟨8, _⟩ => ⟨S544x2048, .bf16⟩
  | .local _ .vmem, ⟨9, _⟩ => ⟨S544x2048, .bf16⟩
  | .local _ .vmem, ⟨10, _⟩ => ⟨S512x1024, .bf16⟩
  | .local _ .vmem, ⟨11, _⟩ => ⟨S2048x1024, .bf16⟩
  | .local _ .vmem, ⟨12, _⟩ => ⟨S1024x1024, .bf16⟩
  | .local _ .vmem, ⟨13, _⟩ => ⟨S544x1024, .f32⟩
  | .local _ .vmem, ⟨14, _⟩ => ⟨S544x1024, .f32⟩
  | .local _ .vmem, ⟨15, _⟩ => ⟨S544x1024, .bf16⟩
  | .local _ .vmem, ⟨16, _⟩ => ⟨S544x1024, .bf16⟩
  | .local _ .vmem, ⟨17, _⟩ => ⟨S544x1024, .bf16⟩
  | .local _ .vmem, ⟨18, _⟩ => ⟨S544x1024, .bf16⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S544x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S544x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S544x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S544x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S544x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S544x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S544x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeFwdRefIdeal.lean ====
abbrev S4352x1024 : Shape := ⟨2, ![4352, 1024]⟩
abbrev S4352x3072 : Shape := ⟨2, ![4352, 3072]⟩
abbrev S4352x512 : Shape := ⟨2, ![4352, 512]⟩
abbrev S4352x2048 : Shape := ⟨2, ![4352, 2048]⟩
abbrev S512x1024 : Shape := ⟨2, ![512, 1024]⟩
abbrev S1024x1024 : Shape := ⟨2, ![1024, 1024]⟩
abbrev S4352x16x128 : Shape := ⟨3, ![4352, 16, 128]⟩
abbrev S4352x16x64 : Shape := ⟨3, ![4352, 16, 64]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S4352x3072, .bf16⟩
  | .hbm, ⟨2, _⟩ => ⟨S4352x512, .bf16⟩
  | .hbm, ⟨3, _⟩ => ⟨S4352x2048, .bf16⟩
  | .hbm, ⟨4, _⟩ => ⟨S512x1024, .f32⟩
  | .hbm, ⟨5, _⟩ => ⟨S1024x1024, .f32⟩
  | .hbm, ⟨6, _⟩ => ⟨S1024x1024, .f32⟩
  | .hbm, ⟨7, _⟩ => ⟨S4352x512, .f32⟩
  | .hbm, ⟨8, _⟩ => ⟨S4352x16x128, .bf16⟩
  | .hbm, ⟨9, _⟩ => ⟨S4352x16x64, .bf16⟩
  | .hbm, ⟨10, _⟩ => ⟨S4352x1024, .bf16⟩
  | .hbm, ⟨11, _⟩ => ⟨S4352x1024, .f32⟩
  | .hbm, ⟨12, _⟩ => ⟨S4352x1024, .bf16⟩
  | .hbm, ⟨13, _⟩ => ⟨S4352x1024, .f32⟩
  | .hbm, ⟨14, _⟩ => ⟨S4352x1024, .bf16⟩
  | .hbm, ⟨15, _⟩ => ⟨S4352x1024, .f32⟩
  | .hbm, ⟨16, _⟩ => ⟨S4352x1024, .f32⟩
  | .hbm, ⟨17, _⟩ => ⟨S4352x1024, .f32⟩
  | .hbm, ⟨18, _⟩ => ⟨S4352x1024, .f32⟩
  | .hbm, ⟨19, _⟩ => ⟨S4352x1024, .f32⟩
  | .hbm, ⟨20, _⟩ => ⟨S_, .f32⟩
  | .hbm, ⟨21, _⟩ => ⟨S4352x1024, .f32⟩
  | .hbm, ⟨22, _⟩ => ⟨S4352x1024, .f32⟩
  | .hbm, ⟨23, _⟩ => ⟨S_, .f32⟩
  | .hbm, ⟨24, _⟩ => ⟨S4352x1024, .f32⟩
  | .hbm, ⟨25, _⟩ => ⟨S4352x1024, .f32⟩
  | .hbm, ⟨26, _⟩ => ⟨S4352x1024, .f32⟩
  | .hbm, ⟨27, _⟩ => ⟨S4352x1024, .f32⟩
  | .hbm, ⟨28, _⟩ => ⟨S4352x1024, .f32⟩
  | .hbm, ⟨29, _⟩ => ⟨S_, .f32⟩
  | .hbm, ⟨30, _⟩ => ⟨S4352x1024, .f32⟩
  | .hbm, ⟨31, _⟩ => ⟨S4352x1024, .f32⟩
  | .hbm, ⟨32, _⟩ => ⟨S_, .f32⟩
  | .hbm, ⟨33, _⟩ => ⟨S4352x1024, .f32⟩
  | .hbm, ⟨34, _⟩ => ⟨S4352x1024, .f32⟩
  | .hbm, ⟨35, _⟩ => ⟨S4352x1024, .f32⟩
  | .hbm, ⟨36, _⟩ => ⟨S4352x1024, .f32⟩
  | .hbm, ⟨37, _⟩ => ⟨S4352x1024, .f32⟩
  | .hbm, ⟨38, _⟩ => ⟨S4352x1024, .f32⟩
  | .hbm, ⟨39, _⟩ => ⟨S4352x1024, .bf16⟩
  | .hbm, ⟨40, _⟩ => ⟨S4352x1024, .bf16⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== GateGrad.lean ====
abbrev S4352x1024 : Shape := ⟨2, ![4352, 1024]⟩
abbrev S4352x2816 : Shape := ⟨2, ![4352, 2816]⟩
abbrev S2816x1024 : Shape := ⟨2, ![2816, 1024]⟩
abbrev S2176x1408 : Shape := ⟨2, ![2176, 1408]⟩
abbrev S2176x1024 : Shape := ⟨2, ![2176, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4352x1024, .bf16⟩
  | .hbm, ⟨1, _⟩ => ⟨S4352x2816, .bf16⟩
  | .hbm, ⟨2, _⟩ => ⟨S2816x1024, .bf16⟩
  | .local _ .vmem, ⟨0, _⟩ => ⟨S2176x1408, .bf16⟩
  | .local _ .vmem, ⟨1, _⟩ => ⟨S2176x1408, .bf16⟩
  | .local _ .vmem, ⟨2, _⟩ => ⟨S2176x1024, .bf16⟩
  | .local _ .vmem, ⟨3, _⟩ => ⟨S2176x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateGradRefIdeal.lean ====
abbrev S4352x1024 : Shape := ⟨2, ![4352, 1024]⟩
abbrev S4352x2816 : Shape := ⟨2, ![4352, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x2816, .bf16⟩
  | .hbm, ⟨2, _⟩ => ⟨S4352x1024, .f32⟩
  | .hbm, ⟨3, _⟩ => ⟨S4352x2816, .f32⟩
  | .hbm, ⟨4, _⟩ => ⟨S_, .f32⟩
  | .hbm, ⟨5, _⟩ => ⟨S1024x2816, .f32⟩
  | .hbm, ⟨6, _⟩ => ⟨S4352x2816, .f32⟩
  | .hbm, ⟨7, _⟩ => ⟨S2816x1024, .f32⟩
  | .hbm, ⟨8, _⟩ => ⟨S1024x2816, .f32⟩
  | .hbm, ⟨9, _⟩ => ⟨S2816x1024, .f32⟩
  | .hbm, ⟨10, _⟩ => ⟨S2816x1024, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DownGrad.lean ====
abbrev S4352x2816 : Shape := ⟨2, ![4352, 2816]⟩
abbrev S4352x1024 : Shape := ⟨2, ![4352, 1024]⟩
abbrev S2816x1024 : Shape := ⟨2, ![2816, 1024]⟩
abbrev S2176x1408 : Shape := ⟨2, ![2176, 1408]⟩
abbrev S2176x1024 : Shape := ⟨2, ![2176, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4352x2816, .bf16⟩
  | .hbm, ⟨1, _⟩ => ⟨S4352x1024, .f32⟩
  | .hbm, ⟨2, _⟩ => ⟨S2816x1024, .bf16⟩
  | .local _ .vmem, ⟨0, _⟩ => ⟨S2176x1408, .bf16⟩
  | .local _ .vmem, ⟨1, _⟩ => ⟨S2176x1408, .bf16⟩
  | .local _ .vmem, ⟨2, _⟩ => ⟨S2176x1024, .f32⟩
  | .local _ .vmem, ⟨3, _⟩ => ⟨S2176x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4352x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownGradRefIdeal.lean ====
abbrev S4352x2816 : Shape := ⟨2, ![4352, 2816]⟩
abbrev S4352x1024 : Shape := ⟨2, ![4352, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4352x2816, .bf16⟩
  | .hbm, ⟨1, _⟩ => ⟨S4352x1024, .f32⟩
  | .hbm, ⟨2, _⟩ => ⟨S4352x2816, .f32⟩
  | .hbm, ⟨3, _⟩ => ⟨S_, .f32⟩
  | .hbm, ⟨4, _⟩ => ⟨S2816x1024, .f32⟩
  | .hbm, ⟨5, _⟩ => ⟨S4352x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S4352x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutGrad.lean ====
abbrev S4352x1024 : Shape := ⟨2, ![4352, 1024]⟩
abbrev S1024x1024 : Shape := ⟨2, ![1024, 1024]⟩
abbrev S2176x1024 : Shape := ⟨2, ![2176, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4352x1024, .bf16⟩
  | .hbm, ⟨1, _⟩ => ⟨S4352x1024, .f32⟩
  | .hbm, ⟨2, _⟩ => ⟨S1024x1024, .bf16⟩
  | .local _ .vmem, ⟨0, _⟩ => ⟨S2176x1024, .bf16⟩
  | .local _ .vmem, ⟨1, _⟩ => ⟨S2176x1024, .bf16⟩
  | .local _ .vmem, ⟨2, _⟩ => ⟨S2176x1024, .f32⟩
  | .local _ .vmem, ⟨3, _⟩ => ⟨S2176x1024, .f32⟩
  | .local _ .vmem, ⟨4, _⟩ => ⟨S1024x1024, .bf16⟩
  | .local _ .vmem, ⟨5, _⟩ => ⟨S1024x1024, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutGradRefIdeal.lean ====
abbrev S4352x1024 : Shape := ⟨2, ![4352, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x1024, .f32⟩
  | .hbm, ⟨2, _⟩ => ⟨S4352x1024, .f32⟩
  | .hbm, ⟨3, _⟩ => ⟨S_, .f32⟩
  | .hbm, ⟨4, _⟩ => ⟨S1024x1024, .f32⟩
  | .hbm, ⟨5, _⟩ => ⟨S4352x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== PaGrad.lean ====
abbrev S4352x512 : Shape := ⟨2, ![4352, 512]⟩
abbrev S4352x1024 : Shape := ⟨2, ![4352, 1024]⟩
abbrev S512x1024 : Shape := ⟨2, ![512, 1024]⟩
abbrev S2176x512 : Shape := ⟨2, ![2176, 512]⟩
abbrev S2176x1024 : Shape := ⟨2, ![2176, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4352x512, .bf16⟩
  | .hbm, ⟨1, _⟩ => ⟨S4352x1024, .bf16⟩
  | .hbm, ⟨2, _⟩ => ⟨S512x1024, .bf16⟩
  | .local _ .vmem, ⟨0, _⟩ => ⟨S2176x512, .bf16⟩
  | .local _ .vmem, ⟨1, _⟩ => ⟨S2176x512, .bf16⟩
  | .local _ .vmem, ⟨2, _⟩ => ⟨S2176x1024, .bf16⟩
  | .local _ .vmem, ⟨3, _⟩ => ⟨S2176x1024, .bf16⟩
  | .local _ .vmem, ⟨4, _⟩ => ⟨S512x1024, .bf16⟩
  | .local _ .vmem, ⟨5, _⟩ => ⟨S512x1024, .f32⟩
  | _, _ => ⟨S4352x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== PaGradRefIdeal.lean ====
abbrev S4352x512 : Shape := ⟨2, ![4352, 512]⟩
abbrev S4352x1024 : Shape := ⟨2, ![4352, 1024]⟩
abbrev S_ : Shape := ⟨0, ![]⟩
abbrev S512x1024 : Shape := ⟨2, ![512, 1024]⟩
abbrev S1024x512 : Shape := ⟨2, ![1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S4352x512, .bf16⟩
  | .hbm, ⟨1, _⟩ => ⟨S4352x1024, .bf16⟩
  | .hbm, ⟨2, _⟩ => ⟨S4352x512, .f32⟩
  | .hbm, ⟨3, _⟩ => ⟨S4352x1024, .f32⟩
  | .hbm, ⟨4, _⟩ => ⟨S_, .f32⟩
  | .hbm, ⟨5, _⟩ => ⟨S512x1024, .f32⟩
  | .hbm, ⟨6, _⟩ => ⟨S4352x1024, .f32⟩
  | .hbm, ⟨7, _⟩ => ⟨S1024x512, .f32⟩
  | .hbm, ⟨8, _⟩ => ⟨S512x1024, .f32⟩
  | .hbm, ⟨9, _⟩ => ⟨S512x1024, .bf16⟩
  | _, _ => ⟨S4352x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== PbGrad.lean ====
abbrev S4352x2048 : Shape := ⟨2, ![4352, 2048]⟩
abbrev S4352x1024 : Shape := ⟨2, ![4352, 1024]⟩
abbrev S2048x1024 : Shape := ⟨2, ![2048, 1024]⟩
abbrev S2176x2048 : Shape := ⟨2, ![2176, 2048]⟩
abbrev S2176x1024 : Shape := ⟨2, ![2176, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S4352x1024, .bf16⟩
  | .hbm, ⟨2, _⟩ => ⟨S2048x1024, .bf16⟩
  | .local _ .vmem, ⟨0, _⟩ => ⟨S2176x2048, .bf16⟩
  | .local _ .vmem, ⟨1, _⟩ => ⟨S2176x2048, .bf16⟩
  | .local _ .vmem, ⟨2, _⟩ => ⟨S2176x1024, .bf16⟩
  | .local _ .vmem, ⟨3, _⟩ => ⟨S2176x1024, .bf16⟩
  | .local _ .vmem, ⟨4, _⟩ => ⟨S2048x1024, .bf16⟩
  | .local _ .vmem, ⟨5, _⟩ => ⟨S2048x1024, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== PbGradRefIdeal.lean ====
abbrev S4352x2048 : Shape := ⟨2, ![4352, 2048]⟩
abbrev S4352x1024 : Shape := ⟨2, ![4352, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S4352x1024, .bf16⟩
  | .hbm, ⟨2, _⟩ => ⟨S4352x2048, .f32⟩
  | .hbm, ⟨3, _⟩ => ⟨S4352x1024, .f32⟩
  | .hbm, ⟨4, _⟩ => ⟨S_, .f32⟩
  | .hbm, ⟨5, _⟩ => ⟨S2048x1024, .f32⟩
  | .hbm, ⟨6, _⟩ => ⟨S4352x1024, .f32⟩
  | .hbm, ⟨7, _⟩ => ⟨S1024x2048, .f32⟩
  | .hbm, ⟨8, _⟩ => ⟨S2048x1024, .f32⟩
  | .hbm, ⟨9, _⟩ => ⟨S2048x1024, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== UqGrad.lean ====
abbrev S4352x256 : Shape := ⟨2, ![4352, 256]⟩
abbrev S4352x2048 : Shape := ⟨2, ![4352, 2048]⟩
abbrev S256x2048 : Shape := ⟨2, ![256, 2048]⟩
abbrev S2176x256 : Shape := ⟨2, ![2176, 256]⟩
abbrev S2176x2048 : Shape := ⟨2, ![2176, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4352x256, .bf16⟩
  | .hbm, ⟨1, _⟩ => ⟨S4352x2048, .bf16⟩
  | .hbm, ⟨2, _⟩ => ⟨S256x2048, .bf16⟩
  | .local _ .vmem, ⟨0, _⟩ => ⟨S2176x256, .bf16⟩
  | .local _ .vmem, ⟨1, _⟩ => ⟨S2176x256, .bf16⟩
  | .local _ .vmem, ⟨2, _⟩ => ⟨S2176x2048, .bf16⟩
  | .local _ .vmem, ⟨3, _⟩ => ⟨S2176x2048, .bf16⟩
  | .local _ .vmem, ⟨4, _⟩ => ⟨S256x2048, .bf16⟩
  | .local _ .vmem, ⟨5, _⟩ => ⟨S256x2048, .f32⟩
  | _, _ => ⟨S4352x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== UqGradRefIdeal.lean ====
abbrev S4352x256 : Shape := ⟨2, ![4352, 256]⟩
abbrev S4352x2048 : Shape := ⟨2, ![4352, 2048]⟩
abbrev S_ : Shape := ⟨0, ![]⟩
abbrev S256x2048 : Shape := ⟨2, ![256, 2048]⟩
abbrev S2048x256 : Shape := ⟨2, ![2048, 256]⟩

abbrev nBuf : Space → Nat
  | .hbm => 10
  | .vmem => 0
  | .smem => 0
  | _ => 0

abbrev bufTy : (tb : Table) → Fin (tcTables nBuf tb) → BufTy
  | .hbm, ⟨0, _⟩ => ⟨S4352x256, .bf16⟩
  | .hbm, ⟨1, _⟩ => ⟨S4352x2048, .bf16⟩
  | .hbm, ⟨2, _⟩ => ⟨S4352x256, .f32⟩
  | .hbm, ⟨3, _⟩ => ⟨S4352x2048, .f32⟩
  | .hbm, ⟨4, _⟩ => ⟨S_, .f32⟩
  | .hbm, ⟨5, _⟩ => ⟨S256x2048, .f32⟩
  | .hbm, ⟨6, _⟩ => ⟨S4352x2048, .f32⟩
  | .hbm, ⟨7, _⟩ => ⟨S2048x256, .f32⟩
  | .hbm, ⟨8, _⟩ => ⟨S256x2048, .f32⟩
  | .hbm, ⟨9, _⟩ => ⟨S256x2048, .bf16⟩
  | _, _ => ⟨S4352x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KvGrad.lean ====
abbrev S4352x128 : Shape := ⟨2, ![4352, 128]⟩
abbrev S4352x4096 : Shape := ⟨2, ![4352, 4096]⟩
abbrev S128x4096 : Shape := ⟨2, ![128, 4096]⟩
abbrev S2176x128 : Shape := ⟨2, ![2176, 128]⟩
abbrev S2176x4096 : Shape := ⟨2, ![2176, 4096]⟩

abbrev nBuf : Space → Nat
  | .hbm => 3
  | .vmem => 6
  | .smem => 0
  | _ => 0

abbrev bufTy : (tb : Table) → Fin (tcTables nBuf tb) → BufTy
  | .hbm, ⟨0, _⟩ => ⟨S4352x128, .bf16⟩
  | .hbm, ⟨1, _⟩ => ⟨S4352x4096, .bf16⟩
  | .hbm, ⟨2, _⟩ => ⟨S128x4096, .bf16⟩
  | .local _ .vmem, ⟨0, _⟩ => ⟨S2176x128, .bf16⟩
  | .local _ .vmem, ⟨1, _⟩ => ⟨S2176x128, .bf16⟩
  | .local _ .vmem, ⟨2, _⟩ => ⟨S2176x4096, .bf16⟩
  | .local _ .vmem, ⟨3, _⟩ => ⟨S2176x4096, .bf16⟩
  | .local _ .vmem, ⟨4, _⟩ => ⟨S128x4096, .bf16⟩
  | .local _ .vmem, ⟨5, _⟩ => ⟨S128x4096, .f32⟩
  | _, _ => ⟨S4352x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S128x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== KvGradRefIdeal.lean ====
abbrev S4352x128 : Shape := ⟨2, ![4352, 128]⟩
abbrev S4352x4096 : Shape := ⟨2, ![4352, 4096]⟩
abbrev S_ : Shape := ⟨0, ![]⟩
abbrev S128x4096 : Shape := ⟨2, ![128, 4096]⟩
abbrev S4096x128 : Shape := ⟨2, ![4096, 128]⟩

abbrev nBuf : Space → Nat
  | .hbm => 10
  | .vmem => 0
  | .smem => 0
  | _ => 0

abbrev bufTy : (tb : Table) → Fin (tcTables nBuf tb) → BufTy
  | .hbm, ⟨0, _⟩ => ⟨S4352x128, .bf16⟩
  | .hbm, ⟨1, _⟩ => ⟨S4352x4096, .bf16⟩
  | .hbm, ⟨2, _⟩ => ⟨S4352x128, .f32⟩
  | .hbm, ⟨3, _⟩ => ⟨S4352x4096, .f32⟩
  | .hbm, ⟨4, _⟩ => ⟨S_, .f32⟩
  | .hbm, ⟨5, _⟩ => ⟨S128x4096, .f32⟩
  | .hbm, ⟨6, _⟩ => ⟨S4352x4096, .f32⟩
  | .hbm, ⟨7, _⟩ => ⟨S4096x128, .f32⟩
  | .hbm, ⟨8, _⟩ => ⟨S128x4096, .f32⟩
  | .hbm, ⟨9, _⟩ => ⟨S128x4096, .bf16⟩
  | _, _ => ⟨S4352x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InGrad.lean ====
abbrev S4352x3072 : Shape := ⟨2, ![4352, 3072]⟩
abbrev S4352x1024 : Shape := ⟨2, ![4352, 1024]⟩
abbrev S3072x1024 : Shape := ⟨2, ![3072, 1024]⟩
abbrev S2176x1536 : Shape := ⟨2, ![2176, 1536]⟩
abbrev S2176x1024 : Shape := ⟨2, ![2176, 1024]⟩
abbrev S1536x1024 : Shape := ⟨2, ![1536, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4352x3072, .bf16⟩
  | .hbm, ⟨1, _⟩ => ⟨S4352x1024, .bf16⟩
  | .hbm, ⟨2, _⟩ => ⟨S3072x1024, .bf16⟩
  | .local _ .vmem, ⟨0, _⟩ => ⟨S2176x1536, .bf16⟩
  | .local _ .vmem, ⟨1, _⟩ => ⟨S2176x1536, .bf16⟩
  | .local _ .vmem, ⟨2, _⟩ => ⟨S2176x1024, .bf16⟩
  | .local _ .vmem, ⟨3, _⟩ => ⟨S2176x1024, .bf16⟩
  | .local _ .vmem, ⟨4, _⟩ => ⟨S1536x1024, .bf16⟩
  | .local _ .vmem, ⟨5, _⟩ => ⟨S1536x1024, .bf16⟩
  | .local _ .vmem, ⟨6, _⟩ => ⟨S1536x1024, .f32⟩
  | _, _ => ⟨S4352x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1536x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InGradRefIdeal.lean ====
abbrev S4352x3072 : Shape := ⟨2, ![4352, 3072]⟩
abbrev S4352x1024 : Shape := ⟨2, ![4352, 1024]⟩
abbrev S_ : Shape := ⟨0, ![]⟩
abbrev S1024x3072 : Shape := ⟨2, ![1024, 3072]⟩
abbrev S3072x1024 : Shape := ⟨2, ![3072, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4352x3072, .bf16⟩
  | .hbm, ⟨1, _⟩ => ⟨S4352x1024, .bf16⟩
  | .hbm, ⟨2, _⟩ => ⟨S4352x3072, .f32⟩
  | .hbm, ⟨3, _⟩ => ⟨S4352x1024, .f32⟩
  | .hbm, ⟨4, _⟩ => ⟨S_, .f32⟩
  | .hbm, ⟨5, _⟩ => ⟨S1024x3072, .f32⟩
  | .hbm, ⟨6, _⟩ => ⟨S4352x3072, .f32⟩
  | .hbm, ⟨7, _⟩ => ⟨S3072x1024, .f32⟩
  | .hbm, ⟨8, _⟩ => ⟨S1024x3072, .f32⟩
  | .hbm, ⟨9, _⟩ => ⟨S3072x1024, .f32⟩
  | .hbm, ⟨10, _⟩ => ⟨S3072x1024, .bf16⟩
  | _, _ => ⟨S4352x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== InFwd.lean ====
abbrev S4352x1024 : Shape := ⟨2, ![4352, 1024]⟩
abbrev S1024 : Shape := ⟨1, ![1024]⟩
abbrev S1024x2976 : Shape := ⟨2, ![1024, 2976]⟩
abbrev S1x1024 : Shape := ⟨2, ![1, 1024]⟩
abbrev S2976x1024 : Shape := ⟨2, ![2976, 1024]⟩
abbrev S32x1024 : Shape := ⟨2, ![32, 1024]⟩
abbrev S_ : Shape := ⟨0, ![]⟩
abbrev S128x1024 : Shape := ⟨2, ![128, 1024]⟩
abbrev S896x1024 : Shape := ⟨2, ![896, 1024]⟩
abbrev S2048x1024 : Shape := ⟨2, ![2048, 1024]⟩
abbrev S3072x1024 : Shape := ⟨2, ![3072, 1024]⟩
abbrev S4352x3072 : Shape := ⟨2, ![4352, 3072]⟩
abbrev S544x1024 : Shape := ⟨2, ![544, 1024]⟩
abbrev S544x3072 : Shape := ⟨2, ![544, 3072]⟩
abbrev S544 : Shape := ⟨1, ![544]⟩
abbrev S544x1 : Shape := ⟨2, ![544, 1]⟩

abbrev nBuf : Space → Nat
  | .hbm => 14
  | .vmem => 6
  | .smem => 0
  | _ => 0

abbrev bufTy : (tb : Table) → Fin (tcTables nBuf tb) → BufTy
  | .hbm, ⟨0, _⟩ => ⟨S4352x1024, .f32⟩
  | .hbm, ⟨1, _⟩ => ⟨S1024, .f32⟩
  | .hbm, ⟨2, _⟩ => ⟨S1024x2976, .f32⟩
  | .hbm, ⟨3, _⟩ => ⟨S1x1024, .f32⟩
  | .hbm, ⟨4, _⟩ => ⟨S2976x1024, .f32⟩
  | .hbm, ⟨5, _⟩ => ⟨S32x1024, .f32⟩
  | .hbm, ⟨6, _⟩ => ⟨S_, .i32⟩
  | .hbm, ⟨7, _⟩ => ⟨S_, .f32⟩
  | .hbm, ⟨8, _⟩ => ⟨S128x1024, .f32⟩
  | .hbm, ⟨9, _⟩ => ⟨S896x1024, .f32⟩
  | .hbm, ⟨10, _⟩ => ⟨S2048x1024, .f32⟩
  | .hbm, ⟨11, _⟩ => ⟨S3072x1024, .f32⟩
  | .hbm, ⟨12, _⟩ => ⟨S3072x1024, .bf16⟩
  | .hbm, ⟨13, _⟩ => ⟨S4352x3072, .bf16⟩
  | .local _ .vmem, ⟨0, _⟩ => ⟨S544x1024, .f32⟩
  | .local _ .vmem, ⟨1, _⟩ => ⟨S544x1024, .f32⟩
  | .local _ .vmem, ⟨2, _⟩ => ⟨S1x1024, .f32⟩
  | .local _ .vmem, ⟨3, _⟩ => ⟨S3072x1024, .bf16⟩
  | .local _ .vmem, ⟨4, _⟩ => ⟨S544x3072, .bf16⟩
  | .local _ .vmem, ⟨5, _⟩ => ⟨S544x3072, .bf16⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S544x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== InFwdRefIdeal.lean ====
abbrev S4352x1024 : Shape := ⟨2, ![4352, 1024]⟩
abbrev S1024 : Shape := ⟨1, ![1024]⟩
abbrev S1024x2976 : Shape := ⟨2, ![1024, 2976]⟩
abbrev S_ : Shape := ⟨0, ![]⟩
abbrev S4352 : Shape := ⟨1, ![4352]⟩
abbrev S4352x1 : Shape := ⟨2, ![4352, 1]⟩
abbrev S1x1024 : Shape := ⟨2, ![1, 1024]⟩
abbrev S4352x2976 : Shape := ⟨2, ![4352, 2976]⟩
abbrev S4352x896 : Shape := ⟨2, ![4352, 896]⟩
abbrev S4352x32 : Shape := ⟨2, ![4352, 32]⟩
abbrev S4352x128 : Shape := ⟨2, ![4352, 128]⟩
abbrev S4352x2048 : Shape := ⟨2, ![4352, 2048]⟩
abbrev S4352x3072 : Shape := ⟨2, ![4352, 3072]⟩

abbrev nBuf : Space → Nat
  | .hbm => 28
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S1024, .f32⟩
  | .hbm, ⟨2, _⟩ => ⟨S1024x2976, .f32⟩
  | .hbm, ⟨3, _⟩ => ⟨S4352x1024, .f32⟩
  | .hbm, ⟨4, _⟩ => ⟨S_, .f32⟩
  | .hbm, ⟨5, _⟩ => ⟨S4352, .f32⟩
  | .hbm, ⟨6, _⟩ => ⟨S4352x1, .f32⟩
  | .hbm, ⟨7, _⟩ => ⟨S_, .f32⟩
  | .hbm, ⟨8, _⟩ => ⟨S4352x1, .f32⟩
  | .hbm, ⟨9, _⟩ => ⟨S4352x1, .f32⟩
  | .hbm, ⟨10, _⟩ => ⟨S_, .f32⟩
  | .hbm, ⟨11, _⟩ => ⟨S4352x1, .f32⟩
  | .hbm, ⟨12, _⟩ => ⟨S4352x1, .f32⟩
  | .hbm, ⟨13, _⟩ => ⟨S4352x1, .f32⟩
  | .hbm, ⟨14, _⟩ => ⟨S4352x1024, .f32⟩
  | .hbm, ⟨15, _⟩ => ⟨S4352x1024, .f32⟩
  | .hbm, ⟨16, _⟩ => ⟨S1x1024, .f32⟩
  | .hbm, ⟨17, _⟩ => ⟨S4352x1024, .f32⟩
  | .hbm, ⟨18, _⟩ => ⟨S4352x1024, .f32⟩
  | .hbm, ⟨19, _⟩ => ⟨S4352x2976, .f32⟩
  | .hbm, ⟨20, _⟩ => ⟨S4352x896, .f32⟩
  | .hbm, ⟨21, _⟩ => ⟨S4352x32, .f32⟩
  | .hbm, ⟨22, _⟩ => ⟨S_, .i32⟩
  | .hbm, ⟨23, _⟩ => ⟨S_, .f32⟩
  | .hbm, ⟨24, _⟩ => ⟨S4352x128, .f32⟩
  | .hbm, ⟨25, _⟩ => ⟨S4352x2048, .f32⟩
  | .hbm, ⟨26, _⟩ => ⟨S4352x3072, .f32⟩
  | .hbm, ⟨27, _⟩ => ⟨S4352x3072, .bf16⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_call0_v0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== InBwd.lean ====
abbrev S4352x1024 : Shape := ⟨2, ![4352, 1024]⟩
abbrev S4352x512 : Shape := ⟨2, ![4352, 512]⟩
abbrev S4352x256 : Shape := ⟨2, ![4352, 256]⟩
abbrev S4352x128 : Shape := ⟨2, ![4352, 128]⟩
abbrev S4352x32 : Shape := ⟨2, ![4352, 32]⟩
abbrev S1024 : Shape := ⟨1, ![1024]⟩
abbrev S1024x2976 : Shape := ⟨2, ![1024, 2976]⟩
abbrev S_ : Shape := ⟨0, ![]⟩
abbrev S1x1024 : Shape := ⟨2, ![1, 1024]⟩
abbrev S2976x1024 : Shape := ⟨2, ![2976, 1024]⟩
abbrev S32x1024 : Shape := ⟨2, ![32, 1024]⟩
abbrev S128x1024 : Shape := ⟨2, ![128, 1024]⟩
abbrev S896x1024 : Shape := ⟨2, ![896, 1024]⟩
abbrev S2048x1024 : Shape := ⟨2, ![2048, 1024]⟩
abbrev S3072x1024 : Shape := ⟨2, ![3072, 1024]⟩
abbrev S4352x3072 : Shape := ⟨2, ![4352, 3072]⟩
abbrev S544x1024 : Shape := ⟨2, ![544, 1024]⟩
abbrev S544x512 : Shape := ⟨2, ![544, 512]⟩
abbrev S544x256 : Shape := ⟨2, ![544, 256]⟩
abbrev S544x128 : Shape := ⟨2, ![544, 128]⟩
abbrev S544x3072 : Shape := ⟨2, ![544, 3072]⟩
abbrev S544 : Shape := ⟨1, ![544]⟩
abbrev S544x1 : Shape := ⟨2, ![544, 1]⟩
abbrev S512x1024 : Shape := ⟨2, ![512, 1024]⟩
abbrev S256x1024 : Shape := ⟨2, ![256, 1024]⟩
abbrev S1024x1024 : Shape := ⟨2, ![1024, 1024]⟩

abbrev nBuf : Space → Nat
  | .hbm => 27
  | .vmem => 25
  | .smem => 0
  | _ => 0

abbrev bufTy : (tb : Table) → Fin (tcTables nBuf tb) → BufTy
  | .hbm, ⟨0, _⟩ => ⟨S4352x1024, .f32⟩
  | .hbm, ⟨1, _⟩ => ⟨S4352x1024, .f32⟩
  | .hbm, ⟨2, _⟩ => ⟨S4352x512, .bf16⟩
  | .hbm, ⟨3, _⟩ => ⟨S4352x256, .bf16⟩
  | .hbm, ⟨4, _⟩ => ⟨S4352x128, .bf16⟩
  | .hbm, ⟨5, _⟩ => ⟨S4352x32, .bf16⟩
  | .hbm, ⟨6, _⟩ => ⟨S4352x1024, .bf16⟩
  | .hbm, ⟨7, _⟩ => ⟨S4352x1024, .bf16⟩
  | .hbm, ⟨8, _⟩ => ⟨S1024, .f32⟩
  | .hbm, ⟨9, _⟩ => ⟨S1024x2976, .f32⟩
  | .hbm, ⟨10, _⟩ => ⟨S_, .i32⟩
  | .hbm, ⟨11, _⟩ => ⟨S_, .bf16⟩
  | .hbm, ⟨12, _⟩ => ⟨S4352x128, .bf16⟩
  | .hbm, ⟨13, _⟩ => ⟨S1x1024, .f32⟩
  | .hbm, ⟨14, _⟩ => ⟨S2976x1024, .f32⟩
  | .hbm, ⟨15, _⟩ => ⟨S32x1024, .f32⟩
  | .hbm, ⟨16, _⟩ => ⟨S_, .i32⟩
  | .hbm, ⟨17, _⟩ => ⟨S_, .f32⟩
  | .hbm, ⟨18, _⟩ => ⟨S128x1024, .f32⟩
  | .hbm, ⟨19, _⟩ => ⟨S896x1024, .f32⟩
  | .hbm, ⟨20, _⟩ => ⟨S2048x1024, .f32⟩
  | .hbm, ⟨21, _⟩ => ⟨S3072x1024, .f32⟩
  | .hbm, ⟨22, _⟩ => ⟨S3072x1024, .bf16⟩
  | .hbm, ⟨23, _⟩ => ⟨S4352x1024, .f32⟩
  | .hbm, ⟨24, _⟩ => ⟨S4352x1024, .bf16⟩
  | .hbm, ⟨25, _⟩ => ⟨S4352x3072, .bf16⟩
  | .hbm, ⟨26, _⟩ => ⟨S1x1024, .f32⟩
  | .local _ .vmem, ⟨0, _⟩ => ⟨S544x1024, .f32⟩
  | .local _ .vmem, ⟨1, _⟩ => ⟨S544x1024, .f32⟩
  | .local _ .vmem, ⟨2, _⟩ => ⟨S544x1024, .f32⟩
  | .local _ .vmem, ⟨3, _⟩ => ⟨S544x1024, .f32⟩
  | .local _ .vmem, ⟨4, _⟩ => ⟨S544x512, .bf16⟩
  | .local _ .vmem, ⟨5, _⟩ => ⟨S544x512, .bf16⟩
  | .local _ .vmem, ⟨6, _⟩ => ⟨S544x256, .bf16⟩
  | .local _ .vmem, ⟨7, _⟩ => ⟨S544x256, .bf16⟩
  | .local _ .vmem, ⟨8, _⟩ => ⟨S544x128, .bf16⟩
  | .local _ .vmem, ⟨9, _⟩ => ⟨S544x128, .bf16⟩
  | .local _ .vmem, ⟨10, _⟩ => ⟨S544x128, .bf16⟩
  | .local _ .vmem, ⟨11, _⟩ => ⟨S544x128, .bf16⟩
  | .local _ .vmem, ⟨12, _⟩ => ⟨S544x1024, .bf16⟩
  | .local _ .vmem, ⟨13, _⟩ => ⟨S544x1024, .bf16⟩
  | .local _ .vmem, ⟨14, _⟩ => ⟨S544x1024, .bf16⟩
  | .local _ .vmem, ⟨15, _⟩ => ⟨S544x1024, .bf16⟩
  | .local _ .vmem, ⟨16, _⟩ => ⟨S1x1024, .f32⟩
  | .local _ .vmem, ⟨17, _⟩ => ⟨S3072x1024, .bf16⟩
  | .local _ .vmem, ⟨18, _⟩ => ⟨S544x1024, .f32⟩
  | .local _ .vmem, ⟨19, _⟩ => ⟨S544x1024, .f32⟩
  | .local _ .vmem, ⟨20, _⟩ => ⟨S544x1024, .bf16⟩
  | .local _ .vmem, ⟨21, _⟩ => ⟨S544x1024, .bf16⟩
  | .local _ .vmem, ⟨22, _⟩ => ⟨S544x3072, .bf16⟩
  | .local _ .vmem, ⟨23, _⟩ => ⟨S544x3072, .bf16⟩
  | .local _ .vmem, ⟨24, _⟩ => ⟨S1x1024, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_call1_v0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9_0 : Ref sig .tc := ⟨.hbm, 23, rfl⟩
abbrev main_v9_1 : Ref sig .tc := ⟨.hbm, 24, rfl⟩
abbrev main_v9_2 : Ref sig .tc := ⟨.hbm, 25, rfl⟩
abbrev main_v9_3 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S544x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S544x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S544x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S544x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S544x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S544x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S544x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3072x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S544x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S544x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S544x3072 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== InBwdRefIdeal.lean ====
abbrev S4352x1024 : Shape := ⟨2, ![4352, 1024]⟩
abbrev S4352x512 : Shape := ⟨2, ![4352, 512]⟩
abbrev S4352x256 : Shape := ⟨2, ![4352, 256]⟩
abbrev S4352x128 : Shape := ⟨2, ![4352, 128]⟩
abbrev S4352x32 : Shape := ⟨2, ![4352, 32]⟩
abbrev S1024 : Shape := ⟨1, ![1024]⟩
abbrev S1024x2976 : Shape := ⟨2, ![1024, 2976]⟩
abbrev S4352x2976 : Shape := ⟨2, ![4352, 2976]⟩
abbrev S_ : Shape := ⟨0, ![]⟩
abbrev S4352 : Shape := ⟨1, ![4352]⟩
abbrev S4352x1 : Shape := ⟨2, ![4352, 1]⟩
abbrev S1x1024 : Shape := ⟨2, ![1, 1024]⟩
abbrev S4352x896 : Shape := ⟨2, ![4352, 896]⟩
abbrev S4352x2048 : Shape := ⟨2, ![4352, 2048]⟩
abbrev S4352x3072 : Shape := ⟨2, ![4352, 3072]⟩

abbrev nBuf : Space → Nat
  | .hbm => 86
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S4352x1024, .f32⟩
  | .hbm, ⟨2, _⟩ => ⟨S4352x512, .bf16⟩
  | .hbm, ⟨3, _⟩ => ⟨S4352x256, .bf16⟩
  | .hbm, ⟨4, _⟩ => ⟨S4352x128, .bf16⟩
  | .hbm, ⟨5, _⟩ => ⟨S4352x32, .bf16⟩
  | .hbm, ⟨6, _⟩ => ⟨S4352x1024, .bf16⟩
  | .hbm, ⟨7, _⟩ => ⟨S4352x1024, .bf16⟩
  | .hbm, ⟨8, _⟩ => ⟨S1024, .f32⟩
  | .hbm, ⟨9, _⟩ => ⟨S1024x2976, .f32⟩
  | .hbm, ⟨10, _⟩ => ⟨S4352x2976, .bf16⟩
  | .hbm, ⟨11, _⟩ => ⟨S4352x2976, .f32⟩
  | .hbm, ⟨12, _⟩ => ⟨S4352x1024, .f32⟩
  | .hbm, ⟨13, _⟩ => ⟨S_, .f32⟩
  | .hbm, ⟨14, _⟩ => ⟨S4352, .f32⟩
  | .hbm, ⟨15, _⟩ => ⟨S4352x1, .f32⟩
  | .hbm, ⟨16, _⟩ => ⟨S_, .f32⟩
  | .hbm, ⟨17, _⟩ => ⟨S4352x1, .f32⟩
  | .hbm, ⟨18, _⟩ => ⟨S4352x1, .f32⟩
  | .hbm, ⟨19, _⟩ => ⟨S_, .f32⟩
  | .hbm, ⟨20, _⟩ => ⟨S4352x1, .f32⟩
  | .hbm, ⟨21, _⟩ => ⟨S4352x1, .f32⟩
  | .hbm, ⟨22, _⟩ => ⟨S4352x1, .f32⟩
  | .hbm, ⟨23, _⟩ => ⟨S4352x1, .f32⟩
  | .hbm, ⟨24, _⟩ => ⟨S_, .f32⟩
  | .hbm, ⟨25, _⟩ => ⟨S4352x1, .f32⟩
  | .hbm, ⟨26, _⟩ => ⟨S4352x1, .f32⟩
  | .hbm, ⟨27, _⟩ => ⟨S4352x1024, .f32⟩
  | .hbm, ⟨28, _⟩ => ⟨S4352x1024, .f32⟩
  | .hbm, ⟨29, _⟩ => ⟨S1x1024, .f32⟩
  | .hbm, ⟨30, _⟩ => ⟨S4352x1024, .f32⟩
  | .hbm, ⟨31, _⟩ => ⟨S4352x1024, .f32⟩
  | .hbm, ⟨32, _⟩ => ⟨S4352x2976, .f32⟩
  | .hbm, ⟨33, _⟩ => ⟨S4352x1024, .f32⟩
  | .hbm, ⟨34, _⟩ => ⟨S4352x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S4352x1024, .f32⟩
  | .hbm, ⟨39, _⟩ => ⟨S4352x1024, .f32⟩
  | .hbm, ⟨40, _⟩ => ⟨S_, .f32⟩
  | .hbm, ⟨41, _⟩ => ⟨S1024, .f32⟩
  | .hbm, ⟨42, _⟩ => ⟨S4352x1024, .f32⟩
  | .hbm, ⟨43, _⟩ => ⟨S_, .f32⟩
  | .hbm, ⟨44, _⟩ => ⟨S4352, .f32⟩
  | .hbm, ⟨45, _⟩ => ⟨S4352x1, .f32⟩
  | .hbm, ⟨46, _⟩ => ⟨S4352x1024, .f32⟩
  | .hbm, ⟨47, _⟩ => ⟨S4352x1024, .f32⟩
  | .hbm, ⟨48, _⟩ => ⟨S4352x1, .f32⟩
  | .hbm, ⟨49, _⟩ => ⟨S_, .f32⟩
  | .hbm, ⟨50, _⟩ => ⟨S4352x1, .f32⟩
  | .hbm, ⟨51, _⟩ => ⟨S4352x1, .f32⟩
  | .hbm, ⟨52, _⟩ => ⟨S_, .f32⟩
  | .hbm, ⟨53, _⟩ => ⟨S4352, .f32⟩
  | .hbm, ⟨54, _⟩ => ⟨S4352x1024, .f32⟩
  | .hbm, ⟨55, _⟩ => ⟨S4352x1024, .f32⟩
  | .hbm, ⟨56, _⟩ => ⟨S4352x1024, .f32⟩
  | .hbm, ⟨57, _⟩ => ⟨S4352x1024, .f32⟩
  | .hbm, ⟨58, _⟩ => ⟨S4352x1024, .f32⟩
  | .hbm, ⟨59, _⟩ => ⟨S4352x1024, .f32⟩
  | .hbm, ⟨60, _⟩ => ⟨S4352x1024, .f32⟩
  | .hbm, ⟨61, _⟩ => ⟨S_, .f32⟩
  | .hbm, ⟨62, _⟩ => ⟨S4352, .f32⟩
  | .hbm, ⟨63, _⟩ => ⟨S4352x1, .f32⟩
  | .hbm, ⟨64, _⟩ => ⟨S_, .f32⟩
  | .hbm, ⟨65, _⟩ => ⟨S4352x1, .f32⟩
  | .hbm, ⟨66, _⟩ => ⟨S4352x1, .f32⟩
  | .hbm, ⟨67, _⟩ => ⟨S_, .f32⟩
  | .hbm, ⟨68, _⟩ => ⟨S4352x1, .f32⟩
  | .hbm, ⟨69, _⟩ => ⟨S4352x1, .f32⟩
  | .hbm, ⟨70, _⟩ => ⟨S4352x1, .f32⟩
  | .hbm, ⟨71, _⟩ => ⟨S4352x1024, .f32⟩
  | .hbm, ⟨72, _⟩ => ⟨S4352x1024, .f32⟩
  | .hbm, ⟨73, _⟩ => ⟨S1x1024, .f32⟩
  | .hbm, ⟨74, _⟩ => ⟨S4352x1024, .f32⟩
  | .hbm, ⟨75, _⟩ => ⟨S4352x1024, .f32⟩
  | .hbm, ⟨76, _⟩ => ⟨S4352x1024, .bf16⟩
  | .hbm, ⟨77, _⟩ => ⟨S4352x896, .f32⟩
  | .hbm, ⟨78, _⟩ => ⟨S4352x32, .f32⟩
  | .hbm, ⟨79, _⟩ => ⟨S_, .i32⟩
  | .hbm, ⟨80, _⟩ => ⟨S_, .f32⟩
  | .hbm, ⟨81, _⟩ => ⟨S4352x128, .f32⟩
  | .hbm, ⟨82, _⟩ => ⟨S4352x2048, .f32⟩
  | .hbm, ⟨83, _⟩ => ⟨S4352x3072, .f32⟩
  | .hbm, ⟨84, _⟩ => ⟨S4352x3072, .bf16⟩
  | .hbm, ⟨85, _⟩ => ⟨S1x1024, .f32⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_cst_9 : Ref sig .tc := ⟨.hbm, 64, rfl⟩
abbrev main_v44 : Ref sig .tc := ⟨.hbm, 65, rfl⟩
abbrev main_v45 : Ref sig .tc := ⟨.hbm, 66, rfl⟩
abbrev main_cst_10 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c : Ref sig .tc := ⟨.hbm, 79, rfl⟩
abbrev main_call0_v0 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩

abbrev nD : Nat := 1
abbrev τ : Topo := Topo.v7x

variable {F : FTy → Type} [FloatOps F]
-- ==== QkvFwd.lean ====
abbrev S4352x2976 : Shape := ⟨2, ![4352, 2976]⟩
abbrev S256 : Shape := ⟨1, ![256]⟩
abbrev S128 : Shape := ⟨1, ![128]⟩
abbrev S256x1536 : Shape := ⟨2, ![256, 1536]⟩
abbrev S128x2048 : Shape := ⟨2, ![128, 2048]⟩
abbrev S2176x16 : Shape := ⟨2, ![2176, 16]⟩
abbrev S256x16x96 : Shape := ⟨3, ![256, 16, 96]⟩
abbrev S_ : Shape := ⟨0, ![]⟩
abbrev S256x16x128 : Shape := ⟨3, ![256, 16, 128]⟩
abbrev S256x2048 : Shape := ⟨2, ![256, 2048]⟩
abbrev S128x16x128 : Shape := ⟨3, ![128, 16, 128]⟩
abbrev S128x16x64 : Shape := ⟨3, ![128, 16, 64]⟩
abbrev S128x4096 : Shape := ⟨2, ![128, 4096]⟩
abbrev S2176x64 : Shape := ⟨2, ![2176, 64]⟩
abbrev S2176x32 : Shape := ⟨2, ![2176, 32]⟩
abbrev S2176x128 : Shape := ⟨2, ![2176, 128]⟩
abbrev S1x2176x1x128 : Shape := ⟨4, ![1, 2176, 1, 128]⟩
abbrev S2x2176x1x128 : Shape := ⟨4, ![2, 2176, 1, 128]⟩
abbrev S4352x128 : Shape := ⟨2, ![4352, 128]⟩
abbrev S4352x896 : Shape := ⟨2, ![4352, 896]⟩
abbrev S4352x32 : Shape := ⟨2, ![4352, 32]⟩
abbrev S4352x2048 : Shape := ⟨2, ![4352, 2048]⟩
abbrev S4352x3072 : Shape := ⟨2, ![4352, 3072]⟩
abbrev S1x256 : Shape := ⟨2, ![1, 256]⟩
abbrev S1x128 : Shape := ⟨2, ![1, 128]⟩
abbrev S544x256 : Shape := ⟨2, ![544, 256]⟩
abbrev S544x128 : Shape := ⟨2, ![544, 128]⟩
abbrev S544x2048 : Shape := ⟨2, ![544, 2048]⟩
abbrev S544 : Shape := ⟨1, ![544]⟩
abbrev S544x1 : Shape := ⟨2, ![544, 1]⟩
abbrev S544x4096 : Shape := ⟨2, ![544, 4096]⟩

abbrev nBuf : Space → Nat
  | .hbm => 59
  | .vmem => 22
  | .smem => 0
  | _ => 0

abbrev bufTy : (tb : Table) → Fin (tcTables nBuf tb) → BufTy
  | .hbm, ⟨0, _⟩ => ⟨S4352x2976, .bf16⟩
  | .hbm, ⟨1, _⟩ => ⟨S256, .f32⟩
  | .hbm, ⟨2, _⟩ => ⟨S128, .f32⟩
  | .hbm, ⟨3, _⟩ => ⟨S256x1536, .f32⟩
  | .hbm, ⟨4, _⟩ => ⟨S128x2048, .f32⟩
  | .hbm, ⟨5, _⟩ => ⟨S2176x16, .f32⟩
  | .hbm, ⟨6, _⟩ => ⟨S2176x16, .f32⟩
  | .hbm, ⟨7, _⟩ => ⟨S256x16x96, .f32⟩
  | .hbm, ⟨8, _⟩ => ⟨S_, .i32⟩
  | .hbm, ⟨9, _⟩ => ⟨S_, .f32⟩
  | .hbm, ⟨10, _⟩ => ⟨S256x16x128, .f32⟩
  | .hbm, ⟨11, _⟩ => ⟨S256x2048, .f32⟩
  | .hbm, ⟨12, _⟩ => ⟨S128x16x128, .f32⟩
  | .hbm, ⟨13, _⟩ => ⟨S128x16x64, .f32⟩
  | .hbm, ⟨14, _⟩ => ⟨S_, .i32⟩
  | .hbm, ⟨15, _⟩ => ⟨S_, .f32⟩
  | .hbm, ⟨16, _⟩ => ⟨S128x16x128, .f32⟩
  | .hbm, ⟨17, _⟩ => ⟨S128x2048, .f32⟩
  | .hbm, ⟨18, _⟩ => ⟨S128x16x64, .f32⟩
  | .hbm, ⟨19, _⟩ => ⟨S_, .i32⟩
  | .hbm, ⟨20, _⟩ => ⟨S_, .f32⟩
  | .hbm, ⟨21, _⟩ => ⟨S128x16x128, .f32⟩
  | .hbm, ⟨22, _⟩ => ⟨S128x2048, .f32⟩
  | .hbm, ⟨23, _⟩ => ⟨S128x4096, .f32⟩
  | .hbm, ⟨24, _⟩ => ⟨S_, .f32⟩
  | .hbm, ⟨25, _⟩ => ⟨S2176x64, .f32⟩
  | .hbm, ⟨26, _⟩ => ⟨S_, .f32⟩
  | .hbm, ⟨27, _⟩ => ⟨S2176x64, .f32⟩
  | .hbm, ⟨28, _⟩ => ⟨S_, .f32⟩
  | .hbm, ⟨29, _⟩ => ⟨S2176x32, .f32⟩
  | .hbm, ⟨30, _⟩ => ⟨S_, .f32⟩
  | .hbm, ⟨31, _⟩ => ⟨S2176x16, .f32⟩
  | .hbm, ⟨32, _⟩ => ⟨S2176x128, .f32⟩
  | .hbm, ⟨33, _⟩ => ⟨S2176x128, .f32⟩
  | .hbm, ⟨34, _⟩ => ⟨S2176x16, .f32⟩
  | .hbm, ⟨35, _⟩ => ⟨S2176x128, .f32⟩
  | .hbm, ⟨36, _⟩ => ⟨S1x2176x1x128, .f32⟩
  | .hbm, ⟨37, _⟩ => ⟨S2x2176x1x128, .f32⟩
  | .hbm, ⟨38, _⟩ => ⟨S4352x128, .f32⟩
  | .hbm, ⟨39, _⟩ => ⟨S1x2176x1x128, .f32⟩
  | .hbm, ⟨40, _⟩ => ⟨S2x2176x1x128, .f32⟩
  | .hbm, ⟨41, _⟩ => ⟨S4352x128, .f32⟩
  | .hbm, ⟨42, _⟩ => ⟨S1x2176x1x128, .f32⟩
  | .hbm, ⟨43, _⟩ => ⟨S2x2176x1x128, .f32⟩
  | .hbm, ⟨44, _⟩ => ⟨S4352x128, .f32⟩
  | .hbm, ⟨45, _⟩ => ⟨S4352x896, .bf16⟩
  | .hbm, ⟨46, _⟩ => ⟨S4352x32, .bf16⟩
  | .hbm, ⟨47, _⟩ => ⟨S_, .i32⟩
  | .hbm, ⟨48, _⟩ => ⟨S_, .bf16⟩
  | .hbm, ⟨49, _⟩ => ⟨S4352x128, .bf16⟩
  | .hbm, ⟨50, _⟩ => ⟨S4352x2048, .bf16⟩
  | .hbm, ⟨51, _⟩ => ⟨S4352x3072, .bf16⟩
  | .hbm, ⟨52, _⟩ => ⟨S1x256, .f32⟩
  | .hbm, ⟨53, _⟩ => ⟨S1x128, .f32⟩
  | .hbm, ⟨54, _⟩ => ⟨S256x2048, .bf16⟩
  | .hbm, ⟨55, _⟩ => ⟨S128x4096, .bf16⟩
  | .hbm, ⟨56, _⟩ => ⟨S4352x2048, .bf16⟩
  | .hbm, ⟨57, _⟩ => ⟨S4352x2048, .bf16⟩
  | .hbm, ⟨58, _⟩ => ⟨S4352x2048, .bf16⟩
  | .local _ .vmem, ⟨0, _⟩ => ⟨S544x256, .bf16⟩
  | .local _ .vmem, ⟨1, _⟩ => ⟨S544x256, .bf16⟩
  | .local _ .vmem, ⟨2, _⟩ => ⟨S544x128, .bf16⟩
  | .local _ .vmem, ⟨3, _⟩ => ⟨S544x128, .bf16⟩
  | .local _ .vmem, ⟨4, _⟩ => ⟨S544x128, .bf16⟩
  | .local _ .vmem, ⟨5, _⟩ => ⟨S544x128, .bf16⟩
  | .local _ .vmem, ⟨6, _⟩ => ⟨S1x256, .f32⟩
  | .local _ .vmem, ⟨7, _⟩ => ⟨S1x128, .f32⟩
  | .local _ .vmem, ⟨8, _⟩ => ⟨S256x2048, .bf16⟩
  | .local _ .vmem, ⟨9, _⟩ => ⟨S128x4096, .bf16⟩
  | .local _ .vmem, ⟨10, _⟩ => ⟨S544x128, .f32⟩
  | .local _ .vmem, ⟨11, _⟩ => ⟨S544x128, .f32⟩
  | .local _ .vmem, ⟨12, _⟩ => ⟨S544x128, .f32⟩
  | .local _ .vmem, ⟨13, _⟩ => ⟨S544x128, .f32⟩
  | .local _ .vmem, ⟨14, _⟩ => ⟨S544x128, .f32⟩
  | .local _ .vmem, ⟨15, _⟩ => ⟨S544x128, .f32⟩
  | .local _ .vmem, ⟨16, _⟩ => ⟨S544x2048, .bf16⟩
  | .local _ .vmem, ⟨17, _⟩ => ⟨S544x2048, .bf16⟩
  | .local _ .vmem, ⟨18, _⟩ => ⟨S544x2048, .bf16⟩
  | .local _ .vmem, ⟨19, _⟩ => ⟨S544x2048, .bf16⟩
  | .local _ .vmem, ⟨20, _⟩ => ⟨S544x2048, .bf16⟩
  | .local _ .vmem, ⟨21, _⟩ => ⟨S544x2048, .bf16⟩
  | _, _ => ⟨S4352x2976, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_call1_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_1 : Ref sig .tc := ⟨.hbm, 19, rfl⟩
abbrev main_call2_v0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_cst_2 : Ref sig .tc := ⟨.hbm, 26, rfl⟩
abbrev main_v12 : Ref sig .tc := ⟨.hbm, 27, rfl⟩
abbrev main_cst_3 : Ref sig .tc := ⟨.hbm, 28, rfl⟩
abbrev main_v13 : Ref sig .tc := ⟨.hbm, 29, rfl⟩
abbrev main_cst_4 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_call3_v0 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37_0 : Ref sig .tc := ⟨.hbm, 56, rfl⟩
abbrev main_v37_1 : Ref sig .tc := ⟨.hbm, 57, rfl⟩
abbrev main_v37_2 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S544x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S544x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S544x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S544x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S544x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S544x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S544x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S544x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== QkvFwdRefIdeal.lean ====
abbrev S4352x2976 : Shape := ⟨2, ![4352, 2976]⟩
abbrev S256 : Shape := ⟨1, ![256]⟩
abbrev S128 : Shape := ⟨1, ![128]⟩
abbrev S256x1536 : Shape := ⟨2, ![256, 1536]⟩
abbrev S128x2048 : Shape := ⟨2, ![128, 2048]⟩
abbrev S2176x16 : Shape := ⟨2, ![2176, 16]⟩
abbrev S2x2176x2976 : Shape := ⟨3, ![2, 2176, 2976]⟩
abbrev S2x2176x256 : Shape := ⟨3, ![2, 2176, 256]⟩
abbrev S2x2176x128 : Shape := ⟨3, ![2, 2176, 128]⟩
abbrev S2x2176x32 : Shape := ⟨3, ![2, 2176, 32]⟩
abbrev S_ : Shape := ⟨0, ![]⟩
abbrev S2x2176 : Shape := ⟨2, ![2, 2176]⟩
abbrev S2x2176x1 : Shape := ⟨3, ![2, 2176, 1]⟩
abbrev S1x1x256 : Shape := ⟨3, ![1, 1, 256]⟩
abbrev S2x2176x1536 : Shape := ⟨3, ![2, 2176, 1536]⟩
abbrev S2x2176x16x96 : Shape := ⟨4, ![2, 2176, 16, 96]⟩
abbrev S2x2176x16x64 : Shape := ⟨4, ![2, 2176, 16, 64]⟩
abbrev S2x2176x16x32 : Shape := ⟨4, ![2, 2176, 16, 32]⟩
abbrev S2176x1x16 : Shape := ⟨3, ![2176, 1, 16]⟩
abbrev S2x2176x16x16 : Shape := ⟨4, ![2, 2176, 16, 16]⟩
abbrev S1x2176x1x16 : Shape := ⟨4, ![1, 2176, 1, 16]⟩
abbrev S1x1x128 : Shape := ⟨3, ![1, 1, 128]⟩
abbrev S2x2176x2048 : Shape := ⟨3, ![2, 2176, 2048]⟩
abbrev S2x2176x16x128 : Shape := ⟨4, ![2, 2176, 16, 128]⟩
abbrev S2x2176x16 : Shape := ⟨3, ![2, 2176, 16]⟩
abbrev S1x2176x16 : Shape := ⟨3, ![1, 2176, 16]⟩
abbrev S2x2176x1x32 : Shape := ⟨4, ![2, 2176, 1, 32]⟩
abbrev S2x2176x16x1 : Shape := ⟨4, ![2, 2176, 16, 1]⟩
abbrev S2x2176x16x63 : Shape := ⟨4, ![2, 2176, 16, 63]⟩
abbrev S4352x2048 : Shape := ⟨2, ![4352, 2048]⟩

abbrev nBuf : Space → Nat
  | .hbm => 111
  | .vmem => 0
  | .smem => 0
  | _ => 0

abbrev bufTy : (tb : Table) → Fin (tcTables nBuf tb) → BufTy
  | .hbm, ⟨0, _⟩ => ⟨S4352x2976, .bf16⟩
  | .hbm, ⟨1, _⟩ => ⟨S256, .f32⟩
  | .hbm, ⟨2, _⟩ => ⟨S128, .f32⟩
  | .hbm, ⟨3, _⟩ => ⟨S256x1536, .f32⟩
  | .hbm, ⟨4, _⟩ => ⟨S128x2048, .f32⟩
  | .hbm, ⟨5, _⟩ => ⟨S2176x16, .f32⟩
  | .hbm, ⟨6, _⟩ => ⟨S2176x16, .f32⟩
  | .hbm, ⟨7, _⟩ => ⟨S4352x2976, .f32⟩
  | .hbm, ⟨8, _⟩ => ⟨S2x2176x2976, .f32⟩
  | .hbm, ⟨9, _⟩ => ⟨S2x2176x256, .f32⟩
  | .hbm, ⟨10, _⟩ => ⟨S2x2176x128, .f32⟩
  | .hbm, ⟨11, _⟩ => ⟨S2x2176x32, .f32⟩
  | .hbm, ⟨12, _⟩ => ⟨S2x2176x256, .f32⟩
  | .hbm, ⟨13, _⟩ => ⟨S_, .f32⟩
  | .hbm, ⟨14, _⟩ => ⟨S2x2176, .f32⟩
  | .hbm, ⟨15, _⟩ => ⟨S2x2176x1, .f32⟩
  | .hbm, ⟨16, _⟩ => ⟨S_, .f32⟩
  | .hbm, ⟨17, _⟩ => ⟨S2x2176x1, .f32⟩
  | .hbm, ⟨18, _⟩ => ⟨S2x2176x1, .f32⟩
  | .hbm, ⟨19, _⟩ => ⟨S_, .f32⟩
  | .hbm, ⟨20, _⟩ => ⟨S2x2176x1, .f32⟩
  | .hbm, ⟨21, _⟩ => ⟨S2x2176x1, .f32⟩
  | .hbm, ⟨22, _⟩ => ⟨S2x2176x1, .f32⟩
  | .hbm, ⟨23, _⟩ => ⟨S2x2176x256, .f32⟩
  | .hbm, ⟨24, _⟩ => ⟨S2x2176x256, .f32⟩
  | .hbm, ⟨25, _⟩ => ⟨S1x1x256, .f32⟩
  | .hbm, ⟨26, _⟩ => ⟨S2x2176x256, .f32⟩
  | .hbm, ⟨27, _⟩ => ⟨S2x2176x256, .f32⟩
  | .hbm, ⟨28, _⟩ => ⟨S2x2176x1536, .f32⟩
  | .hbm, ⟨29, _⟩ => ⟨S2x2176x16x96, .f32⟩
  | .hbm, ⟨30, _⟩ => ⟨S2x2176x16x64, .f32⟩
  | .hbm, ⟨31, _⟩ => ⟨S2x2176x16x32, .f32⟩
  | .hbm, ⟨32, _⟩ => ⟨S2176x1x16, .f32⟩
  | .hbm, ⟨33, _⟩ => ⟨S2176x1x16, .f32⟩
  | .hbm, ⟨34, _⟩ => ⟨S2x2176x16x16, .f32⟩
  | .hbm, ⟨35, _⟩ => ⟨S2x2176x16x16, .f32⟩
  | .hbm, ⟨36, _⟩ => ⟨S1x2176x1x16, .f32⟩
  | .hbm, ⟨37, _⟩ => ⟨S2x2176x16x16, .f32⟩
  | .hbm, ⟨38, _⟩ => ⟨S2x2176x16x16, .f32⟩
  | .hbm, ⟨39, _⟩ => ⟨S1x2176x1x16, .f32⟩
  | .hbm, ⟨40, _⟩ => ⟨S2x2176x16x16, .f32⟩
  | .hbm, ⟨41, _⟩ => ⟨S2x2176x16x16, .f32⟩
  | .hbm, ⟨42, _⟩ => ⟨S2x2176x16x16, .f32⟩
  | .hbm, ⟨43, _⟩ => ⟨S1x2176x1x16, .f32⟩
  | .hbm, ⟨44, _⟩ => ⟨S2x2176x16x16, .f32⟩
  | .hbm, ⟨45, _⟩ => ⟨S2x2176x16x16, .f32⟩
  | .hbm, ⟨46, _⟩ => ⟨S1x2176x1x16, .f32⟩
  | .hbm, ⟨47, _⟩ => ⟨S2x2176x16x16, .f32⟩
  | .hbm, ⟨48, _⟩ => ⟨S2x2176x16x16, .f32⟩
  | .hbm, ⟨49, _⟩ => ⟨S2x2176x16x16, .f32⟩
  | .hbm, ⟨50, _⟩ => ⟨S2x2176x16x32, .f32⟩
  | .hbm, ⟨51, _⟩ => ⟨S2x2176x128, .f32⟩
  | .hbm, ⟨52, _⟩ => ⟨S_, .f32⟩
  | .hbm, ⟨53, _⟩ => ⟨S2x2176, .f32⟩
  | .hbm, ⟨54, _⟩ => ⟨S2x2176x1, .f32⟩
  | .hbm, ⟨55, _⟩ => ⟨S_, .f32⟩
  | .hbm, ⟨56, _⟩ => ⟨S2x2176x1, .f32⟩
  | .hbm, ⟨57, _⟩ => ⟨S2x2176x1, .f32⟩
  | .hbm, ⟨58, _⟩ => ⟨S_, .f32⟩
  | .hbm, ⟨59, _⟩ => ⟨S2x2176x1, .f32⟩
  | .hbm, ⟨60, _⟩ => ⟨S2x2176x1, .f32⟩
  | .hbm, ⟨61, _⟩ => ⟨S2x2176x1, .f32⟩
  | .hbm, ⟨62, _⟩ => ⟨S2x2176x128, .f32⟩
  | .hbm, ⟨63, _⟩ => ⟨S2x2176x128, .f32⟩
  | .hbm, ⟨64, _⟩ => ⟨S1x1x128, .f32⟩
  | .hbm, ⟨65, _⟩ => ⟨S2x2176x128, .f32⟩
  | .hbm, ⟨66, _⟩ => ⟨S2x2176x128, .f32⟩
  | .hbm, ⟨67, _⟩ => ⟨S2x2176x2048, .f32⟩
  | .hbm, ⟨68, _⟩ => ⟨S2x2176x16x128, .f32⟩
  | .hbm, ⟨69, _⟩ => ⟨S2x2176x16x64, .f32⟩
  | .hbm, ⟨70, _⟩ => ⟨S2x2176x16x64, .f32⟩
  | .hbm, ⟨71, _⟩ => ⟨S2x2176x16, .f32⟩
  | .hbm, ⟨72, _⟩ => ⟨S2x2176x16, .f32⟩
  | .hbm, ⟨73, _⟩ => ⟨S1x2176x16, .f32⟩
  | .hbm, ⟨74, _⟩ => ⟨S2x2176x16, .f32⟩
  | .hbm, ⟨75, _⟩ => ⟨S2x2176x16, .f32⟩
  | .hbm, ⟨76, _⟩ => ⟨S1x2176x16, .f32⟩
  | .hbm, ⟨77, _⟩ => ⟨S2x2176x16, .f32⟩
  | .hbm, ⟨78, _⟩ => ⟨S2x2176x16, .f32⟩
  | .hbm, ⟨79, _⟩ => ⟨S2x2176x16, .f32⟩
  | .hbm, ⟨80, _⟩ => ⟨S1x2176x16, .f32⟩
  | .hbm, ⟨81, _⟩ => ⟨S2x2176x16, .f32⟩
  | .hbm, ⟨82, _⟩ => ⟨S2x2176x16, .f32⟩
  | .hbm, ⟨83, _⟩ => ⟨S1x2176x16, .f32⟩
  | .hbm, ⟨84, _⟩ => ⟨S2x2176x16, .f32⟩
  | .hbm, ⟨85, _⟩ => ⟨S2x2176x16, .f32⟩
  | .hbm, ⟨86, _⟩ => ⟨S2x2176x16, .f32⟩
  | .hbm, ⟨87, _⟩ => ⟨S2x2176x32, .f32⟩
  | .hbm, ⟨88, _⟩ => ⟨S2x2176x1x32, .f32⟩
  | .hbm, ⟨89, _⟩ => ⟨S2x2176x16x32, .f32⟩
  | .hbm, ⟨90, _⟩ => ⟨S_, .f32⟩
  | .hbm, ⟨91, _⟩ => ⟨S2x2176x16x32, .f32⟩
  | .hbm, ⟨92, _⟩ => ⟨S_, .f32⟩
  | .hbm, ⟨93, _⟩ => ⟨S2x2176x16x1, .f32⟩
  | .hbm, ⟨94, _⟩ => ⟨S_, .f32⟩
  | .hbm, ⟨95, _⟩ => ⟨S2x2176x16x63, .f32⟩
  | .hbm, ⟨96, _⟩ => ⟨S_, .f32⟩
  | .hbm, ⟨97, _⟩ => ⟨S2x2176x16x64, .f32⟩
  | .hbm, ⟨98, _⟩ => ⟨S2x2176x16x64, .f32⟩
  | .hbm, ⟨99, _⟩ => ⟨S_, .f32⟩
  | .hbm, ⟨100, _⟩ => ⟨S2x2176x16x32, .f32⟩
  | .hbm, ⟨101, _⟩ => ⟨S2x2176x16x32, .f32⟩
  | .hbm, ⟨102, _⟩ => ⟨S2x2176x16x128, .f32⟩
  | .hbm, ⟨103, _⟩ => ⟨S2x2176x16x128, .f32⟩
  | .hbm, ⟨104, _⟩ => ⟨S2x2176x16x128, .f32⟩
  | .hbm, ⟨105, _⟩ => ⟨S4352x2048, .f32⟩
  | .hbm, ⟨106, _⟩ => ⟨S4352x2048, .bf16⟩
  | .hbm, ⟨107, _⟩ => ⟨S4352x2048, .f32⟩
  | .hbm, ⟨108, _⟩ => ⟨S4352x2048, .bf16⟩
  | .hbm, ⟨109, _⟩ => ⟨S4352x2048, .f32⟩
  | .hbm, ⟨110, _⟩ => ⟨S4352x2048, .bf16⟩
  | _, _ => ⟨S4352x2976, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_2 : Ref sig .tc := ⟨.hbm, 52, rfl⟩
abbrev main_v42 : Ref sig .tc := ⟨.hbm, 53, rfl⟩
abbrev main_v43 : Ref sig .tc := ⟨.hbm, 54, rfl⟩
abbrev main_cst_3 : Ref sig .tc := ⟨.hbm, 55, rfl⟩
abbrev main_v44 : Ref sig .tc := ⟨.hbm, 56, rfl⟩
abbrev main_v45 : Ref sig .tc := ⟨.hbm, 57, rfl⟩
abbrev main_cst_4 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_cst_5 : Ref sig .tc := ⟨.hbm, 90, rfl⟩
abbrev main_v77 : Ref sig .tc := ⟨.hbm, 91, rfl⟩
abbrev main_cst_6 : Ref sig .tc := ⟨.hbm, 92, rfl⟩
abbrev main_v78 : Ref sig .tc := ⟨.hbm, 93, rfl⟩
abbrev main_cst_7 : Ref sig .tc := ⟨.hbm, 94, rfl⟩
abbrev main_v79 : Ref sig .tc := ⟨.hbm, 95, rfl⟩
abbrev main_cst_8 : Ref sig .tc := ⟨.hbm, 96, rfl⟩
abbrev main_v80 : Ref sig .tc := ⟨.hbm, 97, rfl⟩
abbrev main_v81 : Ref sig .tc := ⟨.hbm, 98, rfl⟩
abbrev main_cst_9 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩

abbrev nD : Nat := 1
abbrev τ : Topo := Topo.v7x

variable {F : FTy → Type} [FloatOps F]
-- ==== Proof.RealValues.lean ====
/-
  Entries that are real numbers: the predicate, what keeps it, and what a precondition that asks it of an array gives.
-/
module

public import Idealize.ShloMosaic.PureOps.Ideal.Laws
public import Idealize.ShloMosaic.Lib.IdealHost
public import Idealize.ShloMosaic.Lib.ReduceAll
public import Idealize.ShloMosaic.Lib.Pointwise

@[expose] public section

noncomputable section

namespace Cert.RealValues

open Idealize.ShloMosaic

/-- The entry is a real number. -/
def IsReal (x : EReal) : Prop := ∃ r : ℝ, x = (r : EReal)

theorem IsReal.coe (r : ℝ) : IsReal (r : EReal) := ⟨r, rfl⟩
theorem IsReal.zero : IsReal 0 := ⟨0, by simp⟩
theorem IsReal.one : IsReal 1 := ⟨1, by simp⟩
theorem IsReal.add {x y : EReal} : IsReal x → IsReal y → IsReal (x + y)
  | ⟨a, ha⟩, ⟨b, hb⟩ => ⟨a + b, by rw [ha, hb, EReal.coe_add]⟩
theorem IsReal.sub {x y : EReal} : IsReal x → IsReal y → IsReal (x - y)
  | ⟨a, ha⟩, ⟨b, hb⟩ => ⟨a - b, by rw [ha, hb, EReal.coe_sub]⟩
theorem IsReal.mul {x y : EReal} : IsReal x → IsReal y → IsReal (x * y)
  | ⟨a, ha⟩, ⟨b, hb⟩ => ⟨a * b, by rw [ha, hb, EReal.coe_mul]⟩
theorem IsReal.logistic {x : EReal} : IsReal x → IsReal (Ideal.logistic x)
  | ⟨a, ha⟩ => ⟨_, by rw [ha, Ideal.logistic_coe]⟩

/-- A sum of real numbers, as extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type} (s : Finset ι) {f : ι → EReal} (h : ∀ i, IsReal (f i)) : IsReal (∑ i ∈ s, f i) := by
  choose g hg using h
  exact ⟨∑ i ∈ s, g i, by rw [coe_sum]; exact Finset.sum_congr rfl fun i _ => hg i⟩

/-- The real numbers of an array whose entries are real. -/
theorem exists_real {ι : Type} {f : ι → EReal} (h : ∀ i, IsReal (f i)) : ∃ g : ι → ℝ, f = fun i => (g i : EReal) := by
  choose g hg using h
  exact ⟨g, funext hg⟩

/-- A magnitude below the largest value is a real number's. -/
theorem real_of_abs_lt {x : EReal} (h : max x (-x) < ⊤) : IsReal x := by
  induction x with
  | bot => simp at h
  | top => simp at h
  | coe r => exact ⟨r, rfl⟩

theorem inf_eq : Ideal.ofBits .f32 0x7F800000#32 = ⊤ := by simp [Ideal.ofBits, Ideal.ieee]

/-- An array all of whose magnitudes are found below the largest value holds real numbers. -/
theorem all_real {s t u : Shape} [Subsingleton t.Idx] {axes : List (Fin s.rank)} (x : FVec Ideal s .f32)
    (b : (⟨0, ![]⟩ : Shape).BroadcastsInDim s ![]) (init : u.Idx → BitVec 1) (h : s.ReducesTo axes t) (hu : 0 < u.numel) (j : t.Idx)
    (e : Host.reduce IntOp.andi (cmpf .olt (Host.absf x) (broadcastInDim s ![] b (constant (⟨0, ![]⟩ : Shape) .f32 0x7F800000#32)))
      init h hu j = 1#1) (i : s.Idx) : IsReal (x i) := by
  have hi := Host.reduce_andi_all _ init h hu j e i
  have hi' : FloatOps.cmpf (F := Ideal) (φ := .f32) .olt (FloatOps.hostAbsf (F := Ideal) (φ := .f32) (x i)) (Ideal.ofBits .f32 0x7F800000#32) = 1#1 := by
    refine Eq.trans ?_ hi
    show _ = FloatOps.cmpf (F := Ideal) (φ := .f32) .olt _ (broadcastInDim s ![] b (constant (⟨0, ![]⟩ : Shape) .f32 0x7F800000#32) i)
    rw [ValueIdx.broadcastInDim_scalar_apply]
    rfl
  rw [inf_eq] at hi'
  apply real_of_abs_lt
  by_contra hn
  revert hi'
  simp only [FloatOps.cmpf, FloatOps.hostAbsf, Ideal.cmp, decide_eq_false hn]
  decide

end Cert.RealValues

end
-- ==== Proof.RmsRow.lean ====
/-
  One row of the root-mean-square norm and of its derivative, as functions of the row.
-/
module

public import proofs.«01_k».proof.Proof.RealValues

@[expose] public section

noncomputable section

namespace Cert.RmsRow

open Idealize.ShloMosaic Cert.RealValues

variable {n : ℕ}

/-- The mean square of a row, plus the small constant. -/
abbrev meanSq (w e : EReal) (x : Fin n → EReal) : EReal := Ideal.div (∑ k, x k * x k) w + e
/-- The row's factor: one over the root. -/
abbrev factor (w e : EReal) (x : Fin n → EReal) : EReal := Ideal.rsqrt (meanSq w e x)
/-- The normed row. -/
abbrev normed (w e : EReal) (x : Fin n → EReal) (j : Fin n) : EReal := x j * factor w e x
/-- The row's gradient from the gradient `d` of the normed row, as the kernels compute it. -/
abbrev back (w e : EReal) (x d : Fin n → EReal) (j : Fin n) : EReal :=
  factor w e x * (d j - normed w e x j * Ideal.div (∑ k, normed w e x k * d k) w)
/-- The gradient's second part, through the mean square, as the derivative's rule gives it. -/
abbrev viaMean (w e h : EReal) (x d : Fin n → EReal) : EReal :=
  Ideal.div ((∑ k, x k * d k) * (h * Ideal.div (factor w e x) (meanSq w e x))) w

/-- The small constant is a positive real number. -/
theorem eps_real : ∃ r : ℝ, 0 < r ∧ Ideal.ofBits .f32 0x358637BD#32 = (r : EReal) := by
  refine ⟨_, ?_, by simp [Ideal.ofBits, Ideal.ieee]; rfl⟩
  positivity
theorem width_real : Ideal.ofBits .f32 0x44800000#32 = ((1024 : ℝ) : EReal) := by
  simp [Ideal.ofBits, Ideal.ieee]
  rw [← EReal.coe_mul]; exact congrArg _ (by norm_num)
theorem neg_half : Ideal.ofBits .f32 0xBF000000#32 = ((-(1 / 2) : ℝ) : EReal) := by
  simp [Ideal.ofBits, Ideal.ieee]
  rw [← EReal.coe_mul]; exact congrArg _ (by norm_num)

theorem meanSq_coe (w e : ℝ) (hw : 0 < w) (x : Fin n → ℝ) :
    meanSq (w : EReal) (e : EReal) (fun k => (x k : EReal)) = (((∑ k, x k * x k) / w + e : ℝ) : EReal) := by
  simp only [meanSq, ← EReal.coe_mul, ← coe_sum, Ideal.div_coe hw.ne', ← EReal.coe_add, mul_one_div]
theorem meanSq_pos (w e : ℝ) (hw : 0 < w) (he : 0 < e) (x : Fin n → ℝ) : 0 < (∑ k, x k * x k) / w + e :=
  add_pos_of_nonneg_of_pos (div_nonneg (Finset.sum_nonneg fun k _ => mul_self_nonneg _) hw.le) he
theorem factor_coe (w e : ℝ) (hw : 0 < w) (he : 0 < e) (x : Fin n → ℝ) :
    factor (w : EReal) (e : EReal) (fun k => (x k : EReal)) = (((Real.sqrt ((∑ k, x k * x k) / w + e))⁻¹ : ℝ) : EReal) := by
  have h := meanSq_pos w e hw he x
  rw [factor, meanSq_coe w e hw, Ideal.rsqrt_coe, if_neg h.not_gt, if_neg h.ne']

theorem factor_real (w e : ℝ) (hw : 0 < w) (he : 0 < e) {x : Fin n → EReal} (hx : ∀ k, IsReal (x k)) : IsReal (factor (w : EReal) e x) := by
  obtain ⟨xr, rfl⟩ := exists_real hx
  exact ⟨_, factor_coe w e hw he xr⟩

/-- The two ways of writing the row's gradient agree on real rows. -/
theorem back_eq (w e : ℝ) (hw : 0 < w) (he : 0 < e) {x d : Fin n → EReal} (hx : ∀ k, IsReal (x k)) (hd : ∀ k, IsReal (d k)) (j : Fin n) :
    d j * factor (w : EReal) e x + x j * viaMean (w : EReal) e ((-(1 / 2) : ℝ) : EReal) x d
      + viaMean (w : EReal) e ((-(1 / 2) : ℝ) : EReal) x d * x j = back (w : EReal) e x d j := by
  obtain ⟨xr, rfl⟩ := exists_real hx
  obtain ⟨dr, rfl⟩ := exists_real hd
  have h := meanSq_pos w e hw he xr
  have hs := Real.sq_sqrt h.le
  have hp := Real.sqrt_pos.2 h
  simp only [viaMean, back, normed, factor_coe w e hw he, meanSq_coe w e hw, ← EReal.coe_mul, ← coe_sum, Ideal.div_coe hw.ne',
    Ideal.div_coe h.ne', ← EReal.coe_add, ← EReal.coe_sub]
  generalize (∑ k, xr k * xr k) / w + e = v at h hs hp
  refine congrArg _ ?_
  have e1 : ∑ k, xr k * (Real.sqrt v)⁻¹ * dr k = (Real.sqrt v)⁻¹ * ∑ k, xr k * dr k := by
    rw [Finset.mul_sum]; exact Finset.sum_congr rfl fun k _ => by ring
  rw [e1]
  generalize Real.sqrt v = s at hs hp
  subst hs
  field_simp
  ring

end Cert.RmsRow

end
-- ==== Proof.FfnFormula.lean ====
/-
  The channel mixer's gradient, entry by entry, over the extended reals: a root-mean-square norm, two projections of the
  normed row, the gated product, and the gradients of the row, of both projections and of the norm's gain.
-/
module

public import proofs.«01_k».proof.Proof.RmsRow
public import Idealize.ShloMosaic.Lib.Pipeline.Value
public import Idealize.ShloMosaic.Lib.Pointwise

@[expose] public section

noncomputable section

namespace Cert.FfnFormula

open Idealize.ShloMosaic Cert.RealValues Cert.RmsRow

/-- Arrays of extended reals with two axes and with one. -/
abbrev Arr (p q : Nat) : Type := (⟨2, ![p, q]⟩ : Shape).Idx → EReal
abbrev Vec1 (p : Nat) : Type := (⟨1, ![p]⟩ : Shape).Idx → EReal

/-- The row's width and the norm's small constant, as the programs write them. -/
abbrev W : EReal := Ideal.ofBits .f32 1149239296#32
abbrev E : EReal := Ideal.ofBits .f32 897988541#32

/-- Row `i` of an array. -/
abbrev row {p q : Nat} (x : Arr p q) (i : Fin p) : Fin q → EReal := fun k => x (ix2 i k)

/-- The gradients through the gated product of one entry, from the gradient `d` of the product. -/
abbrev throughGate (d a b : EReal) : EReal := d * b * (Ideal.logistic a * (1 + a * (1 - Ideal.logistic a)))
abbrev throughUp (d a : EReal) : EReal := d * (a * Ideal.logistic a)

variable (h : Arr 4352 1024) (g : Vec1 1024) (wg wu : Arr 1024 2816) (wd : Arr 2816 1024) (ct : Arr 4352 1024) (i : Fin 4352)

/-- The normed row times the gain. -/
def hn (k : Fin 1024) : EReal := normed W E (row h i) k * g (ix1 k)
/-- A projection of it. -/
def proj (w : Arr 1024 2816) (f : Fin 2816) : EReal := ∑ k : Fin 1024, hn h g i k * w (ix2 k f)
/-- The gated product. -/
def act (f : Fin 2816) : EReal := proj h g i wg f * Ideal.logistic (proj h g i wg f) * proj h g i wu f
/-- The gradient of the gated product. -/
def dAct (f : Fin 2816) : EReal := ∑ k : Fin 1024, ct (ix2 i k) * wd (ix2 f k)
/-- The gradients of the two projections. -/
def dA (f : Fin 2816) : EReal := throughGate (dAct wd ct i f) (proj h g i wg f) (proj h g i wu f)
def dB (f : Fin 2816) : EReal := throughUp (dAct wd ct i f) (proj h g i wg f)
/-- The gradient of the normed row times the gain. -/
def dHn (k : Fin 1024) : EReal :=
  ∑ f : Fin 2816, dA h g wg wu wd ct i f * wg (ix2 k f) + ∑ f : Fin 2816, dB h g wg wd ct i f * wu (ix2 k f)
/-- The gradient of the row. -/
def dH (k : Fin 1024) : EReal := ct (ix2 i k) + back W E (row h i) (fun j => dHn h g wg wu wd ct i j * g (ix1 j)) k
/-- The gradient of the gain: a sum over all rows. -/
def dG (k : Fin 1024) : EReal := ∑ i : Fin 4352, dHn h g wg wu wd ct i k * normed W E (row h i) k

/-! ### Real arguments give real values -/

theorem W_eq : W = ((1024 : ℝ) : EReal) := width_real
theorem factor_isReal {x : Fin 1024 → EReal} (hx : ∀ k, IsReal (x k)) : IsReal (factor W E x) := by
  obtain ⟨e, he, hE⟩ := eps_real
  show IsReal (factor W (Ideal.ofBits .f32 0x358637BD#32) x)
  rw [hE, W_eq]
  exact factor_real 1024 e (by norm_num) he hx

variable {h g wg wu wd ct i}
variable (hh : ∀ i, IsReal (h i)) (hg : ∀ i, IsReal (g i)) (hwg : ∀ i, IsReal (wg i)) (hwu : ∀ i, IsReal (wu i))
  (hwd : ∀ i, IsReal (wd i)) (hct : ∀ i, IsReal (ct i))
include hh hg

theorem hn_real (k : Fin 1024) : IsReal (hn h g i k) := ((hh _).mul (factor_isReal fun _ => hh _)).mul (hg _)
theorem proj_real {w : Arr 1024 2816} (hw : ∀ i, IsReal (w i)) (f : Fin 2816) : IsReal (proj h g i w f) :=
  IsReal.sum _ fun k => (hn_real hh hg k).mul (hw _)
omit hh hg in
include hwd hct in
theorem dAct_real (f : Fin 2816) : IsReal (dAct wd ct i f) := IsReal.sum _ fun _ => (hct _).mul (hwd _)
include hwg hwd hct
theorem dB_real (f : Fin 2816) : IsReal (dB h g wg wd ct i f) :=
  have ha := proj_real hh hg hwg f
  (dAct_real hwd hct f).mul (ha.mul ha.logistic)
include hwu
theorem dA_real (f : Fin 2816) : IsReal (dA h g wg wu wd ct i f) :=
  have ha := proj_real hh hg hwg f
  ((dAct_real hwd hct f).mul (proj_real hh hg hwu f)).mul (ha.logistic.mul (IsReal.one.add (ha.mul (IsReal.one.sub ha.logistic))))
theorem dHn_real (k : Fin 1024) : IsReal (dHn h g wg wu wd ct i k) :=
  (IsReal.sum _ fun f => (dA_real hh hg hwg hwu hwd hct f).mul (hwg _)).add
    (IsReal.sum _ fun f => (dB_real hh hg hwg hwd hct f).mul (hwu _))

omit hh hg hwg hwu hwd hct in
/-- The derivative's rule for the gate, on real numbers. -/
theorem gate_eq {d a b : EReal} (hd : IsReal d) (ha : IsReal a) (hb : IsReal b) :
    d * b * Ideal.logistic a + a * (d * b) * (Ideal.logistic a * (1 - Ideal.logistic a)) = throughGate d a b := by
  obtain ⟨s, hs⟩ := ha.logistic
  obtain ⟨d, rfl⟩ := hd
  obtain ⟨a, rfl⟩ := ha
  obtain ⟨b, rfl⟩ := hb
  unfold throughGate
  rw [hs, show (1 : EReal) = ((1 : ℝ) : EReal) from rfl]
  simp only [← EReal.coe_mul, ← EReal.coe_sub, ← EReal.coe_add]
  exact congrArg _ (by ring)

end Cert.FfnFormula

end
-- ==== Proof.FfnBlock.lean ====
/-
  What the body of the channel mixer's backward kernel leaves in one block of 256 tokens, entry by entry, over the
  extended reals.
-/
module

public import proofs.«01_k».proof.Proof.Gen.FfnBwdIdeal.Frame
public import proofs.«01_k».proof.Proof.FfnFormula

@[expose] public section

noncomputable section

namespace Cert.FfnValue

open Idealize.ShloMosaic Idealize.ShloMosaic.TcCoe Idealize.SL.Sem Cert.FfnBwdIdeal Cert.FfnBwdIdeal.Gen
open Cert.RmsRow Cert.FfnFormula

theorem hz : (![0, 0] : Fin 2 → Nat) = fun _ => 0 := funext fun a => by fin_cases a <;> rfl

/-- The gradients of one block: of the gated product, of the two projections, of the normed row times the gain. -/
abbrev bAct (x1 : Vec Ideal S256x1024 .f32) (x7 : Vec Ideal S2816x1024 .bf16) (r : Fin 256) (f : Fin 2816) : EReal :=
  ∑ k : Fin 1024, x1 (ix2 r k) * x7 (ix2 f k)
abbrev bHn (x1 : Vec Ideal S256x1024 .f32) (x2 x3 : Vec Ideal S256x2816 .bf16) (x5 x6 x7 : Vec Ideal S2816x1024 .bf16)
    (r : Fin 256) (k : Fin 1024) : EReal :=
  ∑ f : Fin 2816, throughGate (bAct x1 x7 r f) (x2 (ix2 r f)) (x3 (ix2 r f)) * x5 (ix2 f k)
    + ∑ f : Fin 2816, throughUp (bAct x1 x7 r f) (x2 (ix2 r f)) * x6 (ix2 f k)

theorem out_A_8 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x2816 .bf16) (harg3 : arg3.IsWhole) (arg4 : Memref sig .tc .vmem S256x2816 .bf16) (harg4 : arg4.IsWhole) (arg5 : Memref sig .tc .vmem S1x1024 .f32) (harg5 : arg5.IsWhole) (arg6 : Memref sig .tc .vmem S2816x1024 .bf16) (harg6 : arg6.IsWhole) (arg7 : Memref sig .tc .vmem S2816x1024 .bf16) (harg7 : arg7.IsWhole) (arg8 : Memref sig .tc .vmem S2816x1024 .bf16) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S256x2816 .bf16) (harg11 : arg11.IsWhole) (arg12 : Memref sig .tc .vmem S256x2816 .bf16) (harg12 : arg12.IsWhole) (arg13 : Memref sig .tc .vmem S256x2816 .bf16) (harg13 : arg13.IsWhole) (arg14 : Memref sig .tc .vmem S1x1024 .f32) (harg14 : arg14.IsWhole) (hc0 : cond0_0 i) (x0 : Vec Ideal S256x1024 .f32) (x1 : Vec Ideal S256x1024 .f32) (x2 : Vec Ideal S256x2816 .bf16) (x3 : Vec Ideal S256x2816 .bf16) (x4 : Vec Ideal S1x1024 .f32) (x5 : Vec Ideal S2816x1024 .bf16) (x6 : Vec Ideal S2816x1024 .bf16) (x7 : Vec Ideal S2816x1024 .bf16) (r : Fin 256) (j : Fin 1024) :
    out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix2 r j)
      = x1 (ix2 r j) + back W E (row x0 r) (fun k => bHn x1 x2 x3 x5 x6 x7 r k * x4 (ix2 0 k)) j := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7)]
  unfold kernelRun0_A
  dsimp only
  sl_unfold_words
  rw [View.canon_unit_zero (S := S256x1024) hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread]
  unfold_payloads
  pointwise

theorem out_A_9 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x2816 .bf16) (harg3 : arg3.IsWhole) (arg4 : Memref sig .tc .vmem S256x2816 .bf16) (harg4 : arg4.IsWhole) (arg5 : Memref sig .tc .vmem S1x1024 .f32) (harg5 : arg5.IsWhole) (arg6 : Memref sig .tc .vmem S2816x1024 .bf16) (harg6 : arg6.IsWhole) (arg7 : Memref sig .tc .vmem S2816x1024 .bf16) (harg7 : arg7.IsWhole) (arg8 : Memref sig .tc .vmem S2816x1024 .bf16) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S256x2816 .bf16) (harg11 : arg11.IsWhole) (arg12 : Memref sig .tc .vmem S256x2816 .bf16) (harg12 : arg12.IsWhole) (arg13 : Memref sig .tc .vmem S256x2816 .bf16) (harg13 : arg13.IsWhole) (arg14 : Memref sig .tc .vmem S1x1024 .f32) (harg14 : arg14.IsWhole) (hc0 : cond0_0 i) (x0 : Vec Ideal S256x1024 .f32) (x1 : Vec Ideal S256x1024 .f32) (x2 : Vec Ideal S256x2816 .bf16) (x3 : Vec Ideal S256x2816 .bf16) (x4 : Vec Ideal S1x1024 .f32) (x5 : Vec Ideal S2816x1024 .bf16) (x6 : Vec Ideal S2816x1024 .bf16) (x7 : Vec Ideal S2816x1024 .bf16) (r : Fin 256) (j : Fin 1024) :
    out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix2 r j)
      = normed W E (row x0 r) j * x4 (ix2 0 j) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7)]
  unfold kernelRun0_A
  dsimp only
  sl_unfold_words
  rw [View.canon_unit_zero (S := S256x1024) hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread]
  unfold_payloads
  pointwise

theorem out_A_10 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x2816 .bf16) (harg3 : arg3.IsWhole) (arg4 : Memref sig .tc .vmem S256x2816 .bf16) (harg4 : arg4.IsWhole) (arg5 : Memref sig .tc .vmem S1x1024 .f32) (harg5 : arg5.IsWhole) (arg6 : Memref sig .tc .vmem S2816x1024 .bf16) (harg6 : arg6.IsWhole) (arg7 : Memref sig .tc .vmem S2816x1024 .bf16) (harg7 : arg7.IsWhole) (arg8 : Memref sig .tc .vmem S2816x1024 .bf16) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S256x2816 .bf16) (harg11 : arg11.IsWhole) (arg12 : Memref sig .tc .vmem S256x2816 .bf16) (harg12 : arg12.IsWhole) (arg13 : Memref sig .tc .vmem S256x2816 .bf16) (harg13 : arg13.IsWhole) (arg14 : Memref sig .tc .vmem S1x1024 .f32) (harg14 : arg14.IsWhole) (hc0 : cond0_0 i) (x0 : Vec Ideal S256x1024 .f32) (x1 : Vec Ideal S256x1024 .f32) (x2 : Vec Ideal S256x2816 .bf16) (x3 : Vec Ideal S256x2816 .bf16) (x4 : Vec Ideal S1x1024 .f32) (x5 : Vec Ideal S2816x1024 .bf16) (x6 : Vec Ideal S2816x1024 .bf16) (x7 : Vec Ideal S2816x1024 .bf16) (r : Fin 256) (j : Fin 2816) :
    out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix2 r j)
      = x2 (ix2 r j) * Ideal.logistic (x2 (ix2 r j)) * x3 (ix2 r j) := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7)]
  unfold kernelRun0_A
  dsimp only
  sl_unfold_words
  rw [View.canon_unit_zero (S := S256x2816) hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread]
  unfold_payloads
  pointwise

theorem out_A_11 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x2816 .bf16) (harg3 : arg3.IsWhole) (arg4 : Memref sig .tc .vmem S256x2816 .bf16) (harg4 : arg4.IsWhole) (arg5 : Memref sig .tc .vmem S1x1024 .f32) (harg5 : arg5.IsWhole) (arg6 : Memref sig .tc .vmem S2816x1024 .bf16) (harg6 : arg6.IsWhole) (arg7 : Memref sig .tc .vmem S2816x1024 .bf16) (harg7 : arg7.IsWhole) (arg8 : Memref sig .tc .vmem S2816x1024 .bf16) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S256x2816 .bf16) (harg11 : arg11.IsWhole) (arg12 : Memref sig .tc .vmem S256x2816 .bf16) (harg12 : arg12.IsWhole) (arg13 : Memref sig .tc .vmem S256x2816 .bf16) (harg13 : arg13.IsWhole) (arg14 : Memref sig .tc .vmem S1x1024 .f32) (harg14 : arg14.IsWhole) (hc0 : cond0_0 i) (x0 : Vec Ideal S256x1024 .f32) (x1 : Vec Ideal S256x1024 .f32) (x2 : Vec Ideal S256x2816 .bf16) (x3 : Vec Ideal S256x2816 .bf16) (x4 : Vec Ideal S1x1024 .f32) (x5 : Vec Ideal S2816x1024 .bf16) (x6 : Vec Ideal S2816x1024 .bf16) (x7 : Vec Ideal S2816x1024 .bf16) (r : Fin 256) (j : Fin 2816) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix2 r j)
      = throughGate (bAct x1 x7 r j) (x2 (ix2 r j)) (x3 (ix2 r j)) := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7)]
  unfold kernelRun0_A
  dsimp only
  sl_unfold_words
  rw [View.canon_unit_zero (S := S256x2816) hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread]
  unfold_payloads
  pointwise

theorem out_A_12 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x2816 .bf16) (harg3 : arg3.IsWhole) (arg4 : Memref sig .tc .vmem S256x2816 .bf16) (harg4 : arg4.IsWhole) (arg5 : Memref sig .tc .vmem S1x1024 .f32) (harg5 : arg5.IsWhole) (arg6 : Memref sig .tc .vmem S2816x1024 .bf16) (harg6 : arg6.IsWhole) (arg7 : Memref sig .tc .vmem S2816x1024 .bf16) (harg7 : arg7.IsWhole) (arg8 : Memref sig .tc .vmem S2816x1024 .bf16) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S256x2816 .bf16) (harg11 : arg11.IsWhole) (arg12 : Memref sig .tc .vmem S256x2816 .bf16) (harg12 : arg12.IsWhole) (arg13 : Memref sig .tc .vmem S256x2816 .bf16) (harg13 : arg13.IsWhole) (arg14 : Memref sig .tc .vmem S1x1024 .f32) (harg14 : arg14.IsWhole) (hc0 : cond0_0 i) (x0 : Vec Ideal S256x1024 .f32) (x1 : Vec Ideal S256x1024 .f32) (x2 : Vec Ideal S256x2816 .bf16) (x3 : Vec Ideal S256x2816 .bf16) (x4 : Vec Ideal S1x1024 .f32) (x5 : Vec Ideal S2816x1024 .bf16) (x6 : Vec Ideal S2816x1024 .bf16) (x7 : Vec Ideal S2816x1024 .bf16) (r : Fin 256) (j : Fin 2816) :
    out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix2 r j)
      = throughUp (bAct x1 x7 r j) (x2 (ix2 r j)) := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7)]
  unfold kernelRun0_A
  dsimp only
  sl_unfold_words
  rw [View.canon_unit_zero (S := S256x2816) hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread]
  unfold_payloads
  pointwise

theorem out_A_13 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x2816 .bf16) (harg3 : arg3.IsWhole) (arg4 : Memref sig .tc .vmem S256x2816 .bf16) (harg4 : arg4.IsWhole) (arg5 : Memref sig .tc .vmem S1x1024 .f32) (harg5 : arg5.IsWhole) (arg6 : Memref sig .tc .vmem S2816x1024 .bf16) (harg6 : arg6.IsWhole) (arg7 : Memref sig .tc .vmem S2816x1024 .bf16) (harg7 : arg7.IsWhole) (arg8 : Memref sig .tc .vmem S2816x1024 .bf16) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S256x2816 .bf16) (harg11 : arg11.IsWhole) (arg12 : Memref sig .tc .vmem S256x2816 .bf16) (harg12 : arg12.IsWhole) (arg13 : Memref sig .tc .vmem S256x2816 .bf16) (harg13 : arg13.IsWhole) (arg14 : Memref sig .tc .vmem S1x1024 .f32) (harg14 : arg14.IsWhole) (hc0 : cond0_0 i) (x0 : Vec Ideal S256x1024 .f32) (x1 : Vec Ideal S256x1024 .f32) (x2 : Vec Ideal S256x2816 .bf16) (x3 : Vec Ideal S256x2816 .bf16) (x4 : Vec Ideal S1x1024 .f32) (x5 : Vec Ideal S2816x1024 .bf16) (x6 : Vec Ideal S2816x1024 .bf16) (x7 : Vec Ideal S2816x1024 .bf16) (j : Fin 1024) :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix2 0 j)
      = 0 + ∑ r : Fin 256, bHn x1 x2 x3 x5 x6 x7 r j * normed W E (row x0 r) j := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7)]
  unfold kernelRun0_A
  dsimp only
  sl_unfold_words
  rw [View.canon_cons_unit_zero (S := S1x1024) hz, View.readCov_unit_zero (S := S1x1024) _ hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread]
  unfold_payloads
  pointwise

theorem out_B_8 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x2816 .bf16) (harg3 : arg3.IsWhole) (arg4 : Memref sig .tc .vmem S256x2816 .bf16) (harg4 : arg4.IsWhole) (arg5 : Memref sig .tc .vmem S1x1024 .f32) (harg5 : arg5.IsWhole) (arg6 : Memref sig .tc .vmem S2816x1024 .bf16) (harg6 : arg6.IsWhole) (arg7 : Memref sig .tc .vmem S2816x1024 .bf16) (harg7 : arg7.IsWhole) (arg8 : Memref sig .tc .vmem S2816x1024 .bf16) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S256x2816 .bf16) (harg11 : arg11.IsWhole) (arg12 : Memref sig .tc .vmem S256x2816 .bf16) (harg12 : arg12.IsWhole) (arg13 : Memref sig .tc .vmem S256x2816 .bf16) (harg13 : arg13.IsWhole) (arg14 : Memref sig .tc .vmem S1x1024 .f32) (harg14 : arg14.IsWhole) (hc0 : ¬cond0_0 i) (x0 : Vec Ideal S256x1024 .f32) (x1 : Vec Ideal S256x1024 .f32) (x2 : Vec Ideal S256x2816 .bf16) (x3 : Vec Ideal S256x2816 .bf16) (x4 : Vec Ideal S1x1024 .f32) (x5 : Vec Ideal S2816x1024 .bf16) (x6 : Vec Ideal S2816x1024 .bf16) (x7 : Vec Ideal S2816x1024 .bf16) (xo13 : Vec Ideal S1x1024 .f32) (r : Fin 256) (j : Fin 1024) :
    out0_B_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo13 (ix2 r j)
      = x1 (ix2 r j) + back W E (row x0 r) (fun k => bHn x1 x2 x3 x5 x6 x7 r k * x4 (ix2 0 k)) j := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo13)]
  unfold kernelRun0_B
  dsimp only
  sl_unfold_words
  rw [View.canon_unit_zero (S := S256x1024) hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread]
  unfold_payloads
  pointwise

theorem out_B_9 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x2816 .bf16) (harg3 : arg3.IsWhole) (arg4 : Memref sig .tc .vmem S256x2816 .bf16) (harg4 : arg4.IsWhole) (arg5 : Memref sig .tc .vmem S1x1024 .f32) (harg5 : arg5.IsWhole) (arg6 : Memref sig .tc .vmem S2816x1024 .bf16) (harg6 : arg6.IsWhole) (arg7 : Memref sig .tc .vmem S2816x1024 .bf16) (harg7 : arg7.IsWhole) (arg8 : Memref sig .tc .vmem S2816x1024 .bf16) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S256x2816 .bf16) (harg11 : arg11.IsWhole) (arg12 : Memref sig .tc .vmem S256x2816 .bf16) (harg12 : arg12.IsWhole) (arg13 : Memref sig .tc .vmem S256x2816 .bf16) (harg13 : arg13.IsWhole) (arg14 : Memref sig .tc .vmem S1x1024 .f32) (harg14 : arg14.IsWhole) (hc0 : ¬cond0_0 i) (x0 : Vec Ideal S256x1024 .f32) (x1 : Vec Ideal S256x1024 .f32) (x2 : Vec Ideal S256x2816 .bf16) (x3 : Vec Ideal S256x2816 .bf16) (x4 : Vec Ideal S1x1024 .f32) (x5 : Vec Ideal S2816x1024 .bf16) (x6 : Vec Ideal S2816x1024 .bf16) (x7 : Vec Ideal S2816x1024 .bf16) (xo13 : Vec Ideal S1x1024 .f32) (r : Fin 256) (j : Fin 1024) :
    out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo13 (ix2 r j)
      = normed W E (row x0 r) j * x4 (ix2 0 j) := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo13)]
  unfold kernelRun0_B
  dsimp only
  sl_unfold_words
  rw [View.canon_unit_zero (S := S256x1024) hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread]
  unfold_payloads
  pointwise

theorem out_B_10 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x2816 .bf16) (harg3 : arg3.IsWhole) (arg4 : Memref sig .tc .vmem S256x2816 .bf16) (harg4 : arg4.IsWhole) (arg5 : Memref sig .tc .vmem S1x1024 .f32) (harg5 : arg5.IsWhole) (arg6 : Memref sig .tc .vmem S2816x1024 .bf16) (harg6 : arg6.IsWhole) (arg7 : Memref sig .tc .vmem S2816x1024 .bf16) (harg7 : arg7.IsWhole) (arg8 : Memref sig .tc .vmem S2816x1024 .bf16) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S256x2816 .bf16) (harg11 : arg11.IsWhole) (arg12 : Memref sig .tc .vmem S256x2816 .bf16) (harg12 : arg12.IsWhole) (arg13 : Memref sig .tc .vmem S256x2816 .bf16) (harg13 : arg13.IsWhole) (arg14 : Memref sig .tc .vmem S1x1024 .f32) (harg14 : arg14.IsWhole) (hc0 : ¬cond0_0 i) (x0 : Vec Ideal S256x1024 .f32) (x1 : Vec Ideal S256x1024 .f32) (x2 : Vec Ideal S256x2816 .bf16) (x3 : Vec Ideal S256x2816 .bf16) (x4 : Vec Ideal S1x1024 .f32) (x5 : Vec Ideal S2816x1024 .bf16) (x6 : Vec Ideal S2816x1024 .bf16) (x7 : Vec Ideal S2816x1024 .bf16) (xo13 : Vec Ideal S1x1024 .f32) (r : Fin 256) (j : Fin 2816) :
    out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo13 (ix2 r j)
      = x2 (ix2 r j) * Ideal.logistic (x2 (ix2 r j)) * x3 (ix2 r j) := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo13)]
  unfold kernelRun0_B
  dsimp only
  sl_unfold_words
  rw [View.canon_unit_zero (S := S256x2816) hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread]
  unfold_payloads
  pointwise

theorem out_B_11 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x2816 .bf16) (harg3 : arg3.IsWhole) (arg4 : Memref sig .tc .vmem S256x2816 .bf16) (harg4 : arg4.IsWhole) (arg5 : Memref sig .tc .vmem S1x1024 .f32) (harg5 : arg5.IsWhole) (arg6 : Memref sig .tc .vmem S2816x1024 .bf16) (harg6 : arg6.IsWhole) (arg7 : Memref sig .tc .vmem S2816x1024 .bf16) (harg7 : arg7.IsWhole) (arg8 : Memref sig .tc .vmem S2816x1024 .bf16) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S256x2816 .bf16) (harg11 : arg11.IsWhole) (arg12 : Memref sig .tc .vmem S256x2816 .bf16) (harg12 : arg12.IsWhole) (arg13 : Memref sig .tc .vmem S256x2816 .bf16) (harg13 : arg13.IsWhole) (arg14 : Memref sig .tc .vmem S1x1024 .f32) (harg14 : arg14.IsWhole) (hc0 : ¬cond0_0 i) (x0 : Vec Ideal S256x1024 .f32) (x1 : Vec Ideal S256x1024 .f32) (x2 : Vec Ideal S256x2816 .bf16) (x3 : Vec Ideal S256x2816 .bf16) (x4 : Vec Ideal S1x1024 .f32) (x5 : Vec Ideal S2816x1024 .bf16) (x6 : Vec Ideal S2816x1024 .bf16) (x7 : Vec Ideal S2816x1024 .bf16) (xo13 : Vec Ideal S1x1024 .f32) (r : Fin 256) (j : Fin 2816) :
    out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo13 (ix2 r j)
      = throughGate (bAct x1 x7 r j) (x2 (ix2 r j)) (x3 (ix2 r j)) := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo13)]
  unfold kernelRun0_B
  dsimp only
  sl_unfold_words
  rw [View.canon_unit_zero (S := S256x2816) hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread]
  unfold_payloads
  pointwise

theorem out_B_12 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x2816 .bf16) (harg3 : arg3.IsWhole) (arg4 : Memref sig .tc .vmem S256x2816 .bf16) (harg4 : arg4.IsWhole) (arg5 : Memref sig .tc .vmem S1x1024 .f32) (harg5 : arg5.IsWhole) (arg6 : Memref sig .tc .vmem S2816x1024 .bf16) (harg6 : arg6.IsWhole) (arg7 : Memref sig .tc .vmem S2816x1024 .bf16) (harg7 : arg7.IsWhole) (arg8 : Memref sig .tc .vmem S2816x1024 .bf16) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S256x2816 .bf16) (harg11 : arg11.IsWhole) (arg12 : Memref sig .tc .vmem S256x2816 .bf16) (harg12 : arg12.IsWhole) (arg13 : Memref sig .tc .vmem S256x2816 .bf16) (harg13 : arg13.IsWhole) (arg14 : Memref sig .tc .vmem S1x1024 .f32) (harg14 : arg14.IsWhole) (hc0 : ¬cond0_0 i) (x0 : Vec Ideal S256x1024 .f32) (x1 : Vec Ideal S256x1024 .f32) (x2 : Vec Ideal S256x2816 .bf16) (x3 : Vec Ideal S256x2816 .bf16) (x4 : Vec Ideal S1x1024 .f32) (x5 : Vec Ideal S2816x1024 .bf16) (x6 : Vec Ideal S2816x1024 .bf16) (x7 : Vec Ideal S2816x1024 .bf16) (xo13 : Vec Ideal S1x1024 .f32) (r : Fin 256) (j : Fin 2816) :
    out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo13 (ix2 r j)
      = throughUp (bAct x1 x7 r j) (x2 (ix2 r j)) := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo13)]
  unfold kernelRun0_B
  dsimp only
  sl_unfold_words
  rw [View.canon_unit_zero (S := S256x2816) hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread]
  unfold_payloads
  pointwise

theorem out_B_13 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x2816 .bf16) (harg3 : arg3.IsWhole) (arg4 : Memref sig .tc .vmem S256x2816 .bf16) (harg4 : arg4.IsWhole) (arg5 : Memref sig .tc .vmem S1x1024 .f32) (harg5 : arg5.IsWhole) (arg6 : Memref sig .tc .vmem S2816x1024 .bf16) (harg6 : arg6.IsWhole) (arg7 : Memref sig .tc .vmem S2816x1024 .bf16) (harg7 : arg7.IsWhole) (arg8 : Memref sig .tc .vmem S2816x1024 .bf16) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S256x2816 .bf16) (harg11 : arg11.IsWhole) (arg12 : Memref sig .tc .vmem S256x2816 .bf16) (harg12 : arg12.IsWhole) (arg13 : Memref sig .tc .vmem S256x2816 .bf16) (harg13 : arg13.IsWhole) (arg14 : Memref sig .tc .vmem S1x1024 .f32) (harg14 : arg14.IsWhole) (hc0 : ¬cond0_0 i) (x0 : Vec Ideal S256x1024 .f32) (x1 : Vec Ideal S256x1024 .f32) (x2 : Vec Ideal S256x2816 .bf16) (x3 : Vec Ideal S256x2816 .bf16) (x4 : Vec Ideal S1x1024 .f32) (x5 : Vec Ideal S2816x1024 .bf16) (x6 : Vec Ideal S2816x1024 .bf16) (x7 : Vec Ideal S2816x1024 .bf16) (xo13 : Vec Ideal S1x1024 .f32) (j : Fin 1024) :
    out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo13 (ix2 0 j)
      = xo13 (ix2 0 j) + ∑ r : Fin 256, bHn x1 x2 x3 x5 x6 x7 r j * normed W E (row x0 r) j := by
  unfold out0_B_13
  rw [View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo13)]
  unfold kernelRun0_B
  dsimp only
  sl_unfold_words
  rw [View.canon_unit_zero (S := S1x1024) hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread]
  unfold_payloads
  pointwise

end Cert.FfnValue

end
-- ==== Proof.FfnArrays.lean ====
/-
  What the channel mixer's backward kernel's six result arrays end holding, entry by entry, from the argument arrays.
-/
module

public import proofs.«01_k».proof.Proof.FfnBlock
public import proofs.«01_k».proof.Proof.Gen.FfnBwdIdeal.Value

@[expose] public section

noncomputable section

namespace Cert.FfnValue

open Idealize.ShloMosaic Idealize.ShloMosaic.TcCoe Idealize.SL.Sem Cert.FfnBwdIdeal Cert.FfnBwdIdeal.Gen
open Idealize.ShloMosaic.Pipeline (Dat Cfg Window)
open Cert.RmsRow Cert.FfnFormula

variable (m : (ℓ : Loc nD τ sig) → Buf (Elt Ideal) ℓ) (c : Dev nD)

/-- The argument arrays as launched. -/
abbrev h : FVec Ideal S4352x1024 .f32 := m ((c : Thread nD τ).loc main_arg0)
abbrev g : FVec Ideal S1024 .f32 := m ((c : Thread nD τ).loc main_arg1)
abbrev wg : FVec Ideal S1024x2816 .f32 := m ((c : Thread nD τ).loc main_arg2)
abbrev wu : FVec Ideal S1024x2816 .f32 := m ((c : Thread nD τ).loc main_arg3)
abbrev wd : FVec Ideal S2816x1024 .f32 := m ((c : Thread nD τ).loc main_arg4)
abbrev ct : FVec Ideal S4352x1024 .f32 := m ((c : Thread nD τ).loc main_arg5)

/-! ### The arrays the host prepares before the call -/

/-- The normed rows times the gain. -/
abbrev hHn (h : FVec Ideal S4352x1024 .f32) (g : FVec Ideal S1024 .f32) : FVec Ideal S4352x1024 .f32 :=
  mulf (mulf h (broadcastInDim S4352x1024 ![0, 1] bcast_S4352x1_S4352x1024_0_1 (Host.rsqrt (addf (Host.divf (broadcastInDim S4352x1 ![0] bcast_S4352_S4352x1_0 (Host.reduceAdd (mulf h h) (constant S_ .f32 0x00000000#32) reducesTo_S4352x1024_S4352_d1 h_S_)) (broadcastInDim S4352x1 ![] bcast_S_S4352x1 (constant S_ .f32 0x44800000#32))) (broadcastInDim S4352x1 ![] bcast_S_S4352x1 (constant S_ .f32 0x358637BD#32)))))) (broadcastInDim S4352x1024 ![0, 1] bcast_S1x1024_S4352x1024_0_1 (broadcastInDim S1x1024 ![1] bcast_S1024_S1x1024_1 g))
theorem hHn_apply (h : FVec Ideal S4352x1024 .f32) (g : FVec Ideal S1024 .f32) (i : Fin 4352) (k : Fin 1024) :
    hHn h g (ix2 i k) = hn h g i k := by
  pointwise
  rfl
/-- The two projections, saved from the forward pass. -/
abbrev hA (h : FVec Ideal S4352x1024 .f32) (g : FVec Ideal S1024 .f32) (wg : FVec Ideal S1024x2816 .f32) : FVec Ideal S4352x2816 .bf16 :=
  truncf .bf16 (Host.dotGeneral dot_S4352x1024_S1024x2816_S4352x2816_1_0_0_1_n_n none ((hHn h g)) wg) bitsLt_bf16_f32
theorem V_v14 : V m c main_v14 = hA (h m c) (g m c) (wg m c) := by
  simp only [V, hostOps0, List.flatten_cons, List.flatten_nil, List.append_nil, List.cons_append,
    List.nil_append, StableHlo.TRef.binary, StableHlo.TRef.unary, StableHlo.TRef.toBuf, StableHlo.TRef.ofBuf, cast_eq]
  after_results_simp <;> rfl
theorem hA_apply (h : FVec Ideal S4352x1024 .f32) (g : FVec Ideal S1024 .f32) (wg : FVec Ideal S1024x2816 .f32) (i : Fin 4352) (f : Fin 2816) :
    hA h g wg (ix2 i f) = proj h g i wg f := by
  pointwise [hHn_apply]
  rfl
abbrev hB (h : FVec Ideal S4352x1024 .f32) (g : FVec Ideal S1024 .f32) (wu : FVec Ideal S1024x2816 .f32) : FVec Ideal S4352x2816 .bf16 :=
  truncf .bf16 (Host.dotGeneral dot_S4352x1024_S1024x2816_S4352x2816_1_0_0_1_n_n none ((hHn h g)) wu) bitsLt_bf16_f32
theorem V_v16 : V m c main_v16 = hB (h m c) (g m c) (wu m c) := by
  simp only [V, hostOps0, List.flatten_cons, List.flatten_nil, List.append_nil, List.cons_append,
    List.nil_append, StableHlo.TRef.binary, StableHlo.TRef.unary, StableHlo.TRef.toBuf, StableHlo.TRef.ofBuf, cast_eq]
  after_results_simp <;> rfl
theorem hB_apply (h : FVec Ideal S4352x1024 .f32) (g : FVec Ideal S1024 .f32) (wu : FVec Ideal S1024x2816 .f32) (i : Fin 4352) (f : Fin 2816) :
    hB h g wu (ix2 i f) = proj h g i wu f := by
  pointwise [hHn_apply]
  rfl
abbrev hG (g : FVec Ideal S1024 .f32) : FVec Ideal S1x1024 .f32 :=
  broadcastInDim S1x1024 ![1] bcast_S1024_S1x1024_1 g
theorem V_v17 : V m c main_v17 = hG (g m c) := by
  simp only [V, hostOps0, List.flatten_cons, List.flatten_nil, List.append_nil, List.cons_append,
    List.nil_append, StableHlo.TRef.binary, StableHlo.TRef.unary, StableHlo.TRef.toBuf, StableHlo.TRef.ofBuf, cast_eq]
  after_results_simp <;> rfl
theorem hG_apply (g : FVec Ideal S1024 .f32) (z : Fin 1) (k : Fin 1024) :
    hG g (ix2 z k) = g (ix1 k) := by
  pointwise
abbrev hWg (wg : FVec Ideal S1024x2816 .f32) : FVec Ideal S2816x1024 .bf16 :=
  truncf .bf16 (transpose S2816x1024 [1, 0] wg transposes_S1024x2816_S2816x1024_1_0) bitsLt_bf16_f32
theorem V_v19 : V m c main_v19 = hWg (wg m c) := by
  simp only [V, hostOps0, List.flatten_cons, List.flatten_nil, List.append_nil, List.cons_append,
    List.nil_append, StableHlo.TRef.binary, StableHlo.TRef.unary, StableHlo.TRef.toBuf, StableHlo.TRef.ofBuf, cast_eq]
  after_results_simp <;> rfl
theorem hWg_apply (wg : FVec Ideal S1024x2816 .f32) (f : Fin 2816) (k : Fin 1024) :
    hWg wg (ix2 f k) = wg (ix2 k f) := by
  pointwise
abbrev hWu (wu : FVec Ideal S1024x2816 .f32) : FVec Ideal S2816x1024 .bf16 :=
  truncf .bf16 (transpose S2816x1024 [1, 0] wu transposes_S1024x2816_S2816x1024_1_0) bitsLt_bf16_f32
theorem V_v21 : V m c main_v21 = hWu (wu m c) := by
  simp only [V, hostOps0, List.flatten_cons, List.flatten_nil, List.append_nil, List.cons_append,
    List.nil_append, StableHlo.TRef.binary, StableHlo.TRef.unary, StableHlo.TRef.toBuf, StableHlo.TRef.ofBuf, cast_eq]
  after_results_simp <;> rfl
theorem hWu_apply (wu : FVec Ideal S1024x2816 .f32) (f : Fin 2816) (k : Fin 1024) :
    hWu wu (ix2 f k) = wu (ix2 k f) := by
  pointwise
abbrev hWd (wd : FVec Ideal S2816x1024 .f32) : FVec Ideal S2816x1024 .bf16 :=
  truncf .bf16 wd bitsLt_bf16_f32
theorem V_v22 : V m c main_v22 = hWd (wd m c) := by
  simp only [V, hostOps0, List.flatten_cons, List.flatten_nil, List.append_nil, List.cons_append,
    List.nil_append, StableHlo.TRef.binary, StableHlo.TRef.unary, StableHlo.TRef.toBuf, StableHlo.TRef.ofBuf, cast_eq]
  after_results_simp <;> rfl
theorem hWd_apply (wd : FVec Ideal S2816x1024 .f32) (f : Fin 2816) (k : Fin 1024) :
    hWd wd (ix2 f k) = wd (ix2 f k) := by
  pointwise

/-! ### Blocks of the arrays -/

/-- Token `r` of block `t`. -/
abbrev tok (t : Fin cfg0.N) (r : Fin 256) : Fin 4352 := ⟨t.val * 256 + r.val, by
  have := t.isLt; have h : cfg0.N = 17 := N_0; have := r.isLt; omega⟩
/-- Every token is some block's. -/
theorem exists_tok (i : Fin 4352) : ∃ t r, i = tok t r :=
  ⟨⟨i.val / 256, by have h : cfg0.N = 17 := N_0; omega⟩, ⟨i.val % 256, Nat.mod_lt _ (by decide)⟩, Fin.ext (by simp only []; omega)⟩

theorem idx0 : ∀ t : Fin grid0.N, win0_0.index t 0 = t.val ∧ win0_0.index t 1 = 0 := by decide +kernel
theorem blk0 (t : Fin cfg0.N) (r : Fin 256) (j : Fin 1024) : iblk m c 0 t (ix2 r j) = (h m c) (ix2 (tok t r) j) := by
  show V m c main_arg0 ((win0_0.rect t).emb (ix2 r j)) = _
  rw [V_main_arg0]
  refine congrArg (h m c) (Shape.idx_ext₂ ?_ ?_)
  · exact (win0_0.rect_emb_val t _ 0).trans (by rw [(idx0 t).1]; simp)
  · exact (win0_0.rect_emb_val t _ 1).trans (by rw [(idx0 t).2]; simp)
theorem idx1 : ∀ t : Fin grid0.N, win0_1.index t 0 = t.val ∧ win0_1.index t 1 = 0 := by decide +kernel
theorem blk1 (t : Fin cfg0.N) (r : Fin 256) (j : Fin 1024) : iblk m c 1 t (ix2 r j) = (ct m c) (ix2 (tok t r) j) := by
  show V m c main_arg5 ((win0_1.rect t).emb (ix2 r j)) = _
  rw [V_main_arg5]
  refine congrArg (ct m c) (Shape.idx_ext₂ ?_ ?_)
  · exact (win0_1.rect_emb_val t _ 0).trans (by rw [(idx1 t).1]; simp)
  · exact (win0_1.rect_emb_val t _ 1).trans (by rw [(idx1 t).2]; simp)
theorem idx2 : ∀ t : Fin grid0.N, win0_2.index t 0 = t.val ∧ win0_2.index t 1 = 0 := by decide +kernel
theorem blk2 (t : Fin cfg0.N) (r : Fin 256) (j : Fin 2816) : iblk m c 2 t (ix2 r j) = (hA (h m c) (g m c) (wg m c)) (ix2 (tok t r) j) := by
  show V m c main_v14 ((win0_2.rect t).emb (ix2 r j)) = _
  rw [V_v14]
  refine congrArg (hA (h m c) (g m c) (wg m c)) (Shape.idx_ext₂ ?_ ?_)
  · exact (win0_2.rect_emb_val t _ 0).trans (by rw [(idx2 t).1]; simp)
  · exact (win0_2.rect_emb_val t _ 1).trans (by rw [(idx2 t).2]; simp)
theorem idx3 : ∀ t : Fin grid0.N, win0_3.index t 0 = t.val ∧ win0_3.index t 1 = 0 := by decide +kernel
theorem blk3 (t : Fin cfg0.N) (r : Fin 256) (j : Fin 2816) : iblk m c 3 t (ix2 r j) = (hB (h m c) (g m c) (wu m c)) (ix2 (tok t r) j) := by
  show V m c main_v16 ((win0_3.rect t).emb (ix2 r j)) = _
  rw [V_v16]
  refine congrArg (hB (h m c) (g m c) (wu m c)) (Shape.idx_ext₂ ?_ ?_)
  · exact (win0_3.rect_emb_val t _ 0).trans (by rw [(idx3 t).1]; simp)
  · exact (win0_3.rect_emb_val t _ 1).trans (by rw [(idx3 t).2]; simp)
theorem idx4 : ∀ t : Fin grid0.N, win0_4.index t 0 = 0 ∧ win0_4.index t 1 = 0 := by decide +kernel
theorem blk4 (t : Fin cfg0.N) (r : Fin 1) (j : Fin 1024) : iblk m c 4 t (ix2 r j) = (hG (g m c)) (ix2 r j) := by
  show V m c main_v17 ((win0_4.rect t).emb (ix2 r j)) = _
  rw [V_v17]
  refine congrArg (hG (g m c)) (Shape.idx_ext₂ ?_ ?_)
  · exact (win0_4.rect_emb_val t _ 0).trans (by rw [(idx4 t).1]; simp)
  · exact (win0_4.rect_emb_val t _ 1).trans (by rw [(idx4 t).2]; simp)
theorem idx5 : ∀ t : Fin grid0.N, win0_5.index t 0 = 0 ∧ win0_5.index t 1 = 0 := by decide +kernel
theorem blk5 (t : Fin cfg0.N) (r : Fin 2816) (j : Fin 1024) : iblk m c 5 t (ix2 r j) = (hWg (wg m c)) (ix2 r j) := by
  show V m c main_v19 ((win0_5.rect t).emb (ix2 r j)) = _
  rw [V_v19]
  refine congrArg (hWg (wg m c)) (Shape.idx_ext₂ ?_ ?_)
  · exact (win0_5.rect_emb_val t _ 0).trans (by rw [(idx5 t).1]; simp)
  · exact (win0_5.rect_emb_val t _ 1).trans (by rw [(idx5 t).2]; simp)
theorem idx6 : ∀ t : Fin grid0.N, win0_6.index t 0 = 0 ∧ win0_6.index t 1 = 0 := by decide +kernel
theorem blk6 (t : Fin cfg0.N) (r : Fin 2816) (j : Fin 1024) : iblk m c 6 t (ix2 r j) = (hWu (wu m c)) (ix2 r j) := by
  show V m c main_v21 ((win0_6.rect t).emb (ix2 r j)) = _
  rw [V_v21]
  refine congrArg (hWu (wu m c)) (Shape.idx_ext₂ ?_ ?_)
  · exact (win0_6.rect_emb_val t _ 0).trans (by rw [(idx6 t).1]; simp)
  · exact (win0_6.rect_emb_val t _ 1).trans (by rw [(idx6 t).2]; simp)
theorem idx7 : ∀ t : Fin grid0.N, win0_7.index t 0 = 0 ∧ win0_7.index t 1 = 0 := by decide +kernel
theorem blk7 (t : Fin cfg0.N) (r : Fin 2816) (j : Fin 1024) : iblk m c 7 t (ix2 r j) = (hWd (wd m c)) (ix2 r j) := by
  show V m c main_v22 ((win0_7.rect t).emb (ix2 r j)) = _
  rw [V_v22]
  refine congrArg (hWd (wd m c)) (Shape.idx_ext₂ ?_ ?_)
  · exact (win0_7.rect_emb_val t _ 0).trans (by rw [(idx7 t).1]; simp)
  · exact (win0_7.rect_emb_val t _ 1).trans (by rw [(idx7 t).2]; simp)

/-! ### One block's values -/

theorem bAct_eq (t : Fin cfg0.N) (r : Fin 256) (f : Fin 2816) :
    bAct (iblk m c 1 t) (iblk m c 7 t) r f = dAct (wd m c) (ct m c) (tok t r) f := by
  simp only [bAct, blk1, blk7, hWd_apply]
  rfl
theorem gate_eq' (t : Fin cfg0.N) (r : Fin 256) (f : Fin 2816) :
    throughGate (bAct (iblk m c 1 t) (iblk m c 7 t) r f) (iblk m c 2 t (ix2 r f)) (iblk m c 3 t (ix2 r f))
      = dA (h m c) (g m c) (wg m c) (wu m c) (wd m c) (ct m c) (tok t r) f := by
  rw [bAct_eq, blk2, blk3, hA_apply, hB_apply]
  rfl
theorem up_eq (t : Fin cfg0.N) (r : Fin 256) (f : Fin 2816) :
    throughUp (bAct (iblk m c 1 t) (iblk m c 7 t) r f) (iblk m c 2 t (ix2 r f))
      = dB (h m c) (g m c) (wg m c) (wd m c) (ct m c) (tok t r) f := by
  rw [bAct_eq, blk2, hA_apply]
  rfl
theorem bHn_eq (t : Fin cfg0.N) (r : Fin 256) (k : Fin 1024) :
    bHn (iblk m c 1 t) (iblk m c 2 t) (iblk m c 3 t) (iblk m c 5 t) (iblk m c 6 t) (iblk m c 7 t) r k
      = dHn (h m c) (g m c) (wg m c) (wu m c) (wd m c) (ct m c) (tok t r) k := by
  unfold bHn dHn
  refine congrArg₂ (· + ·) (Finset.sum_congr rfl fun f _ => ?_) (Finset.sum_congr rfl fun f _ => ?_)
  · rw [gate_eq', blk5, hWg_apply]
  · rw [up_eq, blk6, hWu_apply]
theorem row_eq (t : Fin cfg0.N) (r : Fin 256) : row (iblk m c 0 t : Vec Ideal S256x1024 .f32) r = row (h m c) (tok t r) :=
  funext fun k => blk0 m c t r k

/-! ### The result arrays -/

theorem idx8 : ∀ t : Fin grid0.N, win0_8.index t 0 = t.val ∧ win0_8.index t 1 = 0 := by decide +kernel
/-- What one point writes back. -/
theorem outs8 (t : Fin cfg0.N) (r : Fin 256) (j : Fin 1024) :
    ((dats m 0 c).flushed 8 t : Vec Ideal S256x1024 _) (ix2 r j) = dH (h m c) (g m c) (wg m c) (wu m c) (wd m c) (ct m c) (tok t r) j := by
  by_cases h0 : t.val % 17 = 0
  · rw [Value.flushed8_A m c t h0]
    refine (out_A_8 _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) r j).trans ?_
    rw [blk1, row_eq]
    simp only [bHn_eq, blk4, hG_apply]
    rfl
  · rw [Value.flushed8_B m c t h0]
    refine (out_B_8 _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _ r j).trans ?_
    rw [blk1, row_eq]
    simp only [bHn_eq, blk4, hG_apply]
    rfl
theorem arr8 (i : Fin 4352) (j : Fin 1024) : (dats m 0 c).arrAt 8 cfg0.N (ix2 i j)
    = dH (h m c) (g m c) (wg m c) (wu m c) (wd m c) (ct m c) i j := by
  obtain ⟨t, r, rfl⟩ := exists_tok i
  have e : ((cfg0.win 8).blk t).view.emb (ix2 r j) = ix2 (tok t r) j := Shape.idx_ext₂
    ((win0_8.rect_emb_val t _ 0).trans (by rw [(idx8 t).1]; rfl)) ((win0_8.rect_emb_val t _ 1).trans (by rw [(idx8 t).2]; simp))
  rw [← e]
  exact ((dats m 0 c).arrAt_emb_eq_flushed 8 Value.disjoint8 t (flush0_8 t) (ix2 r j)).trans (outs8 m c t r j)
theorem idx9 : ∀ t : Fin grid0.N, win0_9.index t 0 = t.val ∧ win0_9.index t 1 = 0 := by decide +kernel
/-- What one point writes back. -/
theorem outs9 (t : Fin cfg0.N) (r : Fin 256) (j : Fin 1024) :
    ((dats m 0 c).flushed 9 t : Vec Ideal S256x1024 _) (ix2 r j) = hn (h m c) (g m c) (tok t r) j := by
  by_cases h0 : t.val % 17 = 0
  · rw [Value.flushed9_A m c t h0]
    refine (out_A_9 _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) r j).trans ?_
    rw [row_eq, blk4, hG_apply]
    rfl
  · rw [Value.flushed9_B m c t h0]
    refine (out_B_9 _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _ r j).trans ?_
    rw [row_eq, blk4, hG_apply]
    rfl
theorem arr9 (i : Fin 4352) (j : Fin 1024) : (dats m 0 c).arrAt 9 cfg0.N (ix2 i j)
    = hn (h m c) (g m c) i j := by
  obtain ⟨t, r, rfl⟩ := exists_tok i
  have e : ((cfg0.win 9).blk t).view.emb (ix2 r j) = ix2 (tok t r) j := Shape.idx_ext₂
    ((win0_9.rect_emb_val t _ 0).trans (by rw [(idx9 t).1]; rfl)) ((win0_9.rect_emb_val t _ 1).trans (by rw [(idx9 t).2]; simp))
  rw [← e]
  exact ((dats m 0 c).arrAt_emb_eq_flushed 9 Value.disjoint9 t (flush0_9 t) (ix2 r j)).trans (outs9 m c t r j)
theorem idx10 : ∀ t : Fin grid0.N, win0_10.index t 0 = t.val ∧ win0_10.index t 1 = 0 := by decide +kernel
/-- What one point writes back. -/
theorem outs10 (t : Fin cfg0.N) (r : Fin 256) (j : Fin 2816) :
    ((dats m 0 c).flushed 10 t : Vec Ideal S256x2816 _) (ix2 r j) = act (h m c) (g m c) (wg m c) (wu m c) (tok t r) j := by
  by_cases h0 : t.val % 17 = 0
  · rw [Value.flushed10_A m c t h0]
    refine (out_A_10 _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) r j).trans ?_
    rw [blk2, blk3, hA_apply, hB_apply]
    rfl
  · rw [Value.flushed10_B m c t h0]
    refine (out_B_10 _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _ r j).trans ?_
    rw [blk2, blk3, hA_apply, hB_apply]
    rfl
theorem arr10 (i : Fin 4352) (j : Fin 2816) : (dats m 0 c).arrAt 10 cfg0.N (ix2 i j)
    = act (h m c) (g m c) (wg m c) (wu m c) i j := by
  obtain ⟨t, r, rfl⟩ := exists_tok i
  have e : ((cfg0.win 10).blk t).view.emb (ix2 r j) = ix2 (tok t r) j := Shape.idx_ext₂
    ((win0_10.rect_emb_val t _ 0).trans (by rw [(idx10 t).1]; rfl)) ((win0_10.rect_emb_val t _ 1).trans (by rw [(idx10 t).2]; simp))
  rw [← e]
  exact ((dats m 0 c).arrAt_emb_eq_flushed 10 Value.disjoint10 t (flush0_10 t) (ix2 r j)).trans (outs10 m c t r j)
theorem idx11 : ∀ t : Fin grid0.N, win0_11.index t 0 = t.val ∧ win0_11.index t 1 = 0 := by decide +kernel
/-- What one point writes back. -/
theorem outs11 (t : Fin cfg0.N) (r : Fin 256) (j : Fin 2816) :
    ((dats m 0 c).flushed 11 t : Vec Ideal S256x2816 _) (ix2 r j) = dA (h m c) (g m c) (wg m c) (wu m c) (wd m c) (ct m c) (tok t r) j := by
  by_cases h0 : t.val % 17 = 0
  · rw [Value.flushed11_A m c t h0]
    refine (out_A_11 _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) r j).trans ?_
    exact gate_eq' m c t r j
  · rw [Value.flushed11_B m c t h0]
    refine (out_B_11 _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _ r j).trans ?_
    exact gate_eq' m c t r j
theorem arr11 (i : Fin 4352) (j : Fin 2816) : (dats m 0 c).arrAt 11 cfg0.N (ix2 i j)
    = dA (h m c) (g m c) (wg m c) (wu m c) (wd m c) (ct m c) i j := by
  obtain ⟨t, r, rfl⟩ := exists_tok i
  have e : ((cfg0.win 11).blk t).view.emb (ix2 r j) = ix2 (tok t r) j := Shape.idx_ext₂
    ((win0_11.rect_emb_val t _ 0).trans (by rw [(idx11 t).1]; rfl)) ((win0_11.rect_emb_val t _ 1).trans (by rw [(idx11 t).2]; simp))
  rw [← e]
  exact ((dats m 0 c).arrAt_emb_eq_flushed 11 Value.disjoint11 t (flush0_11 t) (ix2 r j)).trans (outs11 m c t r j)
theorem idx12 : ∀ t : Fin grid0.N, win0_12.index t 0 = t.val ∧ win0_12.index t 1 = 0 := by decide +kernel
/-- What one point writes back. -/
theorem outs12 (t : Fin cfg0.N) (r : Fin 256) (j : Fin 2816) :
    ((dats m 0 c).flushed 12 t : Vec Ideal S256x2816 _) (ix2 r j) = dB (h m c) (g m c) (wg m c) (wd m c) (ct m c) (tok t r) j := by
  by_cases h0 : t.val % 17 = 0
  · rw [Value.flushed12_A m c t h0]
    refine (out_A_12 _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) r j).trans ?_
    exact up_eq m c t r j
  · rw [Value.flushed12_B m c t h0]
    refine (out_B_12 _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _ r j).trans ?_
    exact up_eq m c t r j
theorem arr12 (i : Fin 4352) (j : Fin 2816) : (dats m 0 c).arrAt 12 cfg0.N (ix2 i j)
    = dB (h m c) (g m c) (wg m c) (wd m c) (ct m c) i j := by
  obtain ⟨t, r, rfl⟩ := exists_tok i
  have e : ((cfg0.win 12).blk t).view.emb (ix2 r j) = ix2 (tok t r) j := Shape.idx_ext₂
    ((win0_12.rect_emb_val t _ 0).trans (by rw [(idx12 t).1]; rfl)) ((win0_12.rect_emb_val t _ 1).trans (by rw [(idx12 t).2]; simp))
  rw [← e]
  exact ((dats m 0 c).arrAt_emb_eq_flushed 12 Value.disjoint12 t (flush0_12 t) (ix2 r j)).trans (outs12 m c t r j)

/-- Tokens of the first `n` blocks. -/
def part (n : ℕ) (f : Fin 4352 → EReal) : EReal := ∑ q : Fin n, ∑ r : Fin 256, if h : q.val * 256 + r.val < 4352 then f ⟨_, h⟩ else 0
theorem part_succ (n : ℕ) (hn : n < cfg0.N) (f : Fin 4352 → EReal) :
    part (n + 1) f = part n f + ∑ r : Fin 256, f (tok ⟨n, hn⟩ r) := by
  unfold part
  rw [Fin.sum_univ_castSucc]
  refine congrArg₂ (· + ·) rfl (Finset.sum_congr rfl fun r _ => ?_)
  exact dif_pos (tok ⟨n, hn⟩ r).isLt
theorem part_all (f : Fin 4352 → EReal) : part 17 f = ∑ i, f i := by
  unfold part
  rw [← Finset.sum_product']
  refine Finset.sum_equiv (finProdFinEquiv (m := 17) (n := 256)) (by simp) fun ⟨a, b⟩ _ => ?_
  have hx : a.val * 256 + b.val < 4352 := by omega
  rw [dif_pos hx]
  refine congrArg f (Fin.ext ?_)
  show a.val * 256 + b.val = b.val + 256 * a.val
  omega

/-- What the last window holds after point `n`: the sum over the tokens so far. -/
theorem acc (n : ℕ) (hn : n < cfg0.N) (j : Fin 1024) : (outsAt0 (F := Ideal) m c n hn).2.2.2.2.2 (ix2 0 j)
    = part (n + 1) fun i => dHn (h m c) (g m c) (wg m c) (wu m c) (wd m c) (ct m c) i j * normed W E (row (h m c) i) j := by
  have hN : cfg0.N = 17 := N_0
  induction n with
  | zero =>
    have hA := outsAt0_A (F := Ideal) m c ⟨0, hn⟩ rfl
    dsimp only at hA
    rw [hA]
    dsimp only
    rw [out_A_13, part_succ 0 hn]
    simp only [bHn_eq, row_eq]
    exact congrArg (· + _) (by simp [part])
  | succ n ih =>
    have hB := outsAt0_B (F := Ideal) m c ⟨n + 1, hn⟩ (by dsimp only; omega)
    dsimp only at hB
    rw [hB]
    dsimp only
    rw [out_B_13, part_succ (n + 1) hn]
    simp only [bHn_eq, row_eq, Nat.add_sub_cancel]
    exact congrArg (· + _) (ih (Nat.lt_of_succ_lt hn))

theorem flush13 : ∀ t : Fin cfg0.N, (cfg0.win 13).flush t = true ↔ t.val = 16 := by decide +kernel
theorem idx13 : ∀ t : Fin grid0.N, win0_13.index t 0 = 0 ∧ win0_13.index t 1 = 0 := by decide +kernel
theorem arr13 (j : Fin 1024) : (dats m 0 c).arrAt 13 cfg0.N (ix2 0 j) = dG (h m c) (g m c) (wg m c) (wu m c) (wd m c) (ct m c) j := by
  have hN : cfg0.N = 17 := N_0
  have hl : 16 < cfg0.N := by omega
  have e : ((cfg0.win 13).blk ⟨16, hl⟩).view.emb (ix2 (0 : Fin 1) j) = ix2 (0 : Fin 1) j := Shape.idx_ext₂
    ((win0_13.rect_emb_val _ _ 0).trans (by rw [(idx13 _).1]; rfl)) ((win0_13.rect_emb_val _ _ 1).trans (by rw [(idx13 _).2]; simp))
  rw [← e]
  refine ((dats m 0 c).arrAt_emb_eq_flushed 13 (fun t t' ht ht' hne => (hne (Fin.ext (((flush13 t).1 ht).trans ((flush13 t').1 ht').symm))).elim)
    ⟨16, hl⟩ ((flush13 _).2 rfl) (ix2 0 j)).trans ?_
  rw [Value.flushed13]
  exact (acc m c 16 hl j).trans (part_all _)

end Cert.FfnValue

end
-- ==== Proof.FfnRefValue.lean ====
/-
  What the channel mixer's reference computes, entry by entry: the same formulas.
-/
module

public import proofs.«01_k».proof.Proof.FfnFormula
public import proofs.«01_k».proof.Proof.Gen.FfnRefIdeal.Read

@[expose] public section

noncomputable section

namespace Cert.FfnRefValue

open Idealize.ShloMosaic Cert.FfnRefIdeal Cert.FfnRefIdeal.Read Cert.FfnFormula Cert.RmsRow Cert.RealValues

variable (h : FVec Ideal S4352x1024 .f32) (g : FVec Ideal S1024 .f32) (wg wu : FVec Ideal S1024x2816 .f32)
  (wd : FVec Ideal S2816x1024 .f32) (ct : FVec Ideal S4352x1024 .f32) (i : Fin 4352)

theorem v7 (z : Fin 1) : val_main_v7 (F := Ideal) h (ix2 i z)
    = factor W E (row h i) := by
  unfold val_main_v7 val_main_v6 val_main_v5 val_main_cst_1 val_main_v4 val_main_v3 val_main_cst_0 val_main_v2 val_main_v1 val_main_cst val_main_v0
  pointwise

theorem v6 (z : Fin 1) : val_main_v6 (F := Ideal) h (ix2 i z)
    = meanSq W E (row h i) := by
  unfold val_main_v6 val_main_v5 val_main_cst_1 val_main_v4 val_main_v3 val_main_cst_0 val_main_v2 val_main_v1 val_main_cst val_main_v0
  pointwise

theorem v12 (j : Fin 1024) : val_main_v12 (F := Ideal) h (ix2 i j)
    = normed W E (row h i) j := by
  unfold val_main_v12 val_main_v11
  pointwise [v7]

theorem v15 (j : Fin 1024) : val_main_v15 (F := Ideal) h g (ix2 i j)
    = hn h g i j := by
  unfold val_main_v15 val_main_v14 val_main_v13
  pointwise [v12]
  rfl

theorem v16 (f : Fin 2816) : val_main_v16 (F := Ideal) h g wg (ix2 i f)
    = proj h g i wg f := by
  unfold val_main_v16
  pointwise [v15]
  rfl

theorem v18 (f : Fin 2816) : val_main_v18 (F := Ideal) h g wu (ix2 i f)
    = proj h g i wu f := by
  unfold val_main_v18
  pointwise [v15]
  rfl

theorem v17_2 (f : Fin 2816) : val_main_v17_2 (F := Ideal) h g wg (ix2 i f)
    = Ideal.logistic (proj h g i wg f) := by
  unfold val_main_v17_2 val_main_call0_v4 val_main_call0_cst_0 val_main_call0_v3 val_main_call0_v2 val_main_call0_cst val_main_call0_v1 val_main_call0_v0
  pointwise [v16, Ideal.logistic]

theorem v23 (f : Fin 2816) : val_main_v23 (F := Ideal) wd ct (ix2 i f)
    = dAct wd ct i f := by
  unfold val_main_v23 val_main_v22
  pointwise
  rfl

theorem v24 (f : Fin 2816) : val_main_v24 (F := Ideal) h g wg wd ct (ix2 i f)
    = dB h g wg wd ct i f := by
  unfold val_main_v24 val_main_v17_0
  pointwise [v16, v17_2, v23]
  exact mul_comm _ _

theorem v58 (z : Fin 1) : val_main_v58 (F := Ideal) h (ix2 i z)
    = factor W E (row h i) := by
  unfold val_main_v58 val_main_v57 val_main_v56 val_main_cst_10 val_main_v55 val_main_v54 val_main_cst_9 val_main_v53 val_main_v52 val_main_cst_8 val_main_v51
  pointwise

theorem v63 (j : Fin 1024) : val_main_v63 (F := Ideal) h g (ix2 i j)
    = hn h g i j := by
  unfold val_main_v63 val_main_v62 val_main_v61 val_main_v60 val_main_v59
  pointwise [v58]
  rfl

theorem v64 (f : Fin 2816) : val_main_v64 (F := Ideal) h g wg (ix2 i f)
    = proj h g i wg f := by
  unfold val_main_v64
  pointwise [v63]
  rfl

theorem v65 (f : Fin 2816) : val_main_v65 (F := Ideal) h g wu (ix2 i f)
    = proj h g i wu f := by
  unfold val_main_v65
  pointwise [v63]
  rfl

theorem v66_2 (f : Fin 2816) : val_main_v66_2 (F := Ideal) h g wg (ix2 i f)
    = Ideal.logistic (proj h g i wg f) := by
  unfold val_main_v66_2 val_main_call2_v4 val_main_call2_cst_0 val_main_call2_v3 val_main_call2_v2 val_main_call2_cst val_main_call2_v1 val_main_call2_v0
  pointwise [v64, Ideal.logistic]

theorem v69 (f : Fin 2816) : val_main_v69 (F := Ideal) wd ct (ix2 i f)
    = dAct wd ct i f := by
  unfold val_main_v69 val_main_v68
  pointwise
  rfl

theorem v73 (j : Fin 1024) : val_main_v73 (F := Ideal) h g (ix2 i j)
    = hn h g i j := by
  unfold val_main_v73
  pointwise [v63]

theorem v74 (f : Fin 2816) : val_main_v74 (F := Ideal) h g wg wu (ix2 i f)
    = act h g wg wu i f := by
  unfold val_main_v74 val_main_v67 val_main_v66_0
  pointwise [v64, v65, v66_2]
  rfl

theorem v76 (f : Fin 2816) : val_main_v76 (F := Ideal) h g wg wd ct (ix2 i f)
    = dB h g wg wd ct i f := by
  unfold val_main_v76 val_main_v70 val_main_v66_0
  pointwise [v64, v66_2, v69]
  exact mul_comm _ _

variable (hh : ∀ i, IsReal (h i)) (hg : ∀ i, IsReal (g i)) (hwg : ∀ i, IsReal (wg i)) (hwu : ∀ i, IsReal (wu i))
  (hwd : ∀ i, IsReal (wd i)) (hct : ∀ i, IsReal (ct i))
include hh hg hwg hwu hwd hct

theorem v27 (f : Fin 2816) : val_main_v27 (F := Ideal) h g wg wu wd ct (ix2 i f)
    = dA h g wg wu wd ct i f := by
  unfold val_main_v27 val_main_call1_v2 val_main_call1_v1 val_main_call1_v0 val_main_v25 val_main_v17_1 val_main_call0_v7 val_main_call0_v6 val_main_call0_cst_1
  pointwise [v16, v17_2, v18, v23]
  exact gate_eq (dAct_real hwd hct f) (proj_real hh hg hwg f) (proj_real hh hg hwu f)

theorem v75 (f : Fin 2816) : val_main_v75 (F := Ideal) h g wg wu wd ct (ix2 i f)
    = dA h g wg wu wd ct i f := by
  unfold val_main_v75 val_main_v72 val_main_call3_v2 val_main_call3_v1 val_main_call3_v0 val_main_v71 val_main_v66_1 val_main_call2_v7 val_main_call2_v6 val_main_call2_cst_1
  pointwise [v64, v66_2, v65, v69]
  exact gate_eq (dAct_real hwd hct f) (proj_real hh hg hwg f) (proj_real hh hg hwu f)

theorem v29 (j : Fin 1024) : val_main_v29 (F := Ideal) h g wg wu wd ct (ix2 i j)
    = dHn h g wg wu wd ct i j := by
  unfold val_main_v29 val_main_v28 val_main_v26
  pointwise [v24, v27 h g wg wu wd ct _ hh hg hwg hwu hwd hct]
  exact add_comm _ _

theorem v34 (j : Fin 1024) : val_main_v34 (F := Ideal) h g wg wu wd ct (ix2 i j)
    = dHn h g wg wu wd ct i j * g (ix1 j) := by
  unfold val_main_v34 val_main_v33 val_main_v13
  pointwise [v29 h g wg wu wd ct _ hh hg hwg hwu hwd hct]

theorem v46 (j : Fin 1024) : val_main_v46 (F := Ideal) h g wg wu wd ct (ix2 i j)
    = viaMean W E (Ideal.ofBits .f32 3204448256#32) (row h i) (fun k => dHn h g wg wu wd ct i k * g (ix1 k)) := by
  unfold val_main_v46 val_main_v45 val_main_cst_7 val_main_v44 val_main_v43 val_main_cst_6 val_main_v42 val_main_v38 val_main_v37 val_main_cst_5 val_main_v36 val_main_v10 val_main_v9 val_main_cst_2 val_main_v8
  pointwise [v34 h g wg wu wd ct _ hh hg hwg hwu hwd hct, v6, v7]
  exact Fin.sum_univ_one _

theorem v50 (j : Fin 1024) : val_main_v50 (F := Ideal) h g wg wu wd ct (ix2 i j)
    = dH h g wg wu wd ct i j := by
  unfold val_main_v50 val_main_v49 val_main_v48 val_main_v47 val_main_v41 val_main_v40 val_main_v39
  pointwise [v34 h g wg wu wd ct _ hh hg hwg hwu hwd hct, v46 h g wg wu wd ct _ hh hg hwg hwu hwd hct, v7]
  obtain ⟨e, he, hE⟩ := eps_real
  have hd := fun k => (dHn_real (i := i) hh hg hwg hwu hwd hct k).mul (hg (ix1 k))
  have hb := back_eq 1024 e (by norm_num) he (fun k => hh (ix2 i k)) hd j
  rw [← W_eq, ← hE, ← neg_half] at hb
  unfold dH
  rw [← hb, add_assoc, add_assoc]
  rw [← add_assoc (_ * _) (_ * _) (_ * _)]

theorem v77 (j : Fin 1024) : val_main_v77 (F := Ideal) h g wg wu wd ct (ix2 0 j)
    = dG h g wg wu wd ct j := by
  unfold val_main_v77 val_main_v35 val_main_cst_4 val_main_v32 val_main_v31 val_main_cst_3 val_main_v30
  pointwise [v29 h g wg wu wd ct _ hh hg hwg hwu hwd hct, v12]
  exact (Fin.sum_univ_one _).trans (Finset.sum_congr rfl fun _ _ => mul_comm (_ : EReal) _)

end Cert.FfnRefValue

end
-- ==== Proof.Ffn.lean ====
/-
  The channel mixer's backward kernel and its reference leave the same six arrays where every argument is real.
-/
module

public import proofs.«01_k».proof.Defs
public import proofs.«01_k».proof.Proof.FfnArrays
public import proofs.«01_k».proof.Proof.FfnRefValue
public import proofs.«01_k».proof.Proof.Gen.FfnRefIdeal.Run

@[expose] public section

noncomputable section

namespace Cert.Ffn

open Idealize.ShloMosaic Idealize.ShloMosaic.TcCoe Idealize.SL.Sem Cert.FfnRefIdeal.Read
open Cert.RealValues

/-- Two arrays with two axes are equal where their entries are. -/
theorem arr_ext {p q : Nat} {x y : (⟨2, ![p, q]⟩ : Shape).Idx → EReal} (h : ∀ i j, x (ix2 i j) = y (ix2 i j)) : x = y :=
  funext fun i => by rw [eq_ix2 i]; exact h _ _

theorem facts_pre : Cert.Pre_ffn_finite.Facts := ⟨by decide, by decide, by decide, by decide, by decide, by decide, by decide, by decide, by decide⟩

theorem and_one : ∀ x y : BitVec 1, IntOp.andi x y = 1#1 → x = 1#1 ∧ y = 1#1 := by decide

/-- The precondition says every argument is real. -/
theorem real_of_pre {h ct : FVec Ideal ⟨2, ![4352, 1024]⟩ .f32} {g : FVec Ideal ⟨1, ![1024]⟩ .f32} {wg wu : FVec Ideal ⟨2, ![1024, 2816]⟩ .f32}
    {wd : FVec Ideal ⟨2, ![2816, 1024]⟩ .f32} (e : haveI := facts_pre; ∀ j, Cert.Pre_ffn_finite.fn (F := Ideal) h g wg wu wd ct j = 1#1) :
    (∀ i, IsReal (h i)) ∧ (∀ i, IsReal (g i)) ∧ (∀ i, IsReal (wg i)) ∧ (∀ i, IsReal (wu i)) ∧ (∀ i, IsReal (wd i)) ∧ (∀ i, IsReal (ct i)) := by
  have : Subsingleton Cert.Pre_ffn_finite.S_.Idx := ⟨fun a b => funext fun k => k.elim0⟩
  have e0 := e (fun k => k.elim0)
  unfold Cert.Pre_ffn_finite.fn Cert.Pre_ffn_finite.fn_part1 at e0
  dsimp only at e0
  obtain ⟨e0, e6⟩ := and_one _ _ e0
  obtain ⟨e0, e5⟩ := and_one _ _ e0
  obtain ⟨e0, e4⟩ := and_one _ _ e0
  obtain ⟨e0, e3⟩ := and_one _ _ e0
  obtain ⟨e1, e2⟩ := and_one _ _ e0
  exact ⟨all_real _ _ _ _ _ _ e1, all_real _ _ _ _ _ _ e2, all_real _ _ _ _ _ _ e3, all_real _ _ _ _ _ _ e4, all_real _ _ _ _ _ _ e5,
    all_real _ _ _ _ _ _ e6⟩

theorem algebraic : Cert.algebraic_FfnBwdIdeal_FfnRefIdeal_pre_ffn_finite (hFfnBwdIdeal := Cert.FfnBwdIdeal.Gen.facts)
    (hFfnRefIdeal := Cert.FfnRefIdeal.Gen.facts) (hPre_ffn_finite := facts_pre) := by
  intro m g m' g' hpre hargs
  refine ⟨_, _, _, _, _, _, Cert.FfnBwdIdeal.Value.run_blocks (F := Ideal) m g, ?_⟩
  refine (θ_run (Cert.FfnRefIdeal.defs (F := Ideal)) _ _).mono (fun r h c => ?_) (Cert.FfnRefIdeal.Value.run (F := Ideal) m' g')
  obtain ⟨h0, h1, h2, h3, h4, h5, hk⟩ := h c
  obtain ⟨e0, e1, e2, e3, e4, e5⟩ := hargs c
  have hr := real_of_pre (congrFun (hpre c))
  have q0 := h0.trans (val_main_v50_eq (F := Ideal) _ _)
  rw [e0, e1, e2, e3, e4, e5] at q0
  have q1 := h1.trans (val_main_v73_eq (F := Ideal) _ _)
  rw [e0, e1] at q1
  have q2 := h2.trans (val_main_v74_eq (F := Ideal) _ _ _ _)
  rw [e0, e1, e2, e3] at q2
  have q3 := h3.trans (val_main_v75_eq (F := Ideal) _ _)
  rw [e0, e1, e2, e3, e4, e5] at q3
  have q4 := h4.trans (val_main_v76_eq (F := Ideal) _ _ _ _ _)
  rw [e0, e1, e2, e4, e5] at q4
  have q5 := h5.trans (val_main_v77_eq (F := Ideal) _ _)
  rw [e0, e1, e2, e3, e4, e5] at q5
  refine ⟨q0.trans ?_, q1.trans ?_, q2.trans ?_, q3.trans ?_, q4.trans ?_, q5.trans ?_, hk⟩
  · exact arr_ext fun i j => (FfnRefValue.v50 _ _ _ _ _ _ i hr.1 hr.2.1 hr.2.2.1 hr.2.2.2.1 hr.2.2.2.2.1 hr.2.2.2.2.2 j).trans (FfnValue.arr8 m c i j).symm
  · exact arr_ext fun i j => (FfnRefValue.v73 _ _ i j).trans (FfnValue.arr9 m c i j).symm
  · exact arr_ext fun i j => (FfnRefValue.v74 _ _ _ _ i j).trans (FfnValue.arr10 m c i j).symm
  · exact arr_ext fun i j => (FfnRefValue.v75 _ _ _ _ _ _ i hr.1 hr.2.1 hr.2.2.1 hr.2.2.2.1 hr.2.2.2.2.1 hr.2.2.2.2.2 j).trans (FfnValue.arr11 m c i j).symm
  · exact arr_ext fun i j => (FfnRefValue.v76 _ _ _ _ _ i j).trans (FfnValue.arr12 m c i j).symm
  · exact arr_ext fun i j => (by
      obtain rfl : i = 0 := Subsingleton.elim _ _
      exact (FfnRefValue.v77 _ _ _ _ _ _ hr.1 hr.2.1 hr.2.2.1 hr.2.2.2.1 hr.2.2.2.2.1 hr.2.2.2.2.2 j).trans (FfnValue.arr13 m c j).symm)

end Cert.Ffn

end
-- ==== Proof.FfnFwdArrays.lean ====
/-
  What the channel mixer's forward kernel's three result arrays end holding, entry by entry, from the argument arrays.
-/
module

public import proofs.«01_k».proof.Proof.FfnFormula
public import proofs.«01_k».proof.Proof.Gen.FfnFwdIdeal.Value

@[expose] public section

noncomputable section

namespace Cert.FfnFwdValue

open Idealize.ShloMosaic Idealize.ShloMosaic.TcCoe Idealize.SL.Sem Cert.FfnFwdIdeal Cert.FfnFwdIdeal.Gen
open Idealize.ShloMosaic.Pipeline (Dat Cfg Window)
open Cert.RmsRow Cert.FfnFormula

variable (m : (ℓ : Loc nD τ sig) → Buf (Elt Ideal) ℓ) (c : Dev nD)

/-- The argument arrays as launched. -/
abbrev h : FVec Ideal S4352x1024 .f32 := m ((c : Thread nD τ).loc main_arg0)
abbrev g : FVec Ideal S1024 .f32 := m ((c : Thread nD τ).loc main_arg1)
abbrev wg : FVec Ideal S1024x2816 .f32 := m ((c : Thread nD τ).loc main_arg2)
abbrev wu : FVec Ideal S1024x2816 .f32 := m ((c : Thread nD τ).loc main_arg3)
abbrev wd : FVec Ideal S2816x1024 .f32 := m ((c : Thread nD τ).loc main_arg4)

/-! ### The arrays the host prepares before the call -/

abbrev hG (g : FVec Ideal S1024 .f32) : FVec Ideal S1x1024 .f32 :=
  broadcastInDim S1x1024 ![1] bcast_S1024_S1x1024_1 g
theorem V_v0 : V m c main_v0 = hG (g m c) := by
  simp only [V, hostOps0, List.flatten_cons, List.flatten_nil, List.append_nil, List.cons_append,
    List.nil_append, StableHlo.TRef.binary, StableHlo.TRef.unary, StableHlo.TRef.toBuf, StableHlo.TRef.ofBuf, cast_eq]
  after_results_simp <;> rfl
theorem hG_apply (g : FVec Ideal S1024 .f32) (z : Fin 1) (k : Fin 1024) :
    hG g (ix2 z k) = g (ix1 k) := by
  pointwise
abbrev hWg (wg : FVec Ideal S1024x2816 .f32) : FVec Ideal S2816x1024 .bf16 :=
  truncf .bf16 (transpose S2816x1024 [1, 0] wg transposes_S1024x2816_S2816x1024_1_0) bitsLt_bf16_f32
theorem V_v2 : V m c main_v2 = hWg (wg m c) := by
  simp only [V, hostOps0, List.flatten_cons, List.flatten_nil, List.append_nil, List.cons_append,
    List.nil_append, StableHlo.TRef.binary, StableHlo.TRef.unary, StableHlo.TRef.toBuf, StableHlo.TRef.ofBuf, cast_eq]
  after_results_simp <;> rfl
theorem hWg_apply (wg : FVec Ideal S1024x2816 .f32) (f : Fin 2816) (k : Fin 1024) :
    hWg wg (ix2 f k) = wg (ix2 k f) := by
  pointwise
abbrev hWu (wu : FVec Ideal S1024x2816 .f32) : FVec Ideal S2816x1024 .bf16 :=
  truncf .bf16 (transpose S2816x1024 [1, 0] wu transposes_S1024x2816_S2816x1024_1_0) bitsLt_bf16_f32
theorem V_v4 : V m c main_v4 = hWu (wu m c) := by
  simp only [V, hostOps0, List.flatten_cons, List.flatten_nil, List.append_nil, List.cons_append,
    List.nil_append, StableHlo.TRef.binary, StableHlo.TRef.unary, StableHlo.TRef.toBuf, StableHlo.TRef.ofBuf, cast_eq]
  after_results_simp <;> rfl
theorem hWu_apply (wu : FVec Ideal S1024x2816 .f32) (f : Fin 2816) (k : Fin 1024) :
    hWu wu (ix2 f k) = wu (ix2 k f) := by
  pointwise
abbrev hWd (wd : FVec Ideal S2816x1024 .f32) : FVec Ideal S2816x1024 .bf16 :=
  truncf .bf16 wd bitsLt_bf16_f32
theorem V_v5 : V m c main_v5 = hWd (wd m c) := by
  simp only [V, hostOps0, List.flatten_cons, List.flatten_nil, List.append_nil, List.cons_append,
    List.nil_append, StableHlo.TRef.binary, StableHlo.TRef.unary, StableHlo.TRef.toBuf, StableHlo.TRef.ofBuf, cast_eq]
  after_results_simp <;> rfl
theorem hWd_apply (wd : FVec Ideal S2816x1024 .f32) (f : Fin 2816) (k : Fin 1024) :
    hWd wd (ix2 f k) = wd (ix2 f k) := by
  pointwise

/-! ### One block's values -/

theorem hz : (![0, 0] : Fin 2 → Nat) = fun _ => 0 := funext fun a => by fin_cases a <;> rfl

/-- A projection of a block's normed rows. -/
abbrev bProj (x0 : Vec Ideal S256x1024 .f32) (x1 : Vec Ideal S1x1024 .f32) (w : Vec Ideal S2816x1024 .bf16) (r : Fin 256) (f : Fin 2816) : EReal :=
  ∑ k : Fin 1024, normed W E (row x0 r) k * x1 (ix2 0 k) * w (ix2 f k)
theorem out_5 (x0 : Vec Ideal S256x1024 .f32) (x1 : Vec Ideal S1x1024 .f32) (x2 : Vec Ideal S2816x1024 .bf16) (x3 : Vec Ideal S2816x1024 .bf16) (x4 : Vec Ideal S2816x1024 .bf16) (r : Fin 256) (j : Fin 1024) :
    out0_5 (F := Ideal) x0 x1 x2 x3 x4 (ix2 r j)
      = x0 (ix2 r j) + ∑ f : Fin 2816, bProj x0 x1 x2 r f * Ideal.logistic (bProj x0 x1 x2 r f) * bProj x0 x1 x3 r f * x4 (ix2 f j) := by
  unfold out0_5
  rw [View.canon_unit_zero hz]
  unfold_payloads
  pointwise
theorem out_6 (x0 : Vec Ideal S256x1024 .f32) (x1 : Vec Ideal S1x1024 .f32) (x2 : Vec Ideal S2816x1024 .bf16) (x3 : Vec Ideal S2816x1024 .bf16) (x4 : Vec Ideal S2816x1024 .bf16) (r : Fin 256) (j : Fin 2816) :
    out0_6 (F := Ideal) x0 x1 x2 x3 x4 (ix2 r j)
      = bProj x0 x1 x2 r j := by
  unfold out0_6
  rw [View.canon_unit_zero hz]
  unfold_payloads
  pointwise
theorem out_7 (x0 : Vec Ideal S256x1024 .f32) (x1 : Vec Ideal S1x1024 .f32) (x2 : Vec Ideal S2816x1024 .bf16) (x3 : Vec Ideal S2816x1024 .bf16) (x4 : Vec Ideal S2816x1024 .bf16) (r : Fin 256) (j : Fin 2816) :
    out0_7 (F := Ideal) x0 x1 x2 x3 x4 (ix2 r j)
      = bProj x0 x1 x3 r j := by
  unfold out0_7
  rw [View.canon_unit_zero hz]
  unfold_payloads
  pointwise

/-! ### Blocks of the arrays -/

/-- Token `r` of block `t`. -/
abbrev tok (t : Fin cfg0.N) (r : Fin 256) : Fin 4352 := ⟨t.val * 256 + r.val, by
  have := t.isLt; have h : cfg0.N = 17 := N_0; have := r.isLt; omega⟩
/-- Every token is some block's. -/
theorem exists_tok (i : Fin 4352) : ∃ t r, i = tok t r :=
  ⟨⟨i.val / 256, by have h : cfg0.N = 17 := N_0; omega⟩, ⟨i.val % 256, Nat.mod_lt _ (by decide)⟩, Fin.ext (by simp only []; omega)⟩

theorem idx0 : ∀ t : Fin grid0.N, win0_0.index t 0 = t.val ∧ win0_0.index t 1 = 0 := by decide +kernel
theorem blk0 (t : Fin cfg0.N) (r : Fin 256) (j : Fin 1024) : iblk m c 0 t (ix2 r j) = (h m c) (ix2 (tok t r) j) := by
  show V m c main_arg0 ((win0_0.rect t).emb (ix2 r j)) = _
  rw [V_main_arg0]
  refine congrArg (h m c) (Shape.idx_ext₂ ?_ ?_)
  · exact (win0_0.rect_emb_val t _ 0).trans (by rw [(idx0 t).1]; simp)
  · exact (win0_0.rect_emb_val t _ 1).trans (by rw [(idx0 t).2]; simp)
theorem idx1 : ∀ t : Fin grid0.N, win0_1.index t 0 = 0 ∧ win0_1.index t 1 = 0 := by decide +kernel
theorem blk1 (t : Fin cfg0.N) (r : Fin 1) (j : Fin 1024) : iblk m c 1 t (ix2 r j) = (hG (g m c)) (ix2 r j) := by
  show V m c main_v0 ((win0_1.rect t).emb (ix2 r j)) = _
  rw [V_v0]
  refine congrArg (hG (g m c)) (Shape.idx_ext₂ ?_ ?_)
  · exact (win0_1.rect_emb_val t _ 0).trans (by rw [(idx1 t).1]; simp)
  · exact (win0_1.rect_emb_val t _ 1).trans (by rw [(idx1 t).2]; simp)
theorem idx2 : ∀ t : Fin grid0.N, win0_2.index t 0 = 0 ∧ win0_2.index t 1 = 0 := by decide +kernel
theorem blk2 (t : Fin cfg0.N) (r : Fin 2816) (j : Fin 1024) : iblk m c 2 t (ix2 r j) = (hWg (wg m c)) (ix2 r j) := by
  show V m c main_v2 ((win0_2.rect t).emb (ix2 r j)) = _
  rw [V_v2]
  refine congrArg (hWg (wg m c)) (Shape.idx_ext₂ ?_ ?_)
  · exact (win0_2.rect_emb_val t _ 0).trans (by rw [(idx2 t).1]; simp)
  · exact (win0_2.rect_emb_val t _ 1).trans (by rw [(idx2 t).2]; simp)
theorem idx3 : ∀ t : Fin grid0.N, win0_3.index t 0 = 0 ∧ win0_3.index t 1 = 0 := by decide +kernel
theorem blk3 (t : Fin cfg0.N) (r : Fin 2816) (j : Fin 1024) : iblk m c 3 t (ix2 r j) = (hWu (wu m c)) (ix2 r j) := by
  show V m c main_v4 ((win0_3.rect t).emb (ix2 r j)) = _
  rw [V_v4]
  refine congrArg (hWu (wu m c)) (Shape.idx_ext₂ ?_ ?_)
  · exact (win0_3.rect_emb_val t _ 0).trans (by rw [(idx3 t).1]; simp)
  · exact (win0_3.rect_emb_val t _ 1).trans (by rw [(idx3 t).2]; simp)
theorem idx4 : ∀ t : Fin grid0.N, win0_4.index t 0 = 0 ∧ win0_4.index t 1 = 0 := by decide +kernel
theorem blk4 (t : Fin cfg0.N) (r : Fin 2816) (j : Fin 1024) : iblk m c 4 t (ix2 r j) = (hWd (wd m c)) (ix2 r j) := by
  show V m c main_v5 ((win0_4.rect t).emb (ix2 r j)) = _
  rw [V_v5]
  refine congrArg (hWd (wd m c)) (Shape.idx_ext₂ ?_ ?_)
  · exact (win0_4.rect_emb_val t _ 0).trans (by rw [(idx4 t).1]; simp)
  · exact (win0_4.rect_emb_val t _ 1).trans (by rw [(idx4 t).2]; simp)
theorem row_eq (t : Fin cfg0.N) (r : Fin 256) : row (iblk m c 0 t : Vec Ideal S256x1024 .f32) r = row (h m c) (tok t r) :=
  funext fun k => blk0 m c t r k
theorem gate_blk (t : Fin cfg0.N) (r : Fin 256) (f : Fin 2816) :
    bProj (iblk m c 0 t) (iblk m c 1 t) (iblk m c 2 t) r f = proj (h m c) (g m c) (tok t r) (wg m c) f := by
  unfold bProj proj hn
  exact Finset.sum_congr rfl fun k _ => by rw [row_eq, blk1, hG_apply, blk2, hWg_apply]
theorem up_blk (t : Fin cfg0.N) (r : Fin 256) (f : Fin 2816) :
    bProj (iblk m c 0 t) (iblk m c 1 t) (iblk m c 3 t) r f = proj (h m c) (g m c) (tok t r) (wu m c) f := by
  unfold bProj proj hn
  exact Finset.sum_congr rfl fun k _ => by rw [row_eq, blk1, hG_apply, blk3, hWu_apply]

/-! ### The result arrays -/

theorem idx5 : ∀ t : Fin grid0.N, win0_5.index t 0 = t.val ∧ win0_5.index t 1 = 0 := by decide +kernel
theorem arr5 (i : Fin 4352) (j : Fin 1024) : (dats m 0 c).arrAt 5 cfg0.N (ix2 i j)
    = h m c (ix2 i j) + ∑ f : Fin 2816, act (h m c) (g m c) (wg m c) (wu m c) i f * wd m c (ix2 f j) := by
  obtain ⟨t, r, rfl⟩ := exists_tok i
  have e : ((cfg0.win 5).blk t).view.emb (ix2 r j) = ix2 (tok t r) j := Shape.idx_ext₂
    ((win0_5.rect_emb_val t _ 0).trans (by rw [(idx5 t).1]; rfl)) ((win0_5.rect_emb_val t _ 1).trans (by rw [(idx5 t).2]; simp))
  have h : out0_5 (iblk m c 0 t) (iblk m c 1 t) (iblk m c 2 t) (iblk m c 3 t) (iblk m c 4 t) (ix2 r j)
      = h m c (ix2 (tok t r) j) + ∑ f : Fin 2816, act (h m c) (g m c) (wg m c) (wu m c) (tok t r) f * wd m c (ix2 f j) := by
    refine (out_5 (iblk m c 0 t) (iblk m c 1 t) (iblk m c 2 t) (iblk m c 3 t) (iblk m c 4 t) r j).trans ?_
    rw [blk0]
    refine congrArg (h m c (ix2 (tok t r) j) + ·) (Finset.sum_congr rfl fun f _ => ?_)
    rw [gate_blk, up_blk, blk4, hWd_apply]
    rfl
  refine (congrArg ((dats m 0 c).arrAt 5 cfg0.N) e.symm).trans ?_
  refine ((dats m 0 c).arrAt_emb_eq_flushed 5 Value.disjoint5 t (flush0_5 t) (ix2 r j)).trans ?_
  rw [Value.flushed5]
  generalize out0_5 (iblk m c 0 t) (iblk m c 1 t) (iblk m c 2 t) (iblk m c 3 t) (iblk m c 4 t) = v at h ⊢
  exact h
theorem idx6 : ∀ t : Fin grid0.N, win0_6.index t 0 = t.val ∧ win0_6.index t 1 = 0 := by decide +kernel
theorem arr6 (i : Fin 4352) (j : Fin 2816) : (dats m 0 c).arrAt 6 cfg0.N (ix2 i j)
    = proj (h m c) (g m c) i (wg m c) j := by
  obtain ⟨t, r, rfl⟩ := exists_tok i
  have e : ((cfg0.win 6).blk t).view.emb (ix2 r j) = ix2 (tok t r) j := Shape.idx_ext₂
    ((win0_6.rect_emb_val t _ 0).trans (by rw [(idx6 t).1]; rfl)) ((win0_6.rect_emb_val t _ 1).trans (by rw [(idx6 t).2]; simp))
  have h : out0_6 (iblk m c 0 t) (iblk m c 1 t) (iblk m c 2 t) (iblk m c 3 t) (iblk m c 4 t) (ix2 r j)
      = proj (h m c) (g m c) (tok t r) (wg m c) j := by
    refine (out_6 (iblk m c 0 t) (iblk m c 1 t) (iblk m c 2 t) (iblk m c 3 t) (iblk m c 4 t) r j).trans ?_
    exact gate_blk m c t r j
  refine (congrArg ((dats m 0 c).arrAt 6 cfg0.N) e.symm).trans ?_
  refine ((dats m 0 c).arrAt_emb_eq_flushed 6 Value.disjoint6 t (flush0_6 t) (ix2 r j)).trans ?_
  rw [Value.flushed6]
  generalize out0_6 (iblk m c 0 t) (iblk m c 1 t) (iblk m c 2 t) (iblk m c 3 t) (iblk m c 4 t) = v at h ⊢
  exact h
theorem idx7 : ∀ t : Fin grid0.N, win0_7.index t 0 = t.val ∧ win0_7.index t 1 = 0 := by decide +kernel
theorem arr7 (i : Fin 4352) (j : Fin 2816) : (dats m 0 c).arrAt 7 cfg0.N (ix2 i j)
    = proj (h m c) (g m c) i (wu m c) j := by
  obtain ⟨t, r, rfl⟩ := exists_tok i
  have e : ((cfg0.win 7).blk t).view.emb (ix2 r j) = ix2 (tok t r) j := Shape.idx_ext₂
    ((win0_7.rect_emb_val t _ 0).trans (by rw [(idx7 t).1]; rfl)) ((win0_7.rect_emb_val t _ 1).trans (by rw [(idx7 t).2]; simp))
  have h : out0_7 (iblk m c 0 t) (iblk m c 1 t) (iblk m c 2 t) (iblk m c 3 t) (iblk m c 4 t) (ix2 r j)
      = proj (h m c) (g m c) (tok t r) (wu m c) j := by
    refine (out_7 (iblk m c 0 t) (iblk m c 1 t) (iblk m c 2 t) (iblk m c 3 t) (iblk m c 4 t) r j).trans ?_
    exact up_blk m c t r j
  refine (congrArg ((dats m 0 c).arrAt 7 cfg0.N) e.symm).trans ?_
  refine ((dats m 0 c).arrAt_emb_eq_flushed 7 Value.disjoint7 t (flush0_7 t) (ix2 r j)).trans ?_
  rw [Value.flushed7]
  generalize out0_7 (iblk m c 0 t) (iblk m c 1 t) (iblk m c 2 t) (iblk m c 3 t) (iblk m c 4 t) = v at h ⊢
  exact h

end Cert.FfnFwdValue

end
-- ==== Proof.FfnFwdRefValue.lean ====
/-
  What the channel mixer's forward reference computes, entry by entry: the same formulas.
-/
module

public import proofs.«01_k».proof.Proof.FfnFormula
public import proofs.«01_k».proof.Proof.Gen.FfnFwdRefIdeal.Read

@[expose] public section

noncomputable section

namespace Cert.FfnFwdRefValue

open Idealize.ShloMosaic Cert.FfnFwdRefIdeal Cert.FfnFwdRefIdeal.Read
open Cert.FfnFormula Cert.RmsRow

variable (h : FVec Ideal S4352x1024 .f32) (g : FVec Ideal S1024 .f32) (wg wu : FVec Ideal S1024x2816 .f32)
  (wd : FVec Ideal S2816x1024 .f32) (i : Fin 4352)

theorem v12 (j : Fin 1024) : val_main_v12 (F := Ideal) h g (ix2 i j)
    = hn h g i j := by
  unfold val_main_v12 val_main_v11 val_main_v10 val_main_v9 val_main_v8 val_main_v7 val_main_v6 val_main_v5 val_main_cst_1 val_main_v4 val_main_v3 val_main_cst_0 val_main_v2 val_main_v1 val_main_cst val_main_v0
  pointwise
  rfl

theorem v25 (j : Fin 1024) : val_main_v25 (F := Ideal) h g (ix2 i j)
    = hn h g i j := by
  unfold val_main_v25 val_main_v24 val_main_v23 val_main_v22 val_main_v21 val_main_v20 val_main_v19 val_main_v18 val_main_cst_4 val_main_v17 val_main_v16 val_main_cst_3 val_main_v15 val_main_v14 val_main_cst_2 val_main_v13
  pointwise
  rfl

theorem v26 (f : Fin 2816) : val_main_v26 (F := Ideal) h g wg (ix2 i f)
    = proj h g i wg f := by
  unfold val_main_v26
  pointwise [v25]
  rfl

theorem v28 (f : Fin 2816) : val_main_v28 (F := Ideal) h g wu (ix2 i f)
    = proj h g i wu f := by
  unfold val_main_v28
  pointwise [v25]
  rfl

theorem call0_v5 (f : Fin 2816) : val_main_call0_v5 (F := Ideal) h g wg (ix2 i f)
    = Ideal.logistic (proj h g i wg f) := by
  unfold val_main_call0_v5 val_main_call0_v4 val_main_call0_cst_0 val_main_call0_v3 val_main_call0_v2 val_main_call0_cst val_main_call0_v1 val_main_call0_v0
  pointwise [v26, Ideal.logistic]

theorem v31 (j : Fin 1024) : val_main_v31 (F := Ideal) h g wg wu wd (ix2 i j)
    = h (ix2 i j) + ∑ f : Fin 2816, act h g wg wu i f * wd (ix2 f j) := by
  unfold val_main_v31 val_main_v30 val_main_v29 val_main_v27
  pointwise [v26, v28, call0_v5]
  rfl

theorem v33 (f : Fin 2816) : val_main_v33 (F := Ideal) h g wg (ix2 i f)
    = proj h g i wg f := by
  unfold val_main_v33 val_main_v32
  pointwise [v12]
  rfl

theorem v35 (f : Fin 2816) : val_main_v35 (F := Ideal) h g wu (ix2 i f)
    = proj h g i wu f := by
  unfold val_main_v35 val_main_v34
  pointwise [v12]
  rfl

end Cert.FfnFwdRefValue

end
-- ==== Proof.FfnFwd.lean ====
/-
  The channel mixer's forward kernel and its reference leave the same three arrays.
-/
module

public import proofs.«01_k».proof.Defs
public import proofs.«01_k».proof.Proof.FfnFwdArrays
public import proofs.«01_k».proof.Proof.FfnFwdRefValue
public import proofs.«01_k».proof.Proof.Gen.FfnFwdRefIdeal.Run

@[expose] public section

noncomputable section

namespace Cert.FfnFwdClaim

open Idealize.ShloMosaic Idealize.ShloMosaic.TcCoe Idealize.SL.Sem Cert.FfnFwdRefIdeal.Read

/-- Two arrays with two axes are equal where their entries are. -/
theorem arr_ext {p q : Nat} {x y : (⟨2, ![p, q]⟩ : Shape).Idx → EReal} (h : ∀ i j, x (ix2 i j) = y (ix2 i j)) : x = y :=
  funext fun i => by rw [eq_ix2 i]; exact h _ _

theorem algebraic : Cert.algebraic_FfnFwdIdeal_FfnFwdRefIdeal (hFfnFwdIdeal := Cert.FfnFwdIdeal.Gen.facts)
    (hFfnFwdRefIdeal := Cert.FfnFwdRefIdeal.Gen.facts) := by
  intro m g m' g' _ hargs
  refine ⟨_, _, _, Cert.FfnFwdIdeal.Value.run_blocks (F := Ideal) m g, ?_⟩
  refine (θ_run (Cert.FfnFwdRefIdeal.defs (F := Ideal)) _ _).mono (fun r h c => ?_) (Cert.FfnFwdRefIdeal.Value.run (F := Ideal) m' g')
  obtain ⟨h0, h1, h2, hk⟩ := h c
  obtain ⟨e0, e1, e2, e3, e4⟩ := hargs c
  have q0 := h0.trans (val_main_v31_eq (F := Ideal) _ _ _ _ _)
  rw [e0, e1, e2, e3, e4] at q0
  have q1 := h1.trans (val_main_v33_eq (F := Ideal) _ _ _)
  rw [e0, e1, e2] at q1
  have q2 := h2.trans (val_main_v35_eq (F := Ideal) _ _ _)
  rw [e0, e1, e3] at q2
  refine ⟨q0.trans ?_, q1.trans ?_, q2.trans ?_, hk⟩
  · exact arr_ext fun i j => (FfnFwdRefValue.v31 _ _ _ _ _ i j).trans (FfnFwdValue.arr5 m c i j).symm
  · exact arr_ext fun i j => (FfnFwdRefValue.v33 _ _ _ i j).trans (FfnFwdValue.arr6 m c i j).symm
  · exact arr_ext fun i j => (FfnFwdRefValue.v35 _ _ _ i j).trans (FfnFwdValue.arr7 m c i j).symm

end Cert.FfnFwdClaim

end
-- ==== Proof.MergeBlock.lean ====
/-
  What the body of the merge's backward kernel leaves in one block of 544 tokens, entry by entry, over the extended
  reals.
-/
module

public import proofs.«01_k».proof.Proof.Gen.MergeBwdIdeal.Frame
public import Idealize.ShloMosaic.Lib.Pipeline.Value
public import Idealize.ShloMosaic.Lib.Pointwise

@[expose] public section

noncomputable section

namespace Cert.MergeValue

open Idealize.ShloMosaic Cert.MergeBwdIdeal Cert.MergeBwdIdeal.Gen

theorem hz : (![0, 0] : Fin 2 → Nat) = fun _ => 0 := funext fun a => by fin_cases a <;> rfl

variable (g : FVec Ideal S544x1024 .f32) (za zb pa pb : FVec Ideal S544x1024 .bf16) (wo : FVec Ideal S1024x1024 .bf16)
  (wpa : FVec Ideal S512x1024 .bf16) (wpb : FVec Ideal S2048x1024 .bf16)

/-- The gradient of the merged activations: the incoming gradient times the output weight transposed. -/
abbrev dm (r : Fin 544) (j : Fin 1024) : EReal := ∑ k : Fin 1024, g (ix2 r k) * wo (ix2 j k)

/-- The first result: both projections, each scaled by its gate. -/
theorem out8_apply (r : Fin 544) (j : Fin 1024) : out0_8 (F := Ideal) g za zb pa pb wo wpa wpb (ix2 r j)
    = Ideal.logistic (za (ix2 r j)) * pa (ix2 r j) + Ideal.logistic (zb (ix2 r j)) * pb (ix2 r j) := by
  unfold out0_8
  rw [View.canon_unit_zero hz]
  unfold_payloads
  pointwise

theorem out9_apply (r : Fin 544) (j : Fin 1024) : out0_9 (F := Ideal) g za zb pa pb wo wpa wpb (ix2 r j)
    = dm g wo r j * Ideal.logistic (za (ix2 r j)) := by
  unfold out0_9
  rw [View.canon_unit_zero hz]
  unfold_payloads
  pointwise

theorem out10_apply (r : Fin 544) (j : Fin 1024) : out0_10 (F := Ideal) g za zb pa pb wo wpa wpb (ix2 r j)
    = dm g wo r j * Ideal.logistic (zb (ix2 r j)) := by
  unfold out0_10
  rw [View.canon_unit_zero hz]
  unfold_payloads
  pointwise

theorem out11_apply (r : Fin 544) (j : Fin 1024) : out0_11 (F := Ideal) g za zb pa pb wo wpa wpb (ix2 r j)
    = dm g wo r j * pa (ix2 r j) * (Ideal.logistic (za (ix2 r j)) * (1 - Ideal.logistic (za (ix2 r j)))) := by
  unfold out0_11
  rw [View.canon_unit_zero hz]
  unfold_payloads
  pointwise

theorem out12_apply (r : Fin 544) (j : Fin 1024) : out0_12 (F := Ideal) g za zb pa pb wo wpa wpb (ix2 r j)
    = dm g wo r j * pb (ix2 r j) * (Ideal.logistic (zb (ix2 r j)) * (1 - Ideal.logistic (zb (ix2 r j)))) := by
  unfold out0_12
  rw [View.canon_unit_zero hz]
  unfold_payloads
  pointwise

theorem out13_apply (r : Fin 544) (q : Fin 512) : out0_13 (F := Ideal) g za zb pa pb wo wpa wpb (ix2 r q)
    = ∑ j : Fin 1024, dm g wo r j * Ideal.logistic (za (ix2 r j)) * wpa (ix2 q j) := by
  unfold out0_13
  rw [View.canon_unit_zero hz]
  unfold_payloads
  pointwise

theorem out14_apply (r : Fin 544) (q : Fin 2048) : out0_14 (F := Ideal) g za zb pa pb wo wpa wpb (ix2 r q)
    = ∑ j : Fin 1024, dm g wo r j * Ideal.logistic (zb (ix2 r j)) * wpb (ix2 q j) := by
  unfold out0_14
  rw [View.canon_unit_zero hz]
  unfold_payloads
  pointwise

end Cert.MergeValue

end
-- ==== Proof.MergeFormula.lean ====
/-
  The gated merge and its gradient, entry by entry, over the extended reals: two projections, each scaled by the logistic
  of its gate and added; the gradients of the projections, of the gates and of the two branches.
-/
module

public import Idealize.ShloMosaic.Lib.Pipeline.Value
public import Idealize.ShloMosaic.Lib.Pointwise

@[expose] public section

noncomputable section

namespace Cert.MergeFormula

open Idealize.ShloMosaic

/-- An array of extended reals with two axes. -/
abbrev Arr (p q : Nat) : Type := (⟨2, ![p, q]⟩ : Shape).Idx → EReal

variable (z : Arr 4352 3072) (a : Arr 4352 512) (b : Arr 4352 1024) (wpa : Arr 512 1024) (wpb wo : Arr 1024 1024)
  (ct : Arr 4352 1024) (i : Fin 4352) (j : Fin 1024)

/-- The two gates. -/
abbrev gA : EReal := Ideal.logistic (z (ix2 i ⟨1024 + j.val, by omega⟩))
abbrev gB : EReal := Ideal.logistic (z (ix2 i ⟨2048 + j.val, by omega⟩))
/-- The two projections. -/
abbrev pA : EReal := ∑ k : Fin 512, a (ix2 i k) * wpa (ix2 k j)
abbrev pB : EReal := ∑ k : Fin 1024, b (ix2 i k) * wpb (ix2 k j)
/-- The gradient of the merged activations. -/
abbrev dM : EReal := ∑ k : Fin 1024, ct (ix2 i k) * wo (ix2 j k)

/-- The merged activations. -/
abbrev merged : EReal := gA z i j * pA a wpa i j + gB z i j * pB b wpb i j
/-- The gradients of the two projections. -/
abbrev dPa : EReal := dM wo ct i j * gA z i j
abbrev dPb : EReal := dM wo ct i j * gB z i j
/-- The gradients of the two gates. -/
abbrev dGa : EReal := dM wo ct i j * pA a wpa i j * (gA z i j * (1 - gA z i j))
abbrev dGb : EReal := dM wo ct i j * pB b wpb i j * (gB z i j * (1 - gB z i j))
/-- The gradient of the first branch. -/
abbrev dA (q : Fin 512) : EReal := ∑ k : Fin 1024, dPa z wo ct i k * wpa (ix2 q k)
/-- The gradient of the second branch, each head's 64 entries followed by 64 zeros. -/
abbrev dB (q : Fin 2048) : EReal := ∑ k : Fin 1024, dPb z wo ct i k *
  (if h : q.val % 128 < 64 then wpb (ix2 ⟨q.val / 128 * 64 + q.val % 128, by omega⟩ k) else 0)

end Cert.MergeFormula

end
-- ==== Proof.MergeArrays.lean ====
/-
  What the merge's backward kernel's seven result arrays end holding, entry by entry, from the argument arrays.
-/
module

public import proofs.«01_k».proof.Proof.MergeBlock
public import proofs.«01_k».proof.Proof.MergeFormula
public import proofs.«01_k».proof.Proof.Gen.MergeBwdIdeal.Value

@[expose] public section

noncomputable section

namespace Cert.MergeValue

open Idealize.ShloMosaic Idealize.ShloMosaic.TcCoe Idealize.SL.Sem Cert.MergeBwdIdeal Cert.MergeBwdIdeal.Gen
open Idealize.ShloMosaic.Pipeline (Dat Cfg Window)
open Cert.MergeFormula (merged dPa dPb dGa dGb dA dB)

variable (m : (ℓ : Loc nD τ sig) → Buf (Elt Ideal) ℓ) (c : Dev nD)

/-- The argument arrays as launched: the gates' array, the two branches, the three weights, the incoming gradient. -/
abbrev z : FVec Ideal S4352x3072 .bf16 := m ((c : Thread nD τ).loc main_arg0)
abbrev a : FVec Ideal S4352x512 .bf16 := m ((c : Thread nD τ).loc main_arg1)
abbrev b : FVec Ideal S4352x1024 .bf16 := m ((c : Thread nD τ).loc main_arg2)
abbrev wpa : FVec Ideal S512x1024 .f32 := m ((c : Thread nD τ).loc main_arg3)
abbrev wpb : FVec Ideal S1024x1024 .f32 := m ((c : Thread nD τ).loc main_arg4)
abbrev wo : FVec Ideal S1024x1024 .f32 := m ((c : Thread nD τ).loc main_arg5)
abbrev ct : FVec Ideal S4352x1024 .f32 := m ((c : Thread nD τ).loc main_arg6)

/-! ### The arrays the host prepares before the call -/

abbrev hPa (a : FVec Ideal S4352x512 .bf16) (w : FVec Ideal S512x1024 .f32) : FVec Ideal S4352x1024 .bf16 :=
  truncf .bf16 (Host.dotGeneral dot_S4352x512_S512x1024_S4352x1024_1_0_0_1_n_n none (extf .f32 a bitsLt_bf16_f32) w) bitsLt_bf16_f32
abbrev hPb (b : FVec Ideal S4352x1024 .bf16) (w : FVec Ideal S1024x1024 .f32) : FVec Ideal S4352x1024 .bf16 :=
  truncf .bf16 (Host.dotGeneral dot_S4352x1024_S1024x1024_S4352x1024_1_0_0_1_n_n none (extf .f32 b bitsLt_bf16_f32) w) bitsLt_bf16_f32
/-- The second projection's weight with each head's 64 rows followed by 64 rows of zeros. -/
abbrev hWpb (w : FVec Ideal S1024x1024 .f32) : FVec Ideal S2048x1024 .bf16 :=
  truncf .bf16 (shapeCast S2048x1024 (pad S16x128x1024 ![0, 0, 0] ![0, 64, 0] ![0, 0, 0]
    (shapeCast S16x64x1024 w shapeCasts_S1024x1024_S16x64x1024) (sitofp (F := Ideal) .f32 (constantI S_ 32 0#32))
    pads_S16x64x1024_S16x128x1024_000_0640_000 h_S_) shapeCasts_S16x128x1024_S2048x1024) bitsLt_bf16_f32

theorem V_v2 : V m c main_v2 = hPa (a m c) (wpa m c) := by
  simp only [V, hostOps0, hostOps0_1, hostOps0_2, List.flatten_cons, List.flatten_nil, List.append_nil, List.cons_append,
    List.nil_append, StableHlo.TRef.binary, StableHlo.TRef.unary, StableHlo.TRef.toBuf, StableHlo.TRef.ofBuf, cast_eq]
  after_results_simp <;> rfl
theorem V_v5 : V m c main_v5 = hPb (b m c) (wpb m c) := by
  simp only [V, hostOps0, hostOps0_1, hostOps0_2, List.flatten_cons, List.flatten_nil, List.append_nil, List.cons_append,
    List.nil_append, StableHlo.TRef.binary, StableHlo.TRef.unary, StableHlo.TRef.toBuf, StableHlo.TRef.ofBuf, cast_eq]
  after_results_simp <;> rfl
theorem V_v9 : V m c main_v9 = truncf .bf16 (wo m c) bitsLt_bf16_f32 := by
  simp only [V, hostOps0, hostOps0_1, hostOps0_2, List.flatten_cons, List.flatten_nil, List.append_nil, List.cons_append,
    List.nil_append, StableHlo.TRef.binary, StableHlo.TRef.unary, StableHlo.TRef.toBuf, StableHlo.TRef.ofBuf, cast_eq]
  after_results_simp <;> rfl
theorem V_v10 : V m c main_v10 = truncf .bf16 (wpa m c) bitsLt_bf16_f32 := by
  simp only [V, hostOps0, hostOps0_1, hostOps0_2, List.flatten_cons, List.flatten_nil, List.append_nil, List.cons_append,
    List.nil_append, StableHlo.TRef.binary, StableHlo.TRef.unary, StableHlo.TRef.toBuf, StableHlo.TRef.ofBuf, cast_eq]
  after_results_simp <;> rfl
theorem V_v11 : V m c main_v11 = hWpb (wpb m c) := by
  simp only [V, hostOps0, hostOps0_1, hostOps0_2, List.flatten_cons, List.flatten_nil, List.append_nil, List.cons_append,
    List.nil_append, StableHlo.TRef.binary, StableHlo.TRef.unary, StableHlo.TRef.toBuf, StableHlo.TRef.ofBuf, cast_eq]
  after_results_simp <;> rfl

theorem hPa_apply (a : FVec Ideal S4352x512 .bf16) (w : FVec Ideal S512x1024 .f32) (i : Fin 4352) (j : Fin 1024) :
    hPa a w (ix2 i j) = ∑ k : Fin 512, a (ix2 i k) * w (ix2 k j) := by pointwise
theorem hPb_apply (a : FVec Ideal S4352x1024 .bf16) (w : FVec Ideal S1024x1024 .f32) (i : Fin 4352) (j : Fin 1024) :
    hPb a w (ix2 i j) = ∑ k : Fin 1024, a (ix2 i k) * w (ix2 k j) := by pointwise
theorem hWpb_apply (w : FVec Ideal S1024x1024 .f32) (q : Fin 2048) (j : Fin 1024) :
    hWpb w (ix2 q j) = if h : q.val % 128 < 64 then w (ix2 ⟨q.val / 128 * 64 + q.val % 128, by omega⟩ j) else 0 := by
  pointwise
  have hq : q.val / 128 < 16 := by omega
  by_cases h : q.val % 128 < 64
  · rw [dif_pos ⟨hq, h⟩, dif_pos h]
  · rw [dif_neg (fun e => h e.2), dif_neg h]
    exact (Ideal.scalar_sitofp_def (φ := .f32) 0#32).trans (by simp)

/-! ### Blocks of the arrays -/

/-- Token `r` of block `t`. -/
abbrev row (t : Fin cfg0.N) (r : Fin 544) : Fin 4352 := ⟨t.val * 544 + r.val, by
  have := t.isLt; have h : cfg0.N = 8 := N_0; have := r.isLt; omega⟩

/-- Every token is some block's. -/
theorem exists_row (i : Fin 4352) : ∃ t r, i = row t r :=
  ⟨⟨i.val / 544, by have h : cfg0.N = 8 := N_0; omega⟩, ⟨i.val % 544, Nat.mod_lt _ (by decide)⟩, Fin.ext (by simp only []; omega)⟩

theorem idx0 : ∀ t : Fin grid0.N, win0_0.index t 0 = t.val ∧ win0_0.index t 1 = 0 := by decide +kernel
theorem blk0 (t : Fin cfg0.N) (r : Fin 544) (j : Fin 1024) : iblk m c 0 t (ix2 r j) = (ct m c) (ix2 (row t r) j) := by
  show V m c main_arg6 ((win0_0.rect t).emb (ix2 r j)) = _
  rw [V_main_arg6]
  refine congrArg (ct m c) (Shape.idx_ext₂ ?_ ?_)
  · exact (win0_0.rect_emb_val t _ 0).trans (by rw [(idx0 t).1]; simp)
  · exact (win0_0.rect_emb_val t _ 1).trans (by rw [(idx0 t).2]; simp)
theorem idx1 : ∀ t : Fin grid0.N, win0_1.index t 0 = t.val ∧ win0_1.index t 1 = 1 := by decide +kernel
theorem blk1 (t : Fin cfg0.N) (r : Fin 544) (j : Fin 1024) : iblk m c 1 t (ix2 r j) = (z m c) (ix2 (row t r) ⟨1024 + j.val, by omega⟩) := by
  show V m c main_arg0 ((win0_1.rect t).emb (ix2 r j)) = _
  rw [V_main_arg0]
  refine congrArg (z m c) (Shape.idx_ext₂ ?_ ?_)
  · exact (win0_1.rect_emb_val t _ 0).trans (by rw [(idx1 t).1]; simp)
  · exact (win0_1.rect_emb_val t _ 1).trans (by rw [(idx1 t).2]; simp)
theorem idx2 : ∀ t : Fin grid0.N, win0_2.index t 0 = t.val ∧ win0_2.index t 1 = 2 := by decide +kernel
theorem blk2 (t : Fin cfg0.N) (r : Fin 544) (j : Fin 1024) : iblk m c 2 t (ix2 r j) = (z m c) (ix2 (row t r) ⟨2048 + j.val, by omega⟩) := by
  show V m c main_arg0 ((win0_2.rect t).emb (ix2 r j)) = _
  rw [V_main_arg0]
  refine congrArg (z m c) (Shape.idx_ext₂ ?_ ?_)
  · exact (win0_2.rect_emb_val t _ 0).trans (by rw [(idx2 t).1]; simp)
  · exact (win0_2.rect_emb_val t _ 1).trans (by rw [(idx2 t).2]; simp)
theorem idx3 : ∀ t : Fin grid0.N, win0_3.index t 0 = t.val ∧ win0_3.index t 1 = 0 := by decide +kernel
theorem blk3 (t : Fin cfg0.N) (r : Fin 544) (j : Fin 1024) : iblk m c 3 t (ix2 r j) = (hPa (a m c) (wpa m c)) (ix2 (row t r) j) := by
  show V m c main_v2 ((win0_3.rect t).emb (ix2 r j)) = _
  rw [V_v2]
  refine congrArg (hPa (a m c) (wpa m c)) (Shape.idx_ext₂ ?_ ?_)
  · exact (win0_3.rect_emb_val t _ 0).trans (by rw [(idx3 t).1]; simp)
  · exact (win0_3.rect_emb_val t _ 1).trans (by rw [(idx3 t).2]; simp)
theorem idx4 : ∀ t : Fin grid0.N, win0_4.index t 0 = t.val ∧ win0_4.index t 1 = 0 := by decide +kernel
theorem blk4 (t : Fin cfg0.N) (r : Fin 544) (j : Fin 1024) : iblk m c 4 t (ix2 r j) = (hPb (b m c) (wpb m c)) (ix2 (row t r) j) := by
  show V m c main_v5 ((win0_4.rect t).emb (ix2 r j)) = _
  rw [V_v5]
  refine congrArg (hPb (b m c) (wpb m c)) (Shape.idx_ext₂ ?_ ?_)
  · exact (win0_4.rect_emb_val t _ 0).trans (by rw [(idx4 t).1]; simp)
  · exact (win0_4.rect_emb_val t _ 1).trans (by rw [(idx4 t).2]; simp)
theorem idx5 : ∀ t : Fin grid0.N, win0_5.index t 0 = 0 ∧ win0_5.index t 1 = 0 := by decide +kernel
theorem blk5 (t : Fin cfg0.N) (r : Fin 1024) (j : Fin 1024) : iblk m c 5 t (ix2 r j) = (wo m c) (ix2 r j) := by
  show V m c main_v9 ((win0_5.rect t).emb (ix2 r j)) = _
  rw [V_v9]
  refine congrArg (wo m c) (Shape.idx_ext₂ ?_ ?_)
  · exact (win0_5.rect_emb_val t _ 0).trans (by rw [(idx5 t).1]; simp)
  · exact (win0_5.rect_emb_val t _ 1).trans (by rw [(idx5 t).2]; simp)
theorem idx6 : ∀ t : Fin grid0.N, win0_6.index t 0 = 0 ∧ win0_6.index t 1 = 0 := by decide +kernel
theorem blk6 (t : Fin cfg0.N) (r : Fin 512) (j : Fin 1024) : iblk m c 6 t (ix2 r j) = (wpa m c) (ix2 r j) := by
  show V m c main_v10 ((win0_6.rect t).emb (ix2 r j)) = _
  rw [V_v10]
  refine congrArg (wpa m c) (Shape.idx_ext₂ ?_ ?_)
  · exact (win0_6.rect_emb_val t _ 0).trans (by rw [(idx6 t).1]; simp)
  · exact (win0_6.rect_emb_val t _ 1).trans (by rw [(idx6 t).2]; simp)
theorem idx7 : ∀ t : Fin grid0.N, win0_7.index t 0 = 0 ∧ win0_7.index t 1 = 0 := by decide +kernel
theorem blk7 (t : Fin cfg0.N) (r : Fin 2048) (j : Fin 1024) : iblk m c 7 t (ix2 r j) = (hWpb (wpb m c)) (ix2 r j) := by
  show V m c main_v11 ((win0_7.rect t).emb (ix2 r j)) = _
  rw [V_v11]
  refine congrArg (hWpb (wpb m c)) (Shape.idx_ext₂ ?_ ?_)
  · exact (win0_7.rect_emb_val t _ 0).trans (by rw [(idx7 t).1]; simp)
  · exact (win0_7.rect_emb_val t _ 1).trans (by rw [(idx7 t).2]; simp)

/-! ### The result arrays -/

theorem idx8 : ∀ t : Fin grid0.N, win0_8.index t 0 = t.val ∧ win0_8.index t 1 = 0 := by decide +kernel
theorem arr8 (i : Fin 4352) (j : Fin 1024) : (dats m 0 c).arrAt 8 cfg0.N (ix2 i j)
    = merged (z m c) (a m c) (b m c) (wpa m c) (wpb m c) i j := by
  obtain ⟨t, r, rfl⟩ := exists_row i
  have e : ((cfg0.win 8).blk t).view.emb (ix2 r j) = ix2 (row t r) j := Shape.idx_ext₂
    ((win0_8.rect_emb_val t _ 0).trans (by rw [(idx8 t).1]; rfl)) ((win0_8.rect_emb_val t _ 1).trans (by rw [(idx8 t).2]; simp))
  have h : out0_8 (iblk m c 0 t) (iblk m c 1 t) (iblk m c 2 t) (iblk m c 3 t) (iblk m c 4 t) (iblk m c 5 t) (iblk m c 6 t) (iblk m c 7 t) (ix2 r j) = merged (z m c) (a m c) (b m c) (wpa m c) (wpb m c) (row t r) j := by
    refine (out8_apply (iblk m c 0 t) (iblk m c 1 t) (iblk m c 2 t) (iblk m c 3 t) (iblk m c 4 t) (iblk m c 5 t) (iblk m c 6 t) (iblk m c 7 t) r j).trans ?_
    simp only [dm, blk0, blk1, blk2, blk3, blk4, blk5, blk6, blk7, hPa_apply, hPb_apply, hWpb_apply]
  rw [← e]
  refine ((dats m 0 c).arrAt_emb_eq_flushed 8 Value.disjoint8 t (flush0_8 t) (ix2 r j)).trans ?_
  rw [Value.flushed8]
  generalize out0_8 (iblk m c 0 t) (iblk m c 1 t) (iblk m c 2 t) (iblk m c 3 t) (iblk m c 4 t) (iblk m c 5 t) (iblk m c 6 t) (iblk m c 7 t) = v at h ⊢
  exact h
theorem idx9 : ∀ t : Fin grid0.N, win0_9.index t 0 = t.val ∧ win0_9.index t 1 = 0 := by decide +kernel
theorem arr9 (i : Fin 4352) (j : Fin 1024) : (dats m 0 c).arrAt 9 cfg0.N (ix2 i j)
    = dPa (z m c) (wo m c) (ct m c) i j := by
  obtain ⟨t, r, rfl⟩ := exists_row i
  have e : ((cfg0.win 9).blk t).view.emb (ix2 r j) = ix2 (row t r) j := Shape.idx_ext₂
    ((win0_9.rect_emb_val t _ 0).trans (by rw [(idx9 t).1]; rfl)) ((win0_9.rect_emb_val t _ 1).trans (by rw [(idx9 t).2]; simp))
  have h : out0_9 (iblk m c 0 t) (iblk m c 1 t) (iblk m c 2 t) (iblk m c 3 t) (iblk m c 4 t) (iblk m c 5 t) (iblk m c 6 t) (iblk m c 7 t) (ix2 r j) = dPa (z m c) (wo m c) (ct m c) (row t r) j := by
    refine (out9_apply (iblk m c 0 t) (iblk m c 1 t) (iblk m c 2 t) (iblk m c 3 t) (iblk m c 4 t) (iblk m c 5 t) (iblk m c 6 t) (iblk m c 7 t) r j).trans ?_
    simp only [dm, blk0, blk1, blk2, blk3, blk4, blk5, blk6, blk7, hPa_apply, hPb_apply, hWpb_apply]
  rw [← e]
  refine ((dats m 0 c).arrAt_emb_eq_flushed 9 Value.disjoint9 t (flush0_9 t) (ix2 r j)).trans ?_
  rw [Value.flushed9]
  generalize out0_9 (iblk m c 0 t) (iblk m c 1 t) (iblk m c 2 t) (iblk m c 3 t) (iblk m c 4 t) (iblk m c 5 t) (iblk m c 6 t) (iblk m c 7 t) = v at h ⊢
  exact h
theorem idx10 : ∀ t : Fin grid0.N, win0_10.index t 0 = t.val ∧ win0_10.index t 1 = 0 := by decide +kernel
theorem arr10 (i : Fin 4352) (j : Fin 1024) : (dats m 0 c).arrAt 10 cfg0.N (ix2 i j)
    = dPb (z m c) (wo m c) (ct m c) i j := by
  obtain ⟨t, r, rfl⟩ := exists_row i
  have e : ((cfg0.win 10).blk t).view.emb (ix2 r j) = ix2 (row t r) j := Shape.idx_ext₂
    ((win0_10.rect_emb_val t _ 0).trans (by rw [(idx10 t).1]; rfl)) ((win0_10.rect_emb_val t _ 1).trans (by rw [(idx10 t).2]; simp))
  have h : out0_10 (iblk m c 0 t) (iblk m c 1 t) (iblk m c 2 t) (iblk m c 3 t) (iblk m c 4 t) (iblk m c 5 t) (iblk m c 6 t) (iblk m c 7 t) (ix2 r j) = dPb (z m c) (wo m c) (ct m c) (row t r) j := by
    refine (out10_apply (iblk m c 0 t) (iblk m c 1 t) (iblk m c 2 t) (iblk m c 3 t) (iblk m c 4 t) (iblk m c 5 t) (iblk m c 6 t) (iblk m c 7 t) r j).trans ?_
    simp only [dm, blk0, blk1, blk2, blk3, blk4, blk5, blk6, blk7, hPa_apply, hPb_apply, hWpb_apply]
  rw [← e]
  refine ((dats m 0 c).arrAt_emb_eq_flushed 10 Value.disjoint10 t (flush0_10 t) (ix2 r j)).trans ?_
  rw [Value.flushed10]
  generalize out0_10 (iblk m c 0 t) (iblk m c 1 t) (iblk m c 2 t) (iblk m c 3 t) (iblk m c 4 t) (iblk m c 5 t) (iblk m c 6 t) (iblk m c 7 t) = v at h ⊢
  exact h
theorem idx11 : ∀ t : Fin grid0.N, win0_11.index t 0 = t.val ∧ win0_11.index t 1 = 0 := by decide +kernel
theorem arr11 (i : Fin 4352) (j : Fin 1024) : (dats m 0 c).arrAt 11 cfg0.N (ix2 i j)
    = dGa (z m c) (a m c) (wpa m c) (wo m c) (ct m c) i j := by
  obtain ⟨t, r, rfl⟩ := exists_row i
  have e : ((cfg0.win 11).blk t).view.emb (ix2 r j) = ix2 (row t r) j := Shape.idx_ext₂
    ((win0_11.rect_emb_val t _ 0).trans (by rw [(idx11 t).1]; rfl)) ((win0_11.rect_emb_val t _ 1).trans (by rw [(idx11 t).2]; simp))
  have h : out0_11 (iblk m c 0 t) (iblk m c 1 t) (iblk m c 2 t) (iblk m c 3 t) (iblk m c 4 t) (iblk m c 5 t) (iblk m c 6 t) (iblk m c 7 t) (ix2 r j) = dGa (z m c) (a m c) (wpa m c) (wo m c) (ct m c) (row t r) j := by
    refine (out11_apply (iblk m c 0 t) (iblk m c 1 t) (iblk m c 2 t) (iblk m c 3 t) (iblk m c 4 t) (iblk m c 5 t) (iblk m c 6 t) (iblk m c 7 t) r j).trans ?_
    simp only [dm, blk0, blk1, blk2, blk3, blk4, blk5, blk6, blk7, hPa_apply, hPb_apply, hWpb_apply]
  rw [← e]
  refine ((dats m 0 c).arrAt_emb_eq_flushed 11 Value.disjoint11 t (flush0_11 t) (ix2 r j)).trans ?_
  rw [Value.flushed11]
  generalize out0_11 (iblk m c 0 t) (iblk m c 1 t) (iblk m c 2 t) (iblk m c 3 t) (iblk m c 4 t) (iblk m c 5 t) (iblk m c 6 t) (iblk m c 7 t) = v at h ⊢
  exact h
theorem idx12 : ∀ t : Fin grid0.N, win0_12.index t 0 = t.val ∧ win0_12.index t 1 = 0 := by decide +kernel
theorem arr12 (i : Fin 4352) (j : Fin 1024) : (dats m 0 c).arrAt 12 cfg0.N (ix2 i j)
    = dGb (z m c) (b m c) (wpb m c) (wo m c) (ct m c) i j := by
  obtain ⟨t, r, rfl⟩ := exists_row i
  have e : ((cfg0.win 12).blk t).view.emb (ix2 r j) = ix2 (row t r) j := Shape.idx_ext₂
    ((win0_12.rect_emb_val t _ 0).trans (by rw [(idx12 t).1]; rfl)) ((win0_12.rect_emb_val t _ 1).trans (by rw [(idx12 t).2]; simp))
  have h : out0_12 (iblk m c 0 t) (iblk m c 1 t) (iblk m c 2 t) (iblk m c 3 t) (iblk m c 4 t) (iblk m c 5 t) (iblk m c 6 t) (iblk m c 7 t) (ix2 r j) = dGb (z m c) (b m c) (wpb m c) (wo m c) (ct m c) (row t r) j := by
    refine (out12_apply (iblk m c 0 t) (iblk m c 1 t) (iblk m c 2 t) (iblk m c 3 t) (iblk m c 4 t) (iblk m c 5 t) (iblk m c 6 t) (iblk m c 7 t) r j).trans ?_
    simp only [dm, blk0, blk1, blk2, blk3, blk4, blk5, blk6, blk7, hPa_apply, hPb_apply, hWpb_apply]
  rw [← e]
  refine ((dats m 0 c).arrAt_emb_eq_flushed 12 Value.disjoint12 t (flush0_12 t) (ix2 r j)).trans ?_
  rw [Value.flushed12]
  generalize out0_12 (iblk m c 0 t) (iblk m c 1 t) (iblk m c 2 t) (iblk m c 3 t) (iblk m c 4 t) (iblk m c 5 t) (iblk m c 6 t) (iblk m c 7 t) = v at h ⊢
  exact h
theorem idx13 : ∀ t : Fin grid0.N, win0_13.index t 0 = t.val ∧ win0_13.index t 1 = 0 := by decide +kernel
theorem arr13 (i : Fin 4352) (j : Fin 512) : (dats m 0 c).arrAt 13 cfg0.N (ix2 i j)
    = dA (z m c) (wpa m c) (wo m c) (ct m c) i j := by
  obtain ⟨t, r, rfl⟩ := exists_row i
  have e : ((cfg0.win 13).blk t).view.emb (ix2 r j) = ix2 (row t r) j := Shape.idx_ext₂
    ((win0_13.rect_emb_val t _ 0).trans (by rw [(idx13 t).1]; rfl)) ((win0_13.rect_emb_val t _ 1).trans (by rw [(idx13 t).2]; simp))
  have h : out0_13 (iblk m c 0 t) (iblk m c 1 t) (iblk m c 2 t) (iblk m c 3 t) (iblk m c 4 t) (iblk m c 5 t) (iblk m c 6 t) (iblk m c 7 t) (ix2 r j) = dA (z m c) (wpa m c) (wo m c) (ct m c) (row t r) j := by
    refine (out13_apply (iblk m c 0 t) (iblk m c 1 t) (iblk m c 2 t) (iblk m c 3 t) (iblk m c 4 t) (iblk m c 5 t) (iblk m c 6 t) (iblk m c 7 t) r j).trans ?_
    simp only [dm, blk0, blk1, blk2, blk3, blk4, blk5, blk6, blk7, hPa_apply, hPb_apply, hWpb_apply]
  rw [← e]
  refine ((dats m 0 c).arrAt_emb_eq_flushed 13 Value.disjoint13 t (flush0_13 t) (ix2 r j)).trans ?_
  rw [Value.flushed13]
  generalize out0_13 (iblk m c 0 t) (iblk m c 1 t) (iblk m c 2 t) (iblk m c 3 t) (iblk m c 4 t) (iblk m c 5 t) (iblk m c 6 t) (iblk m c 7 t) = v at h ⊢
  exact h
theorem idx14 : ∀ t : Fin grid0.N, win0_14.index t 0 = t.val ∧ win0_14.index t 1 = 0 := by decide +kernel
theorem arr14 (i : Fin 4352) (j : Fin 2048) : (dats m 0 c).arrAt 14 cfg0.N (ix2 i j)
    = dB (z m c) (wpb m c) (wo m c) (ct m c) i j := by
  obtain ⟨t, r, rfl⟩ := exists_row i
  have e : ((cfg0.win 14).blk t).view.emb (ix2 r j) = ix2 (row t r) j := Shape.idx_ext₂
    ((win0_14.rect_emb_val t _ 0).trans (by rw [(idx14 t).1]; rfl)) ((win0_14.rect_emb_val t _ 1).trans (by rw [(idx14 t).2]; simp))
  have h : out0_14 (iblk m c 0 t) (iblk m c 1 t) (iblk m c 2 t) (iblk m c 3 t) (iblk m c 4 t) (iblk m c 5 t) (iblk m c 6 t) (iblk m c 7 t) (ix2 r j) = dB (z m c) (wpb m c) (wo m c) (ct m c) (row t r) j := by
    refine (out14_apply (iblk m c 0 t) (iblk m c 1 t) (iblk m c 2 t) (iblk m c 3 t) (iblk m c 4 t) (iblk m c 5 t) (iblk m c 6 t) (iblk m c 7 t) r j).trans ?_
    simp only [dm, blk0, blk1, blk2, blk3, blk4, blk5, blk6, blk7, hPa_apply, hPb_apply, hWpb_apply]
  rw [← e]
  refine ((dats m 0 c).arrAt_emb_eq_flushed 14 Value.disjoint14 t (flush0_14 t) (ix2 r j)).trans ?_
  rw [Value.flushed14]
  generalize out0_14 (iblk m c 0 t) (iblk m c 1 t) (iblk m c 2 t) (iblk m c 3 t) (iblk m c 4 t) (iblk m c 5 t) (iblk m c 6 t) (iblk m c 7 t) = v at h ⊢
  exact h

end Cert.MergeValue

end
-- ==== Proof.MergeRefValue.lean ====
/-
  What the merge's reference computes, entry by entry: the same formulas.
-/
module

public import proofs.«01_k».proof.Proof.MergeFormula
public import proofs.«01_k».proof.Proof.Gen.MergeRefIdeal.Read

@[expose] public section

noncomputable section

namespace Cert.MergeRefValue

open Idealize.ShloMosaic Cert.MergeRefIdeal Cert.MergeRefIdeal.Read Cert.MergeFormula

variable (x0 : FVec Ideal S4352x3072 .bf16) (x1 : FVec Ideal S4352x512 .bf16) (x2 : FVec Ideal S4352x1024 .bf16)
  (x3 : FVec Ideal S512x1024 .f32) (x4 x5 : FVec Ideal S1024x1024 .f32) (x6 : FVec Ideal S4352x1024 .f32)
  (i : Fin 4352)

theorem v13 (j : Fin 1024) : val_main_v13 (F := Ideal) x0 (ix2 i j) = gA x0 i j := by
  unfold val_main_v13 val_main_v12 val_main_v11 val_main_v10 val_main_v9 val_main_v8 val_main_v3 val_main_v2 val_main_cst val_main_cst_0
  pointwise [Ideal.logistic]

theorem v23 (j : Fin 1024) : val_main_v23 (F := Ideal) x0 (ix2 i j) = gB x0 i j := by
  unfold val_main_v23 val_main_v22 val_main_v21 val_main_v20 val_main_v19 val_main_v18 val_main_v5 val_main_v4 val_main_cst_2 val_main_cst_3
  pointwise [Ideal.logistic]

theorem v6 (j : Fin 1024) : val_main_v6 (F := Ideal) x1 x3 (ix2 i j) = pA x1 x3 i j := by
  unfold val_main_v6 val_main_v0
  pointwise

theorem v7 (j : Fin 1024) : val_main_v7 (F := Ideal) x2 x4 (ix2 i j) = pB x2 x4 i j := by
  unfold val_main_v7 val_main_v1
  pointwise

theorem v30 (j : Fin 1024) : val_main_v30 (F := Ideal) x5 x6 (ix2 i j) = dM x5 x6 i j := by
  unfold val_main_v30
  pointwise

theorem v44 (j : Fin 1024) : val_main_v44 (F := Ideal) x0 x1 x2 x3 x4 (ix2 i j) = merged x0 x1 x2 x3 x4 i j := by
  unfold val_main_v44 val_main_v28 val_main_v27 val_main_v17
  pointwise [v13, v23, v6, v7]

theorem v34 (j : Fin 1024) : val_main_v34 (F := Ideal) x0 x5 x6 (ix2 i j) = dPa x0 x5 x6 i j := by
  unfold val_main_v34
  pointwise [v13, v30]
  exact mul_comm _ _

theorem v31 (j : Fin 1024) : val_main_v31 (F := Ideal) x0 x5 x6 (ix2 i j) = dPb x0 x5 x6 i j := by
  unfold val_main_v31
  pointwise [v23, v30]
  exact mul_comm _ _

theorem v45 (j : Fin 1024) : val_main_v45 (F := Ideal) x0 x5 x6 (ix2 i j) = dPa x0 x5 x6 i j := v34 x0 x5 x6 i j
theorem v46 (j : Fin 1024) : val_main_v46 (F := Ideal) x0 x5 x6 (ix2 i j) = dPb x0 x5 x6 i j := v31 x0 x5 x6 i j

theorem v47 (j : Fin 1024) : val_main_v47 (F := Ideal) x0 x1 x3 x5 x6 (ix2 i j) = dGa x0 x1 x3 x5 x6 i j := by
  unfold val_main_v47 val_main_v36 val_main_v35 val_main_v16 val_main_v15 val_main_v14 val_main_cst_1
  pointwise [v13, v6, v30]

theorem v48 (j : Fin 1024) : val_main_v48 (F := Ideal) x0 x2 x4 x5 x6 (ix2 i j) = dGb x0 x2 x4 x5 x6 i j := by
  unfold val_main_v48 val_main_v33 val_main_v32 val_main_v26 val_main_v25 val_main_v24 val_main_cst_4
  pointwise [v23, v7, v30]

theorem v49 (q : Fin 512) : val_main_v49 (F := Ideal) x0 x3 x5 x6 (ix2 i q) = dA x0 x3 x5 x6 i q := by
  unfold val_main_v49 val_main_v38
  pointwise [v34]

theorem v50 (q : Fin 2048) : val_main_v50 (F := Ideal) x0 x4 x5 x6 (ix2 i q) = dB x0 x4 x5 x6 i q := by
  unfold val_main_v50 val_main_v43 val_main_v42 val_main_v41 val_main_v40 val_main_call0_v0 val_main_c
  pointwise [v31]
  have hq : q.val / 128 < 16 := by omega
  by_cases h : q.val % 128 < 64
  · rw [dif_pos ⟨hq, h⟩]
    simp only [dB, dif_pos h]
  · rw [dif_neg (fun e => h e.2)]
    simp only [dB, dif_neg h, mul_zero, Finset.sum_const_zero]
    exact (Ideal.scalar_sitofp_def (φ := .f32) 0#32).trans (by simp)

end Cert.MergeRefValue

end
-- ==== Proof.Merge.lean ====
/-
  The merge's backward kernel and its reference leave the same seven arrays.
-/
module

public import proofs.«01_k».proof.Defs
public import proofs.«01_k».proof.Proof.MergeArrays
public import proofs.«01_k».proof.Proof.MergeRefValue
public import proofs.«01_k».proof.Proof.Gen.MergeRefIdeal.Run

@[expose] public section

noncomputable section

namespace Cert.Merge

open Idealize.ShloMosaic Idealize.ShloMosaic.TcCoe Idealize.SL.Sem Cert.MergeFormula Cert.MergeRefIdeal.Read
open Cert.MergeBwdIdeal (main_arg0 main_arg1 main_arg2 main_arg3 main_arg4 main_arg5 main_arg6)

/-- Two arrays with two axes are equal where their entries are. -/
theorem arr_ext {p q : Nat} {x y : Arr p q} (h : ∀ i j, x (ix2 i j) = y (ix2 i j)) : x = y :=
  funext fun i => by rw [eq_ix2 i]; exact h _ _

theorem algebraic : Cert.algebraic_MergeBwdIdeal_MergeRefIdeal (hMergeBwdIdeal := Cert.MergeBwdIdeal.Gen.facts)
    (hMergeRefIdeal := Cert.MergeRefIdeal.Gen.facts) := by
  intro m g m' g' _ hargs
  refine ⟨_, _, _, _, _, _, _, Cert.MergeBwdIdeal.Value.run_blocks (F := Ideal) m g, ?_⟩
  refine (θ_run (Cert.MergeRefIdeal.defs (F := Ideal)) _ _).mono (fun r h c => ?_) (Cert.MergeRefIdeal.Value.run (F := Ideal) m' g')
  obtain ⟨h0, h1, h2, h3, h4, h5, h6, hk⟩ := h c
  obtain ⟨e0, e1, e2, e3, e4, e5, e6⟩ := hargs c
  rw [e0, e1, e2, e3, e4] at h0
  rw [e0, e5, e6] at h1 h2
  rw [e0, e1, e3, e5, e6] at h3
  rw [e0, e2, e4, e5, e6] at h4
  rw [e0, e3, e5, e6] at h5
  rw [e0, e4, e5, e6] at h6
  refine ⟨h0.trans ((val_main_v44_eq (F := Ideal) _ _ _ _ _).symm.trans ?_), h1.trans ((val_main_v45_eq (F := Ideal) _ _ _).symm.trans ?_),
    h2.trans ((val_main_v46_eq (F := Ideal) _ _ _).symm.trans ?_), h3.trans ((val_main_v47_eq (F := Ideal) _ _ _ _ _).symm.trans ?_),
    h4.trans ((val_main_v48_eq (F := Ideal) _ _ _ _ _).symm.trans ?_), h5.trans ((val_main_v49_eq (F := Ideal) _ _ _ _).symm.trans ?_),
    h6.trans ((val_main_v50_eq (F := Ideal) _ _ _ _).symm.trans ?_), hk⟩
  · exact arr_ext fun i j => (MergeRefValue.v44 _ _ _ _ _ i j).trans (MergeValue.arr8 m c i j).symm
  · exact arr_ext fun i j => (MergeRefValue.v45 _ _ _ i j).trans (MergeValue.arr9 m c i j).symm
  · exact arr_ext fun i j => (MergeRefValue.v46 _ _ _ i j).trans (MergeValue.arr10 m c i j).symm
  · exact arr_ext fun i j => (MergeRefValue.v47 _ _ _ _ _ i j).trans (MergeValue.arr11 m c i j).symm
  · exact arr_ext fun i j => (MergeRefValue.v48 _ _ _ _ _ i j).trans (MergeValue.arr12 m c i j).symm
  · exact arr_ext fun i j => (MergeRefValue.v49 _ _ _ _ i j).trans (MergeValue.arr13 m c i j).symm
  · exact arr_ext fun i j => (MergeRefValue.v50 _ _ _ _ i j).trans (MergeValue.arr14 m c i j).symm

end Cert.Merge

end
-- ==== Proof.HeadSum.lean ====
/-
  Sixteen heads kept in 128 columns each, of which the first few are the head's own: sums over all columns where the other
  columns add nothing.
-/
module

public import Idealize.ShloMosaic.Lib.Pointwise

@[expose] public section

noncomputable section

namespace Cert.HeadSum

open Idealize.ShloMosaic

/-- A sum over the padded columns is the sum over the heads' own 64. -/
theorem sum_heads (f : Fin 2048 → EReal) (h0 : ∀ q, 64 ≤ q.val % 128 → f q = 0) :
    ∑ q, f q = ∑ k : Fin 1024, f ⟨k.val / 64 * 128 + k.val % 64, by omega⟩ := by
  refine (Finset.sum_of_injOn (fun k : Fin 1024 => (⟨k.val / 64 * 128 + k.val % 64, by omega⟩ : Fin 2048)) ?_ (fun _ _ => by simp) ?_ ?_).symm
  · intro a _ b _ hab
    have := congrArg Fin.val hab
    dsimp only at this
    exact Fin.ext (by omega)
  · intro q _ hq
    refine h0 q ?_
    by_contra hc
    refine hq ⟨⟨q.val / 128 * 64 + q.val % 128, by omega⟩, by simp, Fin.ext ?_⟩
    dsimp only
    omega
  · exact fun _ _ => rfl

/-- The heads' own columns of an array. -/
abbrev unpad {n : Nat} (b : (⟨2, ![n, 2048]⟩ : Shape).Idx → EReal) : (⟨2, ![n, 1024]⟩ : Shape).Idx → EReal := fun i =>
  b (ix2 (i 0) ⟨(i 1).val / 64 * 128 + (i 1).val % 64, by have : (i 1).val < 1024 := (i 1).isLt; omega⟩)

end Cert.HeadSum

end
-- ==== Proof.MergeFwdArrays.lean ====
/-
  What the merge's forward kernel's three result arrays end holding, entry by entry, from the argument arrays.
-/
module

public import proofs.«01_k».proof.Proof.MergeFormula
public import proofs.«01_k».proof.Proof.HeadSum
public import proofs.«01_k».proof.Proof.Gen.MergeFwdIdeal.Value

@[expose] public section

noncomputable section

namespace Cert.MergeFwdValue

open Idealize.ShloMosaic Idealize.ShloMosaic.TcCoe Idealize.SL.Sem Cert.MergeFwdIdeal Cert.MergeFwdIdeal.Gen
open Idealize.ShloMosaic.Pipeline (Dat Cfg Window)
open Cert.MergeFormula Cert.HeadSum

variable (m : (ℓ : Loc nD τ sig) → Buf (Elt Ideal) ℓ) (c : Dev nD)

/-- The argument arrays as launched. -/
abbrev h : FVec Ideal S4352x1024 .f32 := m ((c : Thread nD τ).loc main_arg0)
abbrev z : FVec Ideal S4352x3072 .bf16 := m ((c : Thread nD τ).loc main_arg1)
abbrev a : FVec Ideal S4352x512 .bf16 := m ((c : Thread nD τ).loc main_arg2)
abbrev b : FVec Ideal S4352x2048 .bf16 := m ((c : Thread nD τ).loc main_arg3)
abbrev wpa : FVec Ideal S512x1024 .f32 := m ((c : Thread nD τ).loc main_arg4)
abbrev wpb : FVec Ideal S1024x1024 .f32 := m ((c : Thread nD τ).loc main_arg5)
abbrev wo : FVec Ideal S1024x1024 .f32 := m ((c : Thread nD τ).loc main_arg6)

/-! ### The arrays the host prepares before the call -/

abbrev hWpa (wpa : FVec Ideal S512x1024 .f32) : FVec Ideal S512x1024 .bf16 :=
  truncf .bf16 wpa bitsLt_bf16_f32
theorem V_v3 : V m c main_v3 = hWpa (wpa m c) := by
  simp only [V, hostOps0, hostOps0_1, hostOps0_2, List.flatten_cons, List.flatten_nil, List.append_nil, List.cons_append,
    List.nil_append, StableHlo.TRef.binary, StableHlo.TRef.unary, StableHlo.TRef.toBuf, StableHlo.TRef.ofBuf, cast_eq]
  after_results_simp <;> rfl
theorem hWpa_apply (wpa : FVec Ideal S512x1024 .f32) (f : Fin 512) (k : Fin 1024) :
    hWpa wpa (ix2 f k) = wpa (ix2 f k) := by
  pointwise
/-- The second projection's weight with each head's 64 rows followed by 64 rows of zeros. -/
abbrev hWpb (wpb : FVec Ideal S1024x1024 .f32) : FVec Ideal S2048x1024 .bf16 :=
  truncf .bf16 (shapeCast S2048x1024 (pad S16x128x1024 ![0, 0, 0] ![0, 64, 0] ![0, 0, 0]
    (shapeCast S16x64x1024 wpb shapeCasts_S1024x1024_S16x64x1024) (sitofp (F := Ideal) .f32 (constantI S_ 32 0#32))
    pads_S16x64x1024_S16x128x1024_000_0640_000 h_S_) shapeCasts_S16x128x1024_S2048x1024) bitsLt_bf16_f32
theorem V_v4 : V m c main_v4 = hWpb (wpb m c) := by
  simp only [V, hostOps0, hostOps0_1, hostOps0_2, List.flatten_cons, List.flatten_nil, List.append_nil, List.cons_append,
    List.nil_append, StableHlo.TRef.binary, StableHlo.TRef.unary, StableHlo.TRef.toBuf, StableHlo.TRef.ofBuf, cast_eq]
  after_results_simp <;> rfl
theorem hWpb_apply (wpb : FVec Ideal S1024x1024 .f32) (q : Fin 2048) (j : Fin 1024) :
    hWpb wpb (ix2 q j) = if h : q.val % 128 < 64 then wpb (ix2 ⟨q.val / 128 * 64 + q.val % 128, by omega⟩ j) else 0 := by
  pointwise
  have hq : q.val / 128 < 16 := by omega
  by_cases h : q.val % 128 < 64
  · rw [dif_pos ⟨hq, h⟩, dif_pos h]
  · rw [dif_neg (fun e => h e.2), dif_neg h]
    exact (Ideal.scalar_sitofp_def (φ := .f32) 0#32).trans (by simp)
abbrev hWo (wo : FVec Ideal S1024x1024 .f32) : FVec Ideal S1024x1024 .bf16 :=
  truncf .bf16 wo bitsLt_bf16_f32
theorem V_v5 : V m c main_v5 = hWo (wo m c) := by
  simp only [V, hostOps0, hostOps0_1, hostOps0_2, List.flatten_cons, List.flatten_nil, List.append_nil, List.cons_append,
    List.nil_append, StableHlo.TRef.binary, StableHlo.TRef.unary, StableHlo.TRef.toBuf, StableHlo.TRef.ofBuf, cast_eq]
  after_results_simp <;> rfl
theorem hWo_apply (wo : FVec Ideal S1024x1024 .f32) (f : Fin 1024) (k : Fin 1024) :
    hWo wo (ix2 f k) = wo (ix2 f k) := by
  pointwise

/-! ### One block's values -/

theorem hz : (![0, 0] : Fin 2 → Nat) = fun _ => 0 := funext fun a => by fin_cases a <;> rfl

/-- The two projections of a block. -/
abbrev bA (x3 : Vec Ideal S544x512 .bf16) (x5 : Vec Ideal S512x1024 .bf16) (r : Fin 544) (k : Fin 1024) : EReal :=
  ∑ q : Fin 512, x3 (ix2 r q) * x5 (ix2 q k)
abbrev bB (x4 : Vec Ideal S544x2048 .bf16) (x6 : Vec Ideal S2048x1024 .bf16) (r : Fin 544) (k : Fin 1024) : EReal :=
  ∑ q : Fin 2048, x4 (ix2 r q) * x6 (ix2 q k)
theorem out_8 (x0 : Vec Ideal S544x1024 .f32) (x1 : Vec Ideal S544x1024 .bf16) (x2 : Vec Ideal S544x1024 .bf16) (x3 : Vec Ideal S544x512 .bf16) (x4 : Vec Ideal S544x2048 .bf16) (x5 : Vec Ideal S512x1024 .bf16) (x6 : Vec Ideal S2048x1024 .bf16) (x7 : Vec Ideal S1024x1024 .bf16) (r : Fin 544) (j : Fin 1024) :
    out0_8 (F := Ideal) x0 x1 x2 x3 x4 x5 x6 x7 (ix2 r j)
      = x0 (ix2 r j) + ∑ k : Fin 1024, (Ideal.logistic (x1 (ix2 r k)) * bA x3 x5 r k + Ideal.logistic (x2 (ix2 r k)) * bB x4 x6 r k) * x7 (ix2 k j) := by
  unfold out0_8
  rw [View.canon_unit_zero hz]
  unfold_payloads
  pointwise
theorem out_9 (x0 : Vec Ideal S544x1024 .f32) (x1 : Vec Ideal S544x1024 .bf16) (x2 : Vec Ideal S544x1024 .bf16) (x3 : Vec Ideal S544x512 .bf16) (x4 : Vec Ideal S544x2048 .bf16) (x5 : Vec Ideal S512x1024 .bf16) (x6 : Vec Ideal S2048x1024 .bf16) (x7 : Vec Ideal S1024x1024 .bf16) (r : Fin 544) (j : Fin 1024) :
    out0_9 (F := Ideal) x0 x1 x2 x3 x4 x5 x6 x7 (ix2 r j)
      = bA x3 x5 r j := by
  unfold out0_9
  rw [View.canon_unit_zero hz]
  unfold_payloads
  pointwise
theorem out_10 (x0 : Vec Ideal S544x1024 .f32) (x1 : Vec Ideal S544x1024 .bf16) (x2 : Vec Ideal S544x1024 .bf16) (x3 : Vec Ideal S544x512 .bf16) (x4 : Vec Ideal S544x2048 .bf16) (x5 : Vec Ideal S512x1024 .bf16) (x6 : Vec Ideal S2048x1024 .bf16) (x7 : Vec Ideal S1024x1024 .bf16) (r : Fin 544) (j : Fin 1024) :
    out0_10 (F := Ideal) x0 x1 x2 x3 x4 x5 x6 x7 (ix2 r j)
      = bB x4 x6 r j := by
  unfold out0_10
  rw [View.canon_unit_zero hz]
  unfold_payloads
  pointwise

/-! ### Blocks of the arrays -/

/-- Token `r` of block `t`. -/
abbrev tok (t : Fin cfg0.N) (r : Fin 544) : Fin 4352 := ⟨t.val * 544 + r.val, by
  have := t.isLt; have h : cfg0.N = 8 := N_0; have := r.isLt; omega⟩
/-- Every token is some block's. -/
theorem exists_tok (i : Fin 4352) : ∃ t r, i = tok t r :=
  ⟨⟨i.val / 544, by have h : cfg0.N = 8 := N_0; omega⟩, ⟨i.val % 544, Nat.mod_lt _ (by decide)⟩, Fin.ext (by simp only []; omega)⟩

theorem idx0 : ∀ t : Fin grid0.N, win0_0.index t 0 = t.val ∧ win0_0.index t 1 = 0 := by decide +kernel
theorem blk0 (t : Fin cfg0.N) (r : Fin 544) (j : Fin 1024) : iblk m c 0 t (ix2 r j) = (h m c) (ix2 (tok t r) j) := by
  show V m c main_arg0 ((win0_0.rect t).emb (ix2 r j)) = _
  rw [V_main_arg0]
  refine congrArg (h m c) (Shape.idx_ext₂ ?_ ?_)
  · exact (win0_0.rect_emb_val t _ 0).trans (by rw [(idx0 t).1]; simp)
  · exact (win0_0.rect_emb_val t _ 1).trans (by rw [(idx0 t).2]; simp)
theorem idx1 : ∀ t : Fin grid0.N, win0_1.index t 0 = t.val ∧ win0_1.index t 1 = 1 := by decide +kernel
theorem blk1 (t : Fin cfg0.N) (r : Fin 544) (j : Fin 1024) : iblk m c 1 t (ix2 r j) = (z m c) (ix2 (tok t r) ⟨1024 + j.val, by omega⟩) := by
  show V m c main_arg1 ((win0_1.rect t).emb (ix2 r j)) = _
  rw [V_main_arg1]
  refine congrArg (z m c) (Shape.idx_ext₂ ?_ ?_)
  · exact (win0_1.rect_emb_val t _ 0).trans (by rw [(idx1 t).1]; simp)
  · exact (win0_1.rect_emb_val t _ 1).trans (by rw [(idx1 t).2]; simp)
theorem idx2 : ∀ t : Fin grid0.N, win0_2.index t 0 = t.val ∧ win0_2.index t 1 = 2 := by decide +kernel
theorem blk2 (t : Fin cfg0.N) (r : Fin 544) (j : Fin 1024) : iblk m c 2 t (ix2 r j) = (z m c) (ix2 (tok t r) ⟨2048 + j.val, by omega⟩) := by
  show V m c main_arg1 ((win0_2.rect t).emb (ix2 r j)) = _
  rw [V_main_arg1]
  refine congrArg (z m c) (Shape.idx_ext₂ ?_ ?_)
  · exact (win0_2.rect_emb_val t _ 0).trans (by rw [(idx2 t).1]; simp)
  · exact (win0_2.rect_emb_val t _ 1).trans (by rw [(idx2 t).2]; simp)
theorem idx3 : ∀ t : Fin grid0.N, win0_3.index t 0 = t.val ∧ win0_3.index t 1 = 0 := by decide +kernel
theorem blk3 (t : Fin cfg0.N) (r : Fin 544) (j : Fin 512) : iblk m c 3 t (ix2 r j) = (a m c) (ix2 (tok t r) j) := by
  show V m c main_arg2 ((win0_3.rect t).emb (ix2 r j)) = _
  rw [V_main_arg2]
  refine congrArg (a m c) (Shape.idx_ext₂ ?_ ?_)
  · exact (win0_3.rect_emb_val t _ 0).trans (by rw [(idx3 t).1]; simp)
  · exact (win0_3.rect_emb_val t _ 1).trans (by rw [(idx3 t).2]; simp)
theorem idx4 : ∀ t : Fin grid0.N, win0_4.index t 0 = t.val ∧ win0_4.index t 1 = 0 := by decide +kernel
theorem blk4 (t : Fin cfg0.N) (r : Fin 544) (j : Fin 2048) : iblk m c 4 t (ix2 r j) = (b m c) (ix2 (tok t r) j) := by
  show V m c main_arg3 ((win0_4.rect t).emb (ix2 r j)) = _
  rw [V_main_arg3]
  refine congrArg (b m c) (Shape.idx_ext₂ ?_ ?_)
  · exact (win0_4.rect_emb_val t _ 0).trans (by rw [(idx4 t).1]; simp)
  · exact (win0_4.rect_emb_val t _ 1).trans (by rw [(idx4 t).2]; simp)
theorem idx5 : ∀ t : Fin grid0.N, win0_5.index t 0 = 0 ∧ win0_5.index t 1 = 0 := by decide +kernel
theorem blk5 (t : Fin cfg0.N) (r : Fin 512) (j : Fin 1024) : iblk m c 5 t (ix2 r j) = (hWpa (wpa m c)) (ix2 r j) := by
  show V m c main_v3 ((win0_5.rect t).emb (ix2 r j)) = _
  rw [V_v3]
  refine congrArg (hWpa (wpa m c)) (Shape.idx_ext₂ ?_ ?_)
  · exact (win0_5.rect_emb_val t _ 0).trans (by rw [(idx5 t).1]; simp)
  · exact (win0_5.rect_emb_val t _ 1).trans (by rw [(idx5 t).2]; simp)
theorem idx6 : ∀ t : Fin grid0.N, win0_6.index t 0 = 0 ∧ win0_6.index t 1 = 0 := by decide +kernel
theorem blk6 (t : Fin cfg0.N) (r : Fin 2048) (j : Fin 1024) : iblk m c 6 t (ix2 r j) = (hWpb (wpb m c)) (ix2 r j) := by
  show V m c main_v4 ((win0_6.rect t).emb (ix2 r j)) = _
  rw [V_v4]
  refine congrArg (hWpb (wpb m c)) (Shape.idx_ext₂ ?_ ?_)
  · exact (win0_6.rect_emb_val t _ 0).trans (by rw [(idx6 t).1]; simp)
  · exact (win0_6.rect_emb_val t _ 1).trans (by rw [(idx6 t).2]; simp)
theorem idx7 : ∀ t : Fin grid0.N, win0_7.index t 0 = 0 ∧ win0_7.index t 1 = 0 := by decide +kernel
theorem blk7 (t : Fin cfg0.N) (r : Fin 1024) (j : Fin 1024) : iblk m c 7 t (ix2 r j) = (hWo (wo m c)) (ix2 r j) := by
  show V m c main_v5 ((win0_7.rect t).emb (ix2 r j)) = _
  rw [V_v5]
  refine congrArg (hWo (wo m c)) (Shape.idx_ext₂ ?_ ?_)
  · exact (win0_7.rect_emb_val t _ 0).trans (by rw [(idx7 t).1]; simp)
  · exact (win0_7.rect_emb_val t _ 1).trans (by rw [(idx7 t).2]; simp)
theorem bA_eq (t : Fin cfg0.N) (r : Fin 544) (k : Fin 1024) :
    bA (iblk m c 3 t) (iblk m c 5 t) r k = pA (a m c) (wpa m c) (tok t r) k :=
  Finset.sum_congr rfl fun q _ => by rw [blk3, blk5, hWpa_apply]
theorem bB_eq (t : Fin cfg0.N) (r : Fin 544) (k : Fin 1024) :
    bB (iblk m c 4 t) (iblk m c 6 t) r k = pB (unpad (b m c)) (wpb m c) (tok t r) k := by
  unfold bB pB
  simp only [blk4, blk6, hWpb_apply]
  rw [sum_heads _ (fun q hq => by rw [dif_neg (by omega), mul_zero])]
  refine Finset.sum_congr rfl fun q _ => ?_
  rw [dif_pos (by dsimp only; omega)]
  refine congrArg (_ * wpb m c ·) (Shape.idx_ext₂ ?_ rfl)
  show (q.val / 64 * 128 + q.val % 64) / 128 * 64 + (q.val / 64 * 128 + q.val % 64) % 128 = q.val
  omega

/-! ### The result arrays -/

theorem idx8 : ∀ t : Fin grid0.N, win0_8.index t 0 = t.val ∧ win0_8.index t 1 = 0 := by decide +kernel
theorem arr8 (i : Fin 4352) (j : Fin 1024) : (dats m 0 c).arrAt 8 cfg0.N (ix2 i j)
    = h m c (ix2 i j) + ∑ k : Fin 1024, merged (z m c) (a m c) (unpad (b m c)) (wpa m c) (wpb m c) i k * wo m c (ix2 k j) := by
  obtain ⟨t, r, rfl⟩ := exists_tok i
  have e : ((cfg0.win 8).blk t).view.emb (ix2 r j) = ix2 (tok t r) j := Shape.idx_ext₂
    ((win0_8.rect_emb_val t _ 0).trans (by rw [(idx8 t).1]; rfl)) ((win0_8.rect_emb_val t _ 1).trans (by rw [(idx8 t).2]; simp))
  have h : out0_8 (iblk m c 0 t) (iblk m c 1 t) (iblk m c 2 t) (iblk m c 3 t) (iblk m c 4 t) (iblk m c 5 t) (iblk m c 6 t) (iblk m c 7 t) (ix2 r j)
      = h m c (ix2 (tok t r) j) + ∑ k : Fin 1024, merged (z m c) (a m c) (unpad (b m c)) (wpa m c) (wpb m c) (tok t r) k * wo m c (ix2 k j) := by
    refine (out_8 (iblk m c 0 t) (iblk m c 1 t) (iblk m c 2 t) (iblk m c 3 t) (iblk m c 4 t) (iblk m c 5 t) (iblk m c 6 t) (iblk m c 7 t) r j).trans ?_
    rw [blk0]
    refine congrArg (h m c (ix2 (tok t r) j) + ·) (Finset.sum_congr rfl fun k _ => ?_)
    rw [bA_eq, bB_eq, blk1, blk2, blk7, hWo_apply]
  refine (congrArg ((dats m 0 c).arrAt 8 cfg0.N) e.symm).trans ?_
  refine ((dats m 0 c).arrAt_emb_eq_flushed 8 Value.disjoint8 t (flush0_8 t) (ix2 r j)).trans ?_
  rw [Value.flushed8]
  generalize out0_8 (iblk m c 0 t) (iblk m c 1 t) (iblk m c 2 t) (iblk m c 3 t) (iblk m c 4 t) (iblk m c 5 t) (iblk m c 6 t) (iblk m c 7 t) = v at h ⊢
  exact h
theorem idx9 : ∀ t : Fin grid0.N, win0_9.index t 0 = t.val ∧ win0_9.index t 1 = 0 := by decide +kernel
theorem arr9 (i : Fin 4352) (j : Fin 1024) : (dats m 0 c).arrAt 9 cfg0.N (ix2 i j)
    = pA (a m c) (wpa m c) i j := by
  obtain ⟨t, r, rfl⟩ := exists_tok i
  have e : ((cfg0.win 9).blk t).view.emb (ix2 r j) = ix2 (tok t r) j := Shape.idx_ext₂
    ((win0_9.rect_emb_val t _ 0).trans (by rw [(idx9 t).1]; rfl)) ((win0_9.rect_emb_val t _ 1).trans (by rw [(idx9 t).2]; simp))
  have h : out0_9 (iblk m c 0 t) (iblk m c 1 t) (iblk m c 2 t) (iblk m c 3 t) (iblk m c 4 t) (iblk m c 5 t) (iblk m c 6 t) (iblk m c 7 t) (ix2 r j)
      = pA (a m c) (wpa m c) (tok t r) j := by
    refine (out_9 (iblk m c 0 t) (iblk m c 1 t) (iblk m c 2 t) (iblk m c 3 t) (iblk m c 4 t) (iblk m c 5 t) (iblk m c 6 t) (iblk m c 7 t) r j).trans ?_
    exact bA_eq m c t r j
  refine (congrArg ((dats m 0 c).arrAt 9 cfg0.N) e.symm).trans ?_
  refine ((dats m 0 c).arrAt_emb_eq_flushed 9 Value.disjoint9 t (flush0_9 t) (ix2 r j)).trans ?_
  rw [Value.flushed9]
  generalize out0_9 (iblk m c 0 t) (iblk m c 1 t) (iblk m c 2 t) (iblk m c 3 t) (iblk m c 4 t) (iblk m c 5 t) (iblk m c 6 t) (iblk m c 7 t) = v at h ⊢
  exact h
theorem idx10 : ∀ t : Fin grid0.N, win0_10.index t 0 = t.val ∧ win0_10.index t 1 = 0 := by decide +kernel
theorem arr10 (i : Fin 4352) (j : Fin 1024) : (dats m 0 c).arrAt 10 cfg0.N (ix2 i j)
    = pB (unpad (b m c)) (wpb m c) i j := by
  obtain ⟨t, r, rfl⟩ := exists_tok i
  have e : ((cfg0.win 10).blk t).view.emb (ix2 r j) = ix2 (tok t r) j := Shape.idx_ext₂
    ((win0_10.rect_emb_val t _ 0).trans (by rw [(idx10 t).1]; rfl)) ((win0_10.rect_emb_val t _ 1).trans (by rw [(idx10 t).2]; simp))
  have h : out0_10 (iblk m c 0 t) (iblk m c 1 t) (iblk m c 2 t) (iblk m c 3 t) (iblk m c 4 t) (iblk m c 5 t) (iblk m c 6 t) (iblk m c 7 t) (ix2 r j)
      = pB (unpad (b m c)) (wpb m c) (tok t r) j := by
    refine (out_10 (iblk m c 0 t) (iblk m c 1 t) (iblk m c 2 t) (iblk m c 3 t) (iblk m c 4 t) (iblk m c 5 t) (iblk m c 6 t) (iblk m c 7 t) r j).trans ?_
    exact bB_eq m c t r j
  refine (congrArg ((dats m 0 c).arrAt 10 cfg0.N) e.symm).trans ?_
  refine ((dats m 0 c).arrAt_emb_eq_flushed 10 Value.disjoint10 t (flush0_10 t) (ix2 r j)).trans ?_
  rw [Value.flushed10]
  generalize out0_10 (iblk m c 0 t) (iblk m c 1 t) (iblk m c 2 t) (iblk m c 3 t) (iblk m c 4 t) (iblk m c 5 t) (iblk m c 6 t) (iblk m c 7 t) = v at h ⊢
  exact h

end Cert.MergeFwdValue

end
-- ==== Proof.MergeFwdRefValue.lean ====
/-
  What the merge's forward reference computes, entry by entry: the same formulas.
-/
module

public import proofs.«01_k».proof.Proof.MergeFormula
public import proofs.«01_k».proof.Proof.HeadSum
public import proofs.«01_k».proof.Proof.Gen.MergeFwdRefIdeal.Read

@[expose] public section

noncomputable section

namespace Cert.MergeFwdRefValue

open Idealize.ShloMosaic Cert.MergeFwdRefIdeal Cert.MergeFwdRefIdeal.Read
open Cert.MergeFormula Cert.HeadSum

variable (h : FVec Ideal S4352x1024 .f32) (z : FVec Ideal S4352x3072 .bf16) (a : FVec Ideal S4352x512 .bf16) (b : FVec Ideal S4352x2048 .bf16)
  (wpa : FVec Ideal S512x1024 .f32) (wpb wo : FVec Ideal S1024x1024 .f32) (i : Fin 4352) (j : Fin 1024)

theorem v16  : val_main_v16 (F := Ideal) z (ix2 i j)
    = gA z i j := by
  unfold val_main_v16 val_main_v15 val_main_cst_0 val_main_v14 val_main_v13 val_main_cst val_main_v12 val_main_v11 val_main_v6 val_main_v5
  pointwise [Ideal.logistic]

theorem v23  : val_main_v23 (F := Ideal) z (ix2 i j)
    = gB z i j := by
  unfold val_main_v23 val_main_v22 val_main_cst_2 val_main_v21 val_main_v20 val_main_cst_1 val_main_v19 val_main_v18 val_main_v8 val_main_v7
  pointwise [Ideal.logistic]

theorem v9  : val_main_v9 (F := Ideal) a wpa (ix2 i j)
    = pA a wpa i j := by
  unfold val_main_v9 val_main_v0
  pointwise

theorem v10  : val_main_v10 (F := Ideal) b wpb (ix2 i j)
    = pB (unpad b) wpb i j := by
  unfold val_main_v10 val_main_v4 val_main_v3 val_main_v2 val_main_v1
  pointwise
  rfl

theorem v27  : val_main_v27 (F := Ideal) h z a b wpa wpb wo (ix2 i j)
    = h (ix2 i j) + ∑ k : Fin 1024, merged z a (unpad b) wpa wpb i k * wo (ix2 k j) := by
  unfold val_main_v27 val_main_v26 val_main_v25 val_main_v24 val_main_v17
  pointwise [v16, v23, v9, v10]

theorem v28  : val_main_v28 (F := Ideal) a wpa (ix2 i j)
    = pA a wpa i j := by
  unfold val_main_v28
  pointwise [v9]

theorem v29  : val_main_v29 (F := Ideal) b wpb (ix2 i j)
    = pB (unpad b) wpb i j := by
  unfold val_main_v29
  pointwise [v10]

end Cert.MergeFwdRefValue

end
-- ==== Proof.MergeFwd.lean ====
/-
  The merge's forward kernel and its reference leave the same three arrays.
-/
module

public import proofs.«01_k».proof.Defs
public import proofs.«01_k».proof.Proof.MergeFwdArrays
public import proofs.«01_k».proof.Proof.MergeFwdRefValue
public import proofs.«01_k».proof.Proof.Gen.MergeFwdRefIdeal.Run

@[expose] public section

noncomputable section

namespace Cert.MergeFwdClaim

open Idealize.ShloMosaic Idealize.ShloMosaic.TcCoe Idealize.SL.Sem Cert.MergeFwdRefIdeal.Read

/-- Two arrays with two axes are equal where their entries are. -/
theorem arr_ext {p q : Nat} {x y : (⟨2, ![p, q]⟩ : Shape).Idx → EReal} (h : ∀ i j, x (ix2 i j) = y (ix2 i j)) : x = y :=
  funext fun i => by rw [eq_ix2 i]; exact h _ _

theorem algebraic : Cert.algebraic_MergeFwdIdeal_MergeFwdRefIdeal (hMergeFwdIdeal := Cert.MergeFwdIdeal.Gen.facts)
    (hMergeFwdRefIdeal := Cert.MergeFwdRefIdeal.Gen.facts) := by
  intro m g m' g' _ hargs
  refine ⟨_, _, _, Cert.MergeFwdIdeal.Value.run_blocks (F := Ideal) m g, ?_⟩
  refine (θ_run (Cert.MergeFwdRefIdeal.defs (F := Ideal)) _ _).mono (fun r h c => ?_) (Cert.MergeFwdRefIdeal.Value.run (F := Ideal) m' g')
  obtain ⟨h0, h1, h2, hk⟩ := h c
  obtain ⟨e0, e1, e2, e3, e4, e5, e6⟩ := hargs c
  have q0 := h0.trans (val_main_v27_eq (F := Ideal) _ _ _ _ _ _ _)
  rw [e0, e1, e2, e3, e4, e5, e6] at q0
  have q1 := h1.trans (val_main_v28_eq (F := Ideal) _ _)
  rw [e2, e4] at q1
  have q2 := h2.trans (val_main_v29_eq (F := Ideal) _ _)
  rw [e3, e5] at q2
  refine ⟨q0.trans ?_, q1.trans ?_, q2.trans ?_, hk⟩
  · exact arr_ext fun i j => (MergeFwdRefValue.v27 _ _ _ _ _ _ _ i j).trans (MergeFwdValue.arr8 m c i j).symm
  · exact arr_ext fun i j => (MergeFwdRefValue.v28 _ _ i j).trans (MergeFwdValue.arr9 m c i j).symm
  · exact arr_ext fun i j => (MergeFwdRefValue.v29 _ _ i j).trans (MergeFwdValue.arr10 m c i j).symm

end Cert.MergeFwdClaim

end
-- ==== Proof.GateGradBlock.lean ====
/-
  What one grid point of the gate's weight-gradient kernel computes: the first of two token tiles leaves its product in the
  running sum, the second adds its own and writes the sum out.
-/
module

public import proofs.«01_k».proof.Proof.Gen.GateGradIdeal.Frame
public import Idealize.ShloMosaic.Lib.Pipeline.Value
public import Idealize.ShloMosaic.Lib.Pointwise

@[expose] public section

noncomputable section

namespace Cert.GateGradValue

open Idealize.ShloMosaic Idealize.ShloMosaic.TcCoe Idealize.SL.Sem Cert.GateGradIdeal Cert.GateGradIdeal.Gen

theorem hz : (![0, 0] : Fin 2 → Nat) = fun _ => 0 := funext fun a => by fin_cases a <;> rfl

section
variable (c : Dev nD) (i : grid0.Coords) (a3 : Memref sig .tc .vmem S2176x1408 .bf16) (h3 : a3.IsWhole)
  (a4 : Memref sig .tc .vmem S2176x1024 .bf16) (h4 : a4.IsWhole) (a5 : Memref sig .tc .vmem S1408x1024 .bf16) (h5 : a5.IsWhole)
  (a6 : Memref sig .tc .vmem S1408x1024 .f32) (h6 : a6.IsWhole)
  (x : Vec Ideal S2176x1408 .bf16) (y : Vec Ideal S2176x1024 .bf16) (s : Vec Ideal S1408x1024 .f32)

/-- The first token tile: its product is what the running sum holds. -/
theorem sout_A (hc0 : cond0_0 i) (hc1 : ¬cond0_1 i) (k : Fin 1408) (n : Fin 1024) :
    sout0_A_0 (F := Ideal) c i a3 h3 a4 h4 a5 h5 a6 h6 hc0 hc1 x y (ix2 k n) = ∑ r : Fin 2176, x (ix2 r k) * y (ix2 r n) := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1408x1024) hz, View.readCov_unit_zero (S := S1408x1024) _ hz]
  simp only [View.readAt_eq_ld, h3.read_unread, h4.read_unread]
  unfold_payloads
  pointwise

/-- The second token tile: the running sum so far plus its product is what is written out. -/
theorem out_B (hc0 : ¬cond0_0 i) (hc1 : cond0_1 i) (k : Fin 1408) (n : Fin 1024) :
    out0_B_2 (F := Ideal) c i a3 h3 a4 h4 a5 h5 a6 h6 hc0 hc1 x y s (ix2 k n)
      = s (ix2 k n) + ∑ r : Fin 2176, x (ix2 r k) * y (ix2 r n) := by
  unfold out0_B_2
  rw [View.read_writes_eq_canon _ _ _ (cover0_B_2 c i a3 h3 a4 h4 a5 h5 a6 h6 hc0 hc1 x y s)]
  unfold kernelRun0_B
  dsimp only
  sl_unfold_words
  rw [View.canon_unit_zero (S := S1408x1024) hz, View.readCov_unit_zero (S := S1408x1024) _ hz]
  simp only [View.readAt_eq_ld, h3.read_unread, h4.read_unread, h6.read_unread]
  unfold_payloads
  pointwise
end

end Cert.GateGradValue

end
-- ==== Proof.TokenTiles.lean ====
/-
  Facts about the two tiles of 2176 tokens every weight-gradient kernel runs over.
-/
module

public import Idealize.ShloMosaic.Lib.Pointwise

@[expose] public section

noncomputable section

namespace Cert.TokenTiles

theorem hz : (![0, 0] : Fin 2 → Nat) = fun _ => 0 := funext fun a => by fin_cases a <;> rfl

/-- A sum over all tokens is the sum over the first tile and over the second. -/
theorem sum_tiles (f : Fin 4352 → EReal) :
    ∑ t : Fin 4352, f t = ∑ r : Fin 2176, f ⟨r.val, by omega⟩ + ∑ r : Fin 2176, f ⟨2176 + r.val, by omega⟩ :=
  Fin.sum_univ_add (a := 2176) (b := 2176) f

end Cert.TokenTiles

end
-- ==== Proof.GateGradArrays.lean ====
/-
  What the gate's weight-gradient kernel leaves: entry (i, j) is the sum over all 4352 tokens.
-/
module

public import proofs.«01_k».proof.Proof.GateGradBlock
public import proofs.«01_k».proof.Proof.TokenTiles
public import proofs.«01_k».proof.Proof.Gen.GateGradIdeal.Value

@[expose] public section

noncomputable section

namespace Cert.GateGradValue

open Idealize.ShloMosaic Idealize.ShloMosaic.TcCoe Idealize.SL.Sem Cert.GateGradIdeal Cert.GateGradIdeal.Gen
open Idealize.ShloMosaic.Pipeline (Dat Cfg Window)

variable (m : (ℓ : Loc nD τ sig) → Buf (Elt Ideal) ℓ) (c : Dev nD)

/-- The argument arrays as launched: the normed activations and the incoming gradient. -/
abbrev hn : FVec Ideal S4352x1024 .bf16 := m ((c : Thread nD τ).loc main_arg0)
abbrev ct : FVec Ideal S4352x2816 .bf16 := m ((c : Thread nD τ).loc main_arg1)

/-- Token `r` of grid point `t`'s tile. -/
abbrev tok (t : Fin cfg0.N) (r : Fin 2176) : Fin 4352 := ⟨t.val % 2 * 2176 + r.val, by omega⟩

theorem idx0 (t : Fin cfg0.N) : win0_0.index t (0 : Fin 2) = t.val % 2 ∧ win0_0.index t (1 : Fin 2) = t.val / 2 :=
  (by decide +kernel : ∀ t : Fin grid0.N, win0_0.index t (0 : Fin 2) = t.val % 2 ∧ win0_0.index t (1 : Fin 2) = t.val / 2) t
theorem idx1 (t : Fin cfg0.N) : win0_1.index t (0 : Fin 2) = t.val % 2 ∧ win0_1.index t (1 : Fin 2) = 0 :=
  (by decide +kernel : ∀ t : Fin grid0.N, win0_1.index t (0 : Fin 2) = t.val % 2 ∧ win0_1.index t (1 : Fin 2) = 0) t

/-- The block of the incoming gradient grid point `t` takes. -/
theorem blk0 (t : Fin cfg0.N) (r : Fin 2176) (k : Fin 1408) (i : Fin 2816) (hi : i.val = t.val / 2 * 1408 + k.val) :
    (iblk m c 0 t : Vec Ideal S2176x1408 .bf16) (ix2 r k) = ct m c (ix2 (tok t r) i) := by
  show V m c main_arg1 ((win0_0.rect t).emb (ix2 r k)) = _
  rw [V_main_arg1]
  refine congrArg (ct m c) (Shape.idx_ext₂ ?_ ?_)
  · exact (win0_0.rect_emb_val t _ 0).trans (by rw [(idx0 t).1]; rfl)
  · exact (win0_0.rect_emb_val t _ 1).trans (by rw [(idx0 t).2]; exact hi.symm)

/-- The block of the activations grid point `t` takes. -/
theorem blk1 (t : Fin cfg0.N) (r : Fin 2176) (n : Fin 1024) :
    (iblk m c 1 t : Vec Ideal S2176x1024 .bf16) (ix2 r n) = hn m c (ix2 (tok t r) n) := by
  show V m c main_arg0 ((win0_1.rect t).emb (ix2 r n)) = _
  rw [V_main_arg0]
  refine congrArg (hn m c) (Shape.idx_ext₂ ?_ ?_)
  · exact (win0_1.rect_emb_val t _ 0).trans (by rw [(idx1 t).1]; rfl)
  · exact (win0_1.rect_emb_val t _ 1).trans (by rw [(idx1 t).2]; simp)

/-- What is left after an odd point: both tiles' products. -/
theorem outs_odd (q : ℕ) (hq : 2 * q + 1 < cfg0.N) (k : Fin 1408) (n : Fin 1024) (i : Fin 2816) (hi : i.val = q * 1408 + k.val) :
    (outsAt0 (F := Ideal) m c (2 * q + 1) hq).1 (ix2 k n) = ∑ t : Fin 4352, ct m c (ix2 t i) * hn m c (ix2 t n) := by
  have e0 : (2 * q + 0) % 2 = 0 := by omega
  have e1 : (2 * q + 1) % 2 = 1 := by omega
  have hq' : 2 * q < cfg0.N := Nat.lt_of_succ_lt hq
  have hB := outsAt0_B (F := Ideal) m c ⟨2 * q + 1, hq⟩ (by dsimp only; omega) e1
  have hA := outsAt0_A (F := Ideal) m c ⟨2 * q, hq'⟩ e0 (by dsimp only; omega)
  dsimp only at hA hB
  rw [hB]
  dsimp only
  rw [out_B]
  simp only [Nat.add_sub_cancel]
  rw [hA]
  dsimp only
  rw [sout_A, Cert.TokenTiles.sum_tiles]
  refine congrArg₂ (· + ·) (Finset.sum_congr rfl fun r _ => ?_) (Finset.sum_congr rfl fun r _ => ?_)
  · rw [blk0 m c _ r k i (by dsimp only; omega), blk1]
    have e : tok ⟨2 * q, hq'⟩ r = ⟨r.val, by omega⟩ := Fin.ext (by dsimp only; omega)
    rw [e]
  · rw [blk0 m c _ r k i (by dsimp only; omega), blk1]
    have e : tok ⟨2 * q + 1, hq⟩ r = ⟨2176 + r.val, by omega⟩ := Fin.ext (by dsimp only; omega)
    rw [e]

/-- The result array. -/
theorem arr2 (i : Fin 2816) (n : Fin 1024) :
    (dats m 0 c).arrAt 2 cfg0.N (ix2 i n) = ∑ t : Fin 4352, ct m c (ix2 t i) * hn m c (ix2 t n) := by
  rw [Value.final2]
  have hN : cfg0.N = 4 := N_0
  have hp : Value.pt2Of (ix2 i n) < cfg0.N := by
    show 2 * (1 * (i.val / 1408 - 0) + 1 * (n.val / 1024 - 0)) + 1 < cfg0.N
    omega
  have hq : 2 * (i.val / 1408) + 1 < cfg0.N := by omega
  have hpt : Value.pt2Of (ix2 i n) = 2 * (i.val / 1408) + 1 := by
    show 2 * (1 * (i.val / 1408 - 0) + 1 * (n.val / 1024 - 0)) + 1 = _
    omega
  have hloc : Value.loc2Of (ix2 i n) = ix2 (⟨i.val % 1408, by omega⟩ : Fin 1408) (⟨n.val % 1024, by omega⟩ : Fin 1024) :=
    Shape.idx_ext₂ rfl rfl
  have h := outs_odd m c (i.val / 1408) hq ⟨i.val % 1408, by omega⟩ ⟨n.val % 1024, by omega⟩ i (by dsimp only; omega)
  have en : (⟨n.val % 1024, by omega⟩ : Fin 1024) = n := Fin.ext (by dsimp only; omega)
  rw [Value.outsAt0_sweep, en] at h
  refine (dif_pos hp).trans ?_
  rw [hloc, en, ← h]
  exact congrArg (fun v : Vec Ideal S1408x1024 .bf16 × Vec Ideal S1408x1024 .f32 => v.1 (ix2 _ n))
    (Value.fold0_congr m c _ _ _ _ hpt)

end Cert.GateGradValue

end
-- ==== Proof.GateGrad.lean ====
/-
  The gate's weight-gradient kernel and its reference leave the same array.
-/
module

public import proofs.«01_k».proof.Defs
public import proofs.«01_k».proof.Proof.GateGradArrays
public import proofs.«01_k».proof.Proof.Gen.GateGradRefIdeal.Run
public import proofs.«01_k».proof.Proof.Gen.GateGradRefIdeal.Read

@[expose] public section

noncomputable section

namespace Cert.GateGradClaim

open Idealize.ShloMosaic Idealize.ShloMosaic.TcCoe Idealize.SL.Sem Cert.GateGradRefIdeal.Read

/-- The reference's entry. -/
theorem ref_apply (x0 : FVec Ideal ⟨2, ![4352, 1024]⟩ .bf16) (x1 : FVec Ideal ⟨2, ![4352, 2816]⟩ .bf16) (i : Fin 2816) (n : Fin 1024) :
    val_main_v7 (F := Ideal) x0 x1 (ix2 i n) = ∑ t : Fin 4352, x1 (ix2 t i) * x0 (ix2 t n) := by
  unfold val_main_v7 val_main_v6 val_main_v5 val_main_v4
  try unfold val_main_v3
  try unfold val_main_v2
  try unfold val_main_v1
  try unfold val_main_v0
  pointwise

theorem algebraic : Cert.algebraic_GateGradIdeal_GateGradRefIdeal (hGateGradIdeal := Cert.GateGradIdeal.Gen.facts)
    (hGateGradRefIdeal := Cert.GateGradRefIdeal.Gen.facts) := by
  intro m g m' g' _ hargs
  refine ⟨_, Cert.GateGradIdeal.Value.run_blocks (F := Ideal) m g, ?_⟩
  refine (θ_run (Cert.GateGradRefIdeal.defs (F := Ideal)) _ _).mono (fun r h c => ?_) (Cert.GateGradRefIdeal.Value.run (F := Ideal) m' g')
  obtain ⟨h0, hk⟩ := h c
  obtain ⟨e0, e1⟩ := hargs c
  rw [e0, e1] at h0
  refine ⟨h0.trans ((val_main_v7_eq (F := Ideal) _ _).symm.trans ?_), hk⟩
  exact funext fun i => by
    rw [eq_ix2 i]
    exact (ref_apply _ _ _ _).trans (GateGradValue.arr2 m c _ _).symm

end Cert.GateGradClaim

end
-- ==== Proof.DownGradBlock.lean ====
/-
  What one grid point of the down weight's gradient kernel computes: the first of two token tiles leaves its product in the
  running sum, the second adds its own and writes the sum out.
-/
module

public import proofs.«01_k».proof.Proof.Gen.DownGradIdeal.Frame
public import proofs.«01_k».proof.Proof.TokenTiles
public import Idealize.ShloMosaic.Lib.Pipeline.Value

@[expose] public section

noncomputable section

namespace Cert.DownGradValue

open Idealize.ShloMosaic Idealize.ShloMosaic.TcCoe Idealize.SL.Sem Cert.DownGradIdeal Cert.DownGradIdeal.Gen Cert.TokenTiles

section
variable (c : Dev nD) (i : grid0.Coords) (a3 : Memref sig .tc .vmem S2176x1408 .bf16) (h3 : a3.IsWhole)
  (a4 : Memref sig .tc .vmem S2176x1024 .f32) (h4 : a4.IsWhole) (a5 : Memref sig .tc .vmem S1408x1024 .bf16) (h5 : a5.IsWhole)
  (a6 : Memref sig .tc .vmem S1408x1024 .f32) (h6 : a6.IsWhole)
  (x : Vec Ideal S2176x1408 .bf16) (y : Vec Ideal S2176x1024 .f32) (s : Vec Ideal S1408x1024 .f32)

/-- The first token tile: its product is what the running sum holds. -/
theorem sout_A (hc0 : cond0_0 i) (hc1 : ¬cond0_1 i) (k : Fin 1408) (n : Fin 1024) :
    sout0_A_0 (F := Ideal) c i a3 h3 a4 h4 a5 h5 a6 h6 hc0 hc1 x y (ix2 k n) = ∑ r : Fin 2176, x (ix2 r k) * y (ix2 r n) := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1408x1024) hz, View.readCov_unit_zero (S := S1408x1024) _ hz]
  simp only [View.readAt_eq_ld, h3.read_unread, h4.read_unread]
  unfold_payloads
  pointwise

/-- The second token tile: the running sum so far plus its product is what is written out. -/
theorem out_B (hc0 : ¬cond0_0 i) (hc1 : cond0_1 i) (k : Fin 1408) (n : Fin 1024) :
    out0_B_2 (F := Ideal) c i a3 h3 a4 h4 a5 h5 a6 h6 hc0 hc1 x y s (ix2 k n)
      = s (ix2 k n) + ∑ r : Fin 2176, x (ix2 r k) * y (ix2 r n) := by
  unfold out0_B_2
  rw [View.read_writes_eq_canon _ _ _ (cover0_B_2 c i a3 h3 a4 h4 a5 h5 a6 h6 hc0 hc1 x y s)]
  unfold kernelRun0_B
  dsimp only
  sl_unfold_words
  rw [View.canon_unit_zero (S := S1408x1024) hz, View.readCov_unit_zero (S := S1408x1024) _ hz]
  simp only [View.readAt_eq_ld, h3.read_unread, h4.read_unread, h6.read_unread]
  unfold_payloads
  pointwise
end

end Cert.DownGradValue

end
-- ==== Proof.DownGrad.lean ====
/-
  What the down weight's gradient kernel leaves: entry (i, n) is the sum over all 4352 tokens.  Its reference leaves the same.
-/
module

public import proofs.«01_k».proof.Defs
public import proofs.«01_k».proof.Proof.DownGradBlock
public import proofs.«01_k».proof.Proof.Gen.DownGradIdeal.Value
public import proofs.«01_k».proof.Proof.Gen.DownGradRefIdeal.Run
public import proofs.«01_k».proof.Proof.Gen.DownGradRefIdeal.Read

@[expose] public section

noncomputable section

namespace Cert.DownGradValue

section
open Idealize.ShloMosaic Idealize.ShloMosaic.TcCoe Idealize.SL.Sem Cert.DownGradIdeal Cert.DownGradIdeal.Gen Cert.TokenTiles
open Idealize.ShloMosaic.Pipeline (Dat Cfg Window)

variable (m : (ℓ : Loc nD τ sig) → Buf (Elt Ideal) ℓ) (c : Dev nD)

/-- The argument arrays as launched: the activations and the incoming gradient. -/
abbrev act : FVec Ideal S4352x2816 .bf16 := m ((c : Thread nD τ).loc main_arg0)
abbrev dh : FVec Ideal S4352x1024 .f32 := m ((c : Thread nD τ).loc main_arg1)

/-- Token `r` of grid point `t`'s tile. -/
abbrev tok (t : Fin cfg0.N) (r : Fin 2176) : Fin 4352 := ⟨t.val % 2 * 2176 + r.val, by omega⟩

theorem idx0 (t : Fin cfg0.N) : win0_0.index t (0 : Fin 2) = t.val % 2 ∧ win0_0.index t (1 : Fin 2) = t.val / 2 :=
  (by decide +kernel : ∀ t : Fin grid0.N, win0_0.index t (0 : Fin 2) = t.val % 2 ∧ win0_0.index t (1 : Fin 2) = t.val / 2) t
theorem idx1 (t : Fin cfg0.N) : win0_1.index t (0 : Fin 2) = t.val % 2 ∧ win0_1.index t (1 : Fin 2) = 0 :=
  (by decide +kernel : ∀ t : Fin grid0.N, win0_1.index t (0 : Fin 2) = t.val % 2 ∧ win0_1.index t (1 : Fin 2) = 0) t

/-- The block of the activations grid point `t` takes. -/
theorem blk0 (t : Fin cfg0.N) (r : Fin 2176) (k : Fin 1408) (i : Fin 2816) (hi : i.val = t.val / 2 * 1408 + k.val) :
    (iblk m c 0 t : Vec Ideal S2176x1408 .bf16) (ix2 r k) = act m c (ix2 (tok t r) i) := by
  show V m c main_arg0 ((win0_0.rect t).emb (ix2 r k)) = _
  rw [V_main_arg0]
  refine congrArg (act m c) (Shape.idx_ext₂ ?_ ?_)
  · exact (win0_0.rect_emb_val t _ 0).trans (by rw [(idx0 t).1]; rfl)
  · exact (win0_0.rect_emb_val t _ 1).trans (by rw [(idx0 t).2]; exact hi.symm)

/-- The block of the incoming gradient grid point `t` takes. -/
theorem blk1 (t : Fin cfg0.N) (r : Fin 2176) (n : Fin 1024) :
    (iblk m c 1 t : Vec Ideal S2176x1024 .f32) (ix2 r n) = dh m c (ix2 (tok t r) n) := by
  show V m c main_arg1 ((win0_1.rect t).emb (ix2 r n)) = _
  rw [V_main_arg1]
  refine congrArg (dh m c) (Shape.idx_ext₂ ?_ ?_)
  · exact (win0_1.rect_emb_val t _ 0).trans (by rw [(idx1 t).1]; rfl)
  · exact (win0_1.rect_emb_val t _ 1).trans (by rw [(idx1 t).2]; simp)

/-- What is left after an odd point: both tiles' products. -/
theorem outs_odd (q : ℕ) (hq : 2 * q + 1 < cfg0.N) (k : Fin 1408) (n : Fin 1024) (i : Fin 2816) (hi : i.val = q * 1408 + k.val) :
    (outsAt0 (F := Ideal) m c (2 * q + 1) hq).1 (ix2 k n) = ∑ t : Fin 4352, act m c (ix2 t i) * dh m c (ix2 t n) := by
  have e0 : (2 * q + 0) % 2 = 0 := by omega
  have e1 : (2 * q + 1) % 2 = 1 := by omega
  have hq' : 2 * q < cfg0.N := Nat.lt_of_succ_lt hq
  have hB := outsAt0_B (F := Ideal) m c ⟨2 * q + 1, hq⟩ (by dsimp only; omega) e1
  have hA := outsAt0_A (F := Ideal) m c ⟨2 * q, hq'⟩ e0 (by dsimp only; omega)
  dsimp only at hA hB
  rw [hB]
  dsimp only
  rw [out_B]
  simp only [Nat.add_sub_cancel]
  rw [hA]
  dsimp only
  rw [sout_A, sum_tiles]
  refine congrArg₂ (· + ·) (Finset.sum_congr rfl fun r _ => ?_) (Finset.sum_congr rfl fun r _ => ?_)
  · rw [blk0 m c _ r k i (by dsimp only; omega), blk1]
    have e : tok ⟨2 * q, hq'⟩ r = ⟨r.val, by omega⟩ := Fin.ext (by dsimp only; omega)
    rw [e]
  · rw [blk0 m c _ r k i (by dsimp only; omega), blk1]
    have e : tok ⟨2 * q + 1, hq⟩ r = ⟨2176 + r.val, by omega⟩ := Fin.ext (by dsimp only; omega)
    rw [e]

/-- The result array. -/
theorem arr2 (i : Fin 2816) (n : Fin 1024) :
    (dats m 0 c).arrAt 2 cfg0.N (ix2 i n) = ∑ t : Fin 4352, act m c (ix2 t i) * dh m c (ix2 t n) := by
  rw [Value.final2]
  have hN : cfg0.N = 4 := N_0
  have hp : Value.pt2Of (ix2 i n) < cfg0.N := by
    show 2 * (1 * (i.val / 1408 - 0) + 1 * (n.val / 1024 - 0)) + 1 < cfg0.N
    omega
  have hq : 2 * (i.val / 1408) + 1 < cfg0.N := by omega
  have hpt : Value.pt2Of (ix2 i n) = 2 * (i.val / 1408) + 1 := by
    show 2 * (1 * (i.val / 1408 - 0) + 1 * (n.val / 1024 - 0)) + 1 = _
    omega
  have hloc : Value.loc2Of (ix2 i n) = ix2 (⟨i.val % 1408, by omega⟩ : Fin 1408) (⟨n.val % 1024, by omega⟩ : Fin 1024) :=
    Shape.idx_ext₂ rfl rfl
  have h := outs_odd m c (i.val / 1408) hq ⟨i.val % 1408, by omega⟩ ⟨n.val % 1024, by omega⟩ i (by dsimp only; omega)
  have en : (⟨n.val % 1024, by omega⟩ : Fin 1024) = n := Fin.ext (by dsimp only; omega)
  rw [Value.outsAt0_sweep, en] at h
  refine (dif_pos hp).trans ?_
  rw [hloc, en, ← h]
  exact congrArg (fun v : Vec Ideal S1408x1024 .bf16 × Vec Ideal S1408x1024 .f32 => v.1 (ix2 _ n))
    (Value.fold0_congr m c _ _ _ _ hpt)
end

open Idealize.ShloMosaic Idealize.ShloMosaic.TcCoe Idealize.SL.Sem Cert.DownGradRefIdeal.Read

/-- The reference's entry. -/
theorem ref_apply (x0 : FVec Ideal ⟨2, ![4352, 2816]⟩ .bf16) (x1 : FVec Ideal ⟨2, ![4352, 1024]⟩ .f32) (i : Fin 2816) (n : Fin 1024) :
    val_main_v5 (F := Ideal) x0 x1 (ix2 i n) = ∑ t : Fin 4352, x0 (ix2 t i) * x1 (ix2 t n) := by
  unfold val_main_v5 val_main_v4 val_main_v3 val_main_v0
  pointwise
  exact Finset.sum_congr rfl fun _ _ => mul_comm _ _

theorem algebraic : Cert.algebraic_DownGradIdeal_DownGradRefIdeal (hDownGradIdeal := Cert.DownGradIdeal.Gen.facts)
    (hDownGradRefIdeal := Cert.DownGradRefIdeal.Gen.facts) := by
  intro m g m' g' _ hargs
  refine ⟨_, Cert.DownGradIdeal.Value.run_blocks (F := Ideal) m g, ?_⟩
  refine (θ_run (Cert.DownGradRefIdeal.defs (F := Ideal)) _ _).mono (fun r h c => ?_) (Cert.DownGradRefIdeal.Value.run (F := Ideal) m' g')
  obtain ⟨h0, hk⟩ := h c
  obtain ⟨e0, e1⟩ := hargs c
  rw [e0, e1] at h0
  refine ⟨h0.trans ((val_main_v5_eq (F := Ideal) _ _).symm.trans ?_), hk⟩
  exact funext fun i => by
    rw [eq_ix2 i]
    exact (ref_apply _ _ _ _).trans (arr2 m c _ _).symm

end Cert.DownGradValue

end
-- ==== Proof.OutGradBlock.lean ====
/-
  What one grid point of the output weight's gradient kernel computes: the first of two token tiles leaves its product in the
  running sum, the second adds its own and writes the sum out.
-/
module

public import proofs.«01_k».proof.Proof.Gen.OutGradIdeal.Frame
public import proofs.«01_k».proof.Proof.TokenTiles
public import Idealize.ShloMosaic.Lib.Pipeline.Value

@[expose] public section

noncomputable section

namespace Cert.OutGradValue

open Idealize.ShloMosaic Idealize.ShloMosaic.TcCoe Idealize.SL.Sem Cert.OutGradIdeal Cert.OutGradIdeal.Gen Cert.TokenTiles

section
variable (c : Dev nD) (i : grid0.Coords) (a3 : Memref sig .tc .vmem S2176x1024 .bf16) (h3 : a3.IsWhole)
  (a4 : Memref sig .tc .vmem S2176x1024 .f32) (h4 : a4.IsWhole) (a5 : Memref sig .tc .vmem S1024x1024 .bf16) (h5 : a5.IsWhole)
  (a6 : Memref sig .tc .vmem S1024x1024 .f32) (h6 : a6.IsWhole)
  (x : Vec Ideal S2176x1024 .bf16) (y : Vec Ideal S2176x1024 .f32) (s : Vec Ideal S1024x1024 .f32)

/-- The first token tile: its product is what the running sum holds. -/
theorem sout_A (hc0 : cond0_0 i) (hc1 : ¬cond0_1 i) (k : Fin 1024) (n : Fin 1024) :
    sout0_A_0 (F := Ideal) c i a3 h3 a4 h4 a5 h5 a6 h6 hc0 hc1 x y (ix2 k n) = ∑ r : Fin 2176, x (ix2 r k) * y (ix2 r n) := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x1024) hz, View.readCov_unit_zero (S := S1024x1024) _ hz]
  simp only [View.readAt_eq_ld, h3.read_unread, h4.read_unread]
  unfold_payloads
  pointwise

/-- The second token tile: the running sum so far plus its product is what is written out. -/
theorem out_B (hc0 : ¬cond0_0 i) (hc1 : cond0_1 i) (k : Fin 1024) (n : Fin 1024) :
    out0_B_2 (F := Ideal) c i a3 h3 a4 h4 a5 h5 a6 h6 hc0 hc1 x y s (ix2 k n)
      = s (ix2 k n) + ∑ r : Fin 2176, x (ix2 r k) * y (ix2 r n) := by
  unfold out0_B_2
  rw [View.read_writes_eq_canon _ _ _ (cover0_B_2 c i a3 h3 a4 h4 a5 h5 a6 h6 hc0 hc1 x y s)]
  unfold kernelRun0_B
  dsimp only
  sl_unfold_words
  rw [View.canon_unit_zero (S := S1024x1024) hz, View.readCov_unit_zero (S := S1024x1024) _ hz]
  simp only [View.readAt_eq_ld, h3.read_unread, h4.read_unread, h6.read_unread]
  unfold_payloads
  pointwise
end

end Cert.OutGradValue

end
-- ==== Proof.OutGrad.lean ====
/-
  What the output weight's gradient kernel leaves: entry (i, n) is the sum over all 4352 tokens.  Its reference leaves the same.
-/
module

public import proofs.«01_k».proof.Defs
public import proofs.«01_k».proof.Proof.OutGradBlock
public import proofs.«01_k».proof.Proof.Gen.OutGradIdeal.Value
public import proofs.«01_k».proof.Proof.Gen.OutGradRefIdeal.Run
public import proofs.«01_k».proof.Proof.Gen.OutGradRefIdeal.Read

@[expose] public section

noncomputable section

namespace Cert.OutGradValue

section
open Idealize.ShloMosaic Idealize.ShloMosaic.TcCoe Idealize.SL.Sem Cert.OutGradIdeal Cert.OutGradIdeal.Gen Cert.TokenTiles
open Idealize.ShloMosaic.Pipeline (Dat Cfg Window)

variable (m : (ℓ : Loc nD τ sig) → Buf (Elt Ideal) ℓ) (c : Dev nD)

/-- The argument arrays as launched: the merged branches and the incoming gradient. -/
abbrev merged : FVec Ideal S4352x1024 .bf16 := m ((c : Thread nD τ).loc main_arg0)
abbrev dh : FVec Ideal S4352x1024 .f32 := m ((c : Thread nD τ).loc main_arg1)

/-- Token `r` of grid point `t`'s tile. -/
abbrev tok (t : Fin cfg0.N) (r : Fin 2176) : Fin 4352 := ⟨t.val % 2 * 2176 + r.val, by omega⟩

theorem idx0 (t : Fin cfg0.N) : win0_0.index t (0 : Fin 2) = t.val % 2 ∧ win0_0.index t (1 : Fin 2) = t.val / 2 :=
  (by decide +kernel : ∀ t : Fin grid0.N, win0_0.index t (0 : Fin 2) = t.val % 2 ∧ win0_0.index t (1 : Fin 2) = t.val / 2) t
theorem idx1 (t : Fin cfg0.N) : win0_1.index t (0 : Fin 2) = t.val % 2 ∧ win0_1.index t (1 : Fin 2) = 0 :=
  (by decide +kernel : ∀ t : Fin grid0.N, win0_1.index t (0 : Fin 2) = t.val % 2 ∧ win0_1.index t (1 : Fin 2) = 0) t

/-- The block of the merged branches grid point `t` takes. -/
theorem blk0 (t : Fin cfg0.N) (r : Fin 2176) (k : Fin 1024) (i : Fin 1024) (hi : i.val = t.val / 2 * 1024 + k.val) :
    (iblk m c 0 t : Vec Ideal S2176x1024 .bf16) (ix2 r k) = merged m c (ix2 (tok t r) i) := by
  show V m c main_arg0 ((win0_0.rect t).emb (ix2 r k)) = _
  rw [V_main_arg0]
  refine congrArg (merged m c) (Shape.idx_ext₂ ?_ ?_)
  · exact (win0_0.rect_emb_val t _ 0).trans (by rw [(idx0 t).1]; rfl)
  · exact (win0_0.rect_emb_val t _ 1).trans (by rw [(idx0 t).2]; exact hi.symm)

/-- The block of the incoming gradient grid point `t` takes. -/
theorem blk1 (t : Fin cfg0.N) (r : Fin 2176) (n : Fin 1024) :
    (iblk m c 1 t : Vec Ideal S2176x1024 .f32) (ix2 r n) = dh m c (ix2 (tok t r) n) := by
  show V m c main_arg1 ((win0_1.rect t).emb (ix2 r n)) = _
  rw [V_main_arg1]
  refine congrArg (dh m c) (Shape.idx_ext₂ ?_ ?_)
  · exact (win0_1.rect_emb_val t _ 0).trans (by rw [(idx1 t).1]; rfl)
  · exact (win0_1.rect_emb_val t _ 1).trans (by rw [(idx1 t).2]; simp)

/-- What is left after an odd point: both tiles' products. -/
theorem outs_odd (q : ℕ) (hq : 2 * q + 1 < cfg0.N) (k : Fin 1024) (n : Fin 1024) (i : Fin 1024) (hi : i.val = q * 1024 + k.val) :
    (outsAt0 (F := Ideal) m c (2 * q + 1) hq).1 (ix2 k n) = ∑ t : Fin 4352, merged m c (ix2 t i) * dh m c (ix2 t n) := by
  have e0 : (2 * q + 0) % 2 = 0 := by omega
  have e1 : (2 * q + 1) % 2 = 1 := by omega
  have hq' : 2 * q < cfg0.N := Nat.lt_of_succ_lt hq
  have hB := outsAt0_B (F := Ideal) m c ⟨2 * q + 1, hq⟩ (by dsimp only; omega) e1
  have hA := outsAt0_A (F := Ideal) m c ⟨2 * q, hq'⟩ e0 (by dsimp only; omega)
  dsimp only at hA hB
  rw [hB]
  dsimp only
  rw [out_B]
  simp only [Nat.add_sub_cancel]
  rw [hA]
  dsimp only
  rw [sout_A, sum_tiles]
  refine congrArg₂ (· + ·) (Finset.sum_congr rfl fun r _ => ?_) (Finset.sum_congr rfl fun r _ => ?_)
  · rw [blk0 m c _ r k i (by dsimp only; omega), blk1]
    have e : tok ⟨2 * q, hq'⟩ r = ⟨r.val, by omega⟩ := Fin.ext (by dsimp only; omega)
    rw [e]
  · rw [blk0 m c _ r k i (by dsimp only; omega), blk1]
    have e : tok ⟨2 * q + 1, hq⟩ r = ⟨2176 + r.val, by omega⟩ := Fin.ext (by dsimp only; omega)
    rw [e]

/-- The result array. -/
theorem arr2 (i : Fin 1024) (n : Fin 1024) :
    (dats m 0 c).arrAt 2 cfg0.N (ix2 i n) = ∑ t : Fin 4352, merged m c (ix2 t i) * dh m c (ix2 t n) := by
  rw [Value.final2]
  have hN : cfg0.N = 2 := N_0
  have hp : Value.pt2Of (ix2 i n) < cfg0.N := by
    show 2 * (1 * (i.val / 1024 - 0) + 1 * (n.val / 1024 - 0)) + 1 < cfg0.N
    omega
  have hq : 2 * (i.val / 1024) + 1 < cfg0.N := by omega
  have hpt : Value.pt2Of (ix2 i n) = 2 * (i.val / 1024) + 1 := by
    show 2 * (1 * (i.val / 1024 - 0) + 1 * (n.val / 1024 - 0)) + 1 = _
    omega
  have hloc : Value.loc2Of (ix2 i n) = ix2 (⟨i.val % 1024, by omega⟩ : Fin 1024) (⟨n.val % 1024, by omega⟩ : Fin 1024) :=
    Shape.idx_ext₂ rfl rfl
  have h := outs_odd m c (i.val / 1024) hq ⟨i.val % 1024, by omega⟩ ⟨n.val % 1024, by omega⟩ i (by dsimp only; omega)
  have en : (⟨n.val % 1024, by omega⟩ : Fin 1024) = n := Fin.ext (by dsimp only; omega)
  rw [Value.outsAt0_sweep, en] at h
  refine (dif_pos hp).trans ?_
  rw [hloc, en, ← h]
  exact congrArg (fun v : Vec Ideal S1024x1024 .bf16 × Vec Ideal S1024x1024 .f32 => v.1 (ix2 _ n))
    (Value.fold0_congr m c _ _ _ _ hpt)
end

open Idealize.ShloMosaic Idealize.ShloMosaic.TcCoe Idealize.SL.Sem Cert.OutGradRefIdeal.Read

/-- The reference's entry. -/
theorem ref_apply (x0 : FVec Ideal ⟨2, ![4352, 1024]⟩ .bf16) (x1 : FVec Ideal ⟨2, ![4352, 1024]⟩ .f32) (i : Fin 1024) (n : Fin 1024) :
    val_main_v5 (F := Ideal) x0 x1 (ix2 i n) = ∑ t : Fin 4352, x0 (ix2 t i) * x1 (ix2 t n) := by
  unfold val_main_v5 val_main_v4 val_main_v3 val_main_v0
  pointwise
  exact Finset.sum_congr rfl fun _ _ => mul_comm _ _

theorem algebraic : Cert.algebraic_OutGradIdeal_OutGradRefIdeal (hOutGradIdeal := Cert.OutGradIdeal.Gen.facts)
    (hOutGradRefIdeal := Cert.OutGradRefIdeal.Gen.facts) := by
  intro m g m' g' _ hargs
  refine ⟨_, Cert.OutGradIdeal.Value.run_blocks (F := Ideal) m g, ?_⟩
  refine (θ_run (Cert.OutGradRefIdeal.defs (F := Ideal)) _ _).mono (fun r h c => ?_) (Cert.OutGradRefIdeal.Value.run (F := Ideal) m' g')
  obtain ⟨h0, hk⟩ := h c
  obtain ⟨e0, e1⟩ := hargs c
  rw [e0, e1] at h0
  refine ⟨h0.trans ((val_main_v5_eq (F := Ideal) _ _).symm.trans ?_), hk⟩
  exact funext fun i => by
    rw [eq_ix2 i]
    exact (ref_apply _ _ _ _).trans (arr2 m c _ _).symm

end Cert.OutGradValue

end
-- ==== Proof.PaGradBlock.lean ====
/-
  What one grid point of the pooling branch's projection's gradient kernel computes: the first of two token tiles leaves its product in the
  running sum, the second adds its own and writes the sum out.
-/
module

public import proofs.«01_k».proof.Proof.Gen.PaGradIdeal.Frame
public import proofs.«01_k».proof.Proof.TokenTiles
public import Idealize.ShloMosaic.Lib.Pipeline.Value

@[expose] public section

noncomputable section

namespace Cert.PaGradValue

open Idealize.ShloMosaic Idealize.ShloMosaic.TcCoe Idealize.SL.Sem Cert.PaGradIdeal Cert.PaGradIdeal.Gen Cert.TokenTiles

section
variable (c : Dev nD) (i : grid0.Coords) (a3 : Memref sig .tc .vmem S2176x512 .bf16) (h3 : a3.IsWhole)
  (a4 : Memref sig .tc .vmem S2176x1024 .bf16) (h4 : a4.IsWhole) (a5 : Memref sig .tc .vmem S512x1024 .bf16) (h5 : a5.IsWhole)
  (a6 : Memref sig .tc .vmem S512x1024 .f32) (h6 : a6.IsWhole)
  (x : Vec Ideal S2176x512 .bf16) (y : Vec Ideal S2176x1024 .bf16) (s : Vec Ideal S512x1024 .f32)

/-- The first token tile: its product is what the running sum holds. -/
theorem sout_A (hc0 : cond0_0 i) (hc1 : ¬cond0_1 i) (k : Fin 512) (n : Fin 1024) :
    sout0_A_0 (F := Ideal) c i a3 h3 a4 h4 a5 h5 a6 h6 hc0 hc1 x y (ix2 k n) = ∑ r : Fin 2176, x (ix2 r k) * y (ix2 r n) := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S512x1024) hz, View.readCov_unit_zero (S := S512x1024) _ hz]
  simp only [View.readAt_eq_ld, h3.read_unread, h4.read_unread]
  unfold_payloads
  pointwise

/-- The second token tile: the running sum so far plus its product is what is written out. -/
theorem out_B (hc0 : ¬cond0_0 i) (hc1 : cond0_1 i) (k : Fin 512) (n : Fin 1024) :
    out0_B_2 (F := Ideal) c i a3 h3 a4 h4 a5 h5 a6 h6 hc0 hc1 x y s (ix2 k n)
      = s (ix2 k n) + ∑ r : Fin 2176, x (ix2 r k) * y (ix2 r n) := by
  unfold out0_B_2
  rw [View.read_writes_eq_canon _ _ _ (cover0_B_2 c i a3 h3 a4 h4 a5 h5 a6 h6 hc0 hc1 x y s)]
  unfold kernelRun0_B
  dsimp only
  sl_unfold_words
  rw [View.canon_unit_zero (S := S512x1024) hz, View.readCov_unit_zero (S := S512x1024) _ hz]
  simp only [View.readAt_eq_ld, h3.read_unread, h4.read_unread, h6.read_unread]
  unfold_payloads
  pointwise
end

end Cert.PaGradValue

end
-- ==== Proof.PaGrad.lean ====
/-
  What the pooling branch's projection's gradient kernel leaves: entry (i, n) is the sum over all 4352 tokens.  Its reference leaves the same.
-/
module

public import proofs.«01_k».proof.Defs
public import proofs.«01_k».proof.Proof.PaGradBlock
public import proofs.«01_k».proof.Proof.Gen.PaGradIdeal.Value
public import proofs.«01_k».proof.Proof.Gen.PaGradRefIdeal.Run
public import proofs.«01_k».proof.Proof.Gen.PaGradRefIdeal.Read

@[expose] public section

noncomputable section

namespace Cert.PaGradValue

section
open Idealize.ShloMosaic Idealize.ShloMosaic.TcCoe Idealize.SL.Sem Cert.PaGradIdeal Cert.PaGradIdeal.Gen Cert.TokenTiles
open Idealize.ShloMosaic.Pipeline (Dat Cfg Window)

variable (m : (ℓ : Loc nD τ sig) → Buf (Elt Ideal) ℓ) (c : Dev nD)

/-- The argument arrays as launched: the pooling branch and the projection's gradient. -/
abbrev a : FVec Ideal S4352x512 .bf16 := m ((c : Thread nD τ).loc main_arg0)
abbrev dpa : FVec Ideal S4352x1024 .bf16 := m ((c : Thread nD τ).loc main_arg1)

/-- Token `r` of grid point `t`'s tile. -/
abbrev tok (t : Fin cfg0.N) (r : Fin 2176) : Fin 4352 := ⟨t.val % 2 * 2176 + r.val, by omega⟩

theorem idx0 (t : Fin cfg0.N) : win0_0.index t (0 : Fin 2) = t.val % 2 ∧ win0_0.index t (1 : Fin 2) = t.val / 2 :=
  (by decide +kernel : ∀ t : Fin grid0.N, win0_0.index t (0 : Fin 2) = t.val % 2 ∧ win0_0.index t (1 : Fin 2) = t.val / 2) t
theorem idx1 (t : Fin cfg0.N) : win0_1.index t (0 : Fin 2) = t.val % 2 ∧ win0_1.index t (1 : Fin 2) = 0 :=
  (by decide +kernel : ∀ t : Fin grid0.N, win0_1.index t (0 : Fin 2) = t.val % 2 ∧ win0_1.index t (1 : Fin 2) = 0) t

/-- The block of the pooling branch grid point `t` takes. -/
theorem blk0 (t : Fin cfg0.N) (r : Fin 2176) (k : Fin 512) (i : Fin 512) (hi : i.val = t.val / 2 * 512 + k.val) :
    (iblk m c 0 t : Vec Ideal S2176x512 .bf16) (ix2 r k) = a m c (ix2 (tok t r) i) := by
  show V m c main_arg0 ((win0_0.rect t).emb (ix2 r k)) = _
  rw [V_main_arg0]
  refine congrArg (a m c) (Shape.idx_ext₂ ?_ ?_)
  · exact (win0_0.rect_emb_val t _ 0).trans (by rw [(idx0 t).1]; rfl)
  · exact (win0_0.rect_emb_val t _ 1).trans (by rw [(idx0 t).2]; exact hi.symm)

/-- The block of the projection's gradient grid point `t` takes. -/
theorem blk1 (t : Fin cfg0.N) (r : Fin 2176) (n : Fin 1024) :
    (iblk m c 1 t : Vec Ideal S2176x1024 .bf16) (ix2 r n) = dpa m c (ix2 (tok t r) n) := by
  show V m c main_arg1 ((win0_1.rect t).emb (ix2 r n)) = _
  rw [V_main_arg1]
  refine congrArg (dpa m c) (Shape.idx_ext₂ ?_ ?_)
  · exact (win0_1.rect_emb_val t _ 0).trans (by rw [(idx1 t).1]; rfl)
  · exact (win0_1.rect_emb_val t _ 1).trans (by rw [(idx1 t).2]; simp)

/-- What is left after an odd point: both tiles' products. -/
theorem outs_odd (q : ℕ) (hq : 2 * q + 1 < cfg0.N) (k : Fin 512) (n : Fin 1024) (i : Fin 512) (hi : i.val = q * 512 + k.val) :
    (outsAt0 (F := Ideal) m c (2 * q + 1) hq).1 (ix2 k n) = ∑ t : Fin 4352, a m c (ix2 t i) * dpa m c (ix2 t n) := by
  have e0 : (2 * q + 0) % 2 = 0 := by omega
  have e1 : (2 * q + 1) % 2 = 1 := by omega
  have hq' : 2 * q < cfg0.N := Nat.lt_of_succ_lt hq
  have hB := outsAt0_B (F := Ideal) m c ⟨2 * q + 1, hq⟩ (by dsimp only; omega) e1
  have hA := outsAt0_A (F := Ideal) m c ⟨2 * q, hq'⟩ e0 (by dsimp only; omega)
  dsimp only at hA hB
  rw [hB]
  dsimp only
  rw [out_B]
  simp only [Nat.add_sub_cancel]
  rw [hA]
  dsimp only
  rw [sout_A, sum_tiles]
  refine congrArg₂ (· + ·) (Finset.sum_congr rfl fun r _ => ?_) (Finset.sum_congr rfl fun r _ => ?_)
  · rw [blk0 m c _ r k i (by dsimp only; omega), blk1]
    have e : tok ⟨2 * q, hq'⟩ r = ⟨r.val, by omega⟩ := Fin.ext (by dsimp only; omega)
    rw [e]
  · rw [blk0 m c _ r k i (by dsimp only; omega), blk1]
    have e : tok ⟨2 * q + 1, hq⟩ r = ⟨2176 + r.val, by omega⟩ := Fin.ext (by dsimp only; omega)
    rw [e]

/-- The result array. -/
theorem arr2 (i : Fin 512) (n : Fin 1024) :
    (dats m 0 c).arrAt 2 cfg0.N (ix2 i n) = ∑ t : Fin 4352, a m c (ix2 t i) * dpa m c (ix2 t n) := by
  rw [Value.final2]
  have hN : cfg0.N = 2 := N_0
  have hp : Value.pt2Of (ix2 i n) < cfg0.N := by
    show 2 * (1 * (i.val / 512 - 0) + 1 * (n.val / 1024 - 0)) + 1 < cfg0.N
    omega
  have hq : 2 * (i.val / 512) + 1 < cfg0.N := by omega
  have hpt : Value.pt2Of (ix2 i n) = 2 * (i.val / 512) + 1 := by
    show 2 * (1 * (i.val / 512 - 0) + 1 * (n.val / 1024 - 0)) + 1 = _
    omega
  have hloc : Value.loc2Of (ix2 i n) = ix2 (⟨i.val % 512, by omega⟩ : Fin 512) (⟨n.val % 1024, by omega⟩ : Fin 1024) :=
    Shape.idx_ext₂ rfl rfl
  have h := outs_odd m c (i.val / 512) hq ⟨i.val % 512, by omega⟩ ⟨n.val % 1024, by omega⟩ i (by dsimp only; omega)
  have en : (⟨n.val % 1024, by omega⟩ : Fin 1024) = n := Fin.ext (by dsimp only; omega)
  rw [Value.outsAt0_sweep, en] at h
  refine (dif_pos hp).trans ?_
  rw [hloc, en, ← h]
  exact congrArg (fun v : Vec Ideal S512x1024 .bf16 × Vec Ideal S512x1024 .f32 => v.1 (ix2 _ n))
    (Value.fold0_congr m c _ _ _ _ hpt)
end

open Idealize.ShloMosaic Idealize.ShloMosaic.TcCoe Idealize.SL.Sem Cert.PaGradRefIdeal.Read

/-- The reference's entry. -/
theorem ref_apply (x0 : FVec Ideal ⟨2, ![4352, 512]⟩ .bf16) (x1 : FVec Ideal ⟨2, ![4352, 1024]⟩ .bf16) (i : Fin 512) (n : Fin 1024) :
    val_main_v6 (F := Ideal) x0 x1 (ix2 i n) = ∑ t : Fin 4352, x0 (ix2 t i) * x1 (ix2 t n) := by
  unfold val_main_v6 val_main_v5 val_main_v4 val_main_v1 val_main_v0
  pointwise
  exact Finset.sum_congr rfl fun _ _ => mul_comm _ _

theorem algebraic : Cert.algebraic_PaGradIdeal_PaGradRefIdeal (hPaGradIdeal := Cert.PaGradIdeal.Gen.facts)
    (hPaGradRefIdeal := Cert.PaGradRefIdeal.Gen.facts) := by
  intro m g m' g' _ hargs
  refine ⟨_, Cert.PaGradIdeal.Value.run_blocks (F := Ideal) m g, ?_⟩
  refine (θ_run (Cert.PaGradRefIdeal.defs (F := Ideal)) _ _).mono (fun r h c => ?_) (Cert.PaGradRefIdeal.Value.run (F := Ideal) m' g')
  obtain ⟨h0, hk⟩ := h c
  obtain ⟨e0, e1⟩ := hargs c
  rw [e0, e1] at h0
  refine ⟨h0.trans ((val_main_v6_eq (F := Ideal) _ _).symm.trans ?_), hk⟩
  exact funext fun i => by
    rw [eq_ix2 i]
    exact (ref_apply _ _ _ _).trans (arr2 m c _ _).symm

end Cert.PaGradValue

end
-- ==== Proof.PbGradBlock.lean ====
/-
  What one grid point of the attention branch's projection's gradient kernel computes: the first of two token tiles leaves its product in the
  running sum, the second adds its own and writes the sum out.
-/
module

public import proofs.«01_k».proof.Proof.Gen.PbGradIdeal.Frame
public import proofs.«01_k».proof.Proof.TokenTiles
public import Idealize.ShloMosaic.Lib.Pipeline.Value

@[expose] public section

noncomputable section

namespace Cert.PbGradValue

open Idealize.ShloMosaic Idealize.ShloMosaic.TcCoe Idealize.SL.Sem Cert.PbGradIdeal Cert.PbGradIdeal.Gen Cert.TokenTiles

section
variable (c : Dev nD) (i : grid0.Coords) (a3 : Memref sig .tc .vmem S2176x2048 .bf16) (h3 : a3.IsWhole)
  (a4 : Memref sig .tc .vmem S2176x1024 .bf16) (h4 : a4.IsWhole) (a5 : Memref sig .tc .vmem S2048x1024 .bf16) (h5 : a5.IsWhole)
  (a6 : Memref sig .tc .vmem S2048x1024 .f32) (h6 : a6.IsWhole)
  (x : Vec Ideal S2176x2048 .bf16) (y : Vec Ideal S2176x1024 .bf16) (s : Vec Ideal S2048x1024 .f32)

/-- The first token tile: its product is what the running sum holds. -/
theorem sout_A (hc0 : cond0_0 i) (hc1 : ¬cond0_1 i) (k : Fin 2048) (n : Fin 1024) :
    sout0_A_0 (F := Ideal) c i a3 h3 a4 h4 a5 h5 a6 h6 hc0 hc1 x y (ix2 k n) = ∑ r : Fin 2176, x (ix2 r k) * y (ix2 r n) := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S2048x1024) hz, View.readCov_unit_zero (S := S2048x1024) _ hz]
  simp only [View.readAt_eq_ld, h3.read_unread, h4.read_unread]
  unfold_payloads
  pointwise

/-- The second token tile: the running sum so far plus its product is what is written out. -/
theorem out_B (hc0 : ¬cond0_0 i) (hc1 : cond0_1 i) (k : Fin 2048) (n : Fin 1024) :
    out0_B_2 (F := Ideal) c i a3 h3 a4 h4 a5 h5 a6 h6 hc0 hc1 x y s (ix2 k n)
      = s (ix2 k n) + ∑ r : Fin 2176, x (ix2 r k) * y (ix2 r n) := by
  unfold out0_B_2
  rw [View.read_writes_eq_canon _ _ _ (cover0_B_2 c i a3 h3 a4 h4 a5 h5 a6 h6 hc0 hc1 x y s)]
  unfold kernelRun0_B
  dsimp only
  sl_unfold_words
  rw [View.canon_unit_zero (S := S2048x1024) hz, View.readCov_unit_zero (S := S2048x1024) _ hz]
  simp only [View.readAt_eq_ld, h3.read_unread, h4.read_unread, h6.read_unread]
  unfold_payloads
  pointwise
end

end Cert.PbGradValue

end
-- ==== Proof.PbGrad.lean ====
/-
  What the attention branch's projection's gradient kernel leaves: entry (i, n) is the sum over all 4352 tokens.  Its reference leaves the same.
-/
module

public import proofs.«01_k».proof.Defs
public import proofs.«01_k».proof.Proof.PbGradBlock
public import proofs.«01_k».proof.Proof.Gen.PbGradIdeal.Value
public import proofs.«01_k».proof.Proof.Gen.PbGradRefIdeal.Run
public import proofs.«01_k».proof.Proof.Gen.PbGradRefIdeal.Read

@[expose] public section

noncomputable section

namespace Cert.PbGradValue

section
open Idealize.ShloMosaic Idealize.ShloMosaic.TcCoe Idealize.SL.Sem Cert.PbGradIdeal Cert.PbGradIdeal.Gen Cert.TokenTiles
open Idealize.ShloMosaic.Pipeline (Dat Cfg Window)

variable (m : (ℓ : Loc nD τ sig) → Buf (Elt Ideal) ℓ) (c : Dev nD)

/-- The argument arrays as launched: the attention branch and the projection's gradient. -/
abbrev o : FVec Ideal S4352x2048 .bf16 := m ((c : Thread nD τ).loc main_arg0)
abbrev dpb : FVec Ideal S4352x1024 .bf16 := m ((c : Thread nD τ).loc main_arg1)

/-- Token `r` of grid point `t`'s tile. -/
abbrev tok (t : Fin cfg0.N) (r : Fin 2176) : Fin 4352 := ⟨t.val % 2 * 2176 + r.val, by omega⟩

theorem idx0 (t : Fin cfg0.N) : win0_0.index t (0 : Fin 2) = t.val % 2 ∧ win0_0.index t (1 : Fin 2) = t.val / 2 :=
  (by decide +kernel : ∀ t : Fin grid0.N, win0_0.index t (0 : Fin 2) = t.val % 2 ∧ win0_0.index t (1 : Fin 2) = t.val / 2) t
theorem idx1 (t : Fin cfg0.N) : win0_1.index t (0 : Fin 2) = t.val % 2 ∧ win0_1.index t (1 : Fin 2) = 0 :=
  (by decide +kernel : ∀ t : Fin grid0.N, win0_1.index t (0 : Fin 2) = t.val % 2 ∧ win0_1.index t (1 : Fin 2) = 0) t

/-- The block of the attention branch grid point `t` takes. -/
theorem blk0 (t : Fin cfg0.N) (r : Fin 2176) (k : Fin 2048) (i : Fin 2048) (hi : i.val = t.val / 2 * 2048 + k.val) :
    (iblk m c 0 t : Vec Ideal S2176x2048 .bf16) (ix2 r k) = o m c (ix2 (tok t r) i) := by
  show V m c main_arg0 ((win0_0.rect t).emb (ix2 r k)) = _
  rw [V_main_arg0]
  refine congrArg (o m c) (Shape.idx_ext₂ ?_ ?_)
  · exact (win0_0.rect_emb_val t _ 0).trans (by rw [(idx0 t).1]; rfl)
  · exact (win0_0.rect_emb_val t _ 1).trans (by rw [(idx0 t).2]; exact hi.symm)

/-- The block of the projection's gradient grid point `t` takes. -/
theorem blk1 (t : Fin cfg0.N) (r : Fin 2176) (n : Fin 1024) :
    (iblk m c 1 t : Vec Ideal S2176x1024 .bf16) (ix2 r n) = dpb m c (ix2 (tok t r) n) := by
  show V m c main_arg1 ((win0_1.rect t).emb (ix2 r n)) = _
  rw [V_main_arg1]
  refine congrArg (dpb m c) (Shape.idx_ext₂ ?_ ?_)
  · exact (win0_1.rect_emb_val t _ 0).trans (by rw [(idx1 t).1]; rfl)
  · exact (win0_1.rect_emb_val t _ 1).trans (by rw [(idx1 t).2]; simp)

/-- What is left after an odd point: both tiles' products. -/
theorem outs_odd (q : ℕ) (hq : 2 * q + 1 < cfg0.N) (k : Fin 2048) (n : Fin 1024) (i : Fin 2048) (hi : i.val = q * 2048 + k.val) :
    (outsAt0 (F := Ideal) m c (2 * q + 1) hq).1 (ix2 k n) = ∑ t : Fin 4352, o m c (ix2 t i) * dpb m c (ix2 t n) := by
  have e0 : (2 * q + 0) % 2 = 0 := by omega
  have e1 : (2 * q + 1) % 2 = 1 := by omega
  have hq' : 2 * q < cfg0.N := Nat.lt_of_succ_lt hq
  have hB := outsAt0_B (F := Ideal) m c ⟨2 * q + 1, hq⟩ (by dsimp only; omega) e1
  have hA := outsAt0_A (F := Ideal) m c ⟨2 * q, hq'⟩ e0 (by dsimp only; omega)
  dsimp only at hA hB
  rw [hB]
  dsimp only
  rw [out_B]
  simp only [Nat.add_sub_cancel]
  rw [hA]
  dsimp only
  rw [sout_A, sum_tiles]
  refine congrArg₂ (· + ·) (Finset.sum_congr rfl fun r _ => ?_) (Finset.sum_congr rfl fun r _ => ?_)
  · rw [blk0 m c _ r k i (by dsimp only; omega), blk1]
    have e : tok ⟨2 * q, hq'⟩ r = ⟨r.val, by omega⟩ := Fin.ext (by dsimp only; omega)
    rw [e]
  · rw [blk0 m c _ r k i (by dsimp only; omega), blk1]
    have e : tok ⟨2 * q + 1, hq⟩ r = ⟨2176 + r.val, by omega⟩ := Fin.ext (by dsimp only; omega)
    rw [e]

/-- The result array. -/
theorem arr2 (i : Fin 2048) (n : Fin 1024) :
    (dats m 0 c).arrAt 2 cfg0.N (ix2 i n) = ∑ t : Fin 4352, o m c (ix2 t i) * dpb m c (ix2 t n) := by
  rw [Value.final2]
  have hN : cfg0.N = 2 := N_0
  have hp : Value.pt2Of (ix2 i n) < cfg0.N := by
    show 2 * (1 * (i.val / 2048 - 0) + 1 * (n.val / 1024 - 0)) + 1 < cfg0.N
    omega
  have hq : 2 * (i.val / 2048) + 1 < cfg0.N := by omega
  have hpt : Value.pt2Of (ix2 i n) = 2 * (i.val / 2048) + 1 := by
    show 2 * (1 * (i.val / 2048 - 0) + 1 * (n.val / 1024 - 0)) + 1 = _
    omega
  have hloc : Value.loc2Of (ix2 i n) = ix2 (⟨i.val % 2048, by omega⟩ : Fin 2048) (⟨n.val % 1024, by omega⟩ : Fin 1024) :=
    Shape.idx_ext₂ rfl rfl
  have h := outs_odd m c (i.val / 2048) hq ⟨i.val % 2048, by omega⟩ ⟨n.val % 1024, by omega⟩ i (by dsimp only; omega)
  have en : (⟨n.val % 1024, by omega⟩ : Fin 1024) = n := Fin.ext (by dsimp only; omega)
  rw [Value.outsAt0_sweep, en] at h
  refine (dif_pos hp).trans ?_
  rw [hloc, en, ← h]
  exact congrArg (fun v : Vec Ideal S2048x1024 .bf16 × Vec Ideal S2048x1024 .f32 => v.1 (ix2 _ n))
    (Value.fold0_congr m c _ _ _ _ hpt)
end

open Idealize.ShloMosaic Idealize.ShloMosaic.TcCoe Idealize.SL.Sem Cert.PbGradRefIdeal.Read

/-- The reference's entry. -/
theorem ref_apply (x0 : FVec Ideal ⟨2, ![4352, 2048]⟩ .bf16) (x1 : FVec Ideal ⟨2, ![4352, 1024]⟩ .bf16) (i : Fin 2048) (n : Fin 1024) :
    val_main_v6 (F := Ideal) x0 x1 (ix2 i n) = ∑ t : Fin 4352, x0 (ix2 t i) * x1 (ix2 t n) := by
  unfold val_main_v6 val_main_v5 val_main_v4 val_main_v1 val_main_v0
  pointwise
  exact Finset.sum_congr rfl fun _ _ => mul_comm _ _

theorem algebraic : Cert.algebraic_PbGradIdeal_PbGradRefIdeal (hPbGradIdeal := Cert.PbGradIdeal.Gen.facts)
    (hPbGradRefIdeal := Cert.PbGradRefIdeal.Gen.facts) := by
  intro m g m' g' _ hargs
  refine ⟨_, Cert.PbGradIdeal.Value.run_blocks (F := Ideal) m g, ?_⟩
  refine (θ_run (Cert.PbGradRefIdeal.defs (F := Ideal)) _ _).mono (fun r h c => ?_) (Cert.PbGradRefIdeal.Value.run (F := Ideal) m' g')
  obtain ⟨h0, hk⟩ := h c
  obtain ⟨e0, e1⟩ := hargs c
  rw [e0, e1] at h0
  refine ⟨h0.trans ((val_main_v6_eq (F := Ideal) _ _).symm.trans ?_), hk⟩
  exact funext fun i => by
    rw [eq_ix2 i]
    exact (ref_apply _ _ _ _).trans (arr2 m c _ _).symm

end Cert.PbGradValue

end
-- ==== Proof.UqGradBlock.lean ====
/-
  What one grid point of the query up-projection's gradient kernel computes: the first of two token tiles leaves its product in the
  running sum, the second adds its own and writes the sum out.
-/
module

public import proofs.«01_k».proof.Proof.Gen.UqGradIdeal.Frame
public import proofs.«01_k».proof.Proof.TokenTiles
public import Idealize.ShloMosaic.Lib.Pipeline.Value

@[expose] public section

noncomputable section

namespace Cert.UqGradValue

open Idealize.ShloMosaic Idealize.ShloMosaic.TcCoe Idealize.SL.Sem Cert.UqGradIdeal Cert.UqGradIdeal.Gen Cert.TokenTiles

section
variable (c : Dev nD) (i : grid0.Coords) (a3 : Memref sig .tc .vmem S2176x256 .bf16) (h3 : a3.IsWhole)
  (a4 : Memref sig .tc .vmem S2176x2048 .bf16) (h4 : a4.IsWhole) (a5 : Memref sig .tc .vmem S256x2048 .bf16) (h5 : a5.IsWhole)
  (a6 : Memref sig .tc .vmem S256x2048 .f32) (h6 : a6.IsWhole)
  (x : Vec Ideal S2176x256 .bf16) (y : Vec Ideal S2176x2048 .bf16) (s : Vec Ideal S256x2048 .f32)

/-- The first token tile: its product is what the running sum holds. -/
theorem sout_A (hc0 : cond0_0 i) (hc1 : ¬cond0_1 i) (k : Fin 256) (n : Fin 2048) :
    sout0_A_0 (F := Ideal) c i a3 h3 a4 h4 a5 h5 a6 h6 hc0 hc1 x y (ix2 k n) = ∑ r : Fin 2176, x (ix2 r k) * y (ix2 r n) := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S256x2048) hz, View.readCov_unit_zero (S := S256x2048) _ hz]
  simp only [View.readAt_eq_ld, h3.read_unread, h4.read_unread]
  unfold_payloads
  pointwise

/-- The second token tile: the running sum so far plus its product is what is written out. -/
theorem out_B (hc0 : ¬cond0_0 i) (hc1 : cond0_1 i) (k : Fin 256) (n : Fin 2048) :
    out0_B_2 (F := Ideal) c i a3 h3 a4 h4 a5 h5 a6 h6 hc0 hc1 x y s (ix2 k n)
      = s (ix2 k n) + ∑ r : Fin 2176, x (ix2 r k) * y (ix2 r n) := by
  unfold out0_B_2
  rw [View.read_writes_eq_canon _ _ _ (cover0_B_2 c i a3 h3 a4 h4 a5 h5 a6 h6 hc0 hc1 x y s)]
  unfold kernelRun0_B
  dsimp only
  sl_unfold_words
  rw [View.canon_unit_zero (S := S256x2048) hz, View.readCov_unit_zero (S := S256x2048) _ hz]
  simp only [View.readAt_eq_ld, h3.read_unread, h4.read_unread, h6.read_unread]
  unfold_payloads
  pointwise
end

end Cert.UqGradValue

end
-- ==== Proof.UqGrad.lean ====
/-
  What the query up-projection's gradient kernel leaves: entry (i, n) is the sum over all 4352 tokens.  Its reference leaves the same.
-/
module

public import proofs.«01_k».proof.Defs
public import proofs.«01_k».proof.Proof.UqGradBlock
public import proofs.«01_k».proof.Proof.Gen.UqGradIdeal.Value
public import proofs.«01_k».proof.Proof.Gen.UqGradRefIdeal.Run
public import proofs.«01_k».proof.Proof.Gen.UqGradRefIdeal.Read

@[expose] public section

noncomputable section

namespace Cert.UqGradValue

section
open Idealize.ShloMosaic Idealize.ShloMosaic.TcCoe Idealize.SL.Sem Cert.UqGradIdeal Cert.UqGradIdeal.Gen Cert.TokenTiles
open Idealize.ShloMosaic.Pipeline (Dat Cfg Window)

variable (m : (ℓ : Loc nD τ sig) → Buf (Elt Ideal) ℓ) (c : Dev nD)

/-- The argument arrays as launched: the normed latent and the queries' gradient. -/
abbrev cqn : FVec Ideal S4352x256 .bf16 := m ((c : Thread nD τ).loc main_arg0)
abbrev dq : FVec Ideal S4352x2048 .bf16 := m ((c : Thread nD τ).loc main_arg1)

/-- Token `r` of grid point `t`'s tile. -/
abbrev tok (t : Fin cfg0.N) (r : Fin 2176) : Fin 4352 := ⟨t.val % 2 * 2176 + r.val, by omega⟩

theorem idx0 (t : Fin cfg0.N) : win0_0.index t (0 : Fin 2) = t.val % 2 ∧ win0_0.index t (1 : Fin 2) = t.val / 2 :=
  (by decide +kernel : ∀ t : Fin grid0.N, win0_0.index t (0 : Fin 2) = t.val % 2 ∧ win0_0.index t (1 : Fin 2) = t.val / 2) t
theorem idx1 (t : Fin cfg0.N) : win0_1.index t (0 : Fin 2) = t.val % 2 ∧ win0_1.index t (1 : Fin 2) = 0 :=
  (by decide +kernel : ∀ t : Fin grid0.N, win0_1.index t (0 : Fin 2) = t.val % 2 ∧ win0_1.index t (1 : Fin 2) = 0) t

/-- The block of the normed latent grid point `t` takes. -/
theorem blk0 (t : Fin cfg0.N) (r : Fin 2176) (k : Fin 256) (i : Fin 256) (hi : i.val = t.val / 2 * 256 + k.val) :
    (iblk m c 0 t : Vec Ideal S2176x256 .bf16) (ix2 r k) = cqn m c (ix2 (tok t r) i) := by
  show V m c main_arg0 ((win0_0.rect t).emb (ix2 r k)) = _
  rw [V_main_arg0]
  refine congrArg (cqn m c) (Shape.idx_ext₂ ?_ ?_)
  · exact (win0_0.rect_emb_val t _ 0).trans (by rw [(idx0 t).1]; rfl)
  · exact (win0_0.rect_emb_val t _ 1).trans (by rw [(idx0 t).2]; exact hi.symm)

/-- The block of the queries' gradient grid point `t` takes. -/
theorem blk1 (t : Fin cfg0.N) (r : Fin 2176) (n : Fin 2048) :
    (iblk m c 1 t : Vec Ideal S2176x2048 .bf16) (ix2 r n) = dq m c (ix2 (tok t r) n) := by
  show V m c main_arg1 ((win0_1.rect t).emb (ix2 r n)) = _
  rw [V_main_arg1]
  refine congrArg (dq m c) (Shape.idx_ext₂ ?_ ?_)
  · exact (win0_1.rect_emb_val t _ 0).trans (by rw [(idx1 t).1]; rfl)
  · exact (win0_1.rect_emb_val t _ 1).trans (by rw [(idx1 t).2]; simp)

/-- What is left after an odd point: both tiles' products. -/
theorem outs_odd (q : ℕ) (hq : 2 * q + 1 < cfg0.N) (k : Fin 256) (n : Fin 2048) (i : Fin 256) (hi : i.val = q * 256 + k.val) :
    (outsAt0 (F := Ideal) m c (2 * q + 1) hq).1 (ix2 k n) = ∑ t : Fin 4352, cqn m c (ix2 t i) * dq m c (ix2 t n) := by
  have e0 : (2 * q + 0) % 2 = 0 := by omega
  have e1 : (2 * q + 1) % 2 = 1 := by omega
  have hq' : 2 * q < cfg0.N := Nat.lt_of_succ_lt hq
  have hB := outsAt0_B (F := Ideal) m c ⟨2 * q + 1, hq⟩ (by dsimp only; omega) e1
  have hA := outsAt0_A (F := Ideal) m c ⟨2 * q, hq'⟩ e0 (by dsimp only; omega)
  dsimp only at hA hB
  rw [hB]
  dsimp only
  rw [out_B]
  simp only [Nat.add_sub_cancel]
  rw [hA]
  dsimp only
  rw [sout_A, sum_tiles]
  refine congrArg₂ (· + ·) (Finset.sum_congr rfl fun r _ => ?_) (Finset.sum_congr rfl fun r _ => ?_)
  · rw [blk0 m c _ r k i (by dsimp only; omega), blk1]
    have e : tok ⟨2 * q, hq'⟩ r = ⟨r.val, by omega⟩ := Fin.ext (by dsimp only; omega)
    rw [e]
  · rw [blk0 m c _ r k i (by dsimp only; omega), blk1]
    have e : tok ⟨2 * q + 1, hq⟩ r = ⟨2176 + r.val, by omega⟩ := Fin.ext (by dsimp only; omega)
    rw [e]

/-- The result array. -/
theorem arr2 (i : Fin 256) (n : Fin 2048) :
    (dats m 0 c).arrAt 2 cfg0.N (ix2 i n) = ∑ t : Fin 4352, cqn m c (ix2 t i) * dq m c (ix2 t n) := by
  rw [Value.final2]
  have hN : cfg0.N = 2 := N_0
  have hp : Value.pt2Of (ix2 i n) < cfg0.N := by
    show 2 * (1 * (i.val / 256 - 0) + 1 * (n.val / 2048 - 0)) + 1 < cfg0.N
    omega
  have hq : 2 * (i.val / 256) + 1 < cfg0.N := by omega
  have hpt : Value.pt2Of (ix2 i n) = 2 * (i.val / 256) + 1 := by
    show 2 * (1 * (i.val / 256 - 0) + 1 * (n.val / 2048 - 0)) + 1 = _
    omega
  have hloc : Value.loc2Of (ix2 i n) = ix2 (⟨i.val % 256, by omega⟩ : Fin 256) (⟨n.val % 2048, by omega⟩ : Fin 2048) :=
    Shape.idx_ext₂ rfl rfl
  have h := outs_odd m c (i.val / 256) hq ⟨i.val % 256, by omega⟩ ⟨n.val % 2048, by omega⟩ i (by dsimp only; omega)
  have en : (⟨n.val % 2048, by omega⟩ : Fin 2048) = n := Fin.ext (by dsimp only; omega)
  rw [Value.outsAt0_sweep, en] at h
  refine (dif_pos hp).trans ?_
  rw [hloc, en, ← h]
  exact congrArg (fun v : Vec Ideal S256x2048 .bf16 × Vec Ideal S256x2048 .f32 => v.1 (ix2 _ n))
    (Value.fold0_congr m c _ _ _ _ hpt)
end

open Idealize.ShloMosaic Idealize.ShloMosaic.TcCoe Idealize.SL.Sem Cert.UqGradRefIdeal.Read

/-- The reference's entry. -/
theorem ref_apply (x0 : FVec Ideal ⟨2, ![4352, 256]⟩ .bf16) (x1 : FVec Ideal ⟨2, ![4352, 2048]⟩ .bf16) (i : Fin 256) (n : Fin 2048) :
    val_main_v6 (F := Ideal) x0 x1 (ix2 i n) = ∑ t : Fin 4352, x0 (ix2 t i) * x1 (ix2 t n) := by
  unfold val_main_v6 val_main_v5 val_main_v4 val_main_v1 val_main_v0
  pointwise
  exact Finset.sum_congr rfl fun _ _ => mul_comm _ _

theorem algebraic : Cert.algebraic_UqGradIdeal_UqGradRefIdeal (hUqGradIdeal := Cert.UqGradIdeal.Gen.facts)
    (hUqGradRefIdeal := Cert.UqGradRefIdeal.Gen.facts) := by
  intro m g m' g' _ hargs
  refine ⟨_, Cert.UqGradIdeal.Value.run_blocks (F := Ideal) m g, ?_⟩
  refine (θ_run (Cert.UqGradRefIdeal.defs (F := Ideal)) _ _).mono (fun r h c => ?_) (Cert.UqGradRefIdeal.Value.run (F := Ideal) m' g')
  obtain ⟨h0, hk⟩ := h c
  obtain ⟨e0, e1⟩ := hargs c
  rw [e0, e1] at h0
  refine ⟨h0.trans ((val_main_v6_eq (F := Ideal) _ _).symm.trans ?_), hk⟩
  exact funext fun i => by
    rw [eq_ix2 i]
    exact (ref_apply _ _ _ _).trans (arr2 m c _ _).symm

end Cert.UqGradValue

end
-- ==== Proof.KvGradBlock.lean ====
/-
  What one grid point of the key and value up-projection's gradient kernel computes: the first of two token tiles leaves its product in the
  running sum, the second adds its own and writes the sum out.
-/
module

public import proofs.«01_k».proof.Proof.Gen.KvGradIdeal.Frame
public import proofs.«01_k».proof.Proof.TokenTiles
public import Idealize.ShloMosaic.Lib.Pipeline.Value

@[expose] public section

noncomputable section

namespace Cert.KvGradValue

open Idealize.ShloMosaic Idealize.ShloMosaic.TcCoe Idealize.SL.Sem Cert.KvGradIdeal Cert.KvGradIdeal.Gen Cert.TokenTiles

section
variable (c : Dev nD) (i : grid0.Coords) (a3 : Memref sig .tc .vmem S2176x128 .bf16) (h3 : a3.IsWhole)
  (a4 : Memref sig .tc .vmem S2176x4096 .bf16) (h4 : a4.IsWhole) (a5 : Memref sig .tc .vmem S128x4096 .bf16) (h5 : a5.IsWhole)
  (a6 : Memref sig .tc .vmem S128x4096 .f32) (h6 : a6.IsWhole)
  (x : Vec Ideal S2176x128 .bf16) (y : Vec Ideal S2176x4096 .bf16) (s : Vec Ideal S128x4096 .f32)

/-- The first token tile: its product is what the running sum holds. -/
theorem sout_A (hc0 : cond0_0 i) (hc1 : ¬cond0_1 i) (k : Fin 128) (n : Fin 4096) :
    sout0_A_0 (F := Ideal) c i a3 h3 a4 h4 a5 h5 a6 h6 hc0 hc1 x y (ix2 k n) = ∑ r : Fin 2176, x (ix2 r k) * y (ix2 r n) := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S128x4096) hz, View.readCov_unit_zero (S := S128x4096) _ hz]
  simp only [View.readAt_eq_ld, h3.read_unread, h4.read_unread]
  unfold_payloads
  pointwise

/-- The second token tile: the running sum so far plus its product is what is written out. -/
theorem out_B (hc0 : ¬cond0_0 i) (hc1 : cond0_1 i) (k : Fin 128) (n : Fin 4096) :
    out0_B_2 (F := Ideal) c i a3 h3 a4 h4 a5 h5 a6 h6 hc0 hc1 x y s (ix2 k n)
      = s (ix2 k n) + ∑ r : Fin 2176, x (ix2 r k) * y (ix2 r n) := by
  unfold out0_B_2
  rw [View.read_writes_eq_canon _ _ _ (cover0_B_2 c i a3 h3 a4 h4 a5 h5 a6 h6 hc0 hc1 x y s)]
  unfold kernelRun0_B
  dsimp only
  sl_unfold_words
  rw [View.canon_unit_zero (S := S128x4096) hz, View.readCov_unit_zero (S := S128x4096) _ hz]
  simp only [View.readAt_eq_ld, h3.read_unread, h4.read_unread, h6.read_unread]
  unfold_payloads
  pointwise
end

end Cert.KvGradValue

end
-- ==== Proof.KvGrad.lean ====
/-
  What the key and value up-projection's gradient kernel leaves: entry (i, n) is the sum over all 4352 tokens.  Its reference leaves the same.
-/
module

public import proofs.«01_k».proof.Defs
public import proofs.«01_k».proof.Proof.KvGradBlock
public import proofs.«01_k».proof.Proof.Gen.KvGradIdeal.Value
public import proofs.«01_k».proof.Proof.Gen.KvGradRefIdeal.Run
public import proofs.«01_k».proof.Proof.Gen.KvGradRefIdeal.Read

@[expose] public section

noncomputable section

namespace Cert.KvGradValue

section
open Idealize.ShloMosaic Idealize.ShloMosaic.TcCoe Idealize.SL.Sem Cert.KvGradIdeal Cert.KvGradIdeal.Gen Cert.TokenTiles
open Idealize.ShloMosaic.Pipeline (Dat Cfg Window)

variable (m : (ℓ : Loc nD τ sig) → Buf (Elt Ideal) ℓ) (c : Dev nD)

/-- The argument arrays as launched: the normed latent and the keys' and values' gradient. -/
abbrev ckvn : FVec Ideal S4352x128 .bf16 := m ((c : Thread nD τ).loc main_arg0)
abbrev dkv : FVec Ideal S4352x4096 .bf16 := m ((c : Thread nD τ).loc main_arg1)

/-- Token `r` of grid point `t`'s tile. -/
abbrev tok (t : Fin cfg0.N) (r : Fin 2176) : Fin 4352 := ⟨t.val % 2 * 2176 + r.val, by omega⟩

theorem idx0 (t : Fin cfg0.N) : win0_0.index t (0 : Fin 2) = t.val % 2 ∧ win0_0.index t (1 : Fin 2) = t.val / 2 :=
  (by decide +kernel : ∀ t : Fin grid0.N, win0_0.index t (0 : Fin 2) = t.val % 2 ∧ win0_0.index t (1 : Fin 2) = t.val / 2) t
theorem idx1 (t : Fin cfg0.N) : win0_1.index t (0 : Fin 2) = t.val % 2 ∧ win0_1.index t (1 : Fin 2) = 0 :=
  (by decide +kernel : ∀ t : Fin grid0.N, win0_1.index t (0 : Fin 2) = t.val % 2 ∧ win0_1.index t (1 : Fin 2) = 0) t

/-- The block of the normed latent grid point `t` takes. -/
theorem blk0 (t : Fin cfg0.N) (r : Fin 2176) (k : Fin 128) (i : Fin 128) (hi : i.val = t.val / 2 * 128 + k.val) :
    (iblk m c 0 t : Vec Ideal S2176x128 .bf16) (ix2 r k) = ckvn m c (ix2 (tok t r) i) := by
  show V m c main_arg0 ((win0_0.rect t).emb (ix2 r k)) = _
  rw [V_main_arg0]
  refine congrArg (ckvn m c) (Shape.idx_ext₂ ?_ ?_)
  · exact (win0_0.rect_emb_val t _ 0).trans (by rw [(idx0 t).1]; rfl)
  · exact (win0_0.rect_emb_val t _ 1).trans (by rw [(idx0 t).2]; exact hi.symm)

/-- The block of the keys' and values' gradient grid point `t` takes. -/
theorem blk1 (t : Fin cfg0.N) (r : Fin 2176) (n : Fin 4096) :
    (iblk m c 1 t : Vec Ideal S2176x4096 .bf16) (ix2 r n) = dkv m c (ix2 (tok t r) n) := by
  show V m c main_arg1 ((win0_1.rect t).emb (ix2 r n)) = _
  rw [V_main_arg1]
  refine congrArg (dkv m c) (Shape.idx_ext₂ ?_ ?_)
  · exact (win0_1.rect_emb_val t _ 0).trans (by rw [(idx1 t).1]; rfl)
  · exact (win0_1.rect_emb_val t _ 1).trans (by rw [(idx1 t).2]; simp)

/-- What is left after an odd point: both tiles' products. -/
theorem outs_odd (q : ℕ) (hq : 2 * q + 1 < cfg0.N) (k : Fin 128) (n : Fin 4096) (i : Fin 128) (hi : i.val = q * 128 + k.val) :
    (outsAt0 (F := Ideal) m c (2 * q + 1) hq).1 (ix2 k n) = ∑ t : Fin 4352, ckvn m c (ix2 t i) * dkv m c (ix2 t n) := by
  have e0 : (2 * q + 0) % 2 = 0 := by omega
  have e1 : (2 * q + 1) % 2 = 1 := by omega
  have hq' : 2 * q < cfg0.N := Nat.lt_of_succ_lt hq
  have hB := outsAt0_B (F := Ideal) m c ⟨2 * q + 1, hq⟩ (by dsimp only; omega) e1
  have hA := outsAt0_A (F := Ideal) m c ⟨2 * q, hq'⟩ e0 (by dsimp only; omega)
  dsimp only at hA hB
  rw [hB]
  dsimp only
  rw [out_B]
  simp only [Nat.add_sub_cancel]
  rw [hA]
  dsimp only
  rw [sout_A, sum_tiles]
  refine congrArg₂ (· + ·) (Finset.sum_congr rfl fun r _ => ?_) (Finset.sum_congr rfl fun r _ => ?_)
  · rw [blk0 m c _ r k i (by dsimp only; omega), blk1]
    have e : tok ⟨2 * q, hq'⟩ r = ⟨r.val, by omega⟩ := Fin.ext (by dsimp only; omega)
    rw [e]
  · rw [blk0 m c _ r k i (by dsimp only; omega), blk1]
    have e : tok ⟨2 * q + 1, hq⟩ r = ⟨2176 + r.val, by omega⟩ := Fin.ext (by dsimp only; omega)
    rw [e]

/-- The result array. -/
theorem arr2 (i : Fin 128) (n : Fin 4096) :
    (dats m 0 c).arrAt 2 cfg0.N (ix2 i n) = ∑ t : Fin 4352, ckvn m c (ix2 t i) * dkv m c (ix2 t n) := by
  rw [Value.final2]
  have hN : cfg0.N = 2 := N_0
  have hp : Value.pt2Of (ix2 i n) < cfg0.N := by
    show 2 * (1 * (i.val / 128 - 0) + 1 * (n.val / 4096 - 0)) + 1 < cfg0.N
    omega
  have hq : 2 * (i.val / 128) + 1 < cfg0.N := by omega
  have hpt : Value.pt2Of (ix2 i n) = 2 * (i.val / 128) + 1 := by
    show 2 * (1 * (i.val / 128 - 0) + 1 * (n.val / 4096 - 0)) + 1 = _
    omega
  have hloc : Value.loc2Of (ix2 i n) = ix2 (⟨i.val % 128, by omega⟩ : Fin 128) (⟨n.val % 4096, by omega⟩ : Fin 4096) :=
    Shape.idx_ext₂ rfl rfl
  have h := outs_odd m c (i.val / 128) hq ⟨i.val % 128, by omega⟩ ⟨n.val % 4096, by omega⟩ i (by dsimp only; omega)
  have en : (⟨n.val % 4096, by omega⟩ : Fin 4096) = n := Fin.ext (by dsimp only; omega)
  rw [Value.outsAt0_sweep, en] at h
  refine (dif_pos hp).trans ?_
  rw [hloc, en, ← h]
  exact congrArg (fun v : Vec Ideal S128x4096 .bf16 × Vec Ideal S128x4096 .f32 => v.1 (ix2 _ n))
    (Value.fold0_congr m c _ _ _ _ hpt)
end

open Idealize.ShloMosaic Idealize.ShloMosaic.TcCoe Idealize.SL.Sem Cert.KvGradRefIdeal.Read

/-- The reference's entry. -/
theorem ref_apply (x0 : FVec Ideal ⟨2, ![4352, 128]⟩ .bf16) (x1 : FVec Ideal ⟨2, ![4352, 4096]⟩ .bf16) (i : Fin 128) (n : Fin 4096) :
    val_main_v6 (F := Ideal) x0 x1 (ix2 i n) = ∑ t : Fin 4352, x0 (ix2 t i) * x1 (ix2 t n) := by
  unfold val_main_v6 val_main_v5 val_main_v4 val_main_v1 val_main_v0
  pointwise
  exact Finset.sum_congr rfl fun _ _ => mul_comm _ _

theorem algebraic : Cert.algebraic_KvGradIdeal_KvGradRefIdeal (hKvGradIdeal := Cert.KvGradIdeal.Gen.facts)
    (hKvGradRefIdeal := Cert.KvGradRefIdeal.Gen.facts) := by
  intro m g m' g' _ hargs
  refine ⟨_, Cert.KvGradIdeal.Value.run_blocks (F := Ideal) m g, ?_⟩
  refine (θ_run (Cert.KvGradRefIdeal.defs (F := Ideal)) _ _).mono (fun r h c => ?_) (Cert.KvGradRefIdeal.Value.run (F := Ideal) m' g')
  obtain ⟨h0, hk⟩ := h c
  obtain ⟨e0, e1⟩ := hargs c
  rw [e0, e1] at h0
  refine ⟨h0.trans ((val_main_v6_eq (F := Ideal) _ _).symm.trans ?_), hk⟩
  exact funext fun i => by
    rw [eq_ix2 i]
    exact (ref_apply _ _ _ _).trans (arr2 m c _ _).symm

end Cert.KvGradValue

end
-- ==== Proof.InGradBlock.lean ====
/-
  What one grid point of the input projection's gradient kernel computes: the first of two token tiles leaves its product in the
  running sum, the second adds its own and writes the sum out.
-/
module

public import proofs.«01_k».proof.Proof.Gen.InGradIdeal.Frame
public import proofs.«01_k».proof.Proof.TokenTiles
public import Idealize.ShloMosaic.Lib.Pipeline.Value

@[expose] public section

noncomputable section

namespace Cert.InGradValue

open Idealize.ShloMosaic Idealize.ShloMosaic.TcCoe Idealize.SL.Sem Cert.InGradIdeal Cert.InGradIdeal.Gen Cert.TokenTiles

section
variable (c : Dev nD) (i : grid0.Coords) (a3 : Memref sig .tc .vmem S2176x1536 .bf16) (h3 : a3.IsWhole)
  (a4 : Memref sig .tc .vmem S2176x1024 .bf16) (h4 : a4.IsWhole) (a5 : Memref sig .tc .vmem S1536x1024 .bf16) (h5 : a5.IsWhole)
  (a6 : Memref sig .tc .vmem S1536x1024 .f32) (h6 : a6.IsWhole)
  (x : Vec Ideal S2176x1536 .bf16) (y : Vec Ideal S2176x1024 .bf16) (s : Vec Ideal S1536x1024 .f32)

/-- The first token tile: its product is what the running sum holds. -/
theorem sout_A (hc0 : cond0_0 i) (hc1 : ¬cond0_1 i) (k : Fin 1536) (n : Fin 1024) :
    sout0_A_0 (F := Ideal) c i a3 h3 a4 h4 a5 h5 a6 h6 hc0 hc1 x y (ix2 k n) = ∑ r : Fin 2176, x (ix2 r k) * y (ix2 r n) := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1536x1024) hz, View.readCov_unit_zero (S := S1536x1024) _ hz]
  simp only [View.readAt_eq_ld, h3.read_unread, h4.read_unread]
  unfold_payloads
  pointwise

/-- The second token tile: the running sum so far plus its product is what is written out. -/
theorem out_B (hc0 : ¬cond0_0 i) (hc1 : cond0_1 i) (k : Fin 1536) (n : Fin 1024) :
    out0_B_2 (F := Ideal) c i a3 h3 a4 h4 a5 h5 a6 h6 hc0 hc1 x y s (ix2 k n)
      = s (ix2 k n) + ∑ r : Fin 2176, x (ix2 r k) * y (ix2 r n) := by
  unfold out0_B_2
  rw [View.read_writes_eq_canon _ _ _ (cover0_B_2 c i a3 h3 a4 h4 a5 h5 a6 h6 hc0 hc1 x y s)]
  unfold kernelRun0_B
  dsimp only
  sl_unfold_words
  rw [View.canon_unit_zero (S := S1536x1024) hz, View.readCov_unit_zero (S := S1536x1024) _ hz]
  simp only [View.readAt_eq_ld, h3.read_unread, h4.read_unread, h6.read_unread]
  unfold_payloads
  pointwise
end

end Cert.InGradValue

end
-- ==== Proof.InGrad.lean ====
/-
  What the input projection's gradient kernel leaves: entry (i, n) is the sum over all 4352 tokens.  Its reference leaves the same.
-/
module

public import proofs.«01_k».proof.Defs
public import proofs.«01_k».proof.Proof.InGradBlock
public import proofs.«01_k».proof.Proof.Gen.InGradIdeal.Value
public import proofs.«01_k».proof.Proof.Gen.InGradRefIdeal.Run
public import proofs.«01_k».proof.Proof.Gen.InGradRefIdeal.Read

@[expose] public section

noncomputable section

namespace Cert.InGradValue

section
open Idealize.ShloMosaic Idealize.ShloMosaic.TcCoe Idealize.SL.Sem Cert.InGradIdeal Cert.InGradIdeal.Gen Cert.TokenTiles
open Idealize.ShloMosaic.Pipeline (Dat Cfg Window)

variable (m : (ℓ : Loc nD τ sig) → Buf (Elt Ideal) ℓ) (c : Dev nD)

/-- The argument arrays as launched: the projection's gradient and the normed activations. -/
abbrev dz : FVec Ideal S4352x3072 .bf16 := m ((c : Thread nD τ).loc main_arg0)
abbrev hn : FVec Ideal S4352x1024 .bf16 := m ((c : Thread nD τ).loc main_arg1)

/-- Token `r` of grid point `t`'s tile. -/
abbrev tok (t : Fin cfg0.N) (r : Fin 2176) : Fin 4352 := ⟨t.val % 2 * 2176 + r.val, by omega⟩

theorem idx0 (t : Fin cfg0.N) : win0_0.index t (0 : Fin 2) = t.val % 2 ∧ win0_0.index t (1 : Fin 2) = t.val / 2 :=
  (by decide +kernel : ∀ t : Fin grid0.N, win0_0.index t (0 : Fin 2) = t.val % 2 ∧ win0_0.index t (1 : Fin 2) = t.val / 2) t
theorem idx1 (t : Fin cfg0.N) : win0_1.index t (0 : Fin 2) = t.val % 2 ∧ win0_1.index t (1 : Fin 2) = 0 :=
  (by decide +kernel : ∀ t : Fin grid0.N, win0_1.index t (0 : Fin 2) = t.val % 2 ∧ win0_1.index t (1 : Fin 2) = 0) t

/-- The block of the projection's gradient grid point `t` takes. -/
theorem blk0 (t : Fin cfg0.N) (r : Fin 2176) (k : Fin 1536) (i : Fin 3072) (hi : i.val = t.val / 2 * 1536 + k.val) :
    (iblk m c 0 t : Vec Ideal S2176x1536 .bf16) (ix2 r k) = dz m c (ix2 (tok t r) i) := by
  show V m c main_arg0 ((win0_0.rect t).emb (ix2 r k)) = _
  rw [V_main_arg0]
  refine congrArg (dz m c) (Shape.idx_ext₂ ?_ ?_)
  · exact (win0_0.rect_emb_val t _ 0).trans (by rw [(idx0 t).1]; rfl)
  · exact (win0_0.rect_emb_val t _ 1).trans (by rw [(idx0 t).2]; exact hi.symm)

/-- The block of the normed activations grid point `t` takes. -/
theorem blk1 (t : Fin cfg0.N) (r : Fin 2176) (n : Fin 1024) :
    (iblk m c 1 t : Vec Ideal S2176x1024 .bf16) (ix2 r n) = hn m c (ix2 (tok t r) n) := by
  show V m c main_arg1 ((win0_1.rect t).emb (ix2 r n)) = _
  rw [V_main_arg1]
  refine congrArg (hn m c) (Shape.idx_ext₂ ?_ ?_)
  · exact (win0_1.rect_emb_val t _ 0).trans (by rw [(idx1 t).1]; rfl)
  · exact (win0_1.rect_emb_val t _ 1).trans (by rw [(idx1 t).2]; simp)

/-- What is left after an odd point: both tiles' products. -/
theorem outs_odd (q : ℕ) (hq : 2 * q + 1 < cfg0.N) (k : Fin 1536) (n : Fin 1024) (i : Fin 3072) (hi : i.val = q * 1536 + k.val) :
    (outsAt0 (F := Ideal) m c (2 * q + 1) hq).1 (ix2 k n) = ∑ t : Fin 4352, dz m c (ix2 t i) * hn m c (ix2 t n) := by
  have e0 : (2 * q + 0) % 2 = 0 := by omega
  have e1 : (2 * q + 1) % 2 = 1 := by omega
  have hq' : 2 * q < cfg0.N := Nat.lt_of_succ_lt hq
  have hB := outsAt0_B (F := Ideal) m c ⟨2 * q + 1, hq⟩ (by dsimp only; omega) e1
  have hA := outsAt0_A (F := Ideal) m c ⟨2 * q, hq'⟩ e0 (by dsimp only; omega)
  dsimp only at hA hB
  rw [hB]
  dsimp only
  rw [out_B]
  simp only [Nat.add_sub_cancel]
  rw [hA]
  dsimp only
  rw [sout_A, sum_tiles]
  refine congrArg₂ (· + ·) (Finset.sum_congr rfl fun r _ => ?_) (Finset.sum_congr rfl fun r _ => ?_)
  · rw [blk0 m c _ r k i (by dsimp only; omega), blk1]
    have e : tok ⟨2 * q, hq'⟩ r = ⟨r.val, by omega⟩ := Fin.ext (by dsimp only; omega)
    rw [e]
  · rw [blk0 m c _ r k i (by dsimp only; omega), blk1]
    have e : tok ⟨2 * q + 1, hq⟩ r = ⟨2176 + r.val, by omega⟩ := Fin.ext (by dsimp only; omega)
    rw [e]

/-- The result array. -/
theorem arr2 (i : Fin 3072) (n : Fin 1024) :
    (dats m 0 c).arrAt 2 cfg0.N (ix2 i n) = ∑ t : Fin 4352, dz m c (ix2 t i) * hn m c (ix2 t n) := by
  rw [Value.final2]
  have hN : cfg0.N = 4 := N_0
  have hp : Value.pt2Of (ix2 i n) < cfg0.N := by
    show 2 * (1 * (i.val / 1536 - 0) + 1 * (n.val / 1024 - 0)) + 1 < cfg0.N
    omega
  have hq : 2 * (i.val / 1536) + 1 < cfg0.N := by omega
  have hpt : Value.pt2Of (ix2 i n) = 2 * (i.val / 1536) + 1 := by
    show 2 * (1 * (i.val / 1536 - 0) + 1 * (n.val / 1024 - 0)) + 1 = _
    omega
  have hloc : Value.loc2Of (ix2 i n) = ix2 (⟨i.val % 1536, by omega⟩ : Fin 1536) (⟨n.val % 1024, by omega⟩ : Fin 1024) :=
    Shape.idx_ext₂ rfl rfl
  have h := outs_odd m c (i.val / 1536) hq ⟨i.val % 1536, by omega⟩ ⟨n.val % 1024, by omega⟩ i (by dsimp only; omega)
  have en : (⟨n.val % 1024, by omega⟩ : Fin 1024) = n := Fin.ext (by dsimp only; omega)
  rw [Value.outsAt0_sweep, en] at h
  refine (dif_pos hp).trans ?_
  rw [hloc, en, ← h]
  exact congrArg (fun v : Vec Ideal S1536x1024 .bf16 × Vec Ideal S1536x1024 .f32 => v.1 (ix2 _ n))
    (Value.fold0_congr m c _ _ _ _ hpt)
end

open Idealize.ShloMosaic Idealize.ShloMosaic.TcCoe Idealize.SL.Sem Cert.InGradRefIdeal.Read

/-- The reference's entry. -/
theorem ref_apply (x0 : FVec Ideal ⟨2, ![4352, 3072]⟩ .bf16) (x1 : FVec Ideal ⟨2, ![4352, 1024]⟩ .bf16) (i : Fin 3072) (n : Fin 1024) :
    val_main_v7 (F := Ideal) x0 x1 (ix2 i n) = ∑ t : Fin 4352, x0 (ix2 t i) * x1 (ix2 t n) := by
  unfold val_main_v7 val_main_v6 val_main_v5 val_main_v4 val_main_v1 val_main_v0
  pointwise

theorem algebraic : Cert.algebraic_InGradIdeal_InGradRefIdeal (hInGradIdeal := Cert.InGradIdeal.Gen.facts)
    (hInGradRefIdeal := Cert.InGradRefIdeal.Gen.facts) := by
  intro m g m' g' _ hargs
  refine ⟨_, Cert.InGradIdeal.Value.run_blocks (F := Ideal) m g, ?_⟩
  refine (θ_run (Cert.InGradRefIdeal.defs (F := Ideal)) _ _).mono (fun r h c => ?_) (Cert.InGradRefIdeal.Value.run (F := Ideal) m' g')
  obtain ⟨h0, hk⟩ := h c
  obtain ⟨e0, e1⟩ := hargs c
  rw [e0, e1] at h0
  refine ⟨h0.trans ((val_main_v7_eq (F := Ideal) _ _).symm.trans ?_), hk⟩
  exact funext fun i => by
    rw [eq_ix2 i]
    exact (ref_apply _ _ _ _).trans (arr2 m c _ _).symm

end Cert.InGradValue

end
-- ==== Proof.InLayout.lean ====
/-
  The input projection's 2976 columns kept in 3072: the rotary key's 32 columns sit at 64 of a block of 128 whose others
  hold zeros.
-/
module

public import Idealize.ShloMosaic.Lib.Pointwise

@[expose] public section

noncomputable section

namespace Cert.InLayout

open Idealize.ShloMosaic

/-- The padded column `j` of a row of 2976 entries. -/
def padCol (j : Fin 3072) (f : Fin 2976 → EReal) : EReal :=
  if h : j.val < 896 then f ⟨j.val, by omega⟩
  else if h : 960 ≤ j.val ∧ j.val < 992 then f ⟨j.val - 64, by omega⟩
  else if h : 1024 ≤ j.val then f ⟨j.val - 96, by omega⟩
  else 0

/-- Padding a column commutes with multiplying its entries and adding over rows. -/
theorem sum_padCol {n : Nat} (x : Fin n → EReal) (w : Fin n → Fin 2976 → EReal) (j : Fin 3072) :
    ∑ k, x k * padCol j (w k) = padCol j fun q => ∑ k, x k * w k q := by
  unfold padCol
  split_ifs <;> simp

/-- The column read piece by piece. -/
theorem padCol_read (j : Fin 3072) (f : Fin 2976 → EReal) :
    (if h : j.val < 896 then f ⟨j.val, by omega⟩
      else if h' : j.val - 896 < 128 then
        if h'' : 64 ≤ j.val - 896 ∧ j.val - 896 - 64 < 32 then f ⟨896 + (j.val - 896 - 64), by omega⟩
        else FloatOps.sitofp (F := Ideal) FTy.f32 0#32
      else f ⟨928 + (j.val - 896 - 128), by omega⟩) = padCol j f := by
  have hz : FloatOps.sitofp (F := Ideal) FTy.f32 0#32 = (0 : EReal) := (Ideal.scalar_sitofp_def (φ := .f32) 0#32).trans (by simp)
  unfold padCol
  split_ifs <;> first | rfl | exact hz | (exfalso; omega) | (refine congrArg f (Fin.ext ?_); dsimp only; omega)

end Cert.InLayout

end
-- ==== Proof.InFwdArrays.lean ====
/-
  What the input projection's forward kernel's result array ends holding, entry by entry, from the argument arrays.
-/
module

public import proofs.«01_k».proof.Proof.FfnFormula
public import proofs.«01_k».proof.Proof.InLayout
public import proofs.«01_k».proof.Proof.Gen.InFwdIdeal.Value

@[expose] public section

noncomputable section

namespace Cert.InFwdValue

open Idealize.ShloMosaic Idealize.ShloMosaic.TcCoe Idealize.SL.Sem Cert.InFwdIdeal Cert.InFwdIdeal.Gen
open Idealize.ShloMosaic.Pipeline (Dat Cfg Window)
open Cert.FfnFormula Cert.RmsRow Cert.InLayout

variable (m : (ℓ : Loc nD τ sig) → Buf (Elt Ideal) ℓ) (c : Dev nD)

/-- The argument arrays as launched. -/
abbrev h : FVec Ideal S4352x1024 .f32 := m ((c : Thread nD τ).loc main_arg0)
abbrev g : FVec Ideal S1024 .f32 := m ((c : Thread nD τ).loc main_arg1)
abbrev w : FVec Ideal S1024x2976 .f32 := m ((c : Thread nD τ).loc main_arg2)

/-! ### The arrays the host prepares before the call -/

abbrev hG (g : FVec Ideal S1024 .f32) : FVec Ideal S1x1024 .f32 :=
  broadcastInDim S1x1024 ![1] bcast_S1024_S1x1024_1 g
theorem V_v0 : V m c main_v0 = hG (g m c) := by
  simp only [V, hostOps0, hostOps0_1, hostOps0_2, List.flatten_cons, List.flatten_nil, List.append_nil, List.cons_append,
    List.nil_append, StableHlo.TRef.binary, StableHlo.TRef.unary, StableHlo.TRef.toBuf, StableHlo.TRef.ofBuf, cast_eq]
  after_results_simp <;> rfl
theorem hG_apply (g : FVec Ideal S1024 .f32) (z : Fin 1) (k : Fin 1024) :
    hG g (ix2 z k) = g (ix1 k) := by
  pointwise
/-- The weight transposed, the rotary key's 32 rows at 64 of a block of 128. -/
abbrev hW (w : FVec Ideal S1024x2976 .f32) : FVec Ideal S3072x1024 .bf16 :=
  truncf .bf16 (concatenate S3072x1024 0 [
    ⟨S896x1024, (extractStridedSlice S896x1024 ![0, 0] (transpose S2976x1024 [1, 0] w transposes_S1024x2976_S2976x1024_1_0) slices_S2976x1024_S896x1024_0_0 : FVec Ideal S896x1024 .f32)⟩,
    ⟨S128x1024, (pad S128x1024 ![64, 0] ![32, 0] ![0, 0]
      (extractStridedSlice S32x1024 ![896, 0] (transpose S2976x1024 [1, 0] w transposes_S1024x2976_S2976x1024_1_0) slices_S2976x1024_S32x1024_896_0)
      (sitofp (F := Ideal) .f32 (constantI S_ 32 0#32)) pads_S32x1024_S128x1024_64320_000 h_S_ : FVec Ideal S128x1024 .f32)⟩,
    ⟨S2048x1024, (extractStridedSlice S2048x1024 ![928, 0] (transpose S2976x1024 [1, 0] w transposes_S1024x2976_S2976x1024_1_0) slices_S2976x1024_S2048x1024_928_0 : FVec Ideal S2048x1024 .f32)⟩]
    concatenates_S896x1024_S128x1024_S2048x1024_S3072x1024_d0 : FVec Ideal S3072x1024 .f32) bitsLt_bf16_f32
theorem V_v7 : V m c main_v7 = hW (w m c) := by
  simp only [V, hostOps0, hostOps0_1, hostOps0_2, List.flatten_cons, List.flatten_nil, List.append_nil, List.cons_append,
    List.nil_append, StableHlo.TRef.binary, StableHlo.TRef.unary, StableHlo.TRef.toBuf, StableHlo.TRef.ofBuf, cast_eq]
  after_results_simp <;> rfl
theorem hW_apply (w : FVec Ideal S1024x2976 .f32) (j : Fin 3072) (k : Fin 1024) :
    hW w (ix2 j k) = padCol j fun q => w (ix2 k q) := by
  pointwise
  exact padCol_read j fun q => w (ix2 k q)

/-! ### One block's values -/

theorem hz : (![0, 0] : Fin 2 → Nat) = fun _ => 0 := funext fun a => by fin_cases a <;> rfl
theorem out_3 (x0 : Vec Ideal S544x1024 .f32) (x1 : Vec Ideal S1x1024 .f32) (x2 : Vec Ideal S3072x1024 .bf16) (r : Fin 544) (j : Fin 3072) :
    out0_3 (F := Ideal) x0 x1 x2 (ix2 r j)
      = ∑ k : Fin 1024, normed W E (row x0 r) k * x1 (ix2 0 k) * x2 (ix2 j k) := by
  unfold out0_3
  rw [View.canon_unit_zero hz]
  unfold_payloads
  pointwise

/-! ### Blocks of the arrays -/

/-- Token `r` of block `t`. -/
abbrev tok (t : Fin cfg0.N) (r : Fin 544) : Fin 4352 := ⟨t.val * 544 + r.val, by
  have := t.isLt; have h : cfg0.N = 8 := N_0; have := r.isLt; omega⟩
/-- Every token is some block's. -/
theorem exists_tok (i : Fin 4352) : ∃ t r, i = tok t r :=
  ⟨⟨i.val / 544, by have h : cfg0.N = 8 := N_0; omega⟩, ⟨i.val % 544, Nat.mod_lt _ (by decide)⟩, Fin.ext (by simp only []; omega)⟩

theorem idx0 : ∀ t : Fin grid0.N, win0_0.index t 0 = t.val ∧ win0_0.index t 1 = 0 := by decide +kernel
theorem blk0 (t : Fin cfg0.N) (r : Fin 544) (j : Fin 1024) : iblk m c 0 t (ix2 r j) = (h m c) (ix2 (tok t r) j) := by
  show V m c main_arg0 ((win0_0.rect t).emb (ix2 r j)) = _
  rw [V_main_arg0]
  refine congrArg (h m c) (Shape.idx_ext₂ ?_ ?_)
  · exact (win0_0.rect_emb_val t _ 0).trans (by rw [(idx0 t).1]; simp)
  · exact (win0_0.rect_emb_val t _ 1).trans (by rw [(idx0 t).2]; simp)
theorem idx1 : ∀ t : Fin grid0.N, win0_1.index t 0 = 0 ∧ win0_1.index t 1 = 0 := by decide +kernel
theorem blk1 (t : Fin cfg0.N) (r : Fin 1) (j : Fin 1024) : iblk m c 1 t (ix2 r j) = (hG (g m c)) (ix2 r j) := by
  show V m c main_v0 ((win0_1.rect t).emb (ix2 r j)) = _
  rw [V_v0]
  refine congrArg (hG (g m c)) (Shape.idx_ext₂ ?_ ?_)
  · exact (win0_1.rect_emb_val t _ 0).trans (by rw [(idx1 t).1]; simp)
  · exact (win0_1.rect_emb_val t _ 1).trans (by rw [(idx1 t).2]; simp)
theorem idx2 : ∀ t : Fin grid0.N, win0_2.index t 0 = 0 ∧ win0_2.index t 1 = 0 := by decide +kernel
theorem blk2 (t : Fin cfg0.N) (r : Fin 3072) (j : Fin 1024) : iblk m c 2 t (ix2 r j) = (hW (w m c)) (ix2 r j) := by
  show V m c main_v7 ((win0_2.rect t).emb (ix2 r j)) = _
  rw [V_v7]
  refine congrArg (hW (w m c)) (Shape.idx_ext₂ ?_ ?_)
  · exact (win0_2.rect_emb_val t _ 0).trans (by rw [(idx2 t).1]; simp)
  · exact (win0_2.rect_emb_val t _ 1).trans (by rw [(idx2 t).2]; simp)
theorem row_eq (t : Fin cfg0.N) (r : Fin 544) : row (iblk m c 0 t : Vec Ideal S544x1024 .f32) r = row (h m c) (tok t r) :=
  funext fun k => blk0 m c t r k

/-! ### The result array -/

theorem idx3 : ∀ t : Fin grid0.N, win0_3.index t 0 = t.val ∧ win0_3.index t 1 = 0 := by decide +kernel
theorem arr3 (i : Fin 4352) (j : Fin 3072) : (dats m 0 c).arrAt 3 cfg0.N (ix2 i j)
    = padCol j fun q => ∑ k : Fin 1024, hn (h m c) (g m c) i k * w m c (ix2 k q) := by
  obtain ⟨t, r, rfl⟩ := exists_tok i
  have e : ((cfg0.win 3).blk t).view.emb (ix2 r j) = ix2 (tok t r) j := Shape.idx_ext₂
    ((win0_3.rect_emb_val t _ 0).trans (by rw [(idx3 t).1]; rfl)) ((win0_3.rect_emb_val t _ 1).trans (by rw [(idx3 t).2]; simp))
  have h : out0_3 (iblk m c 0 t) (iblk m c 1 t) (iblk m c 2 t) (ix2 r j)
      = padCol j fun q => ∑ k : Fin 1024, hn (h m c) (g m c) (tok t r) k * w m c (ix2 k q) := by
    refine (out_3 (iblk m c 0 t) (iblk m c 1 t) (iblk m c 2 t) r j).trans ?_
    refine Eq.trans ?_ (sum_padCol _ (fun k q => w m c (ix2 k q)) j)
    refine Finset.sum_congr rfl fun k _ => ?_
    rw [row_eq, blk1, hG_apply, blk2, hW_apply]
    rfl
  refine (congrArg ((dats m 0 c).arrAt 3 cfg0.N) e.symm).trans ?_
  refine ((dats m 0 c).arrAt_emb_eq_flushed 3 Value.disjoint3 t (flush0_3 t) (ix2 r j)).trans ?_
  rw [Value.flushed3]
  generalize out0_3 (iblk m c 0 t) (iblk m c 1 t) (iblk m c 2 t) = v at h ⊢
  exact h

end Cert.InFwdValue

end
-- ==== Proof.InFwdRefValue.lean ====
/-
  What the input projection's reference computes, entry by entry: the same formula.
-/
module

public import proofs.«01_k».proof.Proof.FfnFormula
public import proofs.«01_k».proof.Proof.InLayout
public import proofs.«01_k».proof.Proof.Gen.InFwdRefIdeal.Read

@[expose] public section

noncomputable section

namespace Cert.InFwdRefValue

open Idealize.ShloMosaic Cert.InFwdRefIdeal Cert.InFwdRefIdeal.Read
open Cert.FfnFormula Cert.RmsRow Cert.InLayout

variable (h : FVec Ideal S4352x1024 .f32) (g : FVec Ideal S1024 .f32) (w : FVec Ideal S1024x2976 .f32) (i : Fin 4352)

theorem v12 (j : Fin 1024) : val_main_v12 (F := Ideal) h g (ix2 i j)
    = hn h g i j := by
  unfold val_main_v12 val_main_v11 val_main_v10 val_main_v9 val_main_v8 val_main_v7 val_main_v6 val_main_v5 val_main_cst_1 val_main_v4 val_main_v3 val_main_cst_0 val_main_v2 val_main_v1 val_main_cst val_main_v0
  pointwise
  rfl

theorem v13 (q : Fin 2976) : val_main_v13 (F := Ideal) h g w (ix2 i q)
    = ∑ k : Fin 1024, hn h g i k * w (ix2 k q) := by
  unfold val_main_v13
  pointwise [v12]

theorem v19 (j : Fin 3072) : val_main_v19 (F := Ideal) h g w (ix2 i j)
    = padCol j fun q => ∑ k : Fin 1024, hn h g i k * w (ix2 k q) := by
  unfold val_main_v19 val_main_v18 val_main_v17 val_main_v16 val_main_call0_v0 val_main_c val_main_v15 val_main_v14
  pointwise [v13]
  exact padCol_read j fun q => ∑ k : Fin 1024, hn h g i k * w (ix2 k q)

end Cert.InFwdRefValue

end
-- ==== Proof.InFwd.lean ====
/-
  The input projection's forward kernel and its reference leave the same array.
-/
module

public import proofs.«01_k».proof.Defs
public import proofs.«01_k».proof.Proof.InFwdArrays
public import proofs.«01_k».proof.Proof.InFwdRefValue
public import proofs.«01_k».proof.Proof.Gen.InFwdRefIdeal.Run

@[expose] public section

noncomputable section

namespace Cert.InFwdClaim

open Idealize.ShloMosaic Idealize.ShloMosaic.TcCoe Idealize.SL.Sem Cert.InFwdRefIdeal.Read

/-- Two arrays with two axes are equal where their entries are. -/
theorem arr_ext {p q : Nat} {x y : (⟨2, ![p, q]⟩ : Shape).Idx → EReal} (h : ∀ i j, x (ix2 i j) = y (ix2 i j)) : x = y :=
  funext fun i => by rw [eq_ix2 i]; exact h _ _

theorem algebraic : Cert.algebraic_InFwdIdeal_InFwdRefIdeal (hInFwdIdeal := Cert.InFwdIdeal.Gen.facts)
    (hInFwdRefIdeal := Cert.InFwdRefIdeal.Gen.facts) := by
  intro m g m' g' _ hargs
  refine ⟨_, Cert.InFwdIdeal.Value.run_blocks (F := Ideal) m g, ?_⟩
  refine (θ_run (Cert.InFwdRefIdeal.defs (F := Ideal)) _ _).mono (fun r h c => ?_) (Cert.InFwdRefIdeal.Value.run (F := Ideal) m' g')
  obtain ⟨h0, hk⟩ := h c
  obtain ⟨e0, e1, e2⟩ := hargs c
  have q0 := h0.trans (val_main_v19_eq (F := Ideal) _ _ _)
  rw [e0, e1, e2] at q0
  refine ⟨q0.trans ?_, hk⟩
  · exact arr_ext fun i j => (InFwdRefValue.v19 _ _ _ i j).trans (InFwdValue.arr3 m c i j).symm

end Cert.InFwdClaim

end
-- ==== Proof.InPieces.lean ====
/-
  The six pieces of the gradient of the input projection's columns, side by side, and the product of that row with the
  weight as the kernel adds it, piece by piece in the padded layout.
-/
module

public import proofs.«01_k».proof.Proof.InLayout

@[expose] public section

noncomputable section

namespace Cert.InPieces

open Idealize.ShloMosaic Cert.InLayout

/-- A sum over `a + b` indices is the sum over the first `a` plus the sum over the rest. -/
theorem sum_split {n : ℕ} (a b : ℕ) (h : n = a + b) (f : Fin n → EReal) :
    ∑ q, f q = ∑ i : Fin a, f ⟨i.val, by omega⟩ + ∑ i : Fin b, f ⟨a + i.val, by omega⟩ := by
  subst h
  exact Fin.sum_univ_add f

/-- The rotary key's 32 entries at 64 of a block of 128. -/
def wide (kr : Fin 32 → EReal) (j : Fin 128) : EReal :=
  if h : 64 ≤ j.val ∧ j.val - 64 < 32 then kr ⟨j.val - 64, h.2⟩ else 0

variable (u : Fin 512 → EReal) (q : Fin 256 → EReal) (kv : Fin 128 → EReal) (kr : Fin 32 → EReal) (ga gb : Fin 1024 → EReal)

/-- The six pieces side by side. -/
def pieces (c : Fin 2976) : EReal :=
  if h : c.val < 512 then u ⟨c.val, h⟩
  else if h : c.val - 512 < 256 then q ⟨c.val - 512, h⟩
  else if h : c.val - 512 - 256 < 128 then kv ⟨c.val - 512 - 256, h⟩
  else if h : c.val - 512 - 256 - 128 < 32 then kr ⟨c.val - 512 - 256 - 128, h⟩
  else if h : c.val - 512 - 256 - 128 - 32 < 1024 then ga ⟨c.val - 512 - 256 - 128 - 32, h⟩
  else gb ⟨c.val - 512 - 256 - 128 - 32 - 1024, by omega⟩

/-- The six pieces in the padded layout, the fourth already padded. -/
def joined (krp : Fin 128 → EReal) (j : Fin 3072) : EReal :=
  if h : j.val < 512 then u ⟨j.val, h⟩
  else if h : j.val < 768 then q ⟨j.val - 512, by omega⟩
  else if h : j.val < 896 then kv ⟨j.val - 768, by omega⟩
  else if h : j.val < 1024 then krp ⟨j.val - 896, by omega⟩
  else if h : j.val < 2048 then ga ⟨j.val - 1024, by omega⟩
  else gb ⟨j.val - 2048, by omega⟩

theorem pieces_0 (a : Fin 512) : pieces u q kv kr ga gb ⟨0 + a.val, by omega⟩ = u a := by
  unfold pieces
  dsimp only
  split_ifs <;> first | (exfalso; omega) | (refine congrArg _ (Fin.ext ?_); dsimp only; omega)
theorem pieces_0' (a : Fin 512) : pieces u q kv kr ga gb ⟨a.val, by omega⟩ = u a := dif_pos a.isLt
theorem pieces_1 (a : Fin 256) : pieces u q kv kr ga gb ⟨512 + a.val, by omega⟩ = q a := by
  unfold pieces
  dsimp only
  split_ifs <;> first | (exfalso; omega) | (refine congrArg _ (Fin.ext ?_); dsimp only; omega)
theorem pieces_2 (a : Fin 128) : pieces u q kv kr ga gb ⟨768 + a.val, by omega⟩ = kv a := by
  unfold pieces
  dsimp only
  split_ifs <;> first | (exfalso; omega) | (refine congrArg _ (Fin.ext ?_); dsimp only; omega)
theorem pieces_3 (a : Fin 32) : pieces u q kv kr ga gb ⟨896 + a.val, by omega⟩ = kr a := by
  unfold pieces
  dsimp only
  split_ifs <;> first | (exfalso; omega) | (refine congrArg _ (Fin.ext ?_); dsimp only; omega)
theorem pieces_4 (a : Fin 1024) : pieces u q kv kr ga gb ⟨928 + a.val, by omega⟩ = ga a := by
  unfold pieces
  dsimp only
  split_ifs <;> first | (exfalso; omega) | (refine congrArg _ (Fin.ext ?_); dsimp only; omega)
theorem pieces_5 (a : Fin 1024) : pieces u q kv kr ga gb ⟨1952 + a.val, by omega⟩ = gb a := by
  unfold pieces
  dsimp only
  split_ifs <;> first | (exfalso; omega) | (refine congrArg _ (Fin.ext ?_); dsimp only; omega)

theorem padCol_first (f : Fin 2976 → EReal) (a : ℕ) (h : a < 896) : padCol ⟨a, by omega⟩ f = f ⟨a, by omega⟩ := dif_pos h
theorem padCol_low (f : Fin 2976 → EReal) (s a : ℕ) (h : s + a < 896) : padCol ⟨s + a, by omega⟩ f = f ⟨s + a, by omega⟩ := dif_pos h
theorem padCol_high (f : Fin 2976 → EReal) (s s' a : ℕ) (h : 1024 ≤ s + a) (h' : s + a < 3072) (e : s = s' + 96) :
    padCol ⟨s + a, h'⟩ f = f ⟨s' + a, by omega⟩ := by
  unfold padCol
  dsimp only
  split_ifs <;> first | (exfalso; omega) | (refine congrArg _ (Fin.ext ?_); dsimp only; omega)

theorem joined_0 (krp : Fin 128 → EReal) (a : Fin 512) : joined u q kv ga gb krp ⟨0 + a.val, by omega⟩ = u a := by
  unfold joined
  dsimp only
  split_ifs <;> first | (exfalso; omega) | (refine congrArg _ (Fin.ext ?_); dsimp only; omega)
theorem joined_1 (krp : Fin 128 → EReal) (a : Fin 256) : joined u q kv ga gb krp ⟨512 + a.val, by omega⟩ = q a := by
  unfold joined
  dsimp only
  split_ifs <;> first | (exfalso; omega) | (refine congrArg _ (Fin.ext ?_); dsimp only; omega)
theorem joined_2 (krp : Fin 128 → EReal) (a : Fin 128) : joined u q kv ga gb krp ⟨768 + a.val, by omega⟩ = kv a := by
  unfold joined
  dsimp only
  split_ifs <;> first | (exfalso; omega) | (refine congrArg _ (Fin.ext ?_); dsimp only; omega)
theorem joined_3 (krp : Fin 128 → EReal) (a : Fin 128) : joined u q kv ga gb krp ⟨896 + a.val, by omega⟩ = krp a := by
  unfold joined
  dsimp only
  split_ifs <;> first | (exfalso; omega) | (refine congrArg _ (Fin.ext ?_); dsimp only; omega)
theorem joined_4 (krp : Fin 128 → EReal) (a : Fin 1024) : joined u q kv ga gb krp ⟨1024 + a.val, by omega⟩ = ga a := by
  unfold joined
  dsimp only
  split_ifs <;> first | (exfalso; omega) | (refine congrArg _ (Fin.ext ?_); dsimp only; omega)
theorem joined_5 (krp : Fin 128 → EReal) (a : Fin 1024) : joined u q kv ga gb krp ⟨2048 + a.val, by omega⟩ = gb a := by
  unfold joined
  dsimp only
  split_ifs <;> first | (exfalso; omega) | (refine congrArg _ (Fin.ext ?_); dsimp only; omega)

theorem padCol_mid (f : Fin 2976 → EReal) (a : ℕ) (h : a < 128) :
    padCol ⟨896 + a, by omega⟩ f = if h : 64 ≤ a ∧ a - 64 < 32 then f ⟨896 + (a - 64), by omega⟩ else 0 := by
  unfold padCol
  dsimp only
  split_ifs <;> first | rfl | (exfalso; omega) | (refine congrArg _ (Fin.ext ?_); dsimp only; omega)

/-- Joining the pieces with the fourth padded is padding the joined pieces. -/
theorem joined_wide (j : Fin 3072) : joined u q kv ga gb (wide kr) j = padCol j (pieces u q kv kr ga gb) := by
  obtain ⟨j, hj⟩ := j
  by_cases h0 : j < 512
  · obtain ⟨a, rfl⟩ := Nat.exists_eq_add_of_le (Nat.zero_le j)
    exact (joined_0 u q kv ga gb _ ⟨a, by omega⟩).trans ((pieces_0 u q kv kr ga gb ⟨a, by omega⟩).symm.trans (padCol_low _ 0 a (by omega)).symm)
  by_cases h1 : j < 768
  · obtain ⟨a, rfl⟩ := Nat.exists_eq_add_of_le (show 512 ≤ j by omega)
    exact (joined_1 u q kv ga gb _ ⟨a, by omega⟩).trans ((pieces_1 u q kv kr ga gb ⟨a, by omega⟩).symm.trans (padCol_low _ 512 a (by omega)).symm)
  by_cases h2 : j < 896
  · obtain ⟨a, rfl⟩ := Nat.exists_eq_add_of_le (show 768 ≤ j by omega)
    exact (joined_2 u q kv ga gb _ ⟨a, by omega⟩).trans ((pieces_2 u q kv kr ga gb ⟨a, by omega⟩).symm.trans (padCol_low _ 768 a (by omega)).symm)
  by_cases h3 : j < 1024
  · obtain ⟨a, rfl⟩ := Nat.exists_eq_add_of_le (show 896 ≤ j by omega)
    refine (joined_3 u q kv ga gb _ ⟨a, by omega⟩).trans (Eq.trans ?_ (padCol_mid _ a (by omega)).symm)
    unfold wide
    dsimp only
    by_cases h : 64 ≤ a ∧ a - 64 < 32
    · rw [dif_pos h, dif_pos h]
      exact (pieces_3 u q kv kr ga gb ⟨a - 64, h.2⟩).symm
    · rw [dif_neg h, dif_neg h]
  by_cases h4 : j < 2048
  · obtain ⟨a, rfl⟩ := Nat.exists_eq_add_of_le (show 1024 ≤ j by omega)
    exact (joined_4 u q kv ga gb _ ⟨a, by omega⟩).trans ((pieces_4 u q kv kr ga gb ⟨a, by omega⟩).symm.trans
      (padCol_high _ 1024 928 a (by omega) (by omega) rfl).symm)
  · obtain ⟨a, rfl⟩ := Nat.exists_eq_add_of_le (show 2048 ≤ j by omega)
    exact (joined_5 u q kv ga gb _ ⟨a, by omega⟩).trans ((pieces_5 u q kv kr ga gb ⟨a, by omega⟩).symm.trans
      (padCol_high _ 2048 1952 a (by omega) (by omega) rfl).symm)

/-- The padded fourth piece's product: its zeros add nothing. -/
theorem sum_wide (f : Fin 2976 → EReal) :
    ∑ a : Fin 128, wide kr a * padCol ⟨896 + a.val, by omega⟩ f = ∑ a : Fin 32, kr a * f ⟨896 + a.val, by omega⟩ := by
  rw [sum_split 96 32 rfl, sum_split 64 32 rfl fun i : Fin 96 => _]
  refine (congrArg₂ (· + ·) (congrArg₂ (· + ·) (Finset.sum_eq_zero fun a _ => ?_) (Finset.sum_congr rfl fun a _ => ?_))
    (Finset.sum_eq_zero fun a _ => ?_)).trans ((add_zero _).trans (zero_add (∑ a : Fin 32, kr a * f ⟨896 + a.val, by omega⟩)))
  · rw [show wide kr _ = 0 from dif_neg (by dsimp only; omega), zero_mul]
  · refine congrArg₂ (· * ·) ((dif_pos (by dsimp only; omega)).trans (congrArg kr (Fin.ext (by dsimp only; omega)))) ?_
    unfold padCol
    dsimp only
    split_ifs <;> first | (exfalso; omega) | (refine congrArg _ (Fin.ext ?_); dsimp only; omega)
  · rw [show wide kr _ = 0 from dif_neg (by dsimp only; omega), zero_mul]

/-- The product with the weight's padded column, added piece by piece, is the whole row's product. -/
theorem sum_pieces (f : Fin 2976 → EReal) :
    (∑ a : Fin 512, u a * padCol ⟨a.val, by omega⟩ f)
      + (∑ a : Fin 256, q a * padCol ⟨512 + a.val, by omega⟩ f)
      + (∑ a : Fin 128, kv a * padCol ⟨768 + a.val, by omega⟩ f)
      + (∑ a : Fin 128, wide kr a * padCol ⟨896 + a.val, by omega⟩ f)
      + (∑ a : Fin 1024, ga a * padCol ⟨1024 + a.val, by omega⟩ f)
      + (∑ a : Fin 1024, gb a * padCol ⟨2048 + a.val, by omega⟩ f)
      = ∑ c, pieces u q kv kr ga gb c * f c := by
  rw [sum_wide, sum_split 1952 1024 rfl fun c : Fin 2976 => _, sum_split 928 1024 rfl fun c : Fin 1952 => _,
    sum_split 896 32 rfl fun c : Fin 928 => _, sum_split 768 128 rfl fun c : Fin 896 => _, sum_split 512 256 rfl fun c : Fin 768 => _]
  simp only [pieces_0', pieces_1, pieces_2, pieces_3, pieces_4, pieces_5]
  refine congrArg₂ (· + ·) (congrArg₂ (· + ·) (congrArg₂ (· + ·) (congrArg₂ (· + ·) (congrArg₂ (· + ·) ?_ ?_) ?_) rfl) ?_) ?_ <;>
    refine Finset.sum_congr rfl fun a _ => congrArg (_ * ·) ?_
  · exact padCol_first f a (by omega)
  · exact padCol_low f 512 a (by omega)
  · exact padCol_low f 768 a (by omega)
  · exact padCol_high f 1024 928 a (by omega) (by omega) rfl
  · exact padCol_high f 2048 1952 a (by omega) (by omega) rfl

/-- A property of every piece's entries is one of the row's. -/
theorem pieces_all {P : EReal → Prop} (hu : ∀ a, P (u a)) (hq : ∀ a, P (q a)) (hkv : ∀ a, P (kv a)) (hkr : ∀ a, P (kr a))
    (hga : ∀ a, P (ga a)) (hgb : ∀ a, P (gb a)) (c : Fin 2976) : P (pieces u q kv kr ga gb c) := by
  unfold pieces
  split_ifs <;> first | exact hu _ | exact hq _ | exact hkv _ | exact hkr _ | exact hga _ | exact hgb _

end Cert.InPieces

end
-- ==== Proof.InBwdFormula.lean ====
/-
  The input projection's gradient with its norm's, entry by entry, over the extended reals.
-/
module

public import proofs.«01_k».proof.Proof.FfnFormula
public import proofs.«01_k».proof.Proof.InPieces

@[expose] public section

noncomputable section

namespace Cert.InBwdFormula

open Idealize.ShloMosaic Cert.RealValues Cert.RmsRow Cert.FfnFormula Cert.InPieces

variable (h ct : Arr 4352 1024) (du : Arr 4352 512) (dcq : Arr 4352 256) (dckv : Arr 4352 128) (dkr : Arr 4352 32)
  (dga dgb : Arr 4352 1024) (g : Vec1 1024) (w : Arr 1024 2976) (i : Fin 4352)

/-- The gradient of the projection's columns: six arrays side by side. -/
abbrev dz (q : Fin 2976) : EReal := pieces (row du i) (row dcq i) (row dckv i) (row dkr i) (row dga i) (row dgb i) q
/-- The gradient of the normed row times the gain. -/
def dHn (k : Fin 1024) : EReal := ∑ q : Fin 2976, dz du dcq dckv dkr dga dgb i q * w (ix2 k q)
/-- The gradient of the row. -/
def dH (k : Fin 1024) : EReal :=
  ct (ix2 i k) + back W E (row h i) (fun j => dHn du dcq dckv dkr dga dgb w i j * g (ix1 j)) k
/-- The gradient of the gain: a sum over all rows. -/
def dG (k : Fin 1024) : EReal := ∑ i : Fin 4352, dHn du dcq dckv dkr dga dgb w i k * normed W E (row h i) k

variable {du dcq dckv dkr dga dgb w i}

/-- Real arguments give real values. -/
theorem dHn_real (hu : ∀ i, IsReal (du i)) (hq : ∀ i, IsReal (dcq i)) (hkv : ∀ i, IsReal (dckv i)) (hkr : ∀ i, IsReal (dkr i))
    (ha : ∀ i, IsReal (dga i)) (hb : ∀ i, IsReal (dgb i)) (hw : ∀ i, IsReal (w i)) (k : Fin 1024) :
    IsReal (dHn du dcq dckv dkr dga dgb w i k) :=
  IsReal.sum _ fun q => (pieces_all _ _ _ _ _ _ (fun _ => hu _) (fun _ => hq _) (fun _ => hkv _) (fun _ => hkr _) (fun _ => ha _)
    (fun _ => hb _) q).mul (hw _)

end Cert.InBwdFormula

end
-- ==== Proof.ColumnPieces.lean ====
/-
  Columns of a block written piece by piece.
-/
module

public import Idealize.ShloMosaic.Lib.Pointwise
public import Idealize.ShloMosaic.Lib.Pipeline.Value

@[expose] public section

noncomputable section

namespace Cert.ColumnPieces

open Idealize.ShloMosaic

variable {N C w off : ℕ}

/-- Column `a` of the piece that starts at column `off` is column `off + a` of the block. -/
theorem emb_cols (inb : ∀ a, (![0, off] : Fin 2 → ℕ) a + (![N, w] : Fin 2 → ℕ) a ≤ (⟨2, ![N, C]⟩ : Shape).size a)
    (r : Fin N) (a : Fin w) (h : off + a.val < C) :
    (Rect.unit (s := ⟨2, ![N, C]⟩) ![0, off] ![N, w] inb).emb (ix2 r a) = ix2 r ⟨off + a.val, h⟩ := by
  refine Shape.idx_ext₂ ?_ ?_
  · rw [Rect.emb_apply]
    show 0 + 1 * r.val = r.val
    omega
  · rw [Rect.emb_apply]
    show off + 1 * a.val = off + a.val
    omega

/-- A piece that holds columns of `G` agrees with `G` at every of its entries. -/
theorem piece_eq {e : EltTy} {Val : EltTy → Type} (G : Fin N → Fin C → Val e)
    (inb : ∀ a, (![0, off] : Fin 2 → ℕ) a + (![N, w] : Fin 2 → ℕ) a ≤ (⟨2, ![N, C]⟩ : Shape).size a) (hw : off + w ≤ C)
    (v : (⟨2, ![N, w]⟩ : Shape).Idx → Val e) (hv : ∀ r (a : Fin w), v (ix2 r a) = G r ⟨off + a.val, by omega⟩)
    (x : (⟨2, ![N, w]⟩ : Shape).Idx) :
    v x = (fun y : (⟨2, ![N, C]⟩ : Shape).Idx => G (y 0) (y 1)) ((Rect.unit (s := ⟨2, ![N, C]⟩) ![0, off] ![N, w] inb).emb x) := by
  rw [← ix2_eta x, emb_cols inb (x 0) (x 1) (by have : (x 1).val < w := (x 1).isLt; omega)]
  exact hv (x 0) (x 1)

end Cert.ColumnPieces

end
-- ==== Proof.InBwdBlock.lean ====
/-
  What the body of the input projection's backward kernel leaves in one block of 544 tokens, entry by entry, over the
  extended reals.
-/
module

public import proofs.«01_k».proof.Proof.Gen.InBwdIdeal.Frame
public import proofs.«01_k».proof.Proof.InBwdFormula
public import proofs.«01_k».proof.Proof.ColumnPieces

@[expose] public section

noncomputable section

namespace Cert.InBwdValue

open Idealize.ShloMosaic Idealize.ShloMosaic.TcCoe Idealize.SL.Sem Cert.InBwdIdeal Cert.InBwdIdeal.Gen
open Cert.RmsRow Cert.FfnFormula Cert.InPieces Cert.ColumnPieces

theorem hz : (![0, 0] : Fin 2 → Nat) = fun _ => 0 := funext fun a => by fin_cases a <;> rfl

/-- The gradient of one block's normed rows times the gain, added piece by piece. -/
def bHn (x2 : Vec Ideal S544x512 .bf16) (x3 : Vec Ideal S544x256 .bf16) (x4 x5 : Vec Ideal S544x128 .bf16)
    (x6 x7 : Vec Ideal S544x1024 .bf16) (x9 : Vec Ideal S3072x1024 .bf16) (r : Fin 544) (k : Fin 1024) : EReal :=
  (∑ a : Fin 512, x2 (ix2 r a) * x9 (ix2 ⟨a.val, by omega⟩ k))
    + (∑ a : Fin 256, x3 (ix2 r a) * x9 (ix2 ⟨512 + a.val, by omega⟩ k))
    + (∑ a : Fin 128, x4 (ix2 r a) * x9 (ix2 ⟨768 + a.val, by omega⟩ k))
    + (∑ a : Fin 128, x5 (ix2 r a) * x9 (ix2 ⟨896 + a.val, by omega⟩ k))
    + (∑ a : Fin 1024, x6 (ix2 r a) * x9 (ix2 ⟨1024 + a.val, by omega⟩ k))
    + (∑ a : Fin 1024, x7 (ix2 r a) * x9 (ix2 ⟨2048 + a.val, by omega⟩ k))

theorem out_A_10 (c : Dev nD) (i : grid0.Coords) (arg1 : Memref sig .tc .vmem S544x1024 .f32) (harg1 : arg1.IsWhole) (arg2 : Memref sig .tc .vmem S544x1024 .f32) (harg2 : arg2.IsWhole) (arg3 : Memref sig .tc .vmem S544x512 .bf16) (harg3 : arg3.IsWhole) (arg4 : Memref sig .tc .vmem S544x256 .bf16) (harg4 : arg4.IsWhole) (arg5 : Memref sig .tc .vmem S544x128 .bf16) (harg5 : arg5.IsWhole) (arg6 : Memref sig .tc .vmem S544x128 .bf16) (harg6 : arg6.IsWhole) (arg7 : Memref sig .tc .vmem S544x1024 .bf16) (harg7 : arg7.IsWhole) (arg8 : Memref sig .tc .vmem S544x1024 .bf16) (harg8 : arg8.IsWhole) (arg9 : Memref sig .tc .vmem S1x1024 .f32) (harg9 : arg9.IsWhole) (arg10 : Memref sig .tc .vmem S3072x1024 .bf16) (harg10 : arg10.IsWhole) (arg11 : Memref sig .tc .vmem S544x1024 .f32) (harg11 : arg11.IsWhole) (arg12 : Memref sig .tc .vmem S544x1024 .bf16) (harg12 : arg12.IsWhole) (arg13 : Memref sig .tc .vmem S544x3072 .bf16) (harg13 : arg13.IsWhole) (arg14 : Memref sig .tc .vmem S1x1024 .f32) (harg14 : arg14.IsWhole) (hc0 : cond0_0 i) (x0 : Vec Ideal S544x1024 .f32) (x1 : Vec Ideal S544x1024 .f32) (x2 : Vec Ideal S544x512 .bf16) (x3 : Vec Ideal S544x256 .bf16) (x4 : Vec Ideal S544x128 .bf16) (x5 : Vec Ideal S544x128 .bf16) (x6 : Vec Ideal S544x1024 .bf16) (x7 : Vec Ideal S544x1024 .bf16) (x8 : Vec Ideal S1x1024 .f32) (x9 : Vec Ideal S3072x1024 .bf16) (r : Fin 544) (j : Fin 1024) :
    out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 (ix2 r j)
      = x1 (ix2 r j) + back W E (row x0 r) (fun k => bHn x2 x3 x4 x5 x6 x7 x9 r k * x8 (ix2 0 k)) j := by
  unfold bHn out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9)]
  unfold kernelRun0_A
  dsimp only
  sl_unfold_words
  rw [View.canon_unit_zero (S := S544x1024) hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread]
  unfold_payloads
  pointwise

theorem out_A_11 (c : Dev nD) (i : grid0.Coords) (arg1 : Memref sig .tc .vmem S544x1024 .f32) (harg1 : arg1.IsWhole) (arg2 : Memref sig .tc .vmem S544x1024 .f32) (harg2 : arg2.IsWhole) (arg3 : Memref sig .tc .vmem S544x512 .bf16) (harg3 : arg3.IsWhole) (arg4 : Memref sig .tc .vmem S544x256 .bf16) (harg4 : arg4.IsWhole) (arg5 : Memref sig .tc .vmem S544x128 .bf16) (harg5 : arg5.IsWhole) (arg6 : Memref sig .tc .vmem S544x128 .bf16) (harg6 : arg6.IsWhole) (arg7 : Memref sig .tc .vmem S544x1024 .bf16) (harg7 : arg7.IsWhole) (arg8 : Memref sig .tc .vmem S544x1024 .bf16) (harg8 : arg8.IsWhole) (arg9 : Memref sig .tc .vmem S1x1024 .f32) (harg9 : arg9.IsWhole) (arg10 : Memref sig .tc .vmem S3072x1024 .bf16) (harg10 : arg10.IsWhole) (arg11 : Memref sig .tc .vmem S544x1024 .f32) (harg11 : arg11.IsWhole) (arg12 : Memref sig .tc .vmem S544x1024 .bf16) (harg12 : arg12.IsWhole) (arg13 : Memref sig .tc .vmem S544x3072 .bf16) (harg13 : arg13.IsWhole) (arg14 : Memref sig .tc .vmem S1x1024 .f32) (harg14 : arg14.IsWhole) (hc0 : cond0_0 i) (x0 : Vec Ideal S544x1024 .f32) (x1 : Vec Ideal S544x1024 .f32) (x2 : Vec Ideal S544x512 .bf16) (x3 : Vec Ideal S544x256 .bf16) (x4 : Vec Ideal S544x128 .bf16) (x5 : Vec Ideal S544x128 .bf16) (x6 : Vec Ideal S544x1024 .bf16) (x7 : Vec Ideal S544x1024 .bf16) (x8 : Vec Ideal S1x1024 .f32) (x9 : Vec Ideal S3072x1024 .bf16) (r : Fin 544) (j : Fin 1024) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 (ix2 r j)
      = normed W E (row x0 r) j * x8 (ix2 0 j) := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9)]
  unfold kernelRun0_A
  dsimp only
  sl_unfold_words
  rw [View.canon_unit_zero (S := S544x1024) hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread]
  unfold_payloads
  pointwise

theorem out_A_12 (c : Dev nD) (i : grid0.Coords) (arg1 : Memref sig .tc .vmem S544x1024 .f32) (harg1 : arg1.IsWhole) (arg2 : Memref sig .tc .vmem S544x1024 .f32) (harg2 : arg2.IsWhole) (arg3 : Memref sig .tc .vmem S544x512 .bf16) (harg3 : arg3.IsWhole) (arg4 : Memref sig .tc .vmem S544x256 .bf16) (harg4 : arg4.IsWhole) (arg5 : Memref sig .tc .vmem S544x128 .bf16) (harg5 : arg5.IsWhole) (arg6 : Memref sig .tc .vmem S544x128 .bf16) (harg6 : arg6.IsWhole) (arg7 : Memref sig .tc .vmem S544x1024 .bf16) (harg7 : arg7.IsWhole) (arg8 : Memref sig .tc .vmem S544x1024 .bf16) (harg8 : arg8.IsWhole) (arg9 : Memref sig .tc .vmem S1x1024 .f32) (harg9 : arg9.IsWhole) (arg10 : Memref sig .tc .vmem S3072x1024 .bf16) (harg10 : arg10.IsWhole) (arg11 : Memref sig .tc .vmem S544x1024 .f32) (harg11 : arg11.IsWhole) (arg12 : Memref sig .tc .vmem S544x1024 .bf16) (harg12 : arg12.IsWhole) (arg13 : Memref sig .tc .vmem S544x3072 .bf16) (harg13 : arg13.IsWhole) (arg14 : Memref sig .tc .vmem S1x1024 .f32) (harg14 : arg14.IsWhole) (hc0 : cond0_0 i) (x0 : Vec Ideal S544x1024 .f32) (x1 : Vec Ideal S544x1024 .f32) (x2 : Vec Ideal S544x512 .bf16) (x3 : Vec Ideal S544x256 .bf16) (x4 : Vec Ideal S544x128 .bf16) (x5 : Vec Ideal S544x128 .bf16) (x6 : Vec Ideal S544x1024 .bf16) (x7 : Vec Ideal S544x1024 .bf16) (x8 : Vec Ideal S1x1024 .f32) (x9 : Vec Ideal S3072x1024 .bf16) (r : Fin 544) (j : Fin 3072) :
    out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 (ix2 r j)
      = joined (row x2 r) (row x3 r) (row x4 r) (row x6 r) (row x7 r) (row x5 r) j := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9)]
  unfold kernelRun0_A
  dsimp only
  sl_unfold_words
  refine View.canon_apply_of_pieces (fun y : S544x3072.Idx => (fun (r : Fin 544) (j : Fin 3072) => joined (row x2 r) (row x3 r) (row x4 r) (row x6 r) (row x7 r) (row x5 r) j) (y 0) (y 1)) _ ?_ (ix2 r j)
    (cover0_A_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 (ix2 r j))
  refine List.forall_mem_cons.2 ⟨?_, List.forall_mem_cons.2 ⟨?_, List.forall_mem_cons.2 ⟨?_, List.forall_mem_cons.2 ⟨?_, List.forall_mem_cons.2 ⟨?_, List.forall_mem_cons.2 ⟨?_, fun p hp => absurd hp List.not_mem_nil⟩⟩⟩⟩⟩⟩
  · refine piece_eq (N := 544) (C := 3072) (w := 1024) (off := 2048) (e := .bf16) (Val := Elt Ideal)
      (fun (r : Fin 544) (j : Fin 3072) => joined (row x2 r) (row x3 r) (row x4 r) (row x6 r) (row x7 r) (row x5 r) j) inb_S544x3072_S544x1024_0_2048 (by omega) _ fun r a => ?_
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread]
    refine Eq.trans ?_ (joined_5 (row x2 r) (row x3 r) (row x4 r) (row x6 r) (row x7 r) (row x5 r) a).symm
    unfold_payloads
    pointwise
  · refine piece_eq (N := 544) (C := 3072) (w := 1024) (off := 1024) (e := .bf16) (Val := Elt Ideal)
      (fun (r : Fin 544) (j : Fin 3072) => joined (row x2 r) (row x3 r) (row x4 r) (row x6 r) (row x7 r) (row x5 r) j) inb_S544x3072_S544x1024_0_1024 (by omega) _ fun r a => ?_
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread]
    refine Eq.trans ?_ (joined_4 (row x2 r) (row x3 r) (row x4 r) (row x6 r) (row x7 r) (row x5 r) a).symm
    unfold_payloads
    pointwise
  · refine piece_eq (N := 544) (C := 3072) (w := 128) (off := 896) (e := .bf16) (Val := Elt Ideal)
      (fun (r : Fin 544) (j : Fin 3072) => joined (row x2 r) (row x3 r) (row x4 r) (row x6 r) (row x7 r) (row x5 r) j) inb_S544x3072_S544x128_0_896 (by omega) _ fun r a => ?_
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread]
    refine Eq.trans ?_ (joined_3 (row x2 r) (row x3 r) (row x4 r) (row x6 r) (row x7 r) (row x5 r) a).symm
    unfold_payloads
    pointwise
  · refine piece_eq (N := 544) (C := 3072) (w := 128) (off := 768) (e := .bf16) (Val := Elt Ideal)
      (fun (r : Fin 544) (j : Fin 3072) => joined (row x2 r) (row x3 r) (row x4 r) (row x6 r) (row x7 r) (row x5 r) j) inb_S544x3072_S544x128_0_768 (by omega) _ fun r a => ?_
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread]
    refine Eq.trans ?_ (joined_2 (row x2 r) (row x3 r) (row x4 r) (row x6 r) (row x7 r) (row x5 r) a).symm
    unfold_payloads
    pointwise
  · refine piece_eq (N := 544) (C := 3072) (w := 256) (off := 512) (e := .bf16) (Val := Elt Ideal)
      (fun (r : Fin 544) (j : Fin 3072) => joined (row x2 r) (row x3 r) (row x4 r) (row x6 r) (row x7 r) (row x5 r) j) inb_S544x3072_S544x256_0_512 (by omega) _ fun r a => ?_
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread]
    refine Eq.trans ?_ (joined_1 (row x2 r) (row x3 r) (row x4 r) (row x6 r) (row x7 r) (row x5 r) a).symm
    unfold_payloads
    pointwise
  · refine piece_eq (N := 544) (C := 3072) (w := 512) (off := 0) (e := .bf16) (Val := Elt Ideal)
      (fun (r : Fin 544) (j : Fin 3072) => joined (row x2 r) (row x3 r) (row x4 r) (row x6 r) (row x7 r) (row x5 r) j) inb_S544x3072_S544x512_0_0 (by omega) _ fun r a => ?_
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread]
    refine Eq.trans ?_ (joined_0 (row x2 r) (row x3 r) (row x4 r) (row x6 r) (row x7 r) (row x5 r) a).symm
    unfold_payloads
    pointwise

theorem out_A_13 (c : Dev nD) (i : grid0.Coords) (arg1 : Memref sig .tc .vmem S544x1024 .f32) (harg1 : arg1.IsWhole) (arg2 : Memref sig .tc .vmem S544x1024 .f32) (harg2 : arg2.IsWhole) (arg3 : Memref sig .tc .vmem S544x512 .bf16) (harg3 : arg3.IsWhole) (arg4 : Memref sig .tc .vmem S544x256 .bf16) (harg4 : arg4.IsWhole) (arg5 : Memref sig .tc .vmem S544x128 .bf16) (harg5 : arg5.IsWhole) (arg6 : Memref sig .tc .vmem S544x128 .bf16) (harg6 : arg6.IsWhole) (arg7 : Memref sig .tc .vmem S544x1024 .bf16) (harg7 : arg7.IsWhole) (arg8 : Memref sig .tc .vmem S544x1024 .bf16) (harg8 : arg8.IsWhole) (arg9 : Memref sig .tc .vmem S1x1024 .f32) (harg9 : arg9.IsWhole) (arg10 : Memref sig .tc .vmem S3072x1024 .bf16) (harg10 : arg10.IsWhole) (arg11 : Memref sig .tc .vmem S544x1024 .f32) (harg11 : arg11.IsWhole) (arg12 : Memref sig .tc .vmem S544x1024 .bf16) (harg12 : arg12.IsWhole) (arg13 : Memref sig .tc .vmem S544x3072 .bf16) (harg13 : arg13.IsWhole) (arg14 : Memref sig .tc .vmem S1x1024 .f32) (harg14 : arg14.IsWhole) (hc0 : cond0_0 i) (x0 : Vec Ideal S544x1024 .f32) (x1 : Vec Ideal S544x1024 .f32) (x2 : Vec Ideal S544x512 .bf16) (x3 : Vec Ideal S544x256 .bf16) (x4 : Vec Ideal S544x128 .bf16) (x5 : Vec Ideal S544x128 .bf16) (x6 : Vec Ideal S544x1024 .bf16) (x7 : Vec Ideal S544x1024 .bf16) (x8 : Vec Ideal S1x1024 .f32) (x9 : Vec Ideal S3072x1024 .bf16) (j : Fin 1024) :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 (ix2 0 j)
      = 0 + ∑ r : Fin 544, bHn x2 x3 x4 x5 x6 x7 x9 r j * normed W E (row x0 r) j := by
  unfold bHn out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9)]
  unfold kernelRun0_A
  dsimp only
  sl_unfold_words
  rw [View.canon_cons_unit_zero (S := S1x1024) hz, View.readCov_unit_zero (S := S1x1024) _ hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread]
  unfold_payloads
  pointwise

theorem out_B_10 (c : Dev nD) (i : grid0.Coords) (arg1 : Memref sig .tc .vmem S544x1024 .f32) (harg1 : arg1.IsWhole) (arg2 : Memref sig .tc .vmem S544x1024 .f32) (harg2 : arg2.IsWhole) (arg3 : Memref sig .tc .vmem S544x512 .bf16) (harg3 : arg3.IsWhole) (arg4 : Memref sig .tc .vmem S544x256 .bf16) (harg4 : arg4.IsWhole) (arg5 : Memref sig .tc .vmem S544x128 .bf16) (harg5 : arg5.IsWhole) (arg6 : Memref sig .tc .vmem S544x128 .bf16) (harg6 : arg6.IsWhole) (arg7 : Memref sig .tc .vmem S544x1024 .bf16) (harg7 : arg7.IsWhole) (arg8 : Memref sig .tc .vmem S544x1024 .bf16) (harg8 : arg8.IsWhole) (arg9 : Memref sig .tc .vmem S1x1024 .f32) (harg9 : arg9.IsWhole) (arg10 : Memref sig .tc .vmem S3072x1024 .bf16) (harg10 : arg10.IsWhole) (arg11 : Memref sig .tc .vmem S544x1024 .f32) (harg11 : arg11.IsWhole) (arg12 : Memref sig .tc .vmem S544x1024 .bf16) (harg12 : arg12.IsWhole) (arg13 : Memref sig .tc .vmem S544x3072 .bf16) (harg13 : arg13.IsWhole) (arg14 : Memref sig .tc .vmem S1x1024 .f32) (harg14 : arg14.IsWhole) (hc0 : ¬cond0_0 i) (x0 : Vec Ideal S544x1024 .f32) (x1 : Vec Ideal S544x1024 .f32) (x2 : Vec Ideal S544x512 .bf16) (x3 : Vec Ideal S544x256 .bf16) (x4 : Vec Ideal S544x128 .bf16) (x5 : Vec Ideal S544x128 .bf16) (x6 : Vec Ideal S544x1024 .bf16) (x7 : Vec Ideal S544x1024 .bf16) (x8 : Vec Ideal S1x1024 .f32) (x9 : Vec Ideal S3072x1024 .bf16) (xo13 : Vec Ideal S1x1024 .f32) (r : Fin 544) (j : Fin 1024) :
    out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xo13 (ix2 r j)
      = x1 (ix2 r j) + back W E (row x0 r) (fun k => bHn x2 x3 x4 x5 x6 x7 x9 r k * x8 (ix2 0 k)) j := by
  unfold bHn out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xo13)]
  unfold kernelRun0_B
  dsimp only
  sl_unfold_words
  rw [View.canon_unit_zero (S := S544x1024) hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread]
  unfold_payloads
  pointwise

theorem out_B_11 (c : Dev nD) (i : grid0.Coords) (arg1 : Memref sig .tc .vmem S544x1024 .f32) (harg1 : arg1.IsWhole) (arg2 : Memref sig .tc .vmem S544x1024 .f32) (harg2 : arg2.IsWhole) (arg3 : Memref sig .tc .vmem S544x512 .bf16) (harg3 : arg3.IsWhole) (arg4 : Memref sig .tc .vmem S544x256 .bf16) (harg4 : arg4.IsWhole) (arg5 : Memref sig .tc .vmem S544x128 .bf16) (harg5 : arg5.IsWhole) (arg6 : Memref sig .tc .vmem S544x128 .bf16) (harg6 : arg6.IsWhole) (arg7 : Memref sig .tc .vmem S544x1024 .bf16) (harg7 : arg7.IsWhole) (arg8 : Memref sig .tc .vmem S544x1024 .bf16) (harg8 : arg8.IsWhole) (arg9 : Memref sig .tc .vmem S1x1024 .f32) (harg9 : arg9.IsWhole) (arg10 : Memref sig .tc .vmem S3072x1024 .bf16) (harg10 : arg10.IsWhole) (arg11 : Memref sig .tc .vmem S544x1024 .f32) (harg11 : arg11.IsWhole) (arg12 : Memref sig .tc .vmem S544x1024 .bf16) (harg12 : arg12.IsWhole) (arg13 : Memref sig .tc .vmem S544x3072 .bf16) (harg13 : arg13.IsWhole) (arg14 : Memref sig .tc .vmem S1x1024 .f32) (harg14 : arg14.IsWhole) (hc0 : ¬cond0_0 i) (x0 : Vec Ideal S544x1024 .f32) (x1 : Vec Ideal S544x1024 .f32) (x2 : Vec Ideal S544x512 .bf16) (x3 : Vec Ideal S544x256 .bf16) (x4 : Vec Ideal S544x128 .bf16) (x5 : Vec Ideal S544x128 .bf16) (x6 : Vec Ideal S544x1024 .bf16) (x7 : Vec Ideal S544x1024 .bf16) (x8 : Vec Ideal S1x1024 .f32) (x9 : Vec Ideal S3072x1024 .bf16) (xo13 : Vec Ideal S1x1024 .f32) (r : Fin 544) (j : Fin 1024) :
    out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xo13 (ix2 r j)
      = normed W E (row x0 r) j * x8 (ix2 0 j) := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xo13)]
  unfold kernelRun0_B
  dsimp only
  sl_unfold_words
  rw [View.canon_unit_zero (S := S544x1024) hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread]
  unfold_payloads
  pointwise

theorem out_B_12 (c : Dev nD) (i : grid0.Coords) (arg1 : Memref sig .tc .vmem S544x1024 .f32) (harg1 : arg1.IsWhole) (arg2 : Memref sig .tc .vmem S544x1024 .f32) (harg2 : arg2.IsWhole) (arg3 : Memref sig .tc .vmem S544x512 .bf16) (harg3 : arg3.IsWhole) (arg4 : Memref sig .tc .vmem S544x256 .bf16) (harg4 : arg4.IsWhole) (arg5 : Memref sig .tc .vmem S544x128 .bf16) (harg5 : arg5.IsWhole) (arg6 : Memref sig .tc .vmem S544x128 .bf16) (harg6 : arg6.IsWhole) (arg7 : Memref sig .tc .vmem S544x1024 .bf16) (harg7 : arg7.IsWhole) (arg8 : Memref sig .tc .vmem S544x1024 .bf16) (harg8 : arg8.IsWhole) (arg9 : Memref sig .tc .vmem S1x1024 .f32) (harg9 : arg9.IsWhole) (arg10 : Memref sig .tc .vmem S3072x1024 .bf16) (harg10 : arg10.IsWhole) (arg11 : Memref sig .tc .vmem S544x1024 .f32) (harg11 : arg11.IsWhole) (arg12 : Memref sig .tc .vmem S544x1024 .bf16) (harg12 : arg12.IsWhole) (arg13 : Memref sig .tc .vmem S544x3072 .bf16) (harg13 : arg13.IsWhole) (arg14 : Memref sig .tc .vmem S1x1024 .f32) (harg14 : arg14.IsWhole) (hc0 : ¬cond0_0 i) (x0 : Vec Ideal S544x1024 .f32) (x1 : Vec Ideal S544x1024 .f32) (x2 : Vec Ideal S544x512 .bf16) (x3 : Vec Ideal S544x256 .bf16) (x4 : Vec Ideal S544x128 .bf16) (x5 : Vec Ideal S544x128 .bf16) (x6 : Vec Ideal S544x1024 .bf16) (x7 : Vec Ideal S544x1024 .bf16) (x8 : Vec Ideal S1x1024 .f32) (x9 : Vec Ideal S3072x1024 .bf16) (xo13 : Vec Ideal S1x1024 .f32) (r : Fin 544) (j : Fin 3072) :
    out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xo13 (ix2 r j)
      = joined (row x2 r) (row x3 r) (row x4 r) (row x6 r) (row x7 r) (row x5 r) j := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xo13)]
  unfold kernelRun0_B
  dsimp only
  sl_unfold_words
  refine View.canon_apply_of_pieces (fun y : S544x3072.Idx => (fun (r : Fin 544) (j : Fin 3072) => joined (row x2 r) (row x3 r) (row x4 r) (row x6 r) (row x7 r) (row x5 r) j) (y 0) (y 1)) _ ?_ (ix2 r j)
    (cover0_B_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xo13 (ix2 r j))
  refine List.forall_mem_cons.2 ⟨?_, List.forall_mem_cons.2 ⟨?_, List.forall_mem_cons.2 ⟨?_, List.forall_mem_cons.2 ⟨?_, List.forall_mem_cons.2 ⟨?_, List.forall_mem_cons.2 ⟨?_, fun p hp => absurd hp List.not_mem_nil⟩⟩⟩⟩⟩⟩
  · refine piece_eq (N := 544) (C := 3072) (w := 1024) (off := 2048) (e := .bf16) (Val := Elt Ideal)
      (fun (r : Fin 544) (j : Fin 3072) => joined (row x2 r) (row x3 r) (row x4 r) (row x6 r) (row x7 r) (row x5 r) j) inb_S544x3072_S544x1024_0_2048 (by omega) _ fun r a => ?_
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread]
    refine Eq.trans ?_ (joined_5 (row x2 r) (row x3 r) (row x4 r) (row x6 r) (row x7 r) (row x5 r) a).symm
    unfold_payloads
    pointwise
  · refine piece_eq (N := 544) (C := 3072) (w := 1024) (off := 1024) (e := .bf16) (Val := Elt Ideal)
      (fun (r : Fin 544) (j : Fin 3072) => joined (row x2 r) (row x3 r) (row x4 r) (row x6 r) (row x7 r) (row x5 r) j) inb_S544x3072_S544x1024_0_1024 (by omega) _ fun r a => ?_
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread]
    refine Eq.trans ?_ (joined_4 (row x2 r) (row x3 r) (row x4 r) (row x6 r) (row x7 r) (row x5 r) a).symm
    unfold_payloads
    pointwise
  · refine piece_eq (N := 544) (C := 3072) (w := 128) (off := 896) (e := .bf16) (Val := Elt Ideal)
      (fun (r : Fin 544) (j : Fin 3072) => joined (row x2 r) (row x3 r) (row x4 r) (row x6 r) (row x7 r) (row x5 r) j) inb_S544x3072_S544x128_0_896 (by omega) _ fun r a => ?_
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread]
    refine Eq.trans ?_ (joined_3 (row x2 r) (row x3 r) (row x4 r) (row x6 r) (row x7 r) (row x5 r) a).symm
    unfold_payloads
    pointwise
  · refine piece_eq (N := 544) (C := 3072) (w := 128) (off := 768) (e := .bf16) (Val := Elt Ideal)
      (fun (r : Fin 544) (j : Fin 3072) => joined (row x2 r) (row x3 r) (row x4 r) (row x6 r) (row x7 r) (row x5 r) j) inb_S544x3072_S544x128_0_768 (by omega) _ fun r a => ?_
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread]
    refine Eq.trans ?_ (joined_2 (row x2 r) (row x3 r) (row x4 r) (row x6 r) (row x7 r) (row x5 r) a).symm
    unfold_payloads
    pointwise
  · refine piece_eq (N := 544) (C := 3072) (w := 256) (off := 512) (e := .bf16) (Val := Elt Ideal)
      (fun (r : Fin 544) (j : Fin 3072) => joined (row x2 r) (row x3 r) (row x4 r) (row x6 r) (row x7 r) (row x5 r) j) inb_S544x3072_S544x256_0_512 (by omega) _ fun r a => ?_
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread]
    refine Eq.trans ?_ (joined_1 (row x2 r) (row x3 r) (row x4 r) (row x6 r) (row x7 r) (row x5 r) a).symm
    unfold_payloads
    pointwise
  · refine piece_eq (N := 544) (C := 3072) (w := 512) (off := 0) (e := .bf16) (Val := Elt Ideal)
      (fun (r : Fin 544) (j : Fin 3072) => joined (row x2 r) (row x3 r) (row x4 r) (row x6 r) (row x7 r) (row x5 r) j) inb_S544x3072_S544x512_0_0 (by omega) _ fun r a => ?_
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread]
    refine Eq.trans ?_ (joined_0 (row x2 r) (row x3 r) (row x4 r) (row x6 r) (row x7 r) (row x5 r) a).symm
    unfold_payloads
    pointwise

theorem out_B_13 (c : Dev nD) (i : grid0.Coords) (arg1 : Memref sig .tc .vmem S544x1024 .f32) (harg1 : arg1.IsWhole) (arg2 : Memref sig .tc .vmem S544x1024 .f32) (harg2 : arg2.IsWhole) (arg3 : Memref sig .tc .vmem S544x512 .bf16) (harg3 : arg3.IsWhole) (arg4 : Memref sig .tc .vmem S544x256 .bf16) (harg4 : arg4.IsWhole) (arg5 : Memref sig .tc .vmem S544x128 .bf16) (harg5 : arg5.IsWhole) (arg6 : Memref sig .tc .vmem S544x128 .bf16) (harg6 : arg6.IsWhole) (arg7 : Memref sig .tc .vmem S544x1024 .bf16) (harg7 : arg7.IsWhole) (arg8 : Memref sig .tc .vmem S544x1024 .bf16) (harg8 : arg8.IsWhole) (arg9 : Memref sig .tc .vmem S1x1024 .f32) (harg9 : arg9.IsWhole) (arg10 : Memref sig .tc .vmem S3072x1024 .bf16) (harg10 : arg10.IsWhole) (arg11 : Memref sig .tc .vmem S544x1024 .f32) (harg11 : arg11.IsWhole) (arg12 : Memref sig .tc .vmem S544x1024 .bf16) (harg12 : arg12.IsWhole) (arg13 : Memref sig .tc .vmem S544x3072 .bf16) (harg13 : arg13.IsWhole) (arg14 : Memref sig .tc .vmem S1x1024 .f32) (harg14 : arg14.IsWhole) (hc0 : ¬cond0_0 i) (x0 : Vec Ideal S544x1024 .f32) (x1 : Vec Ideal S544x1024 .f32) (x2 : Vec Ideal S544x512 .bf16) (x3 : Vec Ideal S544x256 .bf16) (x4 : Vec Ideal S544x128 .bf16) (x5 : Vec Ideal S544x128 .bf16) (x6 : Vec Ideal S544x1024 .bf16) (x7 : Vec Ideal S544x1024 .bf16) (x8 : Vec Ideal S1x1024 .f32) (x9 : Vec Ideal S3072x1024 .bf16) (xo13 : Vec Ideal S1x1024 .f32) (j : Fin 1024) :
    out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xo13 (ix2 0 j)
      = xo13 (ix2 0 j) + ∑ r : Fin 544, bHn x2 x3 x4 x5 x6 x7 x9 r j * normed W E (row x0 r) j := by
  unfold bHn out0_B_13
  rw [View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xo13)]
  unfold kernelRun0_B
  dsimp only
  sl_unfold_words
  rw [View.canon_unit_zero (S := S1x1024) hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread]
  unfold_payloads
  pointwise

end Cert.InBwdValue

end
-- ==== Proof.InBwdArrays.lean ====
/-
  What the input projection's backward kernel's four result arrays end holding, entry by entry, from the argument arrays.
-/
module

public import proofs.«01_k».proof.Proof.InBwdBlock
public import proofs.«01_k».proof.Proof.Gen.InBwdIdeal.Value

@[expose] public section

noncomputable section

namespace Cert.InBwdValue

open Idealize.ShloMosaic Idealize.ShloMosaic.TcCoe Idealize.SL.Sem Cert.InBwdIdeal Cert.InBwdIdeal.Gen
open Idealize.ShloMosaic.Pipeline (Dat Cfg Window)
open Cert.RmsRow Cert.InLayout Cert.InPieces Cert.InBwdFormula
open Cert.FfnFormula (W E row hn)

variable (m : (ℓ : Loc nD τ sig) → Buf (Elt Ideal) ℓ) (c : Dev nD)

/-- The argument arrays as launched. -/
abbrev h : FVec Ideal S4352x1024 .f32 := m ((c : Thread nD τ).loc main_arg0)
abbrev ct : FVec Ideal S4352x1024 .f32 := m ((c : Thread nD τ).loc main_arg1)
abbrev du : FVec Ideal S4352x512 .bf16 := m ((c : Thread nD τ).loc main_arg2)
abbrev dcq : FVec Ideal S4352x256 .bf16 := m ((c : Thread nD τ).loc main_arg3)
abbrev dckv : FVec Ideal S4352x128 .bf16 := m ((c : Thread nD τ).loc main_arg4)
abbrev dkr : FVec Ideal S4352x32 .bf16 := m ((c : Thread nD τ).loc main_arg5)
abbrev dga : FVec Ideal S4352x1024 .bf16 := m ((c : Thread nD τ).loc main_arg6)
abbrev dgb : FVec Ideal S4352x1024 .bf16 := m ((c : Thread nD τ).loc main_arg7)
abbrev g : FVec Ideal S1024 .f32 := m ((c : Thread nD τ).loc main_arg8)
abbrev w : FVec Ideal S1024x2976 .f32 := m ((c : Thread nD τ).loc main_arg9)

/-! ### The arrays the host prepares before the call -/

/-- The rotary key's gradient at 64 of a block of 128. -/
abbrev hKr (dkr : FVec Ideal S4352x32 .bf16) : FVec Ideal S4352x128 .bf16 :=
  pad S4352x128 ![0, 64] ![0, 32] ![0, 0] dkr (sitofp (F := Ideal) .bf16 (constantI S_ 32 0#32)) pads_S4352x32_S4352x128_000_64320 h_S_
theorem V_v0 : V m c main_v0 = hKr (dkr m c) := by
  simp only [V, hostOps0, hostOps0_1, hostOps0_2, hostOps0_3, hostOps0_4, List.flatten_cons, List.flatten_nil, List.append_nil, List.cons_append,
    List.nil_append, StableHlo.TRef.binary, StableHlo.TRef.unary, StableHlo.TRef.toBuf, StableHlo.TRef.ofBuf, cast_eq]
  after_results_simp <;> rfl
theorem hKr_apply (dkr : FVec Ideal S4352x32 .bf16) (i : Fin 4352) (j : Fin 128) :
    hKr dkr (ix2 i j) = wide (row dkr i) j := by
  have hz : FloatOps.sitofp (F := Ideal) FTy.bf16 0#32 = (0 : EReal) := (Ideal.scalar_sitofp_def (φ := .bf16) 0#32).trans (by simp)
  pointwise
  unfold wide
  split_ifs <;> first | rfl | exact hz
abbrev hG (g : FVec Ideal S1024 .f32) : FVec Ideal S1x1024 .f32 :=
  broadcastInDim S1x1024 ![1] bcast_S1024_S1x1024_1 g
theorem V_v1 : V m c main_v1 = hG (g m c) := by
  simp only [V, hostOps0, hostOps0_1, hostOps0_2, hostOps0_3, hostOps0_4, List.flatten_cons, List.flatten_nil, List.append_nil, List.cons_append,
    List.nil_append, StableHlo.TRef.binary, StableHlo.TRef.unary, StableHlo.TRef.toBuf, StableHlo.TRef.ofBuf, cast_eq]
  after_results_simp <;> rfl
theorem hG_apply (g : FVec Ideal S1024 .f32) (z : Fin 1) (k : Fin 1024) :
    hG g (ix2 z k) = g (ix1 k) := by
  pointwise
/-- The weight transposed, the rotary key's 32 rows at 64 of a block of 128. -/
abbrev hW (w : FVec Ideal S1024x2976 .f32) : FVec Ideal S3072x1024 .bf16 :=
  truncf .bf16 (concatenate S3072x1024 0 [
    ⟨S896x1024, (extractStridedSlice S896x1024 ![0, 0] (transpose S2976x1024 [1, 0] w transposes_S1024x2976_S2976x1024_1_0) slices_S2976x1024_S896x1024_0_0 : FVec Ideal S896x1024 .f32)⟩,
    ⟨S128x1024, (pad S128x1024 ![64, 0] ![32, 0] ![0, 0]
      (extractStridedSlice S32x1024 ![896, 0] (transpose S2976x1024 [1, 0] w transposes_S1024x2976_S2976x1024_1_0) slices_S2976x1024_S32x1024_896_0)
      (sitofp (F := Ideal) .f32 (constantI S_ 32 0#32)) pads_S32x1024_S128x1024_64320_000 h_S_ : FVec Ideal S128x1024 .f32)⟩,
    ⟨S2048x1024, (extractStridedSlice S2048x1024 ![928, 0] (transpose S2976x1024 [1, 0] w transposes_S1024x2976_S2976x1024_1_0) slices_S2976x1024_S2048x1024_928_0 : FVec Ideal S2048x1024 .f32)⟩]
    concatenates_S896x1024_S128x1024_S2048x1024_S3072x1024_d0 : FVec Ideal S3072x1024 .f32) bitsLt_bf16_f32
theorem V_v8 : V m c main_v8 = hW (w m c) := by
  simp only [V, hostOps0, hostOps0_1, hostOps0_2, hostOps0_3, hostOps0_4, List.flatten_cons, List.flatten_nil, List.append_nil, List.cons_append,
    List.nil_append, StableHlo.TRef.binary, StableHlo.TRef.unary, StableHlo.TRef.toBuf, StableHlo.TRef.ofBuf, cast_eq]
  after_results_simp <;> rfl
theorem hW_apply (w : FVec Ideal S1024x2976 .f32) (j : Fin 3072) (k : Fin 1024) :
    hW w (ix2 j k) = padCol j fun q => w (ix2 k q) := by
  pointwise
  exact padCol_read j fun q => w (ix2 k q)

/-! ### Blocks of the arrays -/

/-- Token `r` of block `t`. -/
abbrev tok (t : Fin cfg0.N) (r : Fin 544) : Fin 4352 := ⟨t.val * 544 + r.val, by
  have := t.isLt; have h : cfg0.N = 8 := N_0; have := r.isLt; omega⟩
/-- Every token is some block's. -/
theorem exists_tok (i : Fin 4352) : ∃ t r, i = tok t r :=
  ⟨⟨i.val / 544, by have h : cfg0.N = 8 := N_0; omega⟩, ⟨i.val % 544, Nat.mod_lt _ (by decide)⟩, Fin.ext (by simp only []; omega)⟩

theorem idx0 : ∀ t : Fin grid0.N, win0_0.index t 0 = t.val ∧ win0_0.index t 1 = 0 := by decide +kernel
theorem blk0 (t : Fin cfg0.N) (r : Fin 544) (j : Fin 1024) : iblk m c 0 t (ix2 r j) = (h m c) (ix2 (tok t r) j) := by
  show V m c main_arg0 ((win0_0.rect t).emb (ix2 r j)) = _
  rw [V_main_arg0]
  refine congrArg (h m c) (Shape.idx_ext₂ ?_ ?_)
  · exact (win0_0.rect_emb_val t _ 0).trans (by rw [(idx0 t).1]; simp)
  · exact (win0_0.rect_emb_val t _ 1).trans (by rw [(idx0 t).2]; simp)
theorem idx1 : ∀ t : Fin grid0.N, win0_1.index t 0 = t.val ∧ win0_1.index t 1 = 0 := by decide +kernel
theorem blk1 (t : Fin cfg0.N) (r : Fin 544) (j : Fin 1024) : iblk m c 1 t (ix2 r j) = (ct m c) (ix2 (tok t r) j) := by
  show V m c main_arg1 ((win0_1.rect t).emb (ix2 r j)) = _
  rw [V_main_arg1]
  refine congrArg (ct m c) (Shape.idx_ext₂ ?_ ?_)
  · exact (win0_1.rect_emb_val t _ 0).trans (by rw [(idx1 t).1]; simp)
  · exact (win0_1.rect_emb_val t _ 1).trans (by rw [(idx1 t).2]; simp)
theorem idx2 : ∀ t : Fin grid0.N, win0_2.index t 0 = t.val ∧ win0_2.index t 1 = 0 := by decide +kernel
theorem blk2 (t : Fin cfg0.N) (r : Fin 544) (j : Fin 512) : iblk m c 2 t (ix2 r j) = (du m c) (ix2 (tok t r) j) := by
  show V m c main_arg2 ((win0_2.rect t).emb (ix2 r j)) = _
  rw [V_main_arg2]
  refine congrArg (du m c) (Shape.idx_ext₂ ?_ ?_)
  · exact (win0_2.rect_emb_val t _ 0).trans (by rw [(idx2 t).1]; simp)
  · exact (win0_2.rect_emb_val t _ 1).trans (by rw [(idx2 t).2]; simp)
theorem idx3 : ∀ t : Fin grid0.N, win0_3.index t 0 = t.val ∧ win0_3.index t 1 = 0 := by decide +kernel
theorem blk3 (t : Fin cfg0.N) (r : Fin 544) (j : Fin 256) : iblk m c 3 t (ix2 r j) = (dcq m c) (ix2 (tok t r) j) := by
  show V m c main_arg3 ((win0_3.rect t).emb (ix2 r j)) = _
  rw [V_main_arg3]
  refine congrArg (dcq m c) (Shape.idx_ext₂ ?_ ?_)
  · exact (win0_3.rect_emb_val t _ 0).trans (by rw [(idx3 t).1]; simp)
  · exact (win0_3.rect_emb_val t _ 1).trans (by rw [(idx3 t).2]; simp)
theorem idx4 : ∀ t : Fin grid0.N, win0_4.index t 0 = t.val ∧ win0_4.index t 1 = 0 := by decide +kernel
theorem blk4 (t : Fin cfg0.N) (r : Fin 544) (j : Fin 128) : iblk m c 4 t (ix2 r j) = (dckv m c) (ix2 (tok t r) j) := by
  show V m c main_arg4 ((win0_4.rect t).emb (ix2 r j)) = _
  rw [V_main_arg4]
  refine congrArg (dckv m c) (Shape.idx_ext₂ ?_ ?_)
  · exact (win0_4.rect_emb_val t _ 0).trans (by rw [(idx4 t).1]; simp)
  · exact (win0_4.rect_emb_val t _ 1).trans (by rw [(idx4 t).2]; simp)
theorem idx6 : ∀ t : Fin grid0.N, win0_6.index t 0 = t.val ∧ win0_6.index t 1 = 0 := by decide +kernel
theorem blk6 (t : Fin cfg0.N) (r : Fin 544) (j : Fin 1024) : iblk m c 6 t (ix2 r j) = (dga m c) (ix2 (tok t r) j) := by
  show V m c main_arg6 ((win0_6.rect t).emb (ix2 r j)) = _
  rw [V_main_arg6]
  refine congrArg (dga m c) (Shape.idx_ext₂ ?_ ?_)
  · exact (win0_6.rect_emb_val t _ 0).trans (by rw [(idx6 t).1]; simp)
  · exact (win0_6.rect_emb_val t _ 1).trans (by rw [(idx6 t).2]; simp)
theorem idx7 : ∀ t : Fin grid0.N, win0_7.index t 0 = t.val ∧ win0_7.index t 1 = 0 := by decide +kernel
theorem blk7 (t : Fin cfg0.N) (r : Fin 544) (j : Fin 1024) : iblk m c 7 t (ix2 r j) = (dgb m c) (ix2 (tok t r) j) := by
  show V m c main_arg7 ((win0_7.rect t).emb (ix2 r j)) = _
  rw [V_main_arg7]
  refine congrArg (dgb m c) (Shape.idx_ext₂ ?_ ?_)
  · exact (win0_7.rect_emb_val t _ 0).trans (by rw [(idx7 t).1]; simp)
  · exact (win0_7.rect_emb_val t _ 1).trans (by rw [(idx7 t).2]; simp)
theorem idx5 : ∀ t : Fin grid0.N, win0_5.index t 0 = t.val ∧ win0_5.index t 1 = 0 := by decide +kernel
theorem blk5 (t : Fin cfg0.N) (r : Fin 544) (j : Fin 128) : iblk m c 5 t (ix2 r j) = (hKr (dkr m c)) (ix2 (tok t r) j) := by
  show V m c main_v0 ((win0_5.rect t).emb (ix2 r j)) = _
  rw [V_v0]
  refine congrArg (hKr (dkr m c)) (Shape.idx_ext₂ ?_ ?_)
  · exact (win0_5.rect_emb_val t _ 0).trans (by rw [(idx5 t).1]; simp)
  · exact (win0_5.rect_emb_val t _ 1).trans (by rw [(idx5 t).2]; simp)
theorem idx8 : ∀ t : Fin grid0.N, win0_8.index t 0 = 0 ∧ win0_8.index t 1 = 0 := by decide +kernel
theorem blk8 (t : Fin cfg0.N) (r : Fin 1) (j : Fin 1024) : iblk m c 8 t (ix2 r j) = (hG (g m c)) (ix2 r j) := by
  show V m c main_v1 ((win0_8.rect t).emb (ix2 r j)) = _
  rw [V_v1]
  refine congrArg (hG (g m c)) (Shape.idx_ext₂ ?_ ?_)
  · exact (win0_8.rect_emb_val t _ 0).trans (by rw [(idx8 t).1]; simp)
  · exact (win0_8.rect_emb_val t _ 1).trans (by rw [(idx8 t).2]; simp)
theorem idx9 : ∀ t : Fin grid0.N, win0_9.index t 0 = 0 ∧ win0_9.index t 1 = 0 := by decide +kernel
theorem blk9 (t : Fin cfg0.N) (r : Fin 3072) (j : Fin 1024) : iblk m c 9 t (ix2 r j) = (hW (w m c)) (ix2 r j) := by
  show V m c main_v8 ((win0_9.rect t).emb (ix2 r j)) = _
  rw [V_v8]
  refine congrArg (hW (w m c)) (Shape.idx_ext₂ ?_ ?_)
  · exact (win0_9.rect_emb_val t _ 0).trans (by rw [(idx9 t).1]; simp)
  · exact (win0_9.rect_emb_val t _ 1).trans (by rw [(idx9 t).2]; simp)

/-! ### One block's values -/

theorem row0 (t : Fin cfg0.N) (r : Fin 544) : row (iblk m c 0 t : Vec Ideal S544x1024 .f32) r = row (h m c) (tok t r) :=
  funext fun k => blk0 m c t r k
theorem row2 (t : Fin cfg0.N) (r : Fin 544) : row (iblk m c 2 t : Vec Ideal S544x512 .bf16) r = row (du m c) (tok t r) :=
  funext fun k => blk2 m c t r k
theorem row3 (t : Fin cfg0.N) (r : Fin 544) : row (iblk m c 3 t : Vec Ideal S544x256 .bf16) r = row (dcq m c) (tok t r) :=
  funext fun k => blk3 m c t r k
theorem row4 (t : Fin cfg0.N) (r : Fin 544) : row (iblk m c 4 t : Vec Ideal S544x128 .bf16) r = row (dckv m c) (tok t r) :=
  funext fun k => blk4 m c t r k
theorem row5 (t : Fin cfg0.N) (r : Fin 544) : row (iblk m c 5 t : Vec Ideal S544x128 .bf16) r = wide (row (dkr m c) (tok t r)) :=
  funext fun k => (blk5 m c t r k).trans (hKr_apply _ _ _)
theorem row6 (t : Fin cfg0.N) (r : Fin 544) : row (iblk m c 6 t : Vec Ideal S544x1024 .bf16) r = row (dga m c) (tok t r) :=
  funext fun k => blk6 m c t r k
theorem row7 (t : Fin cfg0.N) (r : Fin 544) : row (iblk m c 7 t : Vec Ideal S544x1024 .bf16) r = row (dgb m c) (tok t r) :=
  funext fun k => blk7 m c t r k
theorem bHn_eq (t : Fin cfg0.N) (r : Fin 544) (k : Fin 1024) :
    bHn (iblk m c 2 t) (iblk m c 3 t) (iblk m c 4 t) (iblk m c 5 t) (iblk m c 6 t) (iblk m c 7 t) (iblk m c 9 t) r k
      = dHn (du m c) (dcq m c) (dckv m c) (dkr m c) (dga m c) (dgb m c) (w m c) (tok t r) k := by
  refine Eq.trans ?_ (sum_pieces (row (du m c) (tok t r)) (row (dcq m c) (tok t r)) (row (dckv m c) (tok t r)) (row (dkr m c) (tok t r))
    (row (dga m c) (tok t r)) (row (dgb m c) (tok t r)) fun q => w m c (ix2 k q))
  unfold bHn
  simp only [blk2, blk3, blk4, blk5, blk6, blk7, blk9, hKr_apply, hW_apply]

/-! ### The result arrays -/

theorem idx10 : ∀ t : Fin grid0.N, win0_10.index t 0 = t.val ∧ win0_10.index t 1 = 0 := by decide +kernel
/-- What one point writes back. -/
theorem outs10 (t : Fin cfg0.N) (r : Fin 544) (j : Fin 1024) :
    ((dats m 0 c).flushed 10 t : Vec Ideal S544x1024 _) (ix2 r j) = dH (h m c) (ct m c) (du m c) (dcq m c) (dckv m c) (dkr m c) (dga m c) (dgb m c) (g m c) (w m c) (tok t r) j := by
  by_cases h0 : t.val % 8 = 0
  · rw [Value.flushed10_A m c t h0]
    refine (out_A_10 _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) r j).trans ?_
    rw [blk1, row0]
    exact congrArg (fun d => ct m c (ix2 (tok t r) j) + back W E (row (h m c) (tok t r)) d j)
      (funext fun k => by rw [bHn_eq, blk8, hG_apply])
  · rw [Value.flushed10_B m c t h0]
    refine (out_B_10 _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _ r j).trans ?_
    rw [blk1, row0]
    exact congrArg (fun d => ct m c (ix2 (tok t r) j) + back W E (row (h m c) (tok t r)) d j)
      (funext fun k => by rw [bHn_eq, blk8, hG_apply])
theorem arr10 (i : Fin 4352) (j : Fin 1024) : (dats m 0 c).arrAt 10 cfg0.N (ix2 i j)
    = dH (h m c) (ct m c) (du m c) (dcq m c) (dckv m c) (dkr m c) (dga m c) (dgb m c) (g m c) (w m c) i j := by
  obtain ⟨t, r, rfl⟩ := exists_tok i
  have e : ((cfg0.win 10).blk t).view.emb (ix2 r j) = ix2 (tok t r) j := Shape.idx_ext₂
    ((win0_10.rect_emb_val t _ 0).trans (by rw [(idx10 t).1]; rfl)) ((win0_10.rect_emb_val t _ 1).trans (by rw [(idx10 t).2]; simp))
  refine (congrArg ((dats m 0 c).arrAt 10 cfg0.N) e.symm).trans ?_
  exact ((dats m 0 c).arrAt_emb_eq_flushed 10 Value.disjoint10 t (flush0_10 t) (ix2 r j)).trans (outs10 m c t r j)
theorem idx11 : ∀ t : Fin grid0.N, win0_11.index t 0 = t.val ∧ win0_11.index t 1 = 0 := by decide +kernel
/-- What one point writes back. -/
theorem outs11 (t : Fin cfg0.N) (r : Fin 544) (j : Fin 1024) :
    ((dats m 0 c).flushed 11 t : Vec Ideal S544x1024 _) (ix2 r j) = hn (h m c) (g m c) (tok t r) j := by
  by_cases h0 : t.val % 8 = 0
  · rw [Value.flushed11_A m c t h0]
    refine (out_A_11 _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) r j).trans ?_
    rw [row0, blk8, hG_apply]
    rfl
  · rw [Value.flushed11_B m c t h0]
    refine (out_B_11 _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _ r j).trans ?_
    rw [row0, blk8, hG_apply]
    rfl
theorem arr11 (i : Fin 4352) (j : Fin 1024) : (dats m 0 c).arrAt 11 cfg0.N (ix2 i j)
    = hn (h m c) (g m c) i j := by
  obtain ⟨t, r, rfl⟩ := exists_tok i
  have e : ((cfg0.win 11).blk t).view.emb (ix2 r j) = ix2 (tok t r) j := Shape.idx_ext₂
    ((win0_11.rect_emb_val t _ 0).trans (by rw [(idx11 t).1]; rfl)) ((win0_11.rect_emb_val t _ 1).trans (by rw [(idx11 t).2]; simp))
  refine (congrArg ((dats m 0 c).arrAt 11 cfg0.N) e.symm).trans ?_
  exact ((dats m 0 c).arrAt_emb_eq_flushed 11 Value.disjoint11 t (flush0_11 t) (ix2 r j)).trans (outs11 m c t r j)
theorem idx12 : ∀ t : Fin grid0.N, win0_12.index t 0 = t.val ∧ win0_12.index t 1 = 0 := by decide +kernel
/-- What one point writes back. -/
theorem outs12 (t : Fin cfg0.N) (r : Fin 544) (j : Fin 3072) :
    ((dats m 0 c).flushed 12 t : Vec Ideal S544x3072 _) (ix2 r j) = padCol j (dz (du m c) (dcq m c) (dckv m c) (dkr m c) (dga m c) (dgb m c) (tok t r)) := by
  by_cases h0 : t.val % 8 = 0
  · rw [Value.flushed12_A m c t h0]
    refine (out_A_12 _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) r j).trans ?_
    rw [row2, row3, row4, row5, row6, row7]
    exact joined_wide _ _ _ _ _ _ j
  · rw [Value.flushed12_B m c t h0]
    refine (out_B_12 _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _ r j).trans ?_
    rw [row2, row3, row4, row5, row6, row7]
    exact joined_wide _ _ _ _ _ _ j
theorem arr12 (i : Fin 4352) (j : Fin 3072) : (dats m 0 c).arrAt 12 cfg0.N (ix2 i j)
    = padCol j (dz (du m c) (dcq m c) (dckv m c) (dkr m c) (dga m c) (dgb m c) i) := by
  obtain ⟨t, r, rfl⟩ := exists_tok i
  have e : ((cfg0.win 12).blk t).view.emb (ix2 r j) = ix2 (tok t r) j := Shape.idx_ext₂
    ((win0_12.rect_emb_val t _ 0).trans (by rw [(idx12 t).1]; rfl)) ((win0_12.rect_emb_val t _ 1).trans (by rw [(idx12 t).2]; simp))
  refine (congrArg ((dats m 0 c).arrAt 12 cfg0.N) e.symm).trans ?_
  exact ((dats m 0 c).arrAt_emb_eq_flushed 12 Value.disjoint12 t (flush0_12 t) (ix2 r j)).trans (outs12 m c t r j)

/-- Tokens of the first `n` blocks. -/
def part (n : ℕ) (f : Fin 4352 → EReal) : EReal := ∑ q : Fin n, ∑ r : Fin 544, if h : q.val * 544 + r.val < 4352 then f ⟨_, h⟩ else 0
theorem part_succ (n : ℕ) (hn : n < cfg0.N) (f : Fin 4352 → EReal) :
    part (n + 1) f = part n f + ∑ r : Fin 544, f (tok ⟨n, hn⟩ r) := by
  unfold part
  rw [Fin.sum_univ_castSucc]
  refine congrArg₂ (· + ·) rfl (Finset.sum_congr rfl fun r _ => ?_)
  exact dif_pos (tok ⟨n, hn⟩ r).isLt
theorem part_all (f : Fin 4352 → EReal) : part 8 f = ∑ i, f i := by
  unfold part
  rw [← Finset.sum_product']
  refine Finset.sum_equiv (finProdFinEquiv (m := 8) (n := 544)) (by simp) fun ⟨a, b⟩ _ => ?_
  have hx : a.val * 544 + b.val < 4352 := by omega
  rw [dif_pos hx]
  refine congrArg f (Fin.ext ?_)
  show a.val * 544 + b.val = b.val + 544 * a.val
  omega

/-- What the last window holds after point `n`: the sum over the tokens so far. -/
theorem acc (n : ℕ) (hn : n < cfg0.N) (j : Fin 1024) : (outsAt0 (F := Ideal) m c n hn).2.2.2 (ix2 0 j)
    = part (n + 1) fun i => dHn (du m c) (dcq m c) (dckv m c) (dkr m c) (dga m c) (dgb m c) (w m c) i j * normed W E (row (h m c) i) j := by
  have hN : cfg0.N = 8 := N_0
  induction n with
  | zero =>
    have hA := outsAt0_A (F := Ideal) m c ⟨0, hn⟩ rfl
    dsimp only at hA
    rw [hA]
    dsimp only
    rw [out_A_13, part_succ 0 hn]
    exact congrArg₂ (· + ·) (by simp [part]) (Finset.sum_congr rfl fun r _ => congrArg₂ (· * ·) (bHn_eq m c _ r j) (by rw [row0]))
  | succ n ih =>
    have hB := outsAt0_B (F := Ideal) m c ⟨n + 1, hn⟩ (by dsimp only; omega)
    dsimp only at hB
    rw [hB]
    dsimp only
    rw [out_B_13, part_succ (n + 1) hn]
    exact congrArg₂ (· + ·) (ih (Nat.lt_of_succ_lt hn)) (Finset.sum_congr rfl fun r _ => congrArg₂ (· * ·) (bHn_eq m c _ r j) (by rw [row0]))

theorem flush13 : ∀ t : Fin cfg0.N, (cfg0.win 13).flush t = true ↔ t.val = 7 := by decide +kernel
theorem idx13 : ∀ t : Fin grid0.N, win0_13.index t 0 = 0 ∧ win0_13.index t 1 = 0 := by decide +kernel
theorem arr13 (j : Fin 1024) : (dats m 0 c).arrAt 13 cfg0.N (ix2 0 j) = dG (h m c) (du m c) (dcq m c) (dckv m c) (dkr m c) (dga m c) (dgb m c) (w m c) j := by
  have hN : cfg0.N = 8 := N_0
  have hl : 7 < cfg0.N := by omega
  have e : ((cfg0.win 13).blk ⟨7, hl⟩).view.emb (ix2 (0 : Fin 1) j) = ix2 (0 : Fin 1) j := Shape.idx_ext₂
    ((win0_13.rect_emb_val _ _ 0).trans (by rw [(idx13 _).1]; rfl)) ((win0_13.rect_emb_val _ _ 1).trans (by rw [(idx13 _).2]; simp))
  rw [← e]
  refine ((dats m 0 c).arrAt_emb_eq_flushed 13 (fun t t' ht ht' hne => (hne (Fin.ext (((flush13 t).1 ht).trans ((flush13 t').1 ht').symm))).elim)
    ⟨7, hl⟩ ((flush13 _).2 rfl) (ix2 0 j)).trans ?_
  rw [Value.flushed13]
  exact (acc m c 7 hl j).trans (part_all _)

end Cert.InBwdValue

end
-- ==== Proof.InBwdRefValue.lean ====
/-
  What the input projection's gradient's reference computes, entry by entry: the same formulas.
-/
module

public import proofs.«01_k».proof.Proof.InBwdFormula
public import proofs.«01_k».proof.Proof.Gen.InBwdRefIdeal.Read

@[expose] public section

noncomputable section

namespace Cert.InBwdRefValue

open Idealize.ShloMosaic Cert.InBwdRefIdeal Cert.InBwdRefIdeal.Read
open Cert.RealValues Cert.RmsRow Cert.InLayout Cert.InPieces Cert.InBwdFormula
open Cert.FfnFormula (W E row hn W_eq)

variable (h ct : FVec Ideal S4352x1024 .f32) (du : FVec Ideal S4352x512 .bf16) (dcq : FVec Ideal S4352x256 .bf16)
  (dckv : FVec Ideal S4352x128 .bf16) (dkr : FVec Ideal S4352x32 .bf16) (dga dgb : FVec Ideal S4352x1024 .bf16) (g : FVec Ideal S1024 .f32)
  (w : FVec Ideal S1024x2976 .f32) (i : Fin 4352)

theorem v1 (q : Fin 2976) : val_main_v1 (F := Ideal) du dcq dckv dkr dga dgb (ix2 i q)
    = dz du dcq dckv dkr dga dgb i q := by
  unfold val_main_v1 val_main_v0
  pointwise
  rfl

theorem v9 (z : Fin 1) : val_main_v9 (F := Ideal) h (ix2 i z)
    = factor W E (row h i) := by
  unfold val_main_v9 val_main_v8 val_main_v7 val_main_cst_1 val_main_v6 val_main_v5 val_main_cst_0 val_main_v4 val_main_v3 val_main_cst val_main_v2
  pointwise

theorem v8 (z : Fin 1) : val_main_v8 (F := Ideal) h (ix2 i z)
    = meanSq W E (row h i) := by
  unfold val_main_v8 val_main_v7 val_main_cst_1 val_main_v6 val_main_v5 val_main_cst_0 val_main_v4 val_main_v3 val_main_cst val_main_v2
  pointwise

theorem v14 (j : Fin 1024) : val_main_v14 (F := Ideal) h (ix2 i j)
    = normed W E (row h i) j := by
  unfold val_main_v14 val_main_v13
  pointwise [v9]

theorem v19 (j : Fin 1024) : val_main_v19 (F := Ideal) du dcq dckv dkr dga dgb w (ix2 i j)
    = dHn du dcq dckv dkr dga dgb w i j := by
  unfold val_main_v19
  pointwise [v1]
  rfl

theorem v24 (j : Fin 1024) : val_main_v24 (F := Ideal) du dcq dckv dkr dga dgb g w (ix2 i j)
    = dHn du dcq dckv dkr dga dgb w i j * g (ix1 j) := by
  unfold val_main_v24 val_main_v23 val_main_v15
  pointwise [v19]

theorem v35 (j : Fin 1024) : val_main_v35 (F := Ideal) h du dcq dckv dkr dga dgb g w (ix2 i j)
    = viaMean W E (Ideal.ofBits .f32 3204448256#32) (row h i) (fun k => dHn du dcq dckv dkr dga dgb w i k * g (ix1 k)) := by
  unfold val_main_v35 val_main_v34 val_main_cst_7 val_main_v33 val_main_v32 val_main_cst_6 val_main_v31 val_main_v28 val_main_v27 val_main_cst_5 val_main_v26 val_main_v12 val_main_v11 val_main_cst_2 val_main_v10
  pointwise [v24, v8, v9]
  exact Fin.sum_univ_one _

theorem v54 (j : Fin 1024) : val_main_v54 (F := Ideal) h g (ix2 i j)
    = hn h g i j := by
  unfold val_main_v54 val_main_v53 val_main_v52 val_main_v51 val_main_v50 val_main_v49 val_main_v48 val_main_v47 val_main_v46 val_main_cst_10 val_main_v45 val_main_v44 val_main_cst_9 val_main_v43 val_main_v42 val_main_cst_8 val_main_v41
  pointwise
  rfl

theorem v60 (j : Fin 3072) : val_main_v60 (F := Ideal) du dcq dckv dkr dga dgb (ix2 i j)
    = padCol j (dz du dcq dckv dkr dga dgb i) := by
  unfold val_main_v60 val_main_v59 val_main_v58 val_main_v57 val_main_call0_v0 val_main_c val_main_v56 val_main_v55
  pointwise [v1]
  exact padCol_read j (dz du dcq dckv dkr dga dgb i)

theorem v61 (j : Fin 1024) : val_main_v61 (F := Ideal) h du dcq dckv dkr dga dgb w (ix2 0 j)
    = dG h du dcq dckv dkr dga dgb w j := by
  unfold val_main_v61 val_main_v25 val_main_cst_4 val_main_v22 val_main_v21 val_main_cst_3 val_main_v20
  pointwise [v19, v14]
  exact (Fin.sum_univ_one _).trans (Finset.sum_congr rfl fun _ _ => mul_comm (_ : EReal) _)

variable (hh : ∀ i, IsReal (h i)) (hu : ∀ i, IsReal (du i)) (hq : ∀ i, IsReal (dcq i)) (hkv : ∀ i, IsReal (dckv i)) (hkr : ∀ i, IsReal (dkr i))
  (ha : ∀ i, IsReal (dga i)) (hb : ∀ i, IsReal (dgb i)) (hg : ∀ i, IsReal (g i)) (hw : ∀ i, IsReal (w i))
include hh hu hq hkv hkr ha hb hg hw

theorem v40 (j : Fin 1024) : val_main_v40 (F := Ideal) h ct du dcq dckv dkr dga dgb g w (ix2 i j)
    = dH h ct du dcq dckv dkr dga dgb g w i j := by
  unfold val_main_v40 val_main_v39 val_main_v38 val_main_v37 val_main_v36 val_main_v30 val_main_v29
  pointwise [v24, v35, v9]
  obtain ⟨e, he, hE⟩ := eps_real
  have hd := fun k => (dHn_real (i := i) hu hq hkv hkr ha hb hw k).mul (hg (ix1 k))
  have hb := back_eq 1024 e (by norm_num) he (fun k => hh (ix2 i k)) hd j
  rw [← W_eq, ← hE, ← neg_half] at hb
  unfold dH
  rw [← hb]

end Cert.InBwdRefValue

end
-- ==== Proof.In.lean ====
/-
  The input projection's backward kernel and its reference leave the same four arrays where every argument is real.
-/
module

public import proofs.«01_k».proof.Defs
public import proofs.«01_k».proof.Proof.InBwdArrays
public import proofs.«01_k».proof.Proof.InBwdRefValue
public import proofs.«01_k».proof.Proof.Gen.InBwdRefIdeal.Run

@[expose] public section

noncomputable section

namespace Cert.In

open Idealize.ShloMosaic Idealize.ShloMosaic.TcCoe Idealize.SL.Sem Cert.InBwdRefIdeal.Read
open Cert.RealValues

/-- Two arrays with two axes are equal where their entries are. -/
theorem arr_ext {p q : Nat} {x y : (⟨2, ![p, q]⟩ : Shape).Idx → EReal} (h : ∀ i j, x (ix2 i j) = y (ix2 i j)) : x = y :=
  funext fun i => by rw [eq_ix2 i]; exact h _ _

theorem facts_pre : Cert.Pre_in_finite.Facts := by constructor <;> decide

theorem and_one : ∀ x y : BitVec 1, IntOp.andi x y = 1#1 → x = 1#1 ∧ y = 1#1 := by decide

/-- The precondition says every argument is real. -/
theorem real_of_pre {h : FVec Ideal ⟨2, ![4352, 1024]⟩ .f32} {ct : FVec Ideal ⟨2, ![4352, 1024]⟩ .f32} {du : FVec Ideal ⟨2, ![4352, 512]⟩ .bf16} {dcq : FVec Ideal ⟨2, ![4352, 256]⟩ .bf16} {dckv : FVec Ideal ⟨2, ![4352, 128]⟩ .bf16} {dkr : FVec Ideal ⟨2, ![4352, 32]⟩ .bf16} {dga : FVec Ideal ⟨2, ![4352, 1024]⟩ .bf16} {dgb : FVec Ideal ⟨2, ![4352, 1024]⟩ .bf16} {g : FVec Ideal ⟨1, ![1024]⟩ .f32} {w : FVec Ideal ⟨2, ![1024, 2976]⟩ .f32}
    (e : haveI := facts_pre; ∀ j, Cert.Pre_in_finite.fn (F := Ideal) h ct du dcq dckv dkr dga dgb g w j = 1#1) :
    (∀ i, IsReal (h i)) ∧ (∀ i, IsReal (ct i)) ∧ (∀ i, IsReal (du i)) ∧ (∀ i, IsReal (dcq i)) ∧ (∀ i, IsReal (dckv i)) ∧ (∀ i, IsReal (dkr i)) ∧ (∀ i, IsReal (dga i)) ∧ (∀ i, IsReal (dgb i)) ∧ (∀ i, IsReal (g i)) ∧ (∀ i, IsReal (w i)) := by
  have : Subsingleton Cert.Pre_in_finite.S_.Idx := ⟨fun a b => funext fun k => k.elim0⟩
  have e0 := e (fun k => k.elim0)
  unfold Cert.Pre_in_finite.fn Cert.Pre_in_finite.fn_part1 Cert.Pre_in_finite.fn_part2 at e0
  dsimp only at e0
  obtain ⟨e0, e10⟩ := and_one _ _ e0
  obtain ⟨e0, e9⟩ := and_one _ _ e0
  obtain ⟨e0, e8⟩ := and_one _ _ e0
  obtain ⟨e0, e7⟩ := and_one _ _ e0
  obtain ⟨e0, e6⟩ := and_one _ _ e0
  obtain ⟨e0, e5⟩ := and_one _ _ e0
  obtain ⟨e0, e4⟩ := and_one _ _ e0
  obtain ⟨e0, e3⟩ := and_one _ _ e0
  obtain ⟨e1, e2⟩ := and_one _ _ e0
  exact ⟨all_real _ _ _ _ _ _ e1, all_real _ _ _ _ _ _ e2, all_real _ _ _ _ _ _ e3, all_real _ _ _ _ _ _ e4, all_real _ _ _ _ _ _ e5, all_real _ _ _ _ _ _ e6, all_real _ _ _ _ _ _ e7, all_real _ _ _ _ _ _ e8, all_real _ _ _ _ _ _ e9, all_real _ _ _ _ _ _ e10⟩

theorem algebraic : Cert.algebraic_InBwdIdeal_InBwdRefIdeal_pre_in_finite (hInBwdIdeal := Cert.InBwdIdeal.Gen.facts)
    (hInBwdRefIdeal := Cert.InBwdRefIdeal.Gen.facts) (hPre_in_finite := facts_pre) := by
  intro m g m' g' hpre hargs
  refine ⟨_, _, _, _, Cert.InBwdIdeal.Value.run_blocks (F := Ideal) m g, ?_⟩
  refine (θ_run (Cert.InBwdRefIdeal.defs (F := Ideal)) _ _).mono (fun r h c => ?_) (Cert.InBwdRefIdeal.Value.run (F := Ideal) m' g')
  obtain ⟨h0, h1, h2, h3, hk⟩ := h c
  obtain ⟨e0, e1, e2, e3, e4, e5, e6, e7, e8, e9⟩ := hargs c
  have hr := real_of_pre (congrFun (hpre c))
  have q0 := h0.trans (val_main_v40_eq (F := Ideal) _ _)
  rw [e0, e1, e2, e3, e4, e5, e6, e7, e8, e9] at q0
  have q1 := h1.trans (val_main_v54_eq (F := Ideal) _ _)
  rw [e0, e8] at q1
  have q2 := h2.trans (val_main_v60_eq (F := Ideal) _ _ _ _ _ _)
  rw [e2, e3, e4, e5, e6, e7] at q2
  have q3 := h3.trans (val_main_v61_eq (F := Ideal) _ _ _ _ _ _ _ _)
  rw [e0, e2, e3, e4, e5, e6, e7, e9] at q3
  refine ⟨q0.trans ?_, q1.trans ?_, q2.trans ?_, q3.trans ?_, hk⟩
  · exact arr_ext fun i j => (InBwdRefValue.v40 _ _ _ _ _ _ _ _ _ _ i hr.1 hr.2.2.1 hr.2.2.2.1 hr.2.2.2.2.1 hr.2.2.2.2.2.1 hr.2.2.2.2.2.2.1 hr.2.2.2.2.2.2.2.1 hr.2.2.2.2.2.2.2.2.1 hr.2.2.2.2.2.2.2.2.2 j).trans (InBwdValue.arr10 m c i j).symm
  · exact arr_ext fun i j => (InBwdRefValue.v54 _ _ i j).trans (InBwdValue.arr11 m c i j).symm
  · exact arr_ext fun i j => (InBwdRefValue.v60 _ _ _ _ _ _ i j).trans (InBwdValue.arr12 m c i j).symm
  · exact arr_ext fun i j => (by
      obtain rfl : i = 0 := Subsingleton.elim _ _
      exact (InBwdRefValue.v61 _ _ _ _ _ _ _ _ j).trans (InBwdValue.arr13 m c j).symm)

end Cert.In

end
-- ==== Proof.RopeHeads.lean ====
/-
  The heads' columns in blocks of 128 lanes, and the half rotation of a head's rotary lanes written with whole-lane tables.
-/
module

public import Idealize.ShloMosaic.Lib.Pointwise

@[expose] public section

noncomputable section

namespace Cert.RopeHeads

open Idealize.ShloMosaic

/-- Head `hd`'s 96 query columns, then zeros. -/
def head96 (f : Fin 1536 → EReal) (hd : Fin 16) (e : Fin 128) : EReal :=
  if h : e.val < 96 then f ⟨hd.val * 96 + e.val, by omega⟩ else 0
/-- Head `hd`'s 64 key columns, then zeros. -/
def headK (f : Fin 2048 → EReal) (hd : Fin 16) (e : Fin 128) : EReal :=
  if h : e.val < 64 then f ⟨hd.val * 128 + e.val, by omega⟩ else 0
/-- Head `hd`'s 64 value columns, then zeros. -/
def headV (f : Fin 2048 → EReal) (hd : Fin 16) (e : Fin 128) : EReal :=
  if h : e.val < 64 then f ⟨hd.val * 128 + (64 + e.val), by omega⟩ else 0
/-- The rotary key's 32 entries at lanes 64 to 95. -/
def keyLane (f : Fin 32 → EReal) (e : Fin 128) : EReal :=
  if h : 64 ≤ e.val ∧ e.val < 96 then f ⟨e.val - 64, by omega⟩ else 0

/-- The half rotation of lanes 64 to 95; the first 64 lanes as they are, the last 32 zero. -/
def lanes (x : Fin 128 → EReal) (cs sn : Fin 16 → EReal) (e : Fin 128) : EReal :=
  if h : e.val < 64 then x e
  else if h : e.val < 80 then x e * cs ⟨e.val - 64, by omega⟩ - x ⟨e.val + 16, by omega⟩ * sn ⟨e.val - 64, by omega⟩
  else if h : e.val < 96 then x ⟨e.val - 16, by omega⟩ * sn ⟨e.val - 80, by omega⟩ + x e * cs ⟨e.val - 80, by omega⟩
  else 0

/-- The three tables over a head's lanes. -/
def laneC (cs : Fin 16 → EReal) (e : Fin 128) : EReal :=
  if h : e.val < 64 then 1 else if h : e.val < 80 then cs ⟨e.val - 64, by omega⟩
  else if h : e.val < 96 then cs ⟨e.val - 80, by omega⟩ else 0
def laneA (sn : Fin 16 → EReal) (e : Fin 128) : EReal :=
  if h : e.val < 80 then 0 else if h : e.val < 96 then sn ⟨e.val - 80, by omega⟩ else 0
def laneB (sn : Fin 16 → EReal) (e : Fin 128) : EReal :=
  if h : e.val < 64 then 0 else if h : e.val < 80 then -sn ⟨e.val - 64, by omega⟩ else 0

/-- The lanes with the tables: the lane itself, the one 16 before and the one 16 after. -/
def rotated (x c a b : Fin 128 → EReal) (e : Fin 128) : EReal :=
  x e * c e + x ⟨(e.val + 128 - 16) % 128, by omega⟩ * a e + x ⟨(e.val + 128 - 112) % 128, by omega⟩ * b e

/-- The two ways of writing the rotation agree. -/
theorem rotated_eq (x : Fin 128 → EReal) (cs sn : Fin 16 → EReal) (e : Fin 128) :
    rotated x (laneC cs) (laneA sn) (laneB sn) e = lanes x cs sn e := by
  unfold rotated laneC laneA laneB lanes
  by_cases h1 : e.val < 64
  · have h2 : e.val < 80 := by omega
    simp only [dif_pos h1, dif_pos h2, mul_one, mul_zero, add_zero]
  by_cases h2 : e.val < 80
  · have q : (⟨(e.val + 128 - 112) % 128, by omega⟩ : Fin 128) = ⟨e.val + 16, by omega⟩ := Fin.ext (by dsimp only; omega)
    simp only [dif_neg h1, dif_pos h2, mul_zero, add_zero, q, sub_eq_add_neg]
    rw [mul_comm _ (-sn _), EReal.neg_mul, mul_comm (sn _)]
  by_cases h3 : e.val < 96
  · have q : (⟨(e.val + 128 - 16) % 128, by omega⟩ : Fin 128) = ⟨e.val - 16, by omega⟩ := Fin.ext (by dsimp only; omega)
    simp only [dif_neg h1, dif_neg h2, dif_pos h3, mul_zero, add_zero, q]
    exact add_comm _ _
  · simp only [dif_neg h1, dif_neg h2, dif_neg h3, mul_zero, add_zero]

/-- The half rotation of a row of 32 entries. -/
def rot (x : Fin 32 → EReal) (cs sn : Fin 16 → EReal) (e : Fin 32) : EReal :=
  if h : e.val < 16 then x ⟨e.val, by omega⟩ * cs ⟨e.val, h⟩ - x ⟨16 + e.val, by omega⟩ * sn ⟨e.val, h⟩
  else x ⟨e.val - 16, by omega⟩ * sn ⟨e.val - 16, by omega⟩ + x ⟨16 + (e.val - 16), by omega⟩ * cs ⟨e.val - 16, by omega⟩

/-- The lanes' rotation in three regions. -/
theorem lanes_low (x : Fin 128 → EReal) (cs sn : Fin 16 → EReal) (e : Fin 128) (h : e.val < 64) : lanes x cs sn e = x e := by
  unfold lanes
  rw [dif_pos h]
theorem lanes_rot (x : Fin 128 → EReal) (cs sn : Fin 16 → EReal) (e : Fin 128) (h : ¬ e.val < 64) (h' : e.val - 64 < 32) :
    lanes x cs sn e = rot (fun q => x ⟨64 + q.val, by omega⟩) cs sn ⟨e.val - 64, h'⟩ := by
  unfold lanes rot
  by_cases h2 : e.val < 80
  · rw [dif_neg h, dif_pos h2, dif_pos (by dsimp only; omega)]
    refine congrArg₂ (fun a b => x a * _ - x b * _) (Fin.ext ?_) (Fin.ext ?_) <;> dsimp only <;> omega
  · rw [dif_neg h, dif_neg h2, dif_pos (by omega), dif_neg (by dsimp only; omega)]
    have q : (⟨e.val - 80, by omega⟩ : Fin 16) = ⟨e.val - 64 - 16, by omega⟩ := Fin.ext (by dsimp only; omega)
    rw [q]
    refine congrArg₂ (fun a b => x a * _ + x b * _) (Fin.ext ?_) (Fin.ext ?_) <;> dsimp only <;> omega
theorem lanes_high (x : Fin 128 → EReal) (cs sn : Fin 16 → EReal) (e : Fin 128) (h : ¬ e.val < 64) (h' : ¬ e.val - 64 < 32) :
    lanes x cs sn e = 0 := by
  unfold lanes
  rw [dif_neg h, dif_neg (by omega), dif_neg (by omega)]

/-- A product with weights in the padded layout is the padded layout of the product. -/
theorem sum_head96 {n : Nat} (x : Fin n → EReal) (w : Fin n → Fin 1536 → EReal) (hd : Fin 16) (e : Fin 128) :
    ∑ k, x k * head96 (w k) hd e = head96 (fun q => ∑ k, x k * w k q) hd e := by
  unfold head96
  split_ifs <;> simp
theorem sum_headK {n : Nat} (x : Fin n → EReal) (w : Fin n → Fin 2048 → EReal) (hd : Fin 16) (e : Fin 128) :
    ∑ k, x k * headK (w k) hd e = headK (fun q => ∑ k, x k * w k q) hd e := by
  unfold headK
  split_ifs <;> simp
theorem sum_headV {n : Nat} (x : Fin n → EReal) (w : Fin n → Fin 2048 → EReal) (hd : Fin 16) (e : Fin 128) :
    ∑ k, x k * headV (w k) hd e = headV (fun q => ∑ k, x k * w k q) hd e := by
  unfold headV
  split_ifs <;> simp

/-- The head and the lane of a column. -/
abbrev hdOf (j : Fin 2048) : Fin 16 := ⟨j.val / 128, by omega⟩
abbrev laneOf (j : Fin 2048) : Fin 128 := ⟨j.val % 128, by omega⟩

end Cert.RopeHeads

end
-- ==== Proof.QkvBlock.lean ====
/-
  What the body of the query, key and value projections' kernel leaves in one block of 544 tokens, entry by entry, over
  the extended reals.
-/
module

public import proofs.«01_k».proof.Proof.Gen.QkvFwdIdeal.Frame
public import proofs.«01_k».proof.Proof.FfnFormula
public import proofs.«01_k».proof.Proof.RopeHeads
public import proofs.«01_k».proof.Proof.ColumnPieces

@[expose] public section

noncomputable section

namespace Cert.QkvValue

open Idealize.ShloMosaic Idealize.ShloMosaic.TcCoe Idealize.SL.Sem Cert.QkvFwdIdeal Cert.QkvFwdIdeal.Gen
open Cert.RmsRow Cert.FfnFormula Cert.RopeHeads Cert.ColumnPieces

theorem hz : (![0, 0] : Fin 2 → Nat) = fun _ => 0 := funext fun a => by fin_cases a <;> rfl

/-- The two widths, and the attention's scale. -/
abbrev WQ : EReal := Ideal.ofBits .f32 1132462080#32
abbrev WK : EReal := Ideal.ofBits .f32 1124073472#32
abbrev S : EReal := Ideal.ofBits .f32 0x3DD105EC#32

variable (x0 : Vec Ideal S544x256 .bf16) (x1 x2 : Vec Ideal S544x128 .bf16) (x3 : Vec Ideal S1x256 .f32) (x4 : Vec Ideal S1x128 .f32) (x5 : Vec Ideal S256x2048 .bf16) (x6 : Vec Ideal S128x4096 .bf16) (x7 x8 x9 : Vec Ideal S544x128 .f32)

/-- The block's query product before the rotation. -/
def qRaw (r : Fin 544) (j : Fin 2048) : EReal :=
  ∑ k : Fin 256, normed WQ E (row x0 r) k * x3 (ix2 0 k) * x5 (ix2 k j)
/-- The block's key and value product. -/
def kvRaw (r : Fin 544) (j : Fin 4096) : EReal :=
  ∑ k : Fin 128, normed WK E (row x1 r) k * x4 (ix2 0 k) * x6 (ix2 k j)

theorem q_apply (r : Fin 544) (j : Fin 2048) : k0_pay52 (F := Ideal) x0 x1 x2 x3 x4 x5 x6 x7 x8 x9 (ix2 r j) = qRaw x0 x3 x5 r j := by
  unfold qRaw
  unfold_payloads
  pointwise
theorem kv_apply (r : Fin 544) (j : Fin 4096) : k0_pay56 (F := Ideal) x0 x1 x2 x3 x4 x5 x6 x7 x8 x9 (ix2 r j) = kvRaw x1 x4 x6 r j := by
  unfold kvRaw
  unfold_payloads
  pointwise
theorem c_apply (r : Fin 544) (j : Fin 128) : k0_pay49 (F := Ideal) x0 x1 x2 x3 x4 x5 x6 x7 x8 x9 (ix2 r j) = x7 (ix2 r j) := by
  unfold_payloads
  pointwise
theorem a_apply (r : Fin 544) (j : Fin 128) : k0_pay50 (F := Ideal) x0 x1 x2 x3 x4 x5 x6 x7 x8 x9 (ix2 r j) = x8 (ix2 r j) := by
  unfold_payloads
  pointwise
theorem b_apply (r : Fin 544) (j : Fin 128) : k0_pay51 (F := Ideal) x0 x1 x2 x3 x4 x5 x6 x7 x8 x9 (ix2 r j) = x9 (ix2 r j) := by
  unfold_payloads
  pointwise
theorem kr_apply (r : Fin 544) (j : Fin 128) : k0_pay57 (F := Ideal) x0 x1 x2 x3 x4 x5 x6 x7 x8 x9 (ix2 r j)
    = rotated (row x2 r) (row x7 r) (row x8 r) (row x9 r) j := by
  unfold rotated
  unfold_payloads
  pointwise

/-- The rotated and scaled query columns, from the product and the tables. -/
def qCol (v : FVec Ideal S544x2048 .f32) (c a b : FVec Ideal S544x128 .f32) (r : Fin 544) (j : Fin 2048) : EReal :=
  rotated (fun e => v (ix2 r ⟨j.val / 128 * 128 + e.val, by omega⟩)) (row c r) (row a r) (row b r) (laneOf j) * S
/-- The key columns, from the product and the rotated key. -/
def kCol (v : FVec Ideal S544x4096 .f32) (k : FVec Ideal S544x128 .f32) (r : Fin 544) (j : Fin 2048) : EReal :=
  v (ix2 r ⟨j.val, by omega⟩) + k (ix2 r (laneOf j))
theorem qCol_at (v : FVec Ideal S544x2048 .f32) (c a b : FVec Ideal S544x128 .f32) (r : Fin 544) (hd off : Nat) (h : off = hd * 128)
    (hd16 : hd < 16) (e : Fin 128) :
    qCol v c a b r ⟨off + e.val, by omega⟩
      = rotated (fun e => v (ix2 r ⟨off + e.val, by omega⟩)) (row c r) (row a r) (row b r) e * S := by
  subst h
  have h1 : (hd * 128 + e.val) / 128 = hd := by omega
  have h2 : laneOf ⟨hd * 128 + e.val, by omega⟩ = e := Fin.ext (by show (hd * 128 + e.val) % 128 = e.val; omega)
  unfold qCol
  simp only [h1, h2]
theorem kCol_at (v : FVec Ideal S544x4096 .f32) (k : FVec Ideal S544x128 .f32) (r : Fin 544) (hd off : Nat) (h : off = hd * 128)
    (hd16 : hd < 16) (e : Fin 128) :
    kCol v k r ⟨off + e.val, by omega⟩ = v (ix2 r ⟨off + e.val, by omega⟩) + k (ix2 r e) := by
  subst h
  have h2 : laneOf ⟨hd * 128 + e.val, by omega⟩ = e := Fin.ext (by show (hd * 128 + e.val) % 128 = e.val; omega)
  unfold kCol
  rw [h2]

theorem out_10 (r : Fin 544) (j : Fin 2048) : out0_10 (F := Ideal) x0 x1 x2 x3 x4 x5 x6 x7 x8 x9 (ix2 r j)
    = rotated (fun e => qRaw x0 x3 x5 r ⟨j.val / 128 * 128 + e.val, by omega⟩) (row x7 r) (row x8 r) (row x9 r) (laneOf j) * S := by
  have hc := c_apply x0 x1 x2 x3 x4 x5 x6 x7 x8 x9
  have ha := a_apply x0 x1 x2 x3 x4 x5 x6 x7 x8 x9
  have hb := b_apply x0 x1 x2 x3 x4 x5 x6 x7 x8 x9
  have hq := q_apply x0 x1 x2 x3 x4 x5 x6 x7 x8 x9
  unfold out0_10
  generalize k0_pay49 (F := Ideal) x0 x1 x2 x3 x4 x5 x6 x7 x8 x9 = c at hc ⊢
  generalize k0_pay50 (F := Ideal) x0 x1 x2 x3 x4 x5 x6 x7 x8 x9 = a at ha ⊢
  generalize k0_pay51 (F := Ideal) x0 x1 x2 x3 x4 x5 x6 x7 x8 x9 = b at hb ⊢
  generalize k0_pay52 (F := Ideal) x0 x1 x2 x3 x4 x5 x6 x7 x8 x9 = v at hq ⊢
  refine Eq.trans (b := qCol v c a b r j) ?_ ?_
  rotate_left
  · unfold qCol
    simp only [hq]
    rw [show row c r = row x7 r from funext (hc r), show row a r = row x8 r from funext (ha r), show row b r = row x9 r from funext (hb r)]
  refine View.canon_apply_of_pieces (Val := Elt Ideal) (fun y => qCol v c a b (y 0) (y 1) : S544x2048.Idx → Elt Ideal .bf16) _ ?_ (ix2 r j) (cover0_10 _ _ _ _ _ _ _ _ _ _ _ _ _ _ _ _ (ix2 r j))
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun p hp => absurd hp List.not_mem_nil⟩⟩⟩⟩⟩⟩⟩⟩⟩⟩⟩⟩⟩⟩⟩⟩
  · refine piece_eq (N := 544) (C := 2048) (w := 128) (off := 1920) (e := .bf16) (Val := Elt Ideal) (fun (r : Fin 544) (j : Fin 2048) => qCol v c a b r j)
      inb_S544x2048_S544x128_0_1920 (by omega) _ fun r e => ?_
    refine Eq.trans ?_ (qCol_at v c a b r 15 1920 rfl (by omega) e).symm
    unfold rotated
    unfold_payloads
    pointwise
  · refine piece_eq (N := 544) (C := 2048) (w := 128) (off := 1792) (e := .bf16) (Val := Elt Ideal) (fun (r : Fin 544) (j : Fin 2048) => qCol v c a b r j)
      inb_S544x2048_S544x128_0_1792 (by omega) _ fun r e => ?_
    refine Eq.trans ?_ (qCol_at v c a b r 14 1792 rfl (by omega) e).symm
    unfold rotated
    unfold_payloads
    pointwise
  · refine piece_eq (N := 544) (C := 2048) (w := 128) (off := 1664) (e := .bf16) (Val := Elt Ideal) (fun (r : Fin 544) (j : Fin 2048) => qCol v c a b r j)
      inb_S544x2048_S544x128_0_1664 (by omega) _ fun r e => ?_
    refine Eq.trans ?_ (qCol_at v c a b r 13 1664 rfl (by omega) e).symm
    unfold rotated
    unfold_payloads
    pointwise
  · refine piece_eq (N := 544) (C := 2048) (w := 128) (off := 1536) (e := .bf16) (Val := Elt Ideal) (fun (r : Fin 544) (j : Fin 2048) => qCol v c a b r j)
      inb_S544x2048_S544x128_0_1536 (by omega) _ fun r e => ?_
    refine Eq.trans ?_ (qCol_at v c a b r 12 1536 rfl (by omega) e).symm
    unfold rotated
    unfold_payloads
    pointwise
  · refine piece_eq (N := 544) (C := 2048) (w := 128) (off := 1408) (e := .bf16) (Val := Elt Ideal) (fun (r : Fin 544) (j : Fin 2048) => qCol v c a b r j)
      inb_S544x2048_S544x128_0_1408 (by omega) _ fun r e => ?_
    refine Eq.trans ?_ (qCol_at v c a b r 11 1408 rfl (by omega) e).symm
    unfold rotated
    unfold_payloads
    pointwise
  · refine piece_eq (N := 544) (C := 2048) (w := 128) (off := 1280) (e := .bf16) (Val := Elt Ideal) (fun (r : Fin 544) (j : Fin 2048) => qCol v c a b r j)
      inb_S544x2048_S544x128_0_1280 (by omega) _ fun r e => ?_
    refine Eq.trans ?_ (qCol_at v c a b r 10 1280 rfl (by omega) e).symm
    unfold rotated
    unfold_payloads
    pointwise
  · refine piece_eq (N := 544) (C := 2048) (w := 128) (off := 1152) (e := .bf16) (Val := Elt Ideal) (fun (r : Fin 544) (j : Fin 2048) => qCol v c a b r j)
      inb_S544x2048_S544x128_0_1152 (by omega) _ fun r e => ?_
    refine Eq.trans ?_ (qCol_at v c a b r 9 1152 rfl (by omega) e).symm
    unfold rotated
    unfold_payloads
    pointwise
  · refine piece_eq (N := 544) (C := 2048) (w := 128) (off := 1024) (e := .bf16) (Val := Elt Ideal) (fun (r : Fin 544) (j : Fin 2048) => qCol v c a b r j)
      inb_S544x2048_S544x128_0_1024 (by omega) _ fun r e => ?_
    refine Eq.trans ?_ (qCol_at v c a b r 8 1024 rfl (by omega) e).symm
    unfold rotated
    unfold_payloads
    pointwise
  · refine piece_eq (N := 544) (C := 2048) (w := 128) (off := 896) (e := .bf16) (Val := Elt Ideal) (fun (r : Fin 544) (j : Fin 2048) => qCol v c a b r j)
      inb_S544x2048_S544x128_0_896 (by omega) _ fun r e => ?_
    refine Eq.trans ?_ (qCol_at v c a b r 7 896 rfl (by omega) e).symm
    unfold rotated
    unfold_payloads
    pointwise
  · refine piece_eq (N := 544) (C := 2048) (w := 128) (off := 768) (e := .bf16) (Val := Elt Ideal) (fun (r : Fin 544) (j : Fin 2048) => qCol v c a b r j)
      inb_S544x2048_S544x128_0_768 (by omega) _ fun r e => ?_
    refine Eq.trans ?_ (qCol_at v c a b r 6 768 rfl (by omega) e).symm
    unfold rotated
    unfold_payloads
    pointwise
  · refine piece_eq (N := 544) (C := 2048) (w := 128) (off := 640) (e := .bf16) (Val := Elt Ideal) (fun (r : Fin 544) (j : Fin 2048) => qCol v c a b r j)
      inb_S544x2048_S544x128_0_640 (by omega) _ fun r e => ?_
    refine Eq.trans ?_ (qCol_at v c a b r 5 640 rfl (by omega) e).symm
    unfold rotated
    unfold_payloads
    pointwise
  · refine piece_eq (N := 544) (C := 2048) (w := 128) (off := 512) (e := .bf16) (Val := Elt Ideal) (fun (r : Fin 544) (j : Fin 2048) => qCol v c a b r j)
      inb_S544x2048_S544x128_0_512 (by omega) _ fun r e => ?_
    refine Eq.trans ?_ (qCol_at v c a b r 4 512 rfl (by omega) e).symm
    unfold rotated
    unfold_payloads
    pointwise
  · refine piece_eq (N := 544) (C := 2048) (w := 128) (off := 384) (e := .bf16) (Val := Elt Ideal) (fun (r : Fin 544) (j : Fin 2048) => qCol v c a b r j)
      inb_S544x2048_S544x128_0_384 (by omega) _ fun r e => ?_
    refine Eq.trans ?_ (qCol_at v c a b r 3 384 rfl (by omega) e).symm
    unfold rotated
    unfold_payloads
    pointwise
  · refine piece_eq (N := 544) (C := 2048) (w := 128) (off := 256) (e := .bf16) (Val := Elt Ideal) (fun (r : Fin 544) (j : Fin 2048) => qCol v c a b r j)
      inb_S544x2048_S544x128_0_256 (by omega) _ fun r e => ?_
    refine Eq.trans ?_ (qCol_at v c a b r 2 256 rfl (by omega) e).symm
    unfold rotated
    unfold_payloads
    pointwise
  · refine piece_eq (N := 544) (C := 2048) (w := 128) (off := 128) (e := .bf16) (Val := Elt Ideal) (fun (r : Fin 544) (j : Fin 2048) => qCol v c a b r j)
      inb_S544x2048_S544x128_0_128 (by omega) _ fun r e => ?_
    refine Eq.trans ?_ (qCol_at v c a b r 1 128 rfl (by omega) e).symm
    unfold rotated
    unfold_payloads
    pointwise
  · refine piece_eq (N := 544) (C := 2048) (w := 128) (off := 0) (e := .bf16) (Val := Elt Ideal) (fun (r : Fin 544) (j : Fin 2048) => qCol v c a b r j)
      inb_S544x2048_S544x128_0_0 (by omega) _ fun r e => ?_
    refine Eq.trans ?_ (qCol_at v c a b r 0 0 rfl (by omega) e).symm
    unfold rotated
    unfold_payloads
    pointwise
theorem out_11 (r : Fin 544) (j : Fin 2048) : out0_11 (F := Ideal) x0 x1 x2 x3 x4 x5 x6 x7 x8 x9 (ix2 r j)
    = kvRaw x1 x4 x6 r ⟨j.val, by omega⟩ + rotated (row x2 r) (row x7 r) (row x8 r) (row x9 r) (laneOf j) := by
  have hv := kv_apply x0 x1 x2 x3 x4 x5 x6 x7 x8 x9
  have hk := kr_apply x0 x1 x2 x3 x4 x5 x6 x7 x8 x9
  unfold out0_11
  generalize k0_pay56 (F := Ideal) x0 x1 x2 x3 x4 x5 x6 x7 x8 x9 = v at hv ⊢
  generalize k0_pay57 (F := Ideal) x0 x1 x2 x3 x4 x5 x6 x7 x8 x9 = k at hk ⊢
  refine Eq.trans (b := kCol v k r j) ?_ ?_
  rotate_left
  · unfold kCol
    rw [hv, hk]
  refine View.canon_apply_of_pieces (Val := Elt Ideal) (fun y => kCol v k (y 0) (y 1) : S544x2048.Idx → Elt Ideal .bf16) _ ?_ (ix2 r j) (cover0_11 _ _ _ _ _ _ _ _ _ _ _ _ _ _ _ _ (ix2 r j))
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun p hp => absurd hp List.not_mem_nil⟩⟩⟩⟩⟩⟩⟩⟩⟩⟩⟩⟩⟩⟩⟩⟩
  · refine piece_eq (N := 544) (C := 2048) (w := 128) (off := 1920) (e := .bf16) (Val := Elt Ideal) (fun (r : Fin 544) (j : Fin 2048) => kCol v k r j)
      inb_S544x2048_S544x128_0_1920 (by omega) _ fun r e => ?_
    refine Eq.trans ?_ (kCol_at v k r 15 1920 rfl (by omega) e).symm
    unfold_payloads
    pointwise
  · refine piece_eq (N := 544) (C := 2048) (w := 128) (off := 1792) (e := .bf16) (Val := Elt Ideal) (fun (r : Fin 544) (j : Fin 2048) => kCol v k r j)
      inb_S544x2048_S544x128_0_1792 (by omega) _ fun r e => ?_
    refine Eq.trans ?_ (kCol_at v k r 14 1792 rfl (by omega) e).symm
    unfold_payloads
    pointwise
  · refine piece_eq (N := 544) (C := 2048) (w := 128) (off := 1664) (e := .bf16) (Val := Elt Ideal) (fun (r : Fin 544) (j : Fin 2048) => kCol v k r j)
      inb_S544x2048_S544x128_0_1664 (by omega) _ fun r e => ?_
    refine Eq.trans ?_ (kCol_at v k r 13 1664 rfl (by omega) e).symm
    unfold_payloads
    pointwise
  · refine piece_eq (N := 544) (C := 2048) (w := 128) (off := 1536) (e := .bf16) (Val := Elt Ideal) (fun (r : Fin 544) (j : Fin 2048) => kCol v k r j)
      inb_S544x2048_S544x128_0_1536 (by omega) _ fun r e => ?_
    refine Eq.trans ?_ (kCol_at v k r 12 1536 rfl (by omega) e).symm
    unfold_payloads
    pointwise
  · refine piece_eq (N := 544) (C := 2048) (w := 128) (off := 1408) (e := .bf16) (Val := Elt Ideal) (fun (r : Fin 544) (j : Fin 2048) => kCol v k r j)
      inb_S544x2048_S544x128_0_1408 (by omega) _ fun r e => ?_
    refine Eq.trans ?_ (kCol_at v k r 11 1408 rfl (by omega) e).symm
    unfold_payloads
    pointwise
  · refine piece_eq (N := 544) (C := 2048) (w := 128) (off := 1280) (e := .bf16) (Val := Elt Ideal) (fun (r : Fin 544) (j : Fin 2048) => kCol v k r j)
      inb_S544x2048_S544x128_0_1280 (by omega) _ fun r e => ?_
    refine Eq.trans ?_ (kCol_at v k r 10 1280 rfl (by omega) e).symm
    unfold_payloads
    pointwise
  · refine piece_eq (N := 544) (C := 2048) (w := 128) (off := 1152) (e := .bf16) (Val := Elt Ideal) (fun (r : Fin 544) (j : Fin 2048) => kCol v k r j)
      inb_S544x2048_S544x128_0_1152 (by omega) _ fun r e => ?_
    refine Eq.trans ?_ (kCol_at v k r 9 1152 rfl (by omega) e).symm
    unfold_payloads
    pointwise
  · refine piece_eq (N := 544) (C := 2048) (w := 128) (off := 1024) (e := .bf16) (Val := Elt Ideal) (fun (r : Fin 544) (j : Fin 2048) => kCol v k r j)
      inb_S544x2048_S544x128_0_1024 (by omega) _ fun r e => ?_
    refine Eq.trans ?_ (kCol_at v k r 8 1024 rfl (by omega) e).symm
    unfold_payloads
    pointwise
  · refine piece_eq (N := 544) (C := 2048) (w := 128) (off := 896) (e := .bf16) (Val := Elt Ideal) (fun (r : Fin 544) (j : Fin 2048) => kCol v k r j)
      inb_S544x2048_S544x128_0_896 (by omega) _ fun r e => ?_
    refine Eq.trans ?_ (kCol_at v k r 7 896 rfl (by omega) e).symm
    unfold_payloads
    pointwise
  · refine piece_eq (N := 544) (C := 2048) (w := 128) (off := 768) (e := .bf16) (Val := Elt Ideal) (fun (r : Fin 544) (j : Fin 2048) => kCol v k r j)
      inb_S544x2048_S544x128_0_768 (by omega) _ fun r e => ?_
    refine Eq.trans ?_ (kCol_at v k r 6 768 rfl (by omega) e).symm
    unfold_payloads
    pointwise
  · refine piece_eq (N := 544) (C := 2048) (w := 128) (off := 640) (e := .bf16) (Val := Elt Ideal) (fun (r : Fin 544) (j : Fin 2048) => kCol v k r j)
      inb_S544x2048_S544x128_0_640 (by omega) _ fun r e => ?_
    refine Eq.trans ?_ (kCol_at v k r 5 640 rfl (by omega) e).symm
    unfold_payloads
    pointwise
  · refine piece_eq (N := 544) (C := 2048) (w := 128) (off := 512) (e := .bf16) (Val := Elt Ideal) (fun (r : Fin 544) (j : Fin 2048) => kCol v k r j)
      inb_S544x2048_S544x128_0_512 (by omega) _ fun r e => ?_
    refine Eq.trans ?_ (kCol_at v k r 4 512 rfl (by omega) e).symm
    unfold_payloads
    pointwise
  · refine piece_eq (N := 544) (C := 2048) (w := 128) (off := 384) (e := .bf16) (Val := Elt Ideal) (fun (r : Fin 544) (j : Fin 2048) => kCol v k r j)
      inb_S544x2048_S544x128_0_384 (by omega) _ fun r e => ?_
    refine Eq.trans ?_ (kCol_at v k r 3 384 rfl (by omega) e).symm
    unfold_payloads
    pointwise
  · refine piece_eq (N := 544) (C := 2048) (w := 128) (off := 256) (e := .bf16) (Val := Elt Ideal) (fun (r : Fin 544) (j : Fin 2048) => kCol v k r j)
      inb_S544x2048_S544x128_0_256 (by omega) _ fun r e => ?_
    refine Eq.trans ?_ (kCol_at v k r 2 256 rfl (by omega) e).symm
    unfold_payloads
    pointwise
  · refine piece_eq (N := 544) (C := 2048) (w := 128) (off := 128) (e := .bf16) (Val := Elt Ideal) (fun (r : Fin 544) (j : Fin 2048) => kCol v k r j)
      inb_S544x2048_S544x128_0_128 (by omega) _ fun r e => ?_
    refine Eq.trans ?_ (kCol_at v k r 1 128 rfl (by omega) e).symm
    unfold_payloads
    pointwise
  · refine piece_eq (N := 544) (C := 2048) (w := 128) (off := 0) (e := .bf16) (Val := Elt Ideal) (fun (r : Fin 544) (j : Fin 2048) => kCol v k r j)
      inb_S544x2048_S544x128_0_0 (by omega) _ fun r e => ?_
    refine Eq.trans ?_ (kCol_at v k r 0 0 rfl (by omega) e).symm
    unfold_payloads
    pointwise
    rw [hv, hk]
    rfl
/-- A column's lane is the low seven bits of its number. -/
theorem lane_bit (j : Nat) (hj : j < 2048) : IntOp.cmpi .eq (IntOp.andi (BitVec.ofNat 32 j) 127#32) 64#32
    = BitVec.ofBool (decide (j % 128 = 64)) := by
  show BitVec.ofBool ((BitVec.ofNat 32 j &&& 127#32) == 64#32) = _
  refine congrArg BitVec.ofBool ?_
  have h : (BitVec.ofNat 32 j &&& 127#32).toNat = j % 128 := by
    rw [BitVec.toNat_and, BitVec.toNat_ofNat, Nat.mod_eq_of_lt (by omega)]
    exact Nat.and_two_pow_sub_one_eq_mod j 7
  rw [Bool.eq_iff_iff, beq_iff_eq, decide_eq_true_eq, ← h]
  exact BitVec.toNat_inj.symm
theorem out_12 (r : Fin 544) (j : Fin 2048) : out0_12 (F := Ideal) x0 x1 x2 x3 x4 x5 x6 x7 x8 x9 (ix2 r j)
    = if j.val % 128 = 64 then 1 else kvRaw x1 x4 x6 r ⟨2048 + j.val, by omega⟩ := by
  have hv := kv_apply x0 x1 x2 x3 x4 x5 x6 x7 x8 x9
  unfold out0_12
  generalize k0_pay56 (F := Ideal) x0 x1 x2 x3 x4 x5 x6 x7 x8 x9 = v at hv ⊢
  rw [View.canon_unit_zero hz, ← hv]
  unfold_payloads
  pointwise
  rw [lane_bit j.val (by omega)]
  by_cases h : j.val % 128 = 64
  · rw [if_pos h, decide_eq_true h]
    rfl
  · rw [if_neg h, decide_eq_false h]
    rfl

end Cert.QkvValue

end
-- ==== Proof.QkvFormula.lean ====
/-
  The query, key and value projections, entry by entry: the normed rows times the weights.
-/
module

public import proofs.«01_k».proof.Proof.FfnFormula
public import proofs.«01_k».proof.Proof.RopeHeads

@[expose] public section

noncomputable section

namespace Cert.QkvFormula

open Idealize.ShloMosaic Cert.RmsRow Cert.FfnFormula Cert.RopeHeads

/-- The two widths, and the attention's scale. -/
abbrev WQ : EReal := Ideal.ofBits .f32 1132462080#32
abbrev WK : EReal := Ideal.ofBits .f32 1124073472#32
abbrev S : EReal := Ideal.ofBits .f32 0x3DD105EC#32

variable (z : (⟨2, ![4352, 2976]⟩ : Shape).Idx → EReal) (gq : (⟨1, ![256]⟩ : Shape).Idx → EReal) (gkv : (⟨1, ![128]⟩ : Shape).Idx → EReal)
  (wq : (⟨2, ![256, 1536]⟩ : Shape).Idx → EReal) (wkv : (⟨2, ![128, 2048]⟩ : Shape).Idx → EReal)
  (cs sn : (⟨2, ![2176, 16]⟩ : Shape).Idx → EReal) (i : Fin 4352)

/-- Token `i`'s compressed query and compressed key and value, normed and scaled. -/
def cqn (k : Fin 256) : EReal := normed WQ E (fun q : Fin 256 => z (ix2 i ⟨512 + q.val, by omega⟩)) k * gq (ix1 k)
def ckn (k : Fin 128) : EReal := normed WK E (fun q : Fin 128 => z (ix2 i ⟨768 + q.val, by omega⟩)) k * gkv (ix1 k)
/-- Its queries, and its keys and values, for all heads. -/
def Q (q : Fin 1536) : EReal := ∑ k : Fin 256, cqn z gq i k * wq (ix2 k q)
def KV (q : Fin 2048) : EReal := ∑ k : Fin 128, ckn z gkv i k * wkv (ix2 k q)
/-- Its rotary key. -/
abbrev kr (q : Fin 32) : EReal := z (ix2 i ⟨896 + q.val, by omega⟩)
/-- Its position's row of a table. -/
abbrev pos (t : (⟨2, ![2176, 16]⟩ : Shape).Idx → EReal) (q : Fin 16) : EReal := t (ix2 ⟨i.val % 2176, Nat.mod_lt _ (by decide)⟩ q)

/-- The three results. -/
def qOut (j : Fin 2048) : EReal := lanes (head96 (Q z gq wq i) (hdOf j)) (pos i cs) (pos i sn) (laneOf j) * S
def kOut (j : Fin 2048) : EReal :=
  headK (KV z gkv wkv i) (hdOf j) (laneOf j) + lanes (keyLane (kr z i)) (pos i cs) (pos i sn) (laneOf j)
def vOut (j : Fin 2048) : EReal := if j.val % 128 = 64 then 1 else headV (KV z gkv wkv i) (hdOf j) (laneOf j)

end Cert.QkvFormula

end
-- ==== Proof.QkvHost.lean ====
/-
  The arrays the projections' host code prepares before the call, entry by entry.
-/
module

public import proofs.«01_k».proof.Proof.QkvFormula
public import proofs.«01_k».proof.Proof.InLayout
public import proofs.«01_k».proof.Proof.Gen.QkvFwdIdeal.Value

@[expose] public section

noncomputable section

namespace Cert.QkvValue

open Idealize.ShloMosaic Idealize.ShloMosaic.TcCoe Idealize.SL.Sem Cert.QkvFwdIdeal Cert.QkvFwdIdeal.Gen
open Idealize.ShloMosaic.Pipeline (Dat Cfg Window)
open Cert.InLayout Cert.RopeHeads

variable (m : (ℓ : Loc nD τ sig) → Buf (Elt Ideal) ℓ) (c : Dev nD)

/-- The argument arrays as launched. -/
abbrev z : FVec Ideal S4352x2976 .bf16 := m ((c : Thread nD τ).loc main_arg0)
abbrev gq : FVec Ideal S256 .f32 := m ((c : Thread nD τ).loc main_arg1)
abbrev gkv : FVec Ideal S128 .f32 := m ((c : Thread nD τ).loc main_arg2)
abbrev wq : FVec Ideal S256x1536 .f32 := m ((c : Thread nD τ).loc main_arg3)
abbrev wkv : FVec Ideal S128x2048 .f32 := m ((c : Thread nD τ).loc main_arg4)
abbrev cs : FVec Ideal S2176x16 .f32 := m ((c : Thread nD τ).loc main_arg5)
abbrev sn : FVec Ideal S2176x16 .f32 := m ((c : Thread nD τ).loc main_arg6)

/-! ### The arrays the host prepares before the call -/

theorem pad_zero (φ : FTy) : FloatOps.sitofp (F := Ideal) φ 0#32 = (0 : EReal) :=
  (Ideal.scalar_sitofp_def (φ := φ) 0#32).trans (by simp)
abbrev hGq (gq : FVec Ideal S256 .f32) : FVec Ideal S1x256 .f32 :=
  broadcastInDim S1x256 ![1] bcast_S256_S1x256_1 gq
theorem V_v33 : V m c main_v33 = hGq (gq m c) := by
  simp only [V, hostOps0, hostOps0_1, hostOps0_2, hostOps0_3, hostOps0_4, hostOps0_5, hostOps0_6, hostOps0_7, hostOps0_8, List.flatten_cons, List.flatten_nil, List.append_nil, List.cons_append,
    List.nil_append, StableHlo.TRef.binary, StableHlo.TRef.unary, StableHlo.TRef.toBuf, StableHlo.TRef.ofBuf, cast_eq]
  after_results_simp <;> rfl
theorem hGq_apply (gq : FVec Ideal S256 .f32) (z : Fin 1) (k : Fin 256) :
    hGq gq (ix2 z k) = gq (ix1 k) := by
  pointwise
abbrev hGkv (gkv : FVec Ideal S128 .f32) : FVec Ideal S1x128 .f32 :=
  broadcastInDim S1x128 ![1] bcast_S128_S1x128_1 gkv
theorem V_v34 : V m c main_v34 = hGkv (gkv m c) := by
  simp only [V, hostOps0, hostOps0_1, hostOps0_2, hostOps0_3, hostOps0_4, hostOps0_5, hostOps0_6, hostOps0_7, hostOps0_8, List.flatten_cons, List.flatten_nil, List.append_nil, List.cons_append,
    List.nil_append, StableHlo.TRef.binary, StableHlo.TRef.unary, StableHlo.TRef.toBuf, StableHlo.TRef.ofBuf, cast_eq]
  after_results_simp <;> rfl
theorem hGkv_apply (gkv : FVec Ideal S128 .f32) (z : Fin 1) (k : Fin 128) :
    hGkv gkv (ix2 z k) = gkv (ix1 k) := by
  pointwise
/-- The queries' weight with each head's columns followed by zeros. -/
abbrev hWq (wq : FVec Ideal S256x1536 .f32) : FVec Ideal S256x2048 .bf16 :=
  truncf .bf16 (shapeCast S256x2048 (pad S256x16x128 ![0, 0, 0] ![0, 0, 32] ![0, 0, 0]
    (shapeCast S256x16x96 wq shapeCasts_S256x1536_S256x16x96) (sitofp (F := Ideal) .f32 (constantI S_ 32 0#32))
    pads_S256x16x96_S256x16x128_000_000_0320 h_S_) shapeCasts_S256x16x128_S256x2048) bitsLt_bf16_f32
theorem V_v35 : V m c main_v35 = hWq (wq m c) := by
  simp only [V, hostOps0, hostOps0_1, hostOps0_2, hostOps0_3, hostOps0_4, hostOps0_5, hostOps0_6, hostOps0_7, hostOps0_8, List.flatten_cons, List.flatten_nil, List.append_nil, List.cons_append,
    List.nil_append, StableHlo.TRef.binary, StableHlo.TRef.unary, StableHlo.TRef.toBuf, StableHlo.TRef.ofBuf, cast_eq]
  after_results_simp <;> rfl
theorem hWq_apply (wq : FVec Ideal S256x1536 .f32) (k : Fin 256) (j : Fin 2048) :
    hWq wq (ix2 k j) = head96 (fun q => wq (ix2 k q)) (hdOf j) (laneOf j) := by
  pointwise
  unfold head96
  by_cases h : j.val % 128 < 96
  · rw [dif_pos ⟨by omega, h⟩, dif_pos h]
  · rw [dif_neg (fun a => h a.2), dif_neg h]
    exact pad_zero .f32
/-- The keys' columns and then the values' columns, each head's followed by zeros. -/
abbrev hWkv (wkv : FVec Ideal S128x2048 .f32) : FVec Ideal S128x4096 .bf16 :=
  truncf .bf16 (concatenate S128x4096 1 [⟨S128x2048, (shapeCast S128x2048 (pad S128x16x128 ![0, 0, 0] ![0, 0, 64] ![0, 0, 0]
      (extractStridedSlice S128x16x64 ![0, 0, 0] (shapeCast S128x16x128 wkv shapeCasts_S128x2048_S128x16x128) slices_S128x16x128_S128x16x64_0_0_0) (sitofp (F := Ideal) .f32 (constantI S_ 32 0#32))
      pads_S128x16x64_S128x16x128_000_000_0640 h_S_) shapeCasts_S128x16x128_S128x2048 : FVec Ideal S128x2048 .f32)⟩,
    ⟨S128x2048, (shapeCast S128x2048 (pad S128x16x128 ![0, 0, 0] ![0, 0, 64] ![0, 0, 0]
      (extractStridedSlice S128x16x64 ![0, 0, 64] (shapeCast S128x16x128 wkv shapeCasts_S128x2048_S128x16x128) slices_S128x16x128_S128x16x64_0_0_64) (sitofp (F := Ideal) .f32 (constantI S_ 32 0#32))
      pads_S128x16x64_S128x16x128_000_000_0640 h_S_) shapeCasts_S128x16x128_S128x2048 : FVec Ideal S128x2048 .f32)⟩] concatenates_S128x2048_S128x2048_S128x4096_d1 : FVec Ideal S128x4096 .f32) bitsLt_bf16_f32
theorem V_v36 : V m c main_v36 = hWkv (wkv m c) := by
  simp only [V, hostOps0, hostOps0_1, hostOps0_2, hostOps0_3, hostOps0_4, hostOps0_5, hostOps0_6, hostOps0_7, hostOps0_8, List.flatten_cons, List.flatten_nil, List.append_nil, List.cons_append,
    List.nil_append, StableHlo.TRef.binary, StableHlo.TRef.unary, StableHlo.TRef.toBuf, StableHlo.TRef.ofBuf, cast_eq]
  after_results_simp <;> rfl
theorem hWkv_apply (wkv : FVec Ideal S128x2048 .f32) (k : Fin 128) (j : Fin 2048) :
    hWkv wkv (ix2 k ⟨j.val, by omega⟩) = headK (fun q => wkv (ix2 k q)) (hdOf j) (laneOf j) := by
  pointwise
  unfold headK
  by_cases h : j.val % 128 < 64
  · rw [dif_pos ⟨by omega, h⟩, dif_pos h]
    exact congrArg (fun q => wkv (ix2 k q)) (Fin.ext (by dsimp only; omega))
  · rw [dif_neg (fun a => h a.2), dif_neg h]
    exact pad_zero .f32
theorem hWkv_apply' (wkv : FVec Ideal S128x2048 .f32) (k : Fin 128) (j : Fin 2048) :
    hWkv wkv (ix2 k ⟨2048 + j.val, by omega⟩) = headV (fun q => wkv (ix2 k q)) (hdOf j) (laneOf j) := by
  pointwise
  unfold headV
  by_cases h : j.val % 128 < 64
  · rw [dif_pos ⟨by omega, h⟩, dif_pos h]
  · rw [dif_neg (fun a => h a.2), dif_neg h]
    exact pad_zero .f32
/-- The three tables, both sequences' positions in order. -/
abbrev hC (cs : FVec Ideal S2176x16 .f32) : FVec Ideal S4352x128 .f32 :=
  shapeCast S4352x128 (broadcastInDim S2x2176x1x128 ![0, 1, 2, 3] bcast_S1x2176x1x128_S2x2176x1x128_0_1_2_3
    (shapeCast S1x2176x1x128 (concatenate S2176x128 1 [⟨S2176x64, (broadcastInDim S2176x64 ![] bcast_S_S2176x64 (constant S_ .f32 0x3F800000#32) : FVec Ideal S2176x64 .f32)⟩, ⟨S2176x16, cs⟩, ⟨S2176x16, cs⟩, ⟨S2176x32, (broadcastInDim S2176x32 ![] bcast_S_S2176x32 (constant S_ .f32 0x00000000#32) : FVec Ideal S2176x32 .f32)⟩]
    concatenates_S2176x64_S2176x16_S2176x16_S2176x32_S2176x128_d1 : FVec Ideal S2176x128 .f32) shapeCasts_S2176x128_S1x2176x1x128)) shapeCasts_S2x2176x1x128_S4352x128
theorem V_v21 : V m c main_v21 = hC (cs m c) := by
  simp only [V, hostOps0, hostOps0_1, hostOps0_2, hostOps0_3, hostOps0_4, hostOps0_5, hostOps0_6, hostOps0_7, hostOps0_8, List.flatten_cons, List.flatten_nil, List.append_nil, List.cons_append,
    List.nil_append, StableHlo.TRef.binary, StableHlo.TRef.unary, StableHlo.TRef.toBuf, StableHlo.TRef.ofBuf, cast_eq]
  after_results_simp <;> rfl
theorem hC_apply (cs : FVec Ideal S2176x16 .f32) (i : Fin 4352) (e : Fin 128) :
    hC cs (ix2 i e) = laneC (QkvFormula.pos i cs) e := by
  pointwise
  unfold laneC
  by_cases h1 : e.val < 64
  · have h2 : e.val < 80 := by omega
    simp only [dif_pos h1]
  by_cases h2 : e.val < 80
  · simp only [dif_neg h1, dif_pos h2, dif_pos (show e.val - 64 < 16 by omega)]
  have n2 : ¬ e.val - 64 < 16 := by omega
  by_cases h3 : e.val < 96
  · simp only [dif_neg h1, dif_neg h2, dif_pos h3, dif_neg n2, dif_pos (show e.val - 64 - 16 < 16 by omega)]
    exact congrArg (QkvFormula.pos i cs) (Fin.ext (by dsimp only; omega))
  · have n3 : ¬ e.val - 64 - 16 < 16 := by omega
    simp only [dif_neg h1, dif_neg h2, dif_neg h3, dif_neg n2, dif_neg n3]
abbrev hA (sn : FVec Ideal S2176x16 .f32) : FVec Ideal S4352x128 .f32 :=
  shapeCast S4352x128 (broadcastInDim S2x2176x1x128 ![0, 1, 2, 3] bcast_S1x2176x1x128_S2x2176x1x128_0_1_2_3
    (shapeCast S1x2176x1x128 (concatenate S2176x128 1 [⟨S2176x64, (broadcastInDim S2176x64 ![] bcast_S_S2176x64 (constant S_ .f32 0x00000000#32) : FVec Ideal S2176x64 .f32)⟩, ⟨S2176x16, (broadcastInDim S2176x16 ![] bcast_S_S2176x16 (constant S_ .f32 0x00000000#32) : FVec Ideal S2176x16 .f32)⟩, ⟨S2176x16, sn⟩, ⟨S2176x32, (broadcastInDim S2176x32 ![] bcast_S_S2176x32 (constant S_ .f32 0x00000000#32) : FVec Ideal S2176x32 .f32)⟩]
    concatenates_S2176x64_S2176x16_S2176x16_S2176x32_S2176x128_d1 : FVec Ideal S2176x128 .f32) shapeCasts_S2176x128_S1x2176x1x128)) shapeCasts_S2x2176x1x128_S4352x128
theorem V_v24 : V m c main_v24 = hA (sn m c) := by
  simp only [V, hostOps0, hostOps0_1, hostOps0_2, hostOps0_3, hostOps0_4, hostOps0_5, hostOps0_6, hostOps0_7, hostOps0_8, List.flatten_cons, List.flatten_nil, List.append_nil, List.cons_append,
    List.nil_append, StableHlo.TRef.binary, StableHlo.TRef.unary, StableHlo.TRef.toBuf, StableHlo.TRef.ofBuf, cast_eq]
  after_results_simp <;> rfl
theorem hA_apply (sn : FVec Ideal S2176x16 .f32) (i : Fin 4352) (e : Fin 128) :
    hA sn (ix2 i e) = laneA (QkvFormula.pos i sn) e := by
  pointwise
  unfold laneA
  by_cases h1 : e.val < 64
  · have h2 : e.val < 80 := by omega
    simp only [dif_pos h1, dif_pos h2]
  by_cases h2 : e.val < 80
  · simp only [dif_neg h1, dif_pos h2, dif_pos (show e.val - 64 < 16 by omega)]
  have n2 : ¬ e.val - 64 < 16 := by omega
  by_cases h3 : e.val < 96
  · simp only [dif_neg h1, dif_neg h2, dif_pos h3, dif_neg n2, dif_pos (show e.val - 64 - 16 < 16 by omega)]
    exact congrArg (QkvFormula.pos i sn) (Fin.ext (by dsimp only; omega))
  · have n3 : ¬ e.val - 64 - 16 < 16 := by omega
    simp only [dif_neg h1, dif_neg h2, dif_neg h3, dif_neg n2, dif_neg n3]
abbrev hB (sn : FVec Ideal S2176x16 .f32) : FVec Ideal S4352x128 .f32 :=
  shapeCast S4352x128 (broadcastInDim S2x2176x1x128 ![0, 1, 2, 3] bcast_S1x2176x1x128_S2x2176x1x128_0_1_2_3
    (shapeCast S1x2176x1x128 (concatenate S2176x128 1 [⟨S2176x64, (broadcastInDim S2176x64 ![] bcast_S_S2176x64 (constant S_ .f32 0x00000000#32) : FVec Ideal S2176x64 .f32)⟩, ⟨S2176x16, (Host.negf sn : FVec Ideal S2176x16 .f32)⟩, ⟨S2176x16, (broadcastInDim S2176x16 ![] bcast_S_S2176x16 (constant S_ .f32 0x00000000#32) : FVec Ideal S2176x16 .f32)⟩, ⟨S2176x32, (broadcastInDim S2176x32 ![] bcast_S_S2176x32 (constant S_ .f32 0x00000000#32) : FVec Ideal S2176x32 .f32)⟩]
    concatenates_S2176x64_S2176x16_S2176x16_S2176x32_S2176x128_d1 : FVec Ideal S2176x128 .f32) shapeCasts_S2176x128_S1x2176x1x128)) shapeCasts_S2x2176x1x128_S4352x128
theorem V_v27 : V m c main_v27 = hB (sn m c) := by
  simp only [V, hostOps0, hostOps0_1, hostOps0_2, hostOps0_3, hostOps0_4, hostOps0_5, hostOps0_6, hostOps0_7, hostOps0_8, List.flatten_cons, List.flatten_nil, List.append_nil, List.cons_append,
    List.nil_append, StableHlo.TRef.binary, StableHlo.TRef.unary, StableHlo.TRef.toBuf, StableHlo.TRef.ofBuf, cast_eq]
  after_results_simp <;> rfl
theorem hB_apply (sn : FVec Ideal S2176x16 .f32) (i : Fin 4352) (e : Fin 128) :
    hB sn (ix2 i e) = laneB (QkvFormula.pos i sn) e := by
  pointwise
  unfold laneB
  by_cases h1 : e.val < 64
  · have h2 : e.val < 80 := by omega
    simp only [dif_pos h1]
  by_cases h2 : e.val < 80
  · simp only [dif_neg h1, dif_pos h2, dif_pos (show e.val - 64 < 16 by omega)]
  have n2 : ¬ e.val - 64 < 16 := by omega
  by_cases h3 : e.val < 96
  · simp only [dif_neg h1, dif_neg h2, dif_neg n2, dif_pos (show e.val - 64 - 16 < 16 by omega)]
  · have n3 : ¬ e.val - 64 - 16 < 16 := by omega
    simp only [dif_neg h1, dif_neg h2, dif_neg n2, dif_neg n3]
/-- The projected input with the rotary key's 32 columns at 64 of a block of 128. -/
abbrev hZ (z : FVec Ideal S4352x2976 .bf16) : FVec Ideal S4352x3072 .bf16 :=
  concatenate S4352x3072 1 [
    ⟨S4352x896, (extractStridedSlice S4352x896 ![0, 0] z slices_S4352x2976_S4352x896_0_0 : FVec Ideal S4352x896 .bf16)⟩,
    ⟨S4352x128, (pad S4352x128 ![0, 64] ![0, 32] ![0, 0] (extractStridedSlice S4352x32 ![0, 896] z slices_S4352x2976_S4352x32_0_896)
      (sitofp (F := Ideal) .bf16 (constantI S_ 32 0#32)) pads_S4352x32_S4352x128_000_64320 h_S_ : FVec Ideal S4352x128 .bf16)⟩,
    ⟨S4352x2048, (extractStridedSlice S4352x2048 ![0, 928] z slices_S4352x2976_S4352x2048_0_928 : FVec Ideal S4352x2048 .bf16)⟩]
    concatenates_S4352x896_S4352x128_S4352x2048_S4352x3072_d1
theorem V_v32 : V m c main_v32 = hZ (z m c) := by
  simp only [V, hostOps0, hostOps0_1, hostOps0_2, hostOps0_3, hostOps0_4, hostOps0_5, hostOps0_6, hostOps0_7, hostOps0_8, List.flatten_cons, List.flatten_nil, List.append_nil, List.cons_append,
    List.nil_append, StableHlo.TRef.binary, StableHlo.TRef.unary, StableHlo.TRef.toBuf, StableHlo.TRef.ofBuf, cast_eq]
  after_results_simp <;> rfl
theorem hZ_apply (z : FVec Ideal S4352x2976 .bf16) (i : Fin 4352) (j : Fin 3072) :
    hZ z (ix2 i j) = padCol j fun q => z (ix2 i q) := by
  pointwise
  refine Eq.trans ?_ (padCol_read j fun q => z (ix2 i q))
  rw [pad_zero .bf16, pad_zero .f32]

end Cert.QkvValue

end
-- ==== Proof.QkvArrays.lean ====
/-
  What the projections' kernel's three result arrays end holding, entry by entry, from the argument arrays.
-/
module

public import proofs.«01_k».proof.Proof.QkvBlock
public import proofs.«01_k».proof.Proof.QkvHost

@[expose] public section

noncomputable section

namespace Cert.QkvValue

open Idealize.ShloMosaic Idealize.ShloMosaic.TcCoe Idealize.SL.Sem Cert.QkvFwdIdeal Cert.QkvFwdIdeal.Gen
open Idealize.ShloMosaic.Pipeline (Dat Cfg Window)
open Cert.RmsRow Cert.FfnFormula Cert.InLayout Cert.RopeHeads
open Cert.QkvFormula (cqn ckn Q KV kr pos qOut kOut vOut)

variable (m : (ℓ : Loc nD τ sig) → Buf (Elt Ideal) ℓ) (c : Dev nD)

/-! ### Blocks of the arrays -/

/-- Token `r` of block `t`. -/
abbrev tok (t : Fin cfg0.N) (r : Fin 544) : Fin 4352 := ⟨t.val * 544 + r.val, by
  have := t.isLt; have h : cfg0.N = 8 := N_0; have := r.isLt; omega⟩
/-- Every token is some block's. -/
theorem exists_tok (i : Fin 4352) : ∃ t r, i = tok t r :=
  ⟨⟨i.val / 544, by have h : cfg0.N = 8 := N_0; omega⟩, ⟨i.val % 544, Nat.mod_lt _ (by decide)⟩, Fin.ext (by simp only []; omega)⟩

theorem idx0 : ∀ t : Fin grid0.N, win0_0.index t 0 = t.val ∧ win0_0.index t 1 = 2 := by decide +kernel
theorem blk0 (t : Fin cfg0.N) (r : Fin 544) (j : Fin 256) : iblk m c 0 t (ix2 r j) = (hZ (z m c)) (ix2 (tok t r) ⟨512 + j.val, by omega⟩) := by
  show V m c main_v32 ((win0_0.rect t).emb (ix2 r j)) = _
  rw [V_v32]
  refine congrArg (hZ (z m c)) (Shape.idx_ext₂ ?_ ?_)
  · exact (win0_0.rect_emb_val t _ 0).trans (by rw [(idx0 t).1]; simp)
  · exact (win0_0.rect_emb_val t _ 1).trans (by rw [(idx0 t).2]; simp)
theorem idx1 : ∀ t : Fin grid0.N, win0_1.index t 0 = t.val ∧ win0_1.index t 1 = 6 := by decide +kernel
theorem blk1 (t : Fin cfg0.N) (r : Fin 544) (j : Fin 128) : iblk m c 1 t (ix2 r j) = (hZ (z m c)) (ix2 (tok t r) ⟨768 + j.val, by omega⟩) := by
  show V m c main_v32 ((win0_1.rect t).emb (ix2 r j)) = _
  rw [V_v32]
  refine congrArg (hZ (z m c)) (Shape.idx_ext₂ ?_ ?_)
  · exact (win0_1.rect_emb_val t _ 0).trans (by rw [(idx1 t).1]; simp)
  · exact (win0_1.rect_emb_val t _ 1).trans (by rw [(idx1 t).2]; simp)
theorem idx2 : ∀ t : Fin grid0.N, win0_2.index t 0 = t.val ∧ win0_2.index t 1 = 7 := by decide +kernel
theorem blk2 (t : Fin cfg0.N) (r : Fin 544) (j : Fin 128) : iblk m c 2 t (ix2 r j) = (hZ (z m c)) (ix2 (tok t r) ⟨896 + j.val, by omega⟩) := by
  show V m c main_v32 ((win0_2.rect t).emb (ix2 r j)) = _
  rw [V_v32]
  refine congrArg (hZ (z m c)) (Shape.idx_ext₂ ?_ ?_)
  · exact (win0_2.rect_emb_val t _ 0).trans (by rw [(idx2 t).1]; simp)
  · exact (win0_2.rect_emb_val t _ 1).trans (by rw [(idx2 t).2]; simp)
theorem idx3 : ∀ t : Fin grid0.N, win0_3.index t 0 = 0 ∧ win0_3.index t 1 = 0 := by decide +kernel
theorem blk3 (t : Fin cfg0.N) (r : Fin 1) (j : Fin 256) : iblk m c 3 t (ix2 r j) = (hGq (gq m c)) (ix2 r j) := by
  show V m c main_v33 ((win0_3.rect t).emb (ix2 r j)) = _
  rw [V_v33]
  refine congrArg (hGq (gq m c)) (Shape.idx_ext₂ ?_ ?_)
  · exact (win0_3.rect_emb_val t _ 0).trans (by rw [(idx3 t).1]; simp)
  · exact (win0_3.rect_emb_val t _ 1).trans (by rw [(idx3 t).2]; simp)
theorem idx4 : ∀ t : Fin grid0.N, win0_4.index t 0 = 0 ∧ win0_4.index t 1 = 0 := by decide +kernel
theorem blk4 (t : Fin cfg0.N) (r : Fin 1) (j : Fin 128) : iblk m c 4 t (ix2 r j) = (hGkv (gkv m c)) (ix2 r j) := by
  show V m c main_v34 ((win0_4.rect t).emb (ix2 r j)) = _
  rw [V_v34]
  refine congrArg (hGkv (gkv m c)) (Shape.idx_ext₂ ?_ ?_)
  · exact (win0_4.rect_emb_val t _ 0).trans (by rw [(idx4 t).1]; simp)
  · exact (win0_4.rect_emb_val t _ 1).trans (by rw [(idx4 t).2]; simp)
theorem idx5 : ∀ t : Fin grid0.N, win0_5.index t 0 = 0 ∧ win0_5.index t 1 = 0 := by decide +kernel
theorem blk5 (t : Fin cfg0.N) (r : Fin 256) (j : Fin 2048) : iblk m c 5 t (ix2 r j) = (hWq (wq m c)) (ix2 r j) := by
  show V m c main_v35 ((win0_5.rect t).emb (ix2 r j)) = _
  rw [V_v35]
  refine congrArg (hWq (wq m c)) (Shape.idx_ext₂ ?_ ?_)
  · exact (win0_5.rect_emb_val t _ 0).trans (by rw [(idx5 t).1]; simp)
  · exact (win0_5.rect_emb_val t _ 1).trans (by rw [(idx5 t).2]; simp)
theorem idx6 : ∀ t : Fin grid0.N, win0_6.index t 0 = 0 ∧ win0_6.index t 1 = 0 := by decide +kernel
theorem blk6 (t : Fin cfg0.N) (r : Fin 128) (j : Fin 4096) : iblk m c 6 t (ix2 r j) = (hWkv (wkv m c)) (ix2 r j) := by
  show V m c main_v36 ((win0_6.rect t).emb (ix2 r j)) = _
  rw [V_v36]
  refine congrArg (hWkv (wkv m c)) (Shape.idx_ext₂ ?_ ?_)
  · exact (win0_6.rect_emb_val t _ 0).trans (by rw [(idx6 t).1]; simp)
  · exact (win0_6.rect_emb_val t _ 1).trans (by rw [(idx6 t).2]; simp)
theorem idx7 : ∀ t : Fin grid0.N, win0_7.index t 0 = t.val ∧ win0_7.index t 1 = 0 := by decide +kernel
theorem blk7 (t : Fin cfg0.N) (r : Fin 544) (j : Fin 128) : iblk m c 7 t (ix2 r j) = (hC (cs m c)) (ix2 (tok t r) j) := by
  show V m c main_v21 ((win0_7.rect t).emb (ix2 r j)) = _
  rw [V_v21]
  refine congrArg (hC (cs m c)) (Shape.idx_ext₂ ?_ ?_)
  · exact (win0_7.rect_emb_val t _ 0).trans (by rw [(idx7 t).1]; simp)
  · exact (win0_7.rect_emb_val t _ 1).trans (by rw [(idx7 t).2]; simp)
theorem idx8 : ∀ t : Fin grid0.N, win0_8.index t 0 = t.val ∧ win0_8.index t 1 = 0 := by decide +kernel
theorem blk8 (t : Fin cfg0.N) (r : Fin 544) (j : Fin 128) : iblk m c 8 t (ix2 r j) = (hA (sn m c)) (ix2 (tok t r) j) := by
  show V m c main_v24 ((win0_8.rect t).emb (ix2 r j)) = _
  rw [V_v24]
  refine congrArg (hA (sn m c)) (Shape.idx_ext₂ ?_ ?_)
  · exact (win0_8.rect_emb_val t _ 0).trans (by rw [(idx8 t).1]; simp)
  · exact (win0_8.rect_emb_val t _ 1).trans (by rw [(idx8 t).2]; simp)
theorem idx9 : ∀ t : Fin grid0.N, win0_9.index t 0 = t.val ∧ win0_9.index t 1 = 0 := by decide +kernel
theorem blk9 (t : Fin cfg0.N) (r : Fin 544) (j : Fin 128) : iblk m c 9 t (ix2 r j) = (hB (sn m c)) (ix2 (tok t r) j) := by
  show V m c main_v27 ((win0_9.rect t).emb (ix2 r j)) = _
  rw [V_v27]
  refine congrArg (hB (sn m c)) (Shape.idx_ext₂ ?_ ?_)
  · exact (win0_9.rect_emb_val t _ 0).trans (by rw [(idx9 t).1]; simp)
  · exact (win0_9.rect_emb_val t _ 1).trans (by rw [(idx9 t).2]; simp)

/-! ### The block's rows in the arrays' terms -/

theorem row0 (t : Fin cfg0.N) (r : Fin 544) : row (iblk m c 0 t : Vec Ideal S544x256 .bf16) r = fun q => z m c (ix2 (tok t r) ⟨512 + q.val, by omega⟩) := by
  funext q
  show iblk m c 0 t (ix2 r q) = _
  rw [blk0, hZ_apply]
  unfold padCol
  rw [dif_pos (by dsimp only; omega)]
theorem row1 (t : Fin cfg0.N) (r : Fin 544) : row (iblk m c 1 t : Vec Ideal S544x128 .bf16) r = fun q => z m c (ix2 (tok t r) ⟨768 + q.val, by omega⟩) := by
  funext q
  show iblk m c 1 t (ix2 r q) = _
  rw [blk1, hZ_apply]
  unfold padCol
  rw [dif_pos (by dsimp only; omega)]
theorem row2 (t : Fin cfg0.N) (r : Fin 544) : row (iblk m c 2 t : Vec Ideal S544x128 .bf16) r = keyLane (kr (z m c) (tok t r)) := by
  funext q
  show iblk m c 2 t (ix2 r q) = _
  rw [blk2, hZ_apply]
  unfold padCol keyLane kr
  rw [dif_neg (by dsimp only; omega)]
  by_cases h : 64 ≤ q.val ∧ q.val < 96
  · rw [dif_pos (by dsimp only; omega), dif_pos h]
    exact congrArg (fun q => z m c (ix2 (tok t r) q)) (Fin.ext (by dsimp only; omega))
  · rw [dif_neg (by dsimp only; omega), dif_neg (by dsimp only; omega), dif_neg h]
theorem row7 (t : Fin cfg0.N) (r : Fin 544) : row (iblk m c 7 t : Vec Ideal S544x128 .f32) r = laneC (pos (tok t r) (cs m c)) := by
  funext q
  show iblk m c 7 t (ix2 r q) = _
  rw [blk7, hC_apply]
theorem row8 (t : Fin cfg0.N) (r : Fin 544) : row (iblk m c 8 t : Vec Ideal S544x128 .f32) r = laneA (pos (tok t r) (sn m c)) := by
  funext q
  show iblk m c 8 t (ix2 r q) = _
  rw [blk8, hA_apply]
theorem row9 (t : Fin cfg0.N) (r : Fin 544) : row (iblk m c 9 t : Vec Ideal S544x128 .f32) r = laneB (pos (tok t r) (sn m c)) := by
  funext q
  show iblk m c 9 t (ix2 r q) = _
  rw [blk9, hB_apply]
/-- The block's products. -/
theorem qRaw_eq (t : Fin cfg0.N) (r : Fin 544) (j : Fin 2048) :
    qRaw (iblk m c 0 t) (iblk m c 3 t) (iblk m c 5 t) r j = head96 (Q (z m c) (gq m c) (wq m c) (tok t r)) (hdOf j) (laneOf j) := by
  refine Eq.trans ?_ (sum_head96 (cqn (z m c) (gq m c) (tok t r)) (fun k q => wq m c (ix2 k q)) (hdOf j) (laneOf j))
  unfold qRaw
  refine Finset.sum_congr rfl fun k _ => ?_
  rw [row0, blk3, hGq_apply, blk5, hWq_apply]
  rfl
theorem kRaw_eq (t : Fin cfg0.N) (r : Fin 544) (j : Fin 2048) :
    kvRaw (iblk m c 1 t) (iblk m c 4 t) (iblk m c 6 t) r ⟨j.val, by omega⟩ = headK (KV (z m c) (gkv m c) (wkv m c) (tok t r)) (hdOf j) (laneOf j) := by
  refine Eq.trans ?_ (sum_headK (ckn (z m c) (gkv m c) (tok t r)) (fun k q => wkv m c (ix2 k q)) (hdOf j) (laneOf j))
  unfold kvRaw
  refine Finset.sum_congr rfl fun k _ => ?_
  rw [row1, blk4, hGkv_apply, blk6, hWkv_apply]
  rfl
theorem vRaw_eq (t : Fin cfg0.N) (r : Fin 544) (j : Fin 2048) :
    kvRaw (iblk m c 1 t) (iblk m c 4 t) (iblk m c 6 t) r ⟨2048 + j.val, by omega⟩ = headV (KV (z m c) (gkv m c) (wkv m c) (tok t r)) (hdOf j) (laneOf j) := by
  refine Eq.trans ?_ (sum_headV (ckn (z m c) (gkv m c) (tok t r)) (fun k q => wkv m c (ix2 k q)) (hdOf j) (laneOf j))
  unfold kvRaw
  refine Finset.sum_congr rfl fun k _ => ?_
  rw [row1, blk4, hGkv_apply, blk6, hWkv_apply']
  rfl

/-! ### The result arrays -/

theorem idx10 : ∀ t : Fin grid0.N, win0_10.index t 0 = t.val ∧ win0_10.index t 1 = 0 := by decide +kernel
theorem arr10 (i : Fin 4352) (j : Fin 2048) : (dats m 0 c).arrAt 10 cfg0.N (ix2 i j)
    = qOut (z m c) (gq m c) (wq m c) (cs m c) (sn m c) i j := by
  obtain ⟨t, r, rfl⟩ := exists_tok i
  have e : ((cfg0.win 10).blk t).view.emb (ix2 r j) = ix2 (tok t r) j := Shape.idx_ext₂
    ((win0_10.rect_emb_val t _ 0).trans (by rw [(idx10 t).1]; rfl)) ((win0_10.rect_emb_val t _ 1).trans (by rw [(idx10 t).2]; simp))
  have h : out0_10 (iblk m c 0 t) (iblk m c 1 t) (iblk m c 2 t) (iblk m c 3 t) (iblk m c 4 t) (iblk m c 5 t) (iblk m c 6 t) (iblk m c 7 t) (iblk m c 8 t) (iblk m c 9 t) (ix2 r j)
      = qOut (z m c) (gq m c) (wq m c) (cs m c) (sn m c) (tok t r) j := by
    refine (out_10 (iblk m c 0 t) (iblk m c 1 t) (iblk m c 2 t) (iblk m c 3 t) (iblk m c 4 t) (iblk m c 5 t) (iblk m c 6 t) (iblk m c 7 t) (iblk m c 8 t) (iblk m c 9 t) r j).trans ?_
    rw [row7, row8, row9, rotated_eq]
    have e : (fun e : Fin 128 => qRaw (iblk m c 0 t) (iblk m c 3 t) (iblk m c 5 t) r ⟨j.val / 128 * 128 + e.val, by omega⟩)
        = head96 (Q (z m c) (gq m c) (wq m c) (tok t r)) (hdOf j) := funext fun e => by
      rw [qRaw_eq]
      exact congrArg₂ (head96 _) (Fin.ext (by dsimp only; omega)) (Fin.ext (by dsimp only; omega))
    rw [e]
    rfl
  refine (congrArg ((dats m 0 c).arrAt 10 cfg0.N) e.symm).trans ?_
  refine ((dats m 0 c).arrAt_emb_eq_flushed 10 Value.disjoint10 t (flush0_10 t) (ix2 r j)).trans ?_
  rw [Value.flushed10]
  generalize out0_10 (iblk m c 0 t) (iblk m c 1 t) (iblk m c 2 t) (iblk m c 3 t) (iblk m c 4 t) (iblk m c 5 t) (iblk m c 6 t) (iblk m c 7 t) (iblk m c 8 t) (iblk m c 9 t) = v at h ⊢
  exact h
theorem idx11 : ∀ t : Fin grid0.N, win0_11.index t 0 = t.val ∧ win0_11.index t 1 = 0 := by decide +kernel
theorem arr11 (i : Fin 4352) (j : Fin 2048) : (dats m 0 c).arrAt 11 cfg0.N (ix2 i j)
    = kOut (z m c) (gkv m c) (wkv m c) (cs m c) (sn m c) i j := by
  obtain ⟨t, r, rfl⟩ := exists_tok i
  have e : ((cfg0.win 11).blk t).view.emb (ix2 r j) = ix2 (tok t r) j := Shape.idx_ext₂
    ((win0_11.rect_emb_val t _ 0).trans (by rw [(idx11 t).1]; rfl)) ((win0_11.rect_emb_val t _ 1).trans (by rw [(idx11 t).2]; simp))
  have h : out0_11 (iblk m c 0 t) (iblk m c 1 t) (iblk m c 2 t) (iblk m c 3 t) (iblk m c 4 t) (iblk m c 5 t) (iblk m c 6 t) (iblk m c 7 t) (iblk m c 8 t) (iblk m c 9 t) (ix2 r j)
      = kOut (z m c) (gkv m c) (wkv m c) (cs m c) (sn m c) (tok t r) j := by
    refine (out_11 (iblk m c 0 t) (iblk m c 1 t) (iblk m c 2 t) (iblk m c 3 t) (iblk m c 4 t) (iblk m c 5 t) (iblk m c 6 t) (iblk m c 7 t) (iblk m c 8 t) (iblk m c 9 t) r j).trans ?_
    rw [row2, row7, row8, row9, rotated_eq, kRaw_eq]
    rfl
  refine (congrArg ((dats m 0 c).arrAt 11 cfg0.N) e.symm).trans ?_
  refine ((dats m 0 c).arrAt_emb_eq_flushed 11 Value.disjoint11 t (flush0_11 t) (ix2 r j)).trans ?_
  rw [Value.flushed11]
  generalize out0_11 (iblk m c 0 t) (iblk m c 1 t) (iblk m c 2 t) (iblk m c 3 t) (iblk m c 4 t) (iblk m c 5 t) (iblk m c 6 t) (iblk m c 7 t) (iblk m c 8 t) (iblk m c 9 t) = v at h ⊢
  exact h
theorem idx12 : ∀ t : Fin grid0.N, win0_12.index t 0 = t.val ∧ win0_12.index t 1 = 0 := by decide +kernel
theorem arr12 (i : Fin 4352) (j : Fin 2048) : (dats m 0 c).arrAt 12 cfg0.N (ix2 i j)
    = vOut (z m c) (gkv m c) (wkv m c) i j := by
  obtain ⟨t, r, rfl⟩ := exists_tok i
  have e : ((cfg0.win 12).blk t).view.emb (ix2 r j) = ix2 (tok t r) j := Shape.idx_ext₂
    ((win0_12.rect_emb_val t _ 0).trans (by rw [(idx12 t).1]; rfl)) ((win0_12.rect_emb_val t _ 1).trans (by rw [(idx12 t).2]; simp))
  have h : out0_12 (iblk m c 0 t) (iblk m c 1 t) (iblk m c 2 t) (iblk m c 3 t) (iblk m c 4 t) (iblk m c 5 t) (iblk m c 6 t) (iblk m c 7 t) (iblk m c 8 t) (iblk m c 9 t) (ix2 r j)
      = vOut (z m c) (gkv m c) (wkv m c) (tok t r) j := by
    refine (out_12 (iblk m c 0 t) (iblk m c 1 t) (iblk m c 2 t) (iblk m c 3 t) (iblk m c 4 t) (iblk m c 5 t) (iblk m c 6 t) (iblk m c 7 t) (iblk m c 8 t) (iblk m c 9 t) r j).trans ?_
    rw [vRaw_eq]
    rfl
  refine (congrArg ((dats m 0 c).arrAt 12 cfg0.N) e.symm).trans ?_
  refine ((dats m 0 c).arrAt_emb_eq_flushed 12 Value.disjoint12 t (flush0_12 t) (ix2 r j)).trans ?_
  rw [Value.flushed12]
  generalize out0_12 (iblk m c 0 t) (iblk m c 1 t) (iblk m c 2 t) (iblk m c 3 t) (iblk m c 4 t) (iblk m c 5 t) (iblk m c 6 t) (iblk m c 7 t) (iblk m c 8 t) (iblk m c 9 t) = v at h ⊢
  exact h

end Cert.QkvValue

end
-- ==== Proof.QkvRefValue.lean ====
/-
  What the projections' reference computes, entry by entry: the same formulas.
-/
module

public import proofs.«01_k».proof.Proof.QkvFormula
public import proofs.«01_k».proof.Proof.Gen.QkvFwdRefIdeal.Read

@[expose] public section

noncomputable section

namespace Cert.QkvRefValue

open Idealize.ShloMosaic Cert.QkvFwdRefIdeal Cert.QkvFwdRefIdeal.Read
open Cert.FfnFormula Cert.RmsRow Cert.RopeHeads Cert.QkvFormula

variable (z : FVec Ideal S4352x2976 .bf16) (gq : FVec Ideal S256 .f32) (gkv : FVec Ideal S128 .f32) (wq : FVec Ideal S256x1536 .f32)
  (wkv : FVec Ideal S128x2048 .f32) (cs sn : FVec Ideal S2176x16 .f32)

/-- Position `s` of sequence `b`. -/
abbrev tk (b : Fin 2) (s : Fin 2176) : Fin 4352 := ⟨b.val * 2176 + s.val, by omega⟩
theorem tk_eq (i : Fin 4352) : tk ⟨i.val / 2176, by omega⟩ ⟨i.val % 2176, Nat.mod_lt _ (by decide)⟩ = i :=
  Fin.ext (by dsimp only; omega)

/-- The query's columns in three regions. -/
theorem qOut_low (i : Fin 4352) (j : Fin 2048) (h : j.val % 128 < 64) :
    qOut z gq wq cs sn i j = Q z gq wq i ⟨j.val / 128 * 96 + j.val % 128, by omega⟩ * S := by
  unfold qOut
  rw [lanes_low _ _ _ (laneOf j) h]
  unfold head96
  rw [dif_pos (by dsimp only; omega)]
theorem qOut_rot (i : Fin 4352) (j : Fin 2048) (h : ¬ j.val % 128 < 64) (h' : j.val % 128 - 64 < 32) :
    qOut z gq wq cs sn i j = rot (fun q => Q z gq wq i ⟨j.val / 128 * 96 + (64 + q.val), by omega⟩)
      (pos i cs) (pos i sn) ⟨j.val % 128 - 64, h'⟩ * S := by
  unfold qOut
  rw [lanes_rot _ _ _ (laneOf j) h h']
  refine congrArg (fun x => rot x (pos i cs) (pos i sn) ⟨j.val % 128 - 64, h'⟩ * S) (funext fun q => ?_)
  unfold head96
  rw [dif_pos (by dsimp only; omega)]
theorem qOut_high (i : Fin 4352) (j : Fin 2048) (h : ¬ j.val % 128 < 64) (h' : ¬ j.val % 128 - 64 < 32) : qOut z gq wq cs sn i j = 0 := by
  unfold qOut
  rw [lanes_high _ _ _ (laneOf j) h h', zero_mul]
/-- The key's columns in three regions. -/
theorem kOut_low (i : Fin 4352) (j : Fin 2048) (h : j.val % 128 < 64) : kOut z gkv wkv cs sn i j = KV z gkv wkv i j := by
  unfold kOut
  rw [lanes_low _ _ _ (laneOf j) h]
  unfold headK keyLane
  rw [dif_pos h, dif_neg (by dsimp only; omega), add_zero]
  exact congrArg (KV z gkv wkv i) (Fin.ext (by dsimp only; omega))
theorem kOut_rot (i : Fin 4352) (j : Fin 2048) (h : ¬ j.val % 128 < 64) (h' : j.val % 128 - 64 < 32) :
    kOut z gkv wkv cs sn i j = rot (kr z i) (pos i cs) (pos i sn) ⟨j.val % 128 - 64, h'⟩ := by
  unfold kOut
  rw [lanes_rot _ _ _ (laneOf j) h h']
  unfold headK
  rw [dif_neg h, zero_add]
  refine congrArg (fun x => rot x (pos i cs) (pos i sn) ⟨j.val % 128 - 64, h'⟩) (funext fun q => ?_)
  unfold keyLane
  rw [dif_pos (by dsimp only; omega)]
  exact congrArg (kr z i) (Fin.ext (by dsimp only; omega))
theorem kOut_high (i : Fin 4352) (j : Fin 2048) (h : ¬ j.val % 128 < 64) (h' : ¬ j.val % 128 - 64 < 32) : kOut z gkv wkv cs sn i j = 0 := by
  unfold kOut
  rw [lanes_high _ _ _ (laneOf j) h h']
  unfold headK
  rw [dif_neg h, zero_add]
/-- The value's columns in three regions. -/
theorem vOut_low (i : Fin 4352) (j : Fin 2048) (h : j.val % 128 < 64) :
    vOut z gkv wkv i j = KV z gkv wkv i ⟨j.val / 128 * 128 + (64 + j.val % 128), by omega⟩ := by
  unfold vOut headV
  rw [if_neg (by omega), dif_pos h]
theorem vOut_one (i : Fin 4352) (j : Fin 2048) (h : j.val % 128 = 64) : vOut z gkv wkv i j = 1 := if_pos h
theorem vOut_high (i : Fin 4352) (j : Fin 2048) (h : ¬ j.val % 128 < 64) (h' : ¬ j.val % 128 = 64) : vOut z gkv wkv i j = 0 := by
  unfold vOut headV
  rw [if_neg h', dif_neg h]

theorem v17 (b : Fin 2) (s : Fin 2176) (k : Fin 256) : val_main_v17 (F := Ideal) z gq (ix3 b s k)
    = cqn z gq (tk b s) k := by
  unfold val_main_v17 val_main_v16 val_main_v15 val_main_v14 val_main_v13 val_main_v12 val_main_v11 val_main_v10 val_main_cst_1 val_main_v9 val_main_v8 val_main_cst_0 val_main_v7 val_main_v6 val_main_cst val_main_v5 val_main_v2 val_main_v1 val_main_v0
  pointwise
  rfl

theorem v18 (b : Fin 2) (s : Fin 2176) (q : Fin 1536) : val_main_v18 (F := Ideal) z gq wq (ix3 b s q)
    = Q z gq wq (tk b s) q := by
  unfold val_main_v18
  pointwise [v17]
  rfl

theorem v53 (b : Fin 2) (s : Fin 2176) (k : Fin 128) : val_main_v53 (F := Ideal) z gkv (ix3 b s k)
    = ckn z gkv (tk b s) k := by
  unfold val_main_v53 val_main_v52 val_main_v51 val_main_v50 val_main_v49 val_main_v48 val_main_v47 val_main_v46 val_main_cst_4 val_main_v45 val_main_v44 val_main_cst_3 val_main_v43 val_main_v42 val_main_cst_2 val_main_v41 val_main_v3 val_main_v1 val_main_v0
  pointwise
  rfl

theorem v54 (b : Fin 2) (s : Fin 2176) (q : Fin 2048) : val_main_v54 (F := Ideal) z gkv wkv (ix3 b s q)
    = KV z gkv wkv (tk b s) q := by
  unfold val_main_v54
  pointwise [v53]
  rfl

theorem v40 (b : Fin 2) (s : Fin 2176) (h : Fin 16) (e : Fin 32) : val_main_v40 (F := Ideal) z gq wq cs sn (ix4 b s h e)
    = rot (fun q => Q z gq wq (tk b s) ⟨h.val * 96 + (64 + q.val), by omega⟩) (fun q => cs (ix2 s q)) (fun q => sn (ix2 s q)) e := by
  unfold val_main_v40 val_main_v39 val_main_v38 val_main_v37 val_main_v36 val_main_v35 val_main_v34 val_main_v33 val_main_v32 val_main_v31 val_main_v30 val_main_v29 val_main_v28 val_main_v27 val_main_v26 val_main_v25 val_main_v24 val_main_v23 val_main_v22 val_main_v21 val_main_v19
  pointwise [v18]
  rfl

theorem v74 (b : Fin 2) (s : Fin 2176) (e : Fin 32) : val_main_v74 (F := Ideal) z cs sn (ix3 b s e)
    = rot (kr z (tk b s)) (fun q => cs (ix2 s q)) (fun q => sn (ix2 s q)) e := by
  unfold val_main_v74 val_main_v73 val_main_v72 val_main_v71 val_main_v70 val_main_v69 val_main_v68 val_main_v67 val_main_v66 val_main_v65 val_main_v64 val_main_v63 val_main_v62 val_main_v61 val_main_v60 val_main_v59 val_main_v58 val_main_v4 val_main_v1 val_main_v0
  pointwise
  rfl

theorem v88 (i : Fin 4352) (j : Fin 2048) : val_main_v88 (F := Ideal) z gq wq cs sn (ix2 i j)
    = qOut z gq wq cs sn i j := by
  unfold val_main_v88 val_main_v87 val_main_v84 val_main_v83 val_main_v82 val_main_cst_9 val_main_v81 val_main_v80 val_main_cst_8 val_main_v77 val_main_cst_5 val_main_v20 val_main_v19
  pointwise [v40, v18]
  by_cases h : j.val % 128 < 64
  · exact (dif_pos h).trans ((congrArg (fun i => Q z gq wq i _ * S) (tk_eq i)).trans (qOut_low z gq wq cs sn i j h).symm)
  by_cases h' : j.val % 128 - 64 < 32
  · exact (dif_neg h).trans ((dif_pos h').trans ((congrArg (fun a => rot (fun q => Q z gq wq a ⟨j.val / 128 * 96 + (64 + q.val), by omega⟩)
      (pos i cs) (pos i sn) ⟨j.val % 128 - 64, h'⟩ * S) (tk_eq i)).trans (qOut_rot z gq wq cs sn i j h h').symm))
  · exact (dif_neg h).trans ((dif_neg h').trans (qOut_high z gq wq cs sn i j h h').symm)

theorem v90 (i : Fin 4352) (j : Fin 2048) : val_main_v90 (F := Ideal) z gkv wkv cs sn (ix2 i j)
    = kOut z gkv wkv cs sn i j := by
  unfold val_main_v90 val_main_v89 val_main_v85 val_main_v77 val_main_cst_5 val_main_v76 val_main_v75 val_main_v56 val_main_v55
  pointwise [v74, v54]
  by_cases h : j.val % 128 < 64
  · exact (dif_pos h).trans ((congrArg (fun i => KV z gkv wkv i j) (tk_eq i)).trans (kOut_low z gkv wkv cs sn i j h).symm)
  by_cases h' : j.val % 128 - 64 < 32
  · exact (dif_neg h).trans ((dif_pos h').trans ((congrArg (fun a => rot (kr z a) (pos i cs) (pos i sn) ⟨j.val % 128 - 64, h'⟩)
      (tk_eq i)).trans (kOut_rot z gkv wkv cs sn i j h h').symm))
  · exact (dif_neg h).trans ((dif_neg h').trans (kOut_high z gkv wkv cs sn i j h h').symm)

theorem v92 (i : Fin 4352) (j : Fin 2048) : val_main_v92 (F := Ideal) z gkv wkv (ix2 i j)
    = vOut z gkv wkv i j := by
  unfold val_main_v92 val_main_v91 val_main_v86 val_main_v79 val_main_cst_7 val_main_v78 val_main_cst_6 val_main_v57 val_main_v55
  pointwise [v54]
  by_cases h : j.val % 128 < 64
  · exact (dif_pos h).trans ((congrArg (fun i => KV z gkv wkv i _) (tk_eq i)).trans (vOut_low z gkv wkv i j h).symm)
  by_cases h' : j.val % 128 - 64 < 1
  · exact (dif_neg h).trans ((dif_pos h').trans (vOut_one z gkv wkv i j (by omega)).symm)
  · exact (dif_neg h).trans ((dif_neg h').trans (vOut_high z gkv wkv i j h (by omega)).symm)

end Cert.QkvRefValue

end
-- ==== Proof.QkvFwd.lean ====
/-
  The projections' kernel and its reference leave the same queries, keys and values.
-/
module

public import proofs.«01_k».proof.Defs
public import proofs.«01_k».proof.Proof.QkvArrays
public import proofs.«01_k».proof.Proof.QkvRefValue
public import proofs.«01_k».proof.Proof.Gen.QkvFwdRefIdeal.Run

@[expose] public section

noncomputable section

namespace Cert.QkvFwdClaim

open Idealize.ShloMosaic Idealize.ShloMosaic.TcCoe Idealize.SL.Sem Cert.QkvFwdRefIdeal.Read

/-- Two arrays with two axes are equal where their entries are. -/
theorem arr_ext {p q : Nat} {x y : (⟨2, ![p, q]⟩ : Shape).Idx → EReal} (h : ∀ i j, x (ix2 i j) = y (ix2 i j)) : x = y :=
  funext fun i => by rw [eq_ix2 i]; exact h _ _

theorem algebraic : Cert.algebraic_QkvFwdIdeal_QkvFwdRefIdeal (hQkvFwdIdeal := Cert.QkvFwdIdeal.Gen.facts)
    (hQkvFwdRefIdeal := Cert.QkvFwdRefIdeal.Gen.facts) := by
  intro m g m' g' _ hargs
  refine ⟨_, _, _, Cert.QkvFwdIdeal.Value.run_blocks (F := Ideal) m g, ?_⟩
  refine (θ_run (Cert.QkvFwdRefIdeal.defs (F := Ideal)) _ _).mono (fun r h c => ?_) (Cert.QkvFwdRefIdeal.Value.run (F := Ideal) m' g')
  obtain ⟨h0, h1, h2, hk⟩ := h c
  obtain ⟨e0, e1, e2, e3, e4, e5, e6⟩ := hargs c
  have q0 := h0.trans (val_main_v88_eq (F := Ideal) _ _)
  rw [e0, e1, e3, e5, e6] at q0
  have q1 := h1.trans (val_main_v90_eq (F := Ideal) _ _)
  rw [e0, e2, e4, e5, e6] at q1
  have q2 := h2.trans (val_main_v92_eq (F := Ideal) _ _ _)
  rw [e0, e2, e4] at q2
  refine ⟨q0.trans ?_, q1.trans ?_, q2.trans ?_, hk⟩
  · exact arr_ext fun i j => (QkvRefValue.v88 _ _ _ _ _ i j).trans (QkvValue.arr10 m c i j).symm
  · exact arr_ext fun i j => (QkvRefValue.v90 _ _ _ _ _ i j).trans (QkvValue.arr11 m c i j).symm
  · exact arr_ext fun i j => (QkvRefValue.v92 _ _ _ i j).trans (QkvValue.arr12 m c i j).symm

end Cert.QkvFwdClaim

end
-- ==== Proof.lean ====
module

public import proofs.«01_k».proof.Defs
public import proofs.«01_k».proof.Proof.Gen.FfnBwd.Frame
public import proofs.«01_k».proof.Proof.Gen.FfnBwdIdeal.Frame
public import proofs.«01_k».proof.Proof.Gen.FfnRefIdeal
public import proofs.«01_k».proof.Proof.Gen.FfnFwd.Frame
public import proofs.«01_k».proof.Proof.Gen.FfnFwdIdeal.Frame
public import proofs.«01_k».proof.Proof.Gen.FfnFwdRefIdeal
public import proofs.«01_k».proof.Proof.Gen.MergeBwd.Frame
public import proofs.«01_k».proof.Proof.Gen.MergeBwdIdeal.Frame
public import proofs.«01_k».proof.Proof.Gen.MergeRefIdeal
public import proofs.«01_k».proof.Proof.Gen.MergeFwd.Frame
public import proofs.«01_k».proof.Proof.Gen.MergeFwdIdeal.Frame
public import proofs.«01_k».proof.Proof.Gen.MergeFwdRefIdeal
public import proofs.«01_k».proof.Proof.Gen.GateGrad.Frame
public import proofs.«01_k».proof.Proof.Gen.GateGradIdeal.Frame
public import proofs.«01_k».proof.Proof.Gen.GateGradRefIdeal
public import proofs.«01_k».proof.Proof.Gen.DownGrad.Frame
public import proofs.«01_k».proof.Proof.Gen.DownGradIdeal.Frame
public import proofs.«01_k».proof.Proof.Gen.DownGradRefIdeal
public import proofs.«01_k».proof.Proof.Gen.OutGrad.Frame
public import proofs.«01_k».proof.Proof.Gen.OutGradIdeal.Frame
public import proofs.«01_k».proof.Proof.Gen.OutGradRefIdeal
public import proofs.«01_k».proof.Proof.Gen.PaGrad.Frame
public import proofs.«01_k».proof.Proof.Gen.PaGradIdeal.Frame
public import proofs.«01_k».proof.Proof.Gen.PaGradRefIdeal
public import proofs.«01_k».proof.Proof.Gen.PbGrad.Frame
public import proofs.«01_k».proof.Proof.Gen.PbGradIdeal.Frame
public import proofs.«01_k».proof.Proof.Gen.PbGradRefIdeal
public import proofs.«01_k».proof.Proof.Gen.UqGrad.Frame
public import proofs.«01_k».proof.Proof.Gen.UqGradIdeal.Frame
public import proofs.«01_k».proof.Proof.Gen.UqGradRefIdeal
public import proofs.«01_k».proof.Proof.Gen.KvGrad.Frame
public import proofs.«01_k».proof.Proof.Gen.KvGradIdeal.Frame
public import proofs.«01_k».proof.Proof.Gen.KvGradRefIdeal
public import proofs.«01_k».proof.Proof.Gen.InGrad.Frame
public import proofs.«01_k».proof.Proof.Gen.InGradIdeal.Frame
public import proofs.«01_k».proof.Proof.Gen.InGradRefIdeal
public import proofs.«01_k».proof.Proof.Gen.InFwd.Frame
public import proofs.«01_k».proof.Proof.Gen.InFwdIdeal.Frame
public import proofs.«01_k».proof.Proof.Gen.InFwdRefIdeal
public import proofs.«01_k».proof.Proof.Gen.InBwd.Frame
public import proofs.«01_k».proof.Proof.Gen.InBwdIdeal.Frame
public import proofs.«01_k».proof.Proof.Gen.InBwdRefIdeal
public import proofs.«01_k».proof.Proof.Gen.QkvFwd.Frame
public import proofs.«01_k».proof.Proof.Gen.QkvFwdIdeal.Frame
public import proofs.«01_k».proof.Proof.Gen.QkvFwdRefIdeal
public import proofs.«01_k».proof.Proof.Gen.FfnBwdIdeal.Value
public import proofs.«01_k».proof.Proof.Gen.FfnFwdIdeal.Value
public import proofs.«01_k».proof.Proof.Gen.MergeBwdIdeal.Value
public import proofs.«01_k».proof.Proof.Gen.MergeFwdIdeal.Value
public import proofs.«01_k».proof.Proof.Gen.GateGradIdeal.Value
public import proofs.«01_k».proof.Proof.Gen.DownGradIdeal.Value
public import proofs.«01_k».proof.Proof.Gen.OutGradIdeal.Value
public import proofs.«01_k».proof.Proof.Gen.PaGradIdeal.Value
public import proofs.«01_k».proof.Proof.Gen.PbGradIdeal.Value
public import proofs.«01_k».proof.Proof.Gen.UqGradIdeal.Value
public import proofs.«01_k».proof.Proof.Gen.KvGradIdeal.Value
public import proofs.«01_k».proof.Proof.Gen.InGradIdeal.Value
public import proofs.«01_k».proof.Proof.Gen.InFwdIdeal.Value
public import proofs.«01_k».proof.Proof.Gen.InBwdIdeal.Value
public import proofs.«01_k».proof.Proof.Gen.QkvFwdIdeal.Value
public import proofs.«01_k».proof.Proof.Gen.FfnRefIdeal.Run
public import proofs.«01_k».proof.Proof.Gen.FfnRefIdeal.Read
public import proofs.«01_k».proof.Proof.Gen.FfnFwdRefIdeal.Run
public import proofs.«01_k».proof.Proof.Gen.FfnFwdRefIdeal.Read
public import proofs.«01_k».proof.Proof.Gen.MergeRefIdeal.Run
public import proofs.«01_k».proof.Proof.Gen.MergeRefIdeal.Read
public import proofs.«01_k».proof.Proof.Gen.MergeFwdRefIdeal.Run
public import proofs.«01_k».proof.Proof.Gen.MergeFwdRefIdeal.Read
public import proofs.«01_k».proof.Proof.Gen.GateGradRefIdeal.Run
public import proofs.«01_k».proof.Proof.Gen.GateGradRefIdeal.Read
public import proofs.«01_k».proof.Proof.Gen.DownGradRefIdeal.Run
public import proofs.«01_k».proof.Proof.Gen.DownGradRefIdeal.Read
public import proofs.«01_k».proof.Proof.Gen.OutGradRefIdeal.Run
public import proofs.«01_k».proof.Proof.Gen.OutGradRefIdeal.Read
public import proofs.«01_k».proof.Proof.Gen.PaGradRefIdeal.Run
public import proofs.«01_k».proof.Proof.Gen.PaGradRefIdeal.Read
public import proofs.«01_k».proof.Proof.Gen.PbGradRefIdeal.Run
public import proofs.«01_k».proof.Proof.Gen.PbGradRefIdeal.Read
public import proofs.«01_k».proof.Proof.Gen.UqGradRefIdeal.Run
public import proofs.«01_k».proof.Proof.Gen.UqGradRefIdeal.Read
public import proofs.«01_k».proof.Proof.Gen.KvGradRefIdeal.Run
public import proofs.«01_k».proof.Proof.Gen.KvGradRefIdeal.Read
public import proofs.«01_k».proof.Proof.Gen.InGradRefIdeal.Run
public import proofs.«01_k».proof.Proof.Gen.InGradRefIdeal.Read
public import proofs.«01_k».proof.Proof.Gen.InFwdRefIdeal.Run
public import proofs.«01_k».proof.Proof.Gen.InFwdRefIdeal.Read
public import proofs.«01_k».proof.Proof.Gen.InBwdRefIdeal.Run
public import proofs.«01_k».proof.Proof.Gen.InBwdRefIdeal.Read
public import proofs.«01_k».proof.Proof.Gen.QkvFwdRefIdeal.Run
public import proofs.«01_k».proof.Proof.Gen.QkvFwdRefIdeal.Read
public import proofs.«01_k».proof.Proof.Ffn
public import proofs.«01_k».proof.Proof.FfnFwd
public import proofs.«01_k».proof.Proof.Merge
public import proofs.«01_k».proof.Proof.MergeFwd
public import proofs.«01_k».proof.Proof.GateGrad
public import proofs.«01_k».proof.Proof.DownGrad
public import proofs.«01_k».proof.Proof.OutGrad
public import proofs.«01_k».proof.Proof.PaGrad
public import proofs.«01_k».proof.Proof.PbGrad
public import proofs.«01_k».proof.Proof.UqGrad
public import proofs.«01_k».proof.Proof.KvGrad
public import proofs.«01_k».proof.Proof.InGrad
public import proofs.«01_k».proof.Proof.InFwd
public import proofs.«01_k».proof.Proof.In
public import proofs.«01_k».proof.Proof.QkvFwd
public import Idealize.ShloMosaic.Adequacy
public import Idealize.ShloMosaic.Init

@[expose] public section

noncomputable section

namespace Cert.Proof

open Idealize.ShloMosaic Idealize.SL.Sem

theorem claim : Cert.Claim := ⟨Cert.FfnBwd.Gen.facts,
  Cert.FfnBwdIdeal.Gen.facts,
  Cert.FfnRefIdeal.Gen.facts,
  Cert.FfnFwd.Gen.facts,
  Cert.FfnFwdIdeal.Gen.facts,
  Cert.FfnFwdRefIdeal.Gen.facts,
  Cert.MergeBwd.Gen.facts,
  Cert.MergeBwdIdeal.Gen.facts,
  Cert.MergeRefIdeal.Gen.facts,
  Cert.MergeFwd.Gen.facts,
  Cert.MergeFwdIdeal.Gen.facts,
  Cert.MergeFwdRefIdeal.Gen.facts,
  Cert.GateGrad.Gen.facts,
  Cert.GateGradIdeal.Gen.facts,
  Cert.GateGradRefIdeal.Gen.facts,
  Cert.DownGrad.Gen.facts,
  Cert.DownGradIdeal.Gen.facts,
  Cert.DownGradRefIdeal.Gen.facts,
  Cert.OutGrad.Gen.facts,
  Cert.OutGradIdeal.Gen.facts,
  Cert.OutGradRefIdeal.Gen.facts,
  Cert.PaGrad.Gen.facts,
  Cert.PaGradIdeal.Gen.facts,
  Cert.PaGradRefIdeal.Gen.facts,
  Cert.PbGrad.Gen.facts,
  Cert.PbGradIdeal.Gen.facts,
  Cert.PbGradRefIdeal.Gen.facts,
  Cert.UqGrad.Gen.facts,
  Cert.UqGradIdeal.Gen.facts,
  Cert.UqGradRefIdeal.Gen.facts,
  Cert.KvGrad.Gen.facts,
  Cert.KvGradIdeal.Gen.facts,
  Cert.KvGradRefIdeal.Gen.facts,
  Cert.InGrad.Gen.facts,
  Cert.InGradIdeal.Gen.facts,
  Cert.InGradRefIdeal.Gen.facts,
  Cert.InFwd.Gen.facts,
  Cert.InFwdIdeal.Gen.facts,
  Cert.InFwdRefIdeal.Gen.facts,
  Cert.InBwd.Gen.facts,
  Cert.InBwdIdeal.Gen.facts,
  Cert.InBwdRefIdeal.Gen.facts,
  Cert.QkvFwd.Gen.facts,
  Cert.QkvFwdIdeal.Gen.facts,
  Cert.QkvFwdRefIdeal.Gen.facts,
  Cert.Ffn.facts_pre,
  Cert.In.facts_pre,
  fun m ρ _ => Cert.FfnBwd.Gen.frame m ρ,
  fun m ρ _ => Cert.FfnBwdIdeal.Gen.frame m ρ,
  fun m ρ _ => Cert.FfnBwdIdeal.Gen.frame m ρ,
  fun m ρ _ => (θ_run Cert.FfnRefIdeal.defs _ _).mono (fun r h => ⟨fun c => (h c).2.2.2.2.2.2,
    Idealize.ShloMosaic.sem_eq_zero_of_no_sems (by decide) r.2⟩) (Cert.FfnRefIdeal.Value.run (F := Ideal) m ρ),
  fun m ρ _ => (θ_run Cert.FfnRefIdeal.defs _ _).mono (fun r h => ⟨fun c => (h c).2.2.2.2.2.2,
    Idealize.ShloMosaic.sem_eq_zero_of_no_sems (by decide) r.2⟩) (Cert.FfnRefIdeal.Value.run (F := Ideal) m ρ),
  fun m ρ _ => Cert.FfnFwd.Gen.frame m ρ,
  fun m ρ _ => Cert.FfnFwdIdeal.Gen.frame m ρ,
  fun m ρ _ => (θ_run Cert.FfnFwdRefIdeal.defs _ _).mono (fun r h => ⟨fun c => (h c).2.2.2,
    Idealize.ShloMosaic.sem_eq_zero_of_no_sems (by decide) r.2⟩) (Cert.FfnFwdRefIdeal.Value.run (F := Ideal) m ρ),
  fun m ρ _ => Cert.MergeBwd.Gen.frame m ρ,
  fun m ρ _ => Cert.MergeBwdIdeal.Gen.frame m ρ,
  fun m ρ _ => (θ_run Cert.MergeRefIdeal.defs _ _).mono (fun r h => ⟨fun c => (h c).2.2.2.2.2.2.2,
    Idealize.ShloMosaic.sem_eq_zero_of_no_sems (by decide) r.2⟩) (Cert.MergeRefIdeal.Value.run (F := Ideal) m ρ),
  fun m ρ _ => Cert.MergeFwd.Gen.frame m ρ,
  fun m ρ _ => Cert.MergeFwdIdeal.Gen.frame m ρ,
  fun m ρ _ => (θ_run Cert.MergeFwdRefIdeal.defs _ _).mono (fun r h => ⟨fun c => (h c).2.2.2,
    Idealize.ShloMosaic.sem_eq_zero_of_no_sems (by decide) r.2⟩) (Cert.MergeFwdRefIdeal.Value.run (F := Ideal) m ρ),
  fun m ρ _ => Cert.GateGrad.Gen.frame m ρ,
  fun m ρ _ => Cert.GateGradIdeal.Gen.frame m ρ,
  fun m ρ _ => (θ_run Cert.GateGradRefIdeal.defs _ _).mono (fun r h => ⟨fun c => (h c).2,
    Idealize.ShloMosaic.sem_eq_zero_of_no_sems (by decide) r.2⟩) (Cert.GateGradRefIdeal.Value.run (F := Ideal) m ρ),
  fun m ρ _ => Cert.DownGrad.Gen.frame m ρ,
  fun m ρ _ => Cert.DownGradIdeal.Gen.frame m ρ,
  fun m ρ _ => (θ_run Cert.DownGradRefIdeal.defs _ _).mono (fun r h => ⟨fun c => (h c).2,
    Idealize.ShloMosaic.sem_eq_zero_of_no_sems (by decide) r.2⟩) (Cert.DownGradRefIdeal.Value.run (F := Ideal) m ρ),
  fun m ρ _ => Cert.OutGrad.Gen.frame m ρ,
  fun m ρ _ => Cert.OutGradIdeal.Gen.frame m ρ,
  fun m ρ _ => (θ_run Cert.OutGradRefIdeal.defs _ _).mono (fun r h => ⟨fun c => (h c).2,
    Idealize.ShloMosaic.sem_eq_zero_of_no_sems (by decide) r.2⟩) (Cert.OutGradRefIdeal.Value.run (F := Ideal) m ρ),
  fun m ρ _ => Cert.PaGrad.Gen.frame m ρ,
  fun m ρ _ => Cert.PaGradIdeal.Gen.frame m ρ,
  fun m ρ _ => (θ_run Cert.PaGradRefIdeal.defs _ _).mono (fun r h => ⟨fun c => (h c).2,
    Idealize.ShloMosaic.sem_eq_zero_of_no_sems (by decide) r.2⟩) (Cert.PaGradRefIdeal.Value.run (F := Ideal) m ρ),
  fun m ρ _ => Cert.PbGrad.Gen.frame m ρ,
  fun m ρ _ => Cert.PbGradIdeal.Gen.frame m ρ,
  fun m ρ _ => (θ_run Cert.PbGradRefIdeal.defs _ _).mono (fun r h => ⟨fun c => (h c).2,
    Idealize.ShloMosaic.sem_eq_zero_of_no_sems (by decide) r.2⟩) (Cert.PbGradRefIdeal.Value.run (F := Ideal) m ρ),
  fun m ρ _ => Cert.UqGrad.Gen.frame m ρ,
  fun m ρ _ => Cert.UqGradIdeal.Gen.frame m ρ,
  fun m ρ _ => (θ_run Cert.UqGradRefIdeal.defs _ _).mono (fun r h => ⟨fun c => (h c).2,
    Idealize.ShloMosaic.sem_eq_zero_of_no_sems (by decide) r.2⟩) (Cert.UqGradRefIdeal.Value.run (F := Ideal) m ρ),
  fun m ρ _ => Cert.KvGrad.Gen.frame m ρ,
  fun m ρ _ => Cert.KvGradIdeal.Gen.frame m ρ,
  fun m ρ _ => (θ_run Cert.KvGradRefIdeal.defs _ _).mono (fun r h => ⟨fun c => (h c).2,
    Idealize.ShloMosaic.sem_eq_zero_of_no_sems (by decide) r.2⟩) (Cert.KvGradRefIdeal.Value.run (F := Ideal) m ρ),
  fun m ρ _ => Cert.InGrad.Gen.frame m ρ,
  fun m ρ _ => Cert.InGradIdeal.Gen.frame m ρ,
  fun m ρ _ => (θ_run Cert.InGradRefIdeal.defs _ _).mono (fun r h => ⟨fun c => (h c).2,
    Idealize.ShloMosaic.sem_eq_zero_of_no_sems (by decide) r.2⟩) (Cert.InGradRefIdeal.Value.run (F := Ideal) m ρ),
  fun m ρ _ => Cert.InFwd.Gen.frame m ρ,
  fun m ρ _ => Cert.InFwdIdeal.Gen.frame m ρ,
  fun m ρ _ => (θ_run Cert.InFwdRefIdeal.defs _ _).mono (fun r h => ⟨fun c => (h c).2,
    Idealize.ShloMosaic.sem_eq_zero_of_no_sems (by decide) r.2⟩) (Cert.InFwdRefIdeal.Value.run (F := Ideal) m ρ),
  fun m ρ _ => Cert.InBwd.Gen.frame m ρ,
  fun m ρ _ => Cert.InBwdIdeal.Gen.frame m ρ,
  fun m ρ _ => Cert.InBwdIdeal.Gen.frame m ρ,
  fun m ρ _ => (θ_run Cert.InBwdRefIdeal.defs _ _).mono (fun r h => ⟨fun c => (h c).2.2.2.2,
    Idealize.ShloMosaic.sem_eq_zero_of_no_sems (by decide) r.2⟩) (Cert.InBwdRefIdeal.Value.run (F := Ideal) m ρ),
  fun m ρ _ => (θ_run Cert.InBwdRefIdeal.defs _ _).mono (fun r h => ⟨fun c => (h c).2.2.2.2,
    Idealize.ShloMosaic.sem_eq_zero_of_no_sems (by decide) r.2⟩) (Cert.InBwdRefIdeal.Value.run (F := Ideal) m ρ),
  fun m ρ _ => Cert.QkvFwd.Gen.frame m ρ,
  fun m ρ _ => Cert.QkvFwdIdeal.Gen.frame m ρ,
  fun m ρ _ => (θ_run Cert.QkvFwdRefIdeal.defs _ _).mono (fun r h => ⟨fun c => (h c).2.2.2,
    Idealize.ShloMosaic.sem_eq_zero_of_no_sems (by decide) r.2⟩) (Cert.QkvFwdRefIdeal.Value.run (F := Ideal) m ρ),
  trivial,
  Cert.Ffn.algebraic,
  trivial,
  Cert.FfnFwdClaim.algebraic,
  trivial,
  Cert.Merge.algebraic,
  trivial,
  Cert.MergeFwdClaim.algebraic,
  trivial,
  Cert.GateGradClaim.algebraic,
  trivial,
  Cert.DownGradValue.algebraic,
  trivial,
  Cert.OutGradValue.algebraic,
  trivial,
  Cert.PaGradValue.algebraic,
  trivial,
  Cert.PbGradValue.algebraic,
  trivial,
  Cert.UqGradValue.algebraic,
  trivial,
  Cert.KvGradValue.algebraic,
  trivial,
  Cert.InGradValue.algebraic,
  trivial,
  Cert.InFwdClaim.algebraic,
  trivial,
  Cert.In.algebraic,
  trivial,
  Cert.QkvFwdClaim.algebraic⟩

end Cert.Proof

end
